-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "neg_log2e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v55_0)) (v1 : (c : Dev Cert.Kernel3Ideal.nD) → Buf (Elt Ideal) ((c.tc : Thread Cert.Kernel3Ideal.nD Cert.Kernel3Ideal.τ).loc Cert.Kernel3Ideal.main_v55_1)) (v2 : (c : Dev Cert.Kernel3Ideal.nD) → Buf (Elt Ideal) ((c.tc : Thread Cert.Kernel3Ideal.nD Cert.Kernel3Ideal.τ).loc Cert.Kernel3Ideal.main_v55_2)) (v3 : (c : Dev Cert.Kernel3Ideal.nD) → Buf (Elt Ideal) ((c.tc : Thread Cert.Kernel3Ideal.nD Cert.Kernel3Ideal.τ).loc Cert.Kernel3Ideal.main_v55_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55_0) = v0 c
          ∧ r.2.mem ((c.tc : Thread Cert.Kernel3Ideal.nD Cert.Kernel3Ideal.τ).loc Cert.Kernel3Ideal.main_v55_1) = v1 c
          ∧ r.2.mem ((c.tc : Thread Cert.Kernel3Ideal.nD Cert.Kernel3Ideal.τ).loc Cert.Kernel3Ideal.main_v55_2) = v2 c
          ∧ r.2.mem ((c.tc : Thread Cert.Kernel3Ideal.nD Cert.Kernel3Ideal.τ).loc Cert.Kernel3Ideal.main_v55_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "neg_log2e" .f32 0xBFB8AA3B#32 ((-((Real.log 2)⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S1x128 : Shape := ⟨2, ![1, 128]⟩
abbrev S16384x1024 : Shape := ⟨2, ![16384, 1024]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S1x128 .f32) (main_arg1 : FVec F S1x128 .f32) (main_arg2 : FVec F S16384x1024 .f32) (main_arg3 : FVec F S16384x256 .f32) (main_arg4 : FVec F S16384x256 .f32) (main_arg5 : FVec F S16384x1024 .f32) : IVec S_ 1 :=
  let main_v0 : FVec F S16384x1024 .f32 := Host.absf main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .f32 := Host.absf main_arg3
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S1x128 : Shape := ⟨2, ![1, 128]⟩
abbrev S16384x1024 : Shape := ⟨2, ![16384, 1024]⟩
abbrev S16384x256 : Shape := ⟨2, ![16384, 256]⟩
abbrev S_ : Shape := ⟨0, ![]⟩
abbrev S2x8192x2x128 : Shape := ⟨4, ![2, 8192, 2, 128]⟩
abbrev S2x2x128x8192 : Shape := ⟨4, ![2, 2, 128, 8192]⟩
abbrev S4x128x8192 : Shape := ⟨3, ![4, 128, 8192]⟩
abbrev S1 : Shape := ⟨1, ![1]⟩
abbrev S2 : Shape := ⟨1, ![2]⟩
abbrev S256x512 : Shape := ⟨2, ![256, 512]⟩
abbrev S8192x128 : Shape := ⟨2, ![8192, 128]⟩
abbrev S1x128x8192 : Shape := ⟨3, ![1, 128, 8192]⟩
abbrev S4x128x256 : Shape := ⟨3, ![4, 128, 256]⟩
abbrev S4x1x256 : Shape := ⟨3, ![4, 1, 256]⟩
abbrev S4x8x256 : Shape := ⟨3, ![4, 8, 256]⟩
abbrev S256x128 : Shape := ⟨2, ![256, 128]⟩
abbrev S128x256 : Shape := ⟨2, ![128, 256]⟩
abbrev S1x128x256 : Shape := ⟨3, ![1, 128, 256]⟩
abbrev S1024x128 : Shape := ⟨2, ![1024, 128]⟩
abbrev S1024x256 : Shape := ⟨2, ![1024, 256]⟩
abbrev S1x128x1024 : Shape := ⟨3, ![1, 128, 1024]⟩
abbrev S128x1024 : Shape := ⟨2, ![128, 1024]⟩
abbrev S1x8x256 : Shape := ⟨3, ![1, 8, 256]⟩
abbrev S8x256 : Shape := ⟨2, ![8, 256]⟩
abbrev S128x8x256 : Shape := ⟨3, ![128, 8, 256]⟩
abbrev S512x128 : Shape := ⟨2, ![512, 128]⟩
abbrev S512x256 : Shape := ⟨2, ![512, 256]⟩
abbrev S1x128x512 : Shape := ⟨3, ![1, 128, 512]⟩
abbrev S128x512 : Shape := ⟨2, ![128, 512]⟩
abbrev S1x1x256 : Shape := ⟨3, ![1, 1, 256]⟩
abbrev S1x256 : Shape := ⟨2, ![1, 256]⟩
abbrev S256 : Shape := ⟨1, ![256]⟩
abbrev S64x8x256 : Shape := ⟨3, ![64, 8, 256]⟩

abbrev nBuf : Space → Nat
  | .hbm => 34
  | .vmem => 14
  | .smem => 1
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S16384x1024, .f32⟩
  | .hbm, ⟨3, _⟩ => ⟨S16384x256, .f32⟩
  | .hbm, ⟨4, _⟩ => ⟨S16384x256, .f32⟩
  | .hbm, ⟨5, _⟩ => ⟨S16384x1024, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S2x8192x2x128, .f32⟩
  | .hbm, ⟨10, _⟩ => ⟨S2x2x128x8192, .f32⟩
  | .hbm, ⟨11, _⟩ => ⟨S4x128x8192, .f32⟩
  | .hbm, ⟨12, _⟩ => ⟨S1x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S2, .f32⟩
  | .hbm, ⟨29, _⟩ => ⟨S16384x1024, .bf16⟩
  | .hbm, ⟨30, _⟩ => ⟨S16384x256, .bf16⟩
  | .hbm, ⟨31, _⟩ => ⟨S4x128x8192, .bf16⟩
  | .hbm, ⟨32, _⟩ => ⟨S16384x1024, .bf16⟩
  | .hbm, ⟨33, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S4x128x256, .bf16⟩
  | .local _ .vmem, ⟨11, _⟩ => ⟨S4x1x256, .f32⟩
  | .local _ .vmem, ⟨12, _⟩ => ⟨S4x8x256, .f32⟩
  | .local _ .vmem, ⟨13, _⟩ => ⟨S4x128x256, .f32⟩
  | .local _ .smem, ⟨0, _⟩ => ⟨S2, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32_71 : BitVec 32 := 0#32
  let c2_i32 : BitVec 32 := 2#32
  let v115 : BitVec 32 := Scalar.addi c0_i32_71 c2_i32
  let c1_i32 : BitVec 32 := 1#32
  ⟨c0_i32_71, v115, c1_i32⟩
def k0_mult1 (k0_t1 : Fin k0_t1_loop.trips) : BitVec 32 :=
  let c0_i32_71 : BitVec 32 := 0#32
  let c1_i32 : BitVec 32 := 1#32
  let arg13 : BitVec 32 := Scf.iv c0_i32_71 c1_i32 k0_t1
  let c4_i32 : BitVec 32 := 4#32
  let v116 : BitVec 32 := Scalar.muli arg13 c4_i32
  let c0_i32_73 : BitVec 32 := 0#32
  let v117 : BitVec 32 := Scalar.addi v116 c0_i32_73
  let c1024_i32 : BitVec 32 := 1024#32
  let v118 : BitVec 32 := Scalar.muli v117 c1024_i32
  v118
def k0_mult2 (k0_t1 : Fin k0_t1_loop.trips) : BitVec 32 :=
  let c0_i32_71 : BitVec 32 := 0#32
  let c1_i32 : BitVec 32 := 1#32
  let arg13 : BitVec 32 := Scf.iv c0_i32_71 c1_i32 k0_t1
  let c4_i32_74 : BitVec 32 := 4#32
  let v120 : BitVec 32 := Scalar.muli arg13 c4_i32_74
  let c1_i32_75 : BitVec 32 := 1#32
  let v121 : BitVec 32 := Scalar.addi v120 c1_i32_75
  let c1024_i32_76 : BitVec 32 := 1024#32
  let v122 : BitVec 32 := Scalar.muli v121 c1024_i32_76
  v122
def k0_mult3 (k0_t1 : Fin k0_t1_loop.trips) : BitVec 32 :=
  let c0_i32_71 : BitVec 32 := 0#32
  let c1_i32 : BitVec 32 := 1#32
  let arg13 : BitVec 32 := Scf.iv c0_i32_71 c1_i32 k0_t1
  let c4_i32_77 : BitVec 32 := 4#32
  let v124 : BitVec 32 := Scalar.muli arg13 c4_i32_77
  let c2_i32_78 : BitVec 32 := 2#32
  let v125 : BitVec 32 := Scalar.addi v124 c2_i32_78
  let c1024_i32_79 : BitVec 32 := 1024#32
  let v126 : BitVec 32 := Scalar.muli v125 c1024_i32_79
  v126
def k0_mult4 (k0_t1 : Fin k0_t1_loop.trips) : BitVec 32 :=
  let c0_i32_71 : BitVec 32 := 0#32
  let c1_i32 : BitVec 32 := 1#32
  let arg13 : BitVec 32 := Scf.iv c0_i32_71 c1_i32 k0_t1
  let c4_i32_80 : BitVec 32 := 4#32
  let v128 : BitVec 32 := Scalar.muli arg13 c4_i32_80
  let c3_i32 : BitVec 32 := 3#32
  let v129 : BitVec 32 := Scalar.addi v128 c3_i32
  let c1024_i32_81 : BitVec 32 := 1024#32
  let v130 : BitVec 32 := Scalar.muli v129 c1024_i32_81
  v130
def k0_off1 (k0_t1 : Fin k0_t1_loop.trips) (c0_i32_73 : BitVec 32) : Fin 2 → Nat :=
  let c0_i32_71 : BitVec 32 := 0#32
  let c1_i32 : BitVec 32 := 1#32
  let arg13 : BitVec 32 := Scf.iv c0_i32_71 c1_i32 k0_t1
  let c4_i32 : BitVec 32 := 4#32
  let v116 : BitVec 32 := Scalar.muli arg13 c4_i32
  let v117 : BitVec 32 := Scalar.addi v116 c0_i32_73
  let c1024_i32 : BitVec 32 := 1024#32
  let v118 : BitVec 32 := Scalar.muli v117 c1024_i32
  let v119 : BitVec 32 := v118
  let v132 : Index := Scalar.indexCast v119
  let c0_82 : Index := 0#32
  ![v132.toNat, 0]
def k0_off2 (k0_t1 : Fin k0_t1_loop.trips) (c0_i32_73 : BitVec 32) : Fin 3 → Nat :=
  let c0_97 : Index := 0#32
  let c0_98 : Index := 0#32
  let c0_i32_71 : BitVec 32 := 0#32
  let c1_i32 : BitVec 32 := 1#32
  let arg13 : BitVec 32 := Scf.iv c0_i32_71 c1_i32 k0_t1
  let c4_i32 : BitVec 32 := 4#32
  let v116 : BitVec 32 := Scalar.muli arg13 c4_i32
  let v117 : BitVec 32 := Scalar.addi v116 c0_i32_73
  let c1024_i32 : BitVec 32 := 1024#32
  let v118 : BitVec 32 := Scalar.muli v117 c1024_i32
  let v119 : BitVec 32 := v118
  let v150 : Index := Scalar.indexCast v119
  ![0, 0, v150.toNat]
@[reducible] def k0_t2_loop : Scf.Loop 32 :=
  let c0_i32_75 : BitVec 32 := 0#32
  let c2_i32 : BitVec 32 := 2#32
  let v119 : BitVec 32 := Scalar.addi c0_i32_75 c2_i32
  let c1_i32 : BitVec 32 := 1#32
  ⟨c0_i32_75, v119, c1_i32⟩
def k0_mult5 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32 : BitVec 32 := 8#32
  let v120 : BitVec 32 := Scalar.muli arg13 c8_i32
  let c0_i32_77 : BitVec 32 := 0#32
  let v121 : BitVec 32 := Scalar.addi v120 c0_i32_77
  let c512_i32 : BitVec 32 := 512#32
  let v122 : BitVec 32 := Scalar.muli v121 c512_i32
  v122
def k0_mult6 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_78 : BitVec 32 := 8#32
  let v124 : BitVec 32 := Scalar.muli arg13 c8_i32_78
  let c1_i32_79 : BitVec 32 := 1#32
  let v125 : BitVec 32 := Scalar.addi v124 c1_i32_79
  let c512_i32_80 : BitVec 32 := 512#32
  let v126 : BitVec 32 := Scalar.muli v125 c512_i32_80
  v126
def k0_mult7 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_81 : BitVec 32 := 8#32
  let v128 : BitVec 32 := Scalar.muli arg13 c8_i32_81
  let c2_i32_82 : BitVec 32 := 2#32
  let v129 : BitVec 32 := Scalar.addi v128 c2_i32_82
  let c512_i32_83 : BitVec 32 := 512#32
  let v130 : BitVec 32 := Scalar.muli v129 c512_i32_83
  v130
def k0_mult8 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_84 : BitVec 32 := 8#32
  let v132 : BitVec 32 := Scalar.muli arg13 c8_i32_84
  let c3_i32 : BitVec 32 := 3#32
  let v133 : BitVec 32 := Scalar.addi v132 c3_i32
  let c512_i32_85 : BitVec 32 := 512#32
  let v134 : BitVec 32 := Scalar.muli v133 c512_i32_85
  v134
def k0_mult9 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_86 : BitVec 32 := 8#32
  let v136 : BitVec 32 := Scalar.muli arg13 c8_i32_86
  let c4_i32 : BitVec 32 := 4#32
  let v137 : BitVec 32 := Scalar.addi v136 c4_i32
  let c512_i32_87 : BitVec 32 := 512#32
  let v138 : BitVec 32 := Scalar.muli v137 c512_i32_87
  v138
def k0_mult10 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_88 : BitVec 32 := 8#32
  let v140 : BitVec 32 := Scalar.muli arg13 c8_i32_88
  let c5_i32 : BitVec 32 := 5#32
  let v141 : BitVec 32 := Scalar.addi v140 c5_i32
  let c512_i32_89 : BitVec 32 := 512#32
  let v142 : BitVec 32 := Scalar.muli v141 c512_i32_89
  v142
def k0_mult11 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_90 : BitVec 32 := 8#32
  let v144 : BitVec 32 := Scalar.muli arg13 c8_i32_90
  let c6_i32 : BitVec 32 := 6#32
  let v145 : BitVec 32 := Scalar.addi v144 c6_i32
  let c512_i32_91 : BitVec 32 := 512#32
  let v146 : BitVec 32 := Scalar.muli v145 c512_i32_91
  v146
def k0_mult12 (k0_t2 : Fin k0_t2_loop.trips) : BitVec 32 :=
  let c0_i32_75 : BitVec 32 := 0#32
  let c1_i32 : BitVec 32 := 1#32
  let arg13 : BitVec 32 := Scf.iv c0_i32_75 c1_i32 k0_t2
  let c8_i32_92 : BitVec 32 := 8#32
  let v148 : BitVec 32 := Scalar.muli arg13 c8_i32_92
  let c7_i32 : BitVec 32 := 7#32
  let v149 : BitVec 32 := Scalar.addi v148 c7_i32
  let c512_i32_93 : BitVec 32 := 512#32
  let v150 : BitVec 32 := Scalar.muli v149 c512_i32_93
  v150
def k0_off3 (k0_t2 : Fin k0_t2_loop.trips) (c0_i32_77 : BitVec 32) : Fin 2 → Nat :=
  let c0_i32_75 : BitVec 32 := 0#32
  let c1_i32 : BitVec 32 := 1#32
  let arg13 : BitVec 32 := Scf.iv c0_i32_75 c1_i32 k0_t2
  let c8_i32 : BitVec 32 := 8#32
  let v120 : BitVec 32 := Scalar.muli arg13 c8_i32
  let v121 : BitVec 32 := Scalar.addi v120 c0_i32_77
  let c512_i32 : BitVec 32 := 512#32
  let v122 : BitVec 32 := Scalar.muli v121 c512_i32
  let v123 : BitVec 32 := v122
  let v152 : Index := Scalar.indexCast v123
  let c0_94 : Index := 0#32
  ![v152.toNat, 0]
def k0_off4 (k0_t2 : Fin k0_t2_loop.trips) (c0_i32_77 : BitVec 32) : Fin 3 → Nat :=
  let c0_119 : Index := 0#32
  let c0_120 : Index := 0#32
  let c0_i32_75 : BitVec 32 := 0#32
  let c1_i32 : BitVec 32 := 1#32
  let arg13 : BitVec 32 := Scf.iv c0_i32_75 c1_i32 k0_t2
  let c8_i32 : BitVec 32 := 8#32
  let v120 : BitVec 32 := Scalar.muli arg13 c8_i32
  let v121 : BitVec 32 := Scalar.addi v120 c0_i32_77
  let c512_i32 : BitVec 32 := 512#32
  let v122 : BitVec 32 := Scalar.muli v121 c512_i32
  let v123 : BitVec 32 := v122
  let v182 : Index := Scalar.indexCast v123
  ![0, 0, v182.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x128 : Shape := ⟨2, ![1, 128]⟩
abbrev S16384x1024 : Shape := ⟨2, ![16384, 1024]⟩
abbrev S16384x256 : Shape := ⟨2, ![16384, 256]⟩
abbrev S2x8192x2x4x128 : Shape := ⟨5, ![2, 8192, 2, 4, 128]⟩
abbrev S2x8192x2x128 : Shape := ⟨4, ![2, 8192, 2, 128]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 30
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S16384x1024, .f32⟩
  | .hbm, ⟨3, _⟩ => ⟨S16384x256, .f32⟩
  | .hbm, ⟨4, _⟩ => ⟨S16384x256, .f32⟩
  | .hbm, ⟨5, _⟩ => ⟨S16384x1024, .f32⟩
  | .hbm, ⟨6, _⟩ => ⟨S2x8192x2x4x128, .f32⟩
  | .hbm, ⟨7, _⟩ => ⟨S2x8192x2x128, .f32⟩
  | .hbm, ⟨8, _⟩ => ⟨S2x8192x2x128, .f32⟩
  | .hbm, ⟨9, _⟩ => ⟨S2x2x8192x8192x4, .f32⟩
  | .hbm, ⟨10, _⟩ => ⟨S2x2x4x8192x8192, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8192, .f32⟩
  | .hbm, ⟨18, _⟩ => ⟨S2x2x4x8192x8192, .f32⟩
  | .hbm, ⟨19, _⟩ => ⟨S2x2x4x8192x8192, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8192, .f32⟩
  | .hbm, ⟨24, _⟩ => ⟨S2x2x4x8192x8192, .f32⟩
  | .hbm, ⟨25, _⟩ => ⟨S2x2x128x4x8192, .f32⟩
  | .hbm, ⟨26, _⟩ => ⟨S2x8192x2x4x128, .f32⟩
  | .hbm, ⟨27, _⟩ => ⟨S16384x1024, .f32⟩
  | .hbm, ⟨28, _⟩ => ⟨S16384x1024, .f32⟩
  | .hbm, ⟨29, _⟩ => ⟨S16384x1024, .bf16⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S16384x1024 : Shape := ⟨2, ![16384, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S2x1x5632 : Shape := ⟨3, ![2, 1, 5632]⟩
abbrev S512x1024 : Shape := ⟨2, ![512, 1024]⟩
abbrev S8x1024 : Shape := ⟨2, ![8, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S8 : Shape := ⟨1, ![8]⟩
abbrev S8x1 : Shape := ⟨2, ![8, 1]⟩
abbrev S528x1024 : Shape := ⟨2, ![528, 1024]⟩
abbrev S1x1024x256 : Shape := ⟨3, ![1, 1024, 256]⟩
abbrev S1024x256 : Shape := ⟨2, ![1024, 256]⟩
abbrev S528x256 : Shape := ⟨2, ![528, 256]⟩
abbrev S1x1x256 : Shape := ⟨3, ![1, 1, 256]⟩
abbrev S1x256 : Shape := ⟨2, ![1, 256]⟩
abbrev S66x8x256 : Shape := ⟨3, ![66, 8, 256]⟩
abbrev S1x8x256 : Shape := ⟨3, ![1, 8, 256]⟩
abbrev S65x8x256 : Shape := ⟨3, ![65, 8, 256]⟩
abbrev S512x256 : Shape := ⟨2, ![512, 256]⟩
abbrev S2816x1024 : Shape := ⟨2, ![2816, 1024]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x1024x5632, .bf16⟩
  | .hbm, ⟨11, _⟩ => ⟨S2x1x5632, .f32⟩
  | .hbm, ⟨12, _⟩ => ⟨S2x2816x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x3x5632, .f32⟩
  | .local _ .vmem, ⟨9, _⟩ => ⟨S1x1x5632, .f32⟩
  | .local _ .vmem, ⟨10, _⟩ => ⟨S1x2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S16384x1024 : Shape := ⟨2, ![16384, 1024]⟩
abbrev S2x1024 : Shape := ⟨2, ![2, 1024]⟩
abbrev S1024 : Shape := ⟨1, ![1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x8192x1024 : Shape := ⟨3, ![2, 8192, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S2x8192x2816 : Shape := ⟨3, ![2, 8192, 2816]⟩
abbrev S1x2816x1024 : Shape := ⟨3, ![1, 2816, 1024]⟩
abbrev S2816x1024 : Shape := ⟨2, ![2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1024, .f32⟩
  | .hbm, ⟨3, _⟩ => ⟨S2x1024x5632, .f32⟩
  | .hbm, ⟨4, _⟩ => ⟨S2x3x5632, .f32⟩
  | .hbm, ⟨5, _⟩ => ⟨S2x5632, .f32⟩
  | .hbm, ⟨6, _⟩ => ⟨S2x2816x1024, .f32⟩
  | .hbm, ⟨7, _⟩ => ⟨S2x8192x1024, .f32⟩
  | .hbm, ⟨8, _⟩ => ⟨S1x1024, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S1x1024x5632, .f32⟩
  | .hbm, ⟨27, _⟩ => ⟨S1024x5632, .f32⟩
  | .hbm, ⟨28, _⟩ => ⟨S2x8192x5632, .f32⟩
  | .hbm, ⟨29, _⟩ => ⟨S_, .i32⟩
  | .hbm, ⟨30, _⟩ => ⟨S_, .f32⟩
  | .hbm, ⟨31, _⟩ => ⟨S2x8194x5632, .f32⟩
  | .hbm, ⟨32, _⟩ => ⟨S1x3x5632, .f32⟩
  | .hbm, ⟨33, _⟩ => ⟨S3x5632, .f32⟩
  | .hbm, ⟨34, _⟩ => ⟨S2x8192x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S2x8192x5632, .f32⟩
  | .hbm, ⟨58, _⟩ => ⟨S2x8192x5632, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S1x2816x1024, .f32⟩
  | .hbm, ⟨72, _⟩ => ⟨S2816x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_2 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_v58 : Ref sig .tc := ⟨.hbm, 80, rfl⟩
abbrev main_v59 : Ref sig .tc := ⟨.hbm, 81, rfl⟩
abbrev main_cst_4 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S1x1024x6208 : Shape := ⟨3, ![1, 1024, 6208]⟩
abbrev S1x5x4096 : Shape := ⟨3, ![1, 5, 4096]⟩
abbrev S1x4096 : Shape := ⟨2, ![1, 4096]⟩
abbrev S1x2x16 : Shape := ⟨3, ![1, 2, 16]⟩
abbrev S1x1024 : Shape := ⟨2, ![1, 1024]⟩
abbrev S1024 : Shape := ⟨1, ![1024]⟩
abbrev S1024x6208 : Shape := ⟨2, ![1024, 6208]⟩
abbrev S5x4096 : Shape := ⟨2, ![5, 4096]⟩
abbrev S4096 : Shape := ⟨1, ![4096]⟩
abbrev S2x16 : Shape := ⟨2, ![2, 16]⟩
abbrev S1x16 : Shape := ⟨2, ![1, 16]⟩
abbrev S16 : Shape := ⟨1, ![16]⟩
abbrev S_ : Shape := ⟨0, ![]⟩
abbrev S4x16 : Shape := ⟨2, ![4, 16]⟩
abbrev S1x64 : Shape := ⟨2, ![1, 64]⟩
abbrev S1x128 : Shape := ⟨2, ![1, 128]⟩
abbrev S256x256 : Shape := ⟨2, ![256, 256]⟩
abbrev S16384x2048 : Shape := ⟨2, ![16384, 2048]⟩
abbrev S16384x128 : Shape := ⟨2, ![16384, 128]⟩
abbrev S256x1024 : Shape := ⟨2, ![256, 1024]⟩
abbrev S8x1024 : Shape := ⟨2, ![8, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S8 : Shape := ⟨1, ![8]⟩
abbrev S8x1 : Shape := ⟨2, ![8, 1]⟩
abbrev S272x1024 : Shape := ⟨2, ![272, 1024]⟩
abbrev S1024x256 : Shape := ⟨2, ![1024, 256]⟩
abbrev S272x256 : Shape := ⟨2, ![272, 256]⟩
abbrev S1x256 : Shape := ⟨2, ![1, 256]⟩
abbrev S34x8x256 : Shape := ⟨3, ![34, 8, 256]⟩
abbrev S1x8x256 : Shape := ⟨3, ![1, 8, 256]⟩
abbrev S33x8x256 : Shape := ⟨3, ![33, 8, 256]⟩
abbrev S1024x64 : Shape := ⟨2, ![1024, 64]⟩
abbrev S256x64 : Shape := ⟨2, ![256, 64]⟩
abbrev S256x384 : Shape := ⟨2, ![256, 384]⟩

abbrev nBuf : Space → Nat
  | .hbm => 109
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x6208, .f32⟩
  | .hbm, ⟨3, _⟩ => ⟨S1x5x4096, .f32⟩
  | .hbm, ⟨4, _⟩ => ⟨S1x4096, .f32⟩
  | .hbm, ⟨5, _⟩ => ⟨S1x2x16, .f32⟩
  | .hbm, ⟨6, _⟩ => ⟨S1x2x16, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x6208, .f32⟩
  | .hbm, ⟨11, _⟩ => ⟨S1024x6208, .bf16⟩
  | .hbm, ⟨12, _⟩ => ⟨S5x4096, .f32⟩
  | .hbm, ⟨13, _⟩ => ⟨S4096, .f32⟩
  | .hbm, ⟨14, _⟩ => ⟨S1x4096, .f32⟩
  | .hbm, ⟨15, _⟩ => ⟨S2x16, .f32⟩
  | .hbm, ⟨16, _⟩ => ⟨S1x16, .f32⟩
  | .hbm, ⟨17, _⟩ => ⟨S16, .f32⟩
  | .hbm, ⟨18, _⟩ => ⟨S1x16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S1x16, .f32⟩
  | .hbm, ⟨23, _⟩ => ⟨S16, .f32⟩
  | .hbm, ⟨24, _⟩ => ⟨S1x16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S1x16, .f32⟩
  | .hbm, ⟨29, _⟩ => ⟨S1x16, .f32⟩
  | .hbm, ⟨30, _⟩ => ⟨S1x16, .f32⟩
  | .hbm, ⟨31, _⟩ => ⟨S1x16, .f32⟩
  | .hbm, ⟨32, _⟩ => ⟨S4x16, .f32⟩
  | .hbm, ⟨33, _⟩ => ⟨S1x64, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S2x16, .f32⟩
  | .hbm, ⟨38, _⟩ => ⟨S1x16, .f32⟩
  | .hbm, ⟨39, _⟩ => ⟨S16, .f32⟩
  | .hbm, ⟨40, _⟩ => ⟨S1x16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S1x16, .f32⟩
  | .hbm, ⟨45, _⟩ => ⟨S16, .f32⟩
  | .hbm, ⟨46, _⟩ => ⟨S1x16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S1x16, .f32⟩
  | .hbm, ⟨51, _⟩ => ⟨S1x16, .f32⟩
  | .hbm, ⟨52, _⟩ => ⟨S1x16, .f32⟩
  | .hbm, ⟨53, _⟩ => ⟨S1x16, .f32⟩
  | .hbm, ⟨54, _⟩ => ⟨S4x16, .f32⟩
  | .hbm, ⟨55, _⟩ => ⟨S1x64, .f32⟩
  | .hbm, ⟨56, _⟩ => ⟨S_, .i32⟩
  | .hbm, ⟨57, _⟩ => ⟨S_, .f32⟩
  | .hbm, ⟨58, _⟩ => ⟨S1x128, .f32⟩
  | .hbm, ⟨59, _⟩ => ⟨S256x256, .i32⟩
  | .hbm, ⟨60, _⟩ => ⟨S256x256, .i32⟩
  | .hbm, ⟨61, _⟩ => ⟨S_, .i32⟩
  | .hbm, ⟨62, _⟩ => ⟨S_, .i32⟩
  | .hbm, ⟨63, _⟩ => ⟨S256x256, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i1⟩
  | .hbm, ⟨74, _⟩ => ⟨S256x256, .i1⟩
  | .hbm, ⟨75, _⟩ => ⟨S_, .i32⟩
  | .hbm, ⟨76, _⟩ => ⟨S256x256, .i32⟩
  | .hbm, ⟨77, _⟩ => ⟨S256x256, .i32⟩
  | .hbm, ⟨78, _⟩ => ⟨S256x256, .i32⟩
  | .hbm, ⟨79, _⟩ => ⟨S_, .i32⟩
  | .hbm, ⟨80, _⟩ => ⟨S_, .i32⟩
  | .hbm, ⟨81, _⟩ => ⟨S256x256, .i32⟩
  | .hbm, ⟨82, _⟩ => ⟨S256x256, .i32⟩
  | .hbm, ⟨83, _⟩ => ⟨S256x256, .i32⟩
  | .hbm, ⟨84, _⟩ => ⟨S_, .i32⟩
  | .hbm, ⟨85, _⟩ => ⟨S256x256, .i32⟩
  | .hbm, ⟨86, _⟩ => ⟨S256x256, .i1⟩
  | .hbm, ⟨87, _⟩ => ⟨S256x256, .i32⟩
  | .hbm, ⟨88, _⟩ => ⟨S256x256, .i32⟩
  | .hbm, ⟨89, _⟩ => ⟨S_, .i32⟩
  | .hbm, ⟨90, _⟩ => ⟨S256x256, .i32⟩
  | .hbm, ⟨91, _⟩ => ⟨S256x256, .i1⟩
  | .hbm, ⟨92, _⟩ => ⟨S256x256, .i1⟩
  | .hbm, ⟨93, _⟩ => ⟨S_, .i32⟩
  | .hbm, ⟨94, _⟩ => ⟨S256x256, .i32⟩
  | .hbm, ⟨95, _⟩ => ⟨S256x256, .i32⟩
  | .hbm, ⟨96, _⟩ => ⟨S256x256, .i32⟩
  | .hbm, ⟨97, _⟩ => ⟨S256x256, .i1⟩
  | .hbm, ⟨98, _⟩ => ⟨S256x256, .i1⟩
  | .hbm, ⟨99, _⟩ => ⟨S256x256, .i1⟩
  | .hbm, ⟨100, _⟩ => ⟨S256x256, .bf16⟩
  | .hbm, ⟨101, _⟩ => ⟨S256x256, .i1⟩
  | .hbm, ⟨102, _⟩ => ⟨S256x256, .i1⟩
  | .hbm, ⟨103, _⟩ => ⟨S256x256, .bf16⟩
  | .hbm, ⟨104, _⟩ => ⟨S16384x1024, .bf16⟩
  | .hbm, ⟨105, _⟩ => ⟨S16384x1024, .bf16⟩
  | .hbm, ⟨106, _⟩ => ⟨S16384x2048, .bf16⟩
  | .hbm, ⟨107, _⟩ => ⟨S16384x2048, .bf16⟩
  | .hbm, ⟨108, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x6208, .bf16⟩
  | .local _ .vmem, ⟨8, _⟩ => ⟨S5x4096, .f32⟩
  | .local _ .vmem, ⟨9, _⟩ => ⟨S1x4096, .f32⟩
  | .local _ .vmem, ⟨10, _⟩ => ⟨S1x128, .f32⟩
  | .local _ .vmem, ⟨11, _⟩ => ⟨S1x128, .f32⟩
  | .local _ .vmem, ⟨12, _⟩ => ⟨S256x256, .bf16⟩
  | .local _ .vmem, ⟨13, _⟩ => ⟨S256x256, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x128, .f32⟩
  | .local _ .vmem, ⟨23, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_3 : Ref sig .tc := ⟨.hbm, 56, rfl⟩
abbrev main_call1_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v46 : Ref sig .tc := ⟨.hbm, 78, rfl⟩
abbrev main_c_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55_0 : Ref sig .tc := ⟨.hbm, 104, rfl⟩
abbrev main_v55_1 : Ref sig .tc := ⟨.hbm, 105, rfl⟩
abbrev main_v55_2 : Ref sig .tc := ⟨.hbm, 106, rfl⟩
abbrev main_v55_3 : Ref sig .tc := ⟨.hbm, 107, rfl⟩
abbrev main_v55_4 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6208 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
variable {F : FTy → Type} [FloatOps F] [Named F]
def κ : String → Option EReal := fun
  | "neg_log2e" => some ((-((Real.log 2)⁻¹) : ℝ) : EReal)
  | _ => none
-- ==== Reference3Ideal.lean ====
abbrev S16384x1024 : Shape := ⟨2, ![16384, 1024]⟩
abbrev S2x1024 : Shape := ⟨2, ![2, 1024]⟩
abbrev S1x1024x6208 : Shape := ⟨3, ![1, 1024, 6208]⟩
abbrev S1x5x4096 : Shape := ⟨3, ![1, 5, 4096]⟩
abbrev S1x4096 : Shape := ⟨2, ![1, 4096]⟩
abbrev S1x2x16 : Shape := ⟨3, ![1, 2, 16]⟩
abbrev S2x8192x1024 : Shape := ⟨3, ![2, 8192, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6208 : Shape := ⟨2, ![1024, 6208]⟩
abbrev S2x8192x6208 : Shape := ⟨3, ![2, 8192, 6208]⟩
abbrev S2x8192x4096 : Shape := ⟨3, ![2, 8192, 4096]⟩
abbrev S2x8192x2048 : Shape := ⟨3, ![2, 8192, 2048]⟩
abbrev S2x8192x64 : Shape := ⟨3, ![2, 8192, 64]⟩
abbrev S2x8196x4096 : Shape := ⟨3, ![2, 8196, 4096]⟩
abbrev S5x4096 : Shape := ⟨2, ![5, 4096]⟩
abbrev S4096 : Shape := ⟨1, ![4096]⟩
abbrev S1x1x4096 : Shape := ⟨3, ![1, 1, 4096]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S16384x2048 : Shape := ⟨2, ![16384, 2048]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x6208, .f32⟩
  | .hbm, ⟨3, _⟩ => ⟨S1x5x4096, .f32⟩
  | .hbm, ⟨4, _⟩ => ⟨S1x4096, .f32⟩
  | .hbm, ⟨5, _⟩ => ⟨S1x2x16, .f32⟩
  | .hbm, ⟨6, _⟩ => ⟨S1x2x16, .f32⟩
  | .hbm, ⟨7, _⟩ => ⟨S2x8192x1024, .f32⟩
  | .hbm, ⟨8, _⟩ => ⟨S1x1024, .f32⟩
  | .hbm, ⟨9, _⟩ => ⟨S1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S1024x6208, .f32⟩
  | .hbm, ⟨27, _⟩ => ⟨S2x8192x6208, .f32⟩
  | .hbm, ⟨28, _⟩ => ⟨S2x8192x4096, .f32⟩
  | .hbm, ⟨29, _⟩ => ⟨S2x8192x2048, .f32⟩
  | .hbm, ⟨30, _⟩ => ⟨S2x8192x64, .f32⟩
  | .hbm, ⟨31, _⟩ => ⟨S_, .i32⟩
  | .hbm, ⟨32, _⟩ => ⟨S_, .f32⟩
  | .hbm, ⟨33, _⟩ => ⟨S2x8196x4096, .f32⟩
  | .hbm, ⟨34, _⟩ => ⟨S5x4096, .f32⟩
  | .hbm, ⟨35, _⟩ => ⟨S2x8192x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S2x8192x4096, .f32⟩
  | .hbm, ⟨40, _⟩ => ⟨S2x8192x4096, .f32⟩
  | .hbm, ⟨41, _⟩ => ⟨S2x8192x4096, .f32⟩
  | .hbm, ⟨42, _⟩ => ⟨S1x4096, .f32⟩
  | .hbm, ⟨43, _⟩ => ⟨S4096, .f32⟩
  | .hbm, ⟨44, _⟩ => ⟨S1x1x4096, .f32⟩
  | .hbm, ⟨45, _⟩ => ⟨S2x8192x4096, .f32⟩
  | .hbm, ⟨46, _⟩ => ⟨S2x8192x4096, .f32⟩
  | .hbm, ⟨47, _⟩ => ⟨S2x8192x4096, .f32⟩
  | .hbm, ⟨48, _⟩ => ⟨S2x8192x4096, .f32⟩
  | .hbm, ⟨49, _⟩ => ⟨S1x4096, .f32⟩
  | .hbm, ⟨50, _⟩ => ⟨S4096, .f32⟩
  | .hbm, ⟨51, _⟩ => ⟨S1x1x4096, .f32⟩
  | .hbm, ⟨52, _⟩ => ⟨S2x8192x4096, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S1x4096, .f32⟩
  | .hbm, ⟨57, _⟩ => ⟨S4096, .f32⟩
  | .hbm, ⟨58, _⟩ => ⟨S1x1x4096, .f32⟩
  | .hbm, ⟨59, _⟩ => ⟨S2x8192x4096, .f32⟩
  | .hbm, ⟨60, _⟩ => ⟨S2x8192x4096, .f32⟩
  | .hbm, ⟨61, _⟩ => ⟨S2x8192x4096, .f32⟩
  | .hbm, ⟨62, _⟩ => ⟨S2x8192x4096, .f32⟩
  | .hbm, ⟨63, _⟩ => ⟨S1x4096, .f32⟩
  | .hbm, ⟨64, _⟩ => ⟨S4096, .f32⟩
  | .hbm, ⟨65, _⟩ => ⟨S1x1x4096, .f32⟩
  | .hbm, ⟨66, _⟩ => ⟨S2x8192x4096, .f32⟩
  | .hbm, ⟨67, _⟩ => ⟨S2x8192x4096, .f32⟩
  | .hbm, ⟨68, _⟩ => ⟨S2x8192x4096, .f32⟩
  | .hbm, ⟨69, _⟩ => ⟨S4096, .f32⟩
  | .hbm, ⟨70, _⟩ => ⟨S1x1x4096, .f32⟩
  | .hbm, ⟨71, _⟩ => ⟨S2x8192x4096, .f32⟩
  | .hbm, ⟨72, _⟩ => ⟨S2x8192x4096, .f32⟩
  | .hbm, ⟨73, _⟩ => ⟨S2x8192x4096, .f32⟩
  | .hbm, ⟨74, _⟩ => ⟨S2x8192x4096, .f32⟩
  | .hbm, ⟨75, _⟩ => ⟨S_, .f32⟩
  | .hbm, ⟨76, _⟩ => ⟨S2x8192x4096, .f32⟩
  | .hbm, ⟨77, _⟩ => ⟨S2x8192x4096, .f32⟩
  | .hbm, ⟨78, _⟩ => ⟨S_, .f32⟩
  | .hbm, ⟨79, _⟩ => ⟨S2x8192x4096, .f32⟩
  | .hbm, ⟨80, _⟩ => ⟨S2x8192x4096, .f32⟩
  | .hbm, ⟨81, _⟩ => ⟨S2x8192x4096, .f32⟩
  | .hbm, ⟨82, _⟩ => ⟨S2x8192x1024, .f32⟩
  | .hbm, ⟨83, _⟩ => ⟨S2x8192x1024, .f32⟩
  | .hbm, ⟨84, _⟩ => ⟨S2x8192x2048, .f32⟩
  | .hbm, ⟨85, _⟩ => ⟨S2x8192x8x128, .f32⟩
  | .hbm, ⟨86, _⟩ => ⟨S2x8192x8x128, .f32⟩
  | .hbm, ⟨87, _⟩ => ⟨S_, .f32⟩
  | .hbm, ⟨88, _⟩ => ⟨S2x8192x8, .f32⟩
  | .hbm, ⟨89, _⟩ => ⟨S2x8192x8x1, .f32⟩
  | .hbm, ⟨90, _⟩ => ⟨S_, .f32⟩
  | .hbm, ⟨91, _⟩ => ⟨S2x8192x8x1, .f32⟩
  | .hbm, ⟨92, _⟩ => ⟨S2x8192x8x1, .f32⟩
  | .hbm, ⟨93, _⟩ => ⟨S2x8192x8x1, .f32⟩
  | .hbm, ⟨94, _⟩ => ⟨S2x8192x8x128, .f32⟩
  | .hbm, ⟨95, _⟩ => ⟨S2x8192x8x128, .f32⟩
  | .hbm, ⟨96, _⟩ => ⟨S_, .f32⟩
  | .hbm, ⟨97, _⟩ => ⟨S2x8192x8x128, .f32⟩
  | .hbm, ⟨98, _⟩ => ⟨S2x8192x8x128, .f32⟩
  | .hbm, ⟨99, _⟩ => ⟨S2x8192x8x128, .f32⟩
  | .hbm, ⟨100, _⟩ => ⟨S2x8192x8x128, .f32⟩
  | .hbm, ⟨101, _⟩ => ⟨S_, .f32⟩
  | .hbm, ⟨102, _⟩ => ⟨S2x8192x8, .f32⟩
  | .hbm, ⟨103, _⟩ => ⟨S2x8192x8x1, .f32⟩
  | .hbm, ⟨104, _⟩ => ⟨S_, .f32⟩
  | .hbm, ⟨105, _⟩ => ⟨S2x8192x8x1, .f32⟩
  | .hbm, ⟨106, _⟩ => ⟨S2x8192x8x1, .f32⟩
  | .hbm, ⟨107, _⟩ => ⟨S2x8192x8x1, .f32⟩
  | .hbm, ⟨108, _⟩ => ⟨S2x8192x8x128, .f32⟩
  | .hbm, ⟨109, _⟩ => ⟨S2x8192x8x128, .f32⟩
  | .hbm, ⟨110, _⟩ => ⟨S16384x1024, .f32⟩
  | .hbm, ⟨111, _⟩ => ⟨S16384x1024, .bf16⟩
  | .hbm, ⟨112, _⟩ => ⟨S16384x1024, .f32⟩
  | .hbm, ⟨113, _⟩ => ⟨S16384x1024, .bf16⟩
  | .hbm, ⟨114, _⟩ => ⟨S16384x2048, .f32⟩
  | .hbm, ⟨115, _⟩ => ⟨S16384x2048, .bf16⟩
  | .hbm, ⟨116, _⟩ => ⟨S16384x2048, .f32⟩
  | .hbm, ⟨117, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_2 : Ref sig .tc := ⟨.hbm, 87, rfl⟩
abbrev main_v67 : Ref sig .tc := ⟨.hbm, 88, rfl⟩
abbrev main_v68 : Ref sig .tc := ⟨.hbm, 89, rfl⟩
abbrev main_cst_3 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_4 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_5 : Ref sig .tc := ⟨.hbm, 101, rfl⟩
abbrev main_v78 : Ref sig .tc := ⟨.hbm, 102, rfl⟩
abbrev main_v79 : Ref sig .tc := ⟨.hbm, 103, rfl⟩
abbrev main_cst_6 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel4.lean ====
abbrev S16384x2048 : Shape := ⟨2, ![16384, 2048]⟩
abbrev S1x128 : Shape := ⟨2, ![1, 128]⟩
abbrev S1x2048x1024 : Shape := ⟨3, ![1, 2048, 1024]⟩
abbrev S16384x1024 : Shape := ⟨2, ![16384, 1024]⟩
abbrev S128 : Shape := ⟨1, ![128]⟩
abbrev S2048x1024 : Shape := ⟨2, ![2048, 1024]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S1x128, .f32⟩
  | .hbm, ⟨4, _⟩ => ⟨S1x2048x1024, .f32⟩
  | .hbm, ⟨5, _⟩ => ⟨S16384x1024, .f32⟩
  | .hbm, ⟨6, _⟩ => ⟨S16384x2048, .bf16⟩
  | .hbm, ⟨7, _⟩ => ⟨S16384x2048, .bf16⟩
  | .hbm, ⟨8, _⟩ => ⟨S16384x2048, .bf16⟩
  | .hbm, ⟨9, _⟩ => ⟨S128, .f32⟩
  | .hbm, ⟨10, _⟩ => ⟨S1x128, .f32⟩
  | .hbm, ⟨11, _⟩ => ⟨S2048x1024, .f32⟩
  | .hbm, ⟨12, _⟩ => ⟨S2048x1024, .bf16⟩
  | .hbm, ⟨13, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x128, .f32⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
variable {F : FTy → Type} [FloatOps F] [Named F]
def κ : String → Option EReal := fun
  | "neg_log2e" => some ((-((Real.log 2)⁻¹) : ℝ) : EReal)
  | _ => none
-- ==== Reference4Ideal.lean ====
abbrev S16384x2048 : Shape := ⟨2, ![16384, 2048]⟩
abbrev S1x128 : Shape := ⟨2, ![1, 128]⟩
abbrev S1x2048x1024 : Shape := ⟨3, ![1, 2048, 1024]⟩
abbrev S16384x1024 : Shape := ⟨2, ![16384, 1024]⟩
abbrev S2x8192x16x128 : Shape := ⟨4, ![2, 8192, 16, 128]⟩
abbrev S128 : Shape := ⟨1, ![128]⟩
abbrev S_ : Shape := ⟨0, ![]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x8192x1024 : Shape := ⟨3, ![2, 8192, 1024]⟩
abbrev S2x8192x2048 : Shape := ⟨3, ![2, 8192, 2048]⟩
abbrev S2048x1024 : Shape := ⟨2, ![2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S1x128, .f32⟩
  | .hbm, ⟨4, _⟩ => ⟨S1x2048x1024, .f32⟩
  | .hbm, ⟨5, _⟩ => ⟨S16384x1024, .f32⟩
  | .hbm, ⟨6, _⟩ => ⟨S2x8192x16x128, .f32⟩
  | .hbm, ⟨7, _⟩ => ⟨S2x8192x16x128, .f32⟩
  | .hbm, ⟨8, _⟩ => ⟨S2x8192x16x128, .f32⟩
  | .hbm, ⟨9, _⟩ => ⟨S128, .f32⟩
  | .hbm, ⟨10, _⟩ => ⟨S2x8192x16x128, .f32⟩
  | .hbm, ⟨11, _⟩ => ⟨S_, .f32⟩
  | .hbm, ⟨12, _⟩ => ⟨S2x8192x16, .f32⟩
  | .hbm, ⟨13, _⟩ => ⟨S2x8192x16x1, .f32⟩
  | .hbm, ⟨14, _⟩ => ⟨S_, .f32⟩
  | .hbm, ⟨15, _⟩ => ⟨S2x8192x16x1, .f32⟩
  | .hbm, ⟨16, _⟩ => ⟨S2x8192x16x1, .f32⟩
  | .hbm, ⟨17, _⟩ => ⟨S_, .f32⟩
  | .hbm, ⟨18, _⟩ => ⟨S2x8192x16x1, .f32⟩
  | .hbm, ⟨19, _⟩ => ⟨S2x8192x16x1, .f32⟩
  | .hbm, ⟨20, _⟩ => ⟨S2x8192x16x1, .f32⟩
  | .hbm, ⟨21, _⟩ => ⟨S2x8192x16x128, .f32⟩
  | .hbm, ⟨22, _⟩ => ⟨S2x8192x16x128, .f32⟩
  | .hbm, ⟨23, _⟩ => ⟨S1x1x1x128, .f32⟩
  | .hbm, ⟨24, _⟩ => ⟨S2x8192x16x128, .f32⟩
  | .hbm, ⟨25, _⟩ => ⟨S2x8192x16x128, .f32⟩
  | .hbm, ⟨26, _⟩ => ⟨S2x8192x16x128, .f32⟩
  | .hbm, ⟨27, _⟩ => ⟨S2x8192x16x128, .f32⟩
  | .hbm, ⟨28, _⟩ => ⟨S2x8192x16x128, .f32⟩
  | .hbm, ⟨29, _⟩ => ⟨S_, .f32⟩
  | .hbm, ⟨30, _⟩ => ⟨S2x8192x16x128, .f32⟩
  | .hbm, ⟨31, _⟩ => ⟨S2x8192x16x128, .f32⟩
  | .hbm, ⟨32, _⟩ => ⟨S_, .f32⟩
  | .hbm, ⟨33, _⟩ => ⟨S2x8192x16x128, .f32⟩
  | .hbm, ⟨34, _⟩ => ⟨S2x8192x16x128, .f32⟩
  | .hbm, ⟨35, _⟩ => ⟨S2x8192x16x128, .f32⟩
  | .hbm, ⟨36, _⟩ => ⟨S2x8192x16x128, .f32⟩
  | .hbm, ⟨37, _⟩ => ⟨S2x8192x1024, .f32⟩
  | .hbm, ⟨38, _⟩ => ⟨S2x8192x2048, .f32⟩
  | .hbm, ⟨39, _⟩ => ⟨S2048x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel5.lean ====
abbrev S16384x1024 : Shape := ⟨2, ![16384, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S16384x1024, .bf16⟩
  | .hbm, ⟨4, _⟩ => ⟨S1024x1024, .f32⟩
  | .hbm, ⟨5, _⟩ => ⟨S1024x1024, .bf16⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S1x1024x1024 : Shape := ⟨3, ![1, 1024, 1024]⟩
abbrev S2x8192x1024 : Shape := ⟨3, ![2, 8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S2x8192x1024, .f32⟩
  | .hbm, ⟨4, _⟩ => ⟨S2x8192x1024, .f32⟩
  | .hbm, ⟨5, _⟩ => ⟨S1024x1024, .f32⟩
  | .hbm, ⟨6, _⟩ => ⟨S2x8192x1024, .f32⟩
  | .hbm, ⟨7, _⟩ => ⟨S2x8192x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Run.lean ====
/-
  The attention kernel's run. Its body is taken once through each of its two branches — the fixed shift, when the
  second word of the shift pair says that the scores are bounded, and the running maximum otherwise — each time as a
  list of pieces the output block ends with; then the proof data of the pipeline, the body's obligation, the run of the
  whole program and the frame.
-/
module

public import proofs.«01_k».proof.Proof.Gen.KernelIdeal
public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 5, through which its contents are stated (`View.read_writes_of_cover`: the
    choice does not matter). -/
abbrev VO0_5 : View sig .tc .vmem S256x512 .bf16 := (Memref.whole cc0_stg5_0 : Memref sig .tc .vmem S256x512 .bf16).view
/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x128x256 .bf16 := Memref.whole cc0_scratch0
abbrev scM0_1 : Memref sig .tc .vmem S4x1x256 .f32 := Memref.whole cc0_scratch1
abbrev scM0_2 : Memref sig .tc .vmem S4x8x256 .f32 := Memref.whole cc0_scratch2
abbrev scM0_3 : Memref sig .tc .vmem S4x128x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The condition of the fixed-shift branch, as the body computes it from the second word `w` of the shift pair. -/
abbrev isBounded (w : Elt F .f32) : Prop :=
  Scalar.cmpi .ne (Scalar.extui (Scalar.cmpf .ogt w (Scalar.ofBits .f32 0x3F000000#32 : F .f32)) : BitVec 32) 0#32 = 1#1

/-- The condition of the running-maximum branch. -/
abbrev isOnline (w : Elt F .f32) : Prop :=
  Scalar.cmpi .ne (Scalar.extui (Scalar.xori (Scalar.cmpf .ogt w (Scalar.ofBits .f32 0x3F000000#32 : F .f32)) 1#1) : BitVec 32) 0#32 = 1#1

/-- Exactly one branch is taken. -/
theorem isOnline_iff (w : Elt F .f32) : isOnline w ↔ ¬ isBounded w := by
  unfold isOnline isBounded
  generalize Scalar.cmpf .ogt w (Scalar.ofBits .f32 0x3F000000#32 : F .f32) = b
  revert b; decide

/-- The second word of the shift pair, as the body reads it. -/
abbrev flag (x0 : Vec F S2 .f32) : Elt F .f32 :=
  x0 ((Rect.unit (s := S2) ![1] S1.size inb_S2_S1_1).idx (Shape.Idx.first (s := S1) (numel1_S1.symm ▸ Nat.one_pos)))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRunB (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : isBounded (flag x0)) (hO : ¬ isOnline (flag x0)) :
    { L5 : List (View.Piece (Elt F) S256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_flash_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_flash_attention_eq_skeleton]; unfold cc0_flash_attention_skel
    simp only [k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    have hr : _root_.Cert.KernelIdeal.Hand.kernelRunB.sl.r_1 c arg3 harg3 x0 = flag x0 := by
      show arg3.view.read (Elt F) (harg3.unread x0) _ = _
      rw [harg3.read_unread]
    have hc : _root_.Cert.KernelIdeal.Hand.kernelRunB.sl.v51 c arg3 harg3 x0 = 1#1 := by
      unfold _root_.Cert.KernelIdeal.Hand.kernelRunB.sl.v51 _root_.Cert.KernelIdeal.Hand.kernelRunB.sl.v50 _root_.Cert.KernelIdeal.Hand.kernelRunB.sl.v49
      rw [hr]; exact hB
    sl_exec
    have hc2 : ¬ _root_.Cert.KernelIdeal.Hand.kernelRunB.sl.v54 c arg3 harg3 x0 = 1#1 := by
      unfold _root_.Cert.KernelIdeal.Hand.kernelRunB.sl.v54 _root_.Cert.KernelIdeal.Hand.kernelRunB.sl.v53 _root_.Cert.KernelIdeal.Hand.kernelRunB.sl.v52 _root_.Cert.KernelIdeal.Hand.kernelRunB.sl.v49
      rw [hr]; exact hO
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRunO (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : ¬ isBounded (flag x0)) (hO : isOnline (flag x0)) :
    { L5 : List (View.Piece (Elt F) S256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_flash_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_flash_attention_eq_skeleton]; unfold cc0_flash_attention_skel
    simp only [k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    have hr : _root_.Cert.KernelIdeal.Hand.kernelRunO.sl.r_1 c arg3 harg3 x0 = flag x0 := by
      show arg3.view.read (Elt F) (harg3.unread x0) _ = _
      rw [harg3.read_unread]
    have hc : ¬ _root_.Cert.KernelIdeal.Hand.kernelRunO.sl.v51 c arg3 harg3 x0 = 1#1 := by
      unfold _root_.Cert.KernelIdeal.Hand.kernelRunO.sl.v51 _root_.Cert.KernelIdeal.Hand.kernelRunO.sl.v50 _root_.Cert.KernelIdeal.Hand.kernelRunO.sl.v49
      rw [hr]; exact hB
    sl_exec
    have hc2 : _root_.Cert.KernelIdeal.Hand.kernelRunO.sl.v54 c arg3 harg3 x0 = 1#1 := by
      unfold _root_.Cert.KernelIdeal.Hand.kernelRunO.sl.v54 _root_.Cert.KernelIdeal.Hand.kernelRunO.sl.v53 _root_.Cert.KernelIdeal.Hand.kernelRunO.sl.v52 _root_.Cert.KernelIdeal.Hand.kernelRunO.sl.v49
      rw [hr]; exact hO
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- The run's pieces for output 5 tile its block (4 stores of `S256x128`, checked by the kernel's evaluation: Lib/Ring.lean `Piece.tiledL`, linear in the pieces, through a loop's `@[irreducible]` trip theorem too), so they cover it. -/
theorem coverB (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : isBounded (flag x0)) (hO : ¬ isOnline (flag x0))  (y : S256x512.Idx) :
    ∃ pc ∈ (kernelRunB c i arg3 harg3 arg4 harg4 arg5 harg5 arg6 harg6 arg7 harg7 arg8 harg8 arg9 harg9 arg10 harg10 arg11 harg11 arg12 harg12 x0 x1 x2 x3 x4 hB hO).1, y ∈ pc.1.set :=
  View.cover_of_tiledL (kernelRunB c i arg3 harg3 arg4 harg4 arg5 harg5 arg6 harg6 arg7 harg7 arg8 harg8 arg9 harg9 arg10 harg10 arg11 harg11 arg12 harg12 x0 x1 x2 x3 x4 hB hO).1 S256x128.size (by sl_kernel_rfl) y

/-- What the run leaves in output 5's staging buffer: its pieces read back over junk. -/
def outB (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : isBounded (flag x0)) (hO : ¬ isOnline (flag x0))  : Vec F S256x512 .bf16 :=
  VO0_5.read (Elt F) (VO0_5.writes (Elt F) VO0_5.junk (kernelRunB c i arg3 harg3 arg4 harg4 arg5 harg5 arg6 harg6 arg7 harg7 arg8 harg8 arg9 harg9 arg10 harg10 arg11 harg11 arg12 harg12 x0 x1 x2 x3 x4 hB hO).1)

/-- The run's pieces for output 5 tile its block (4 stores of `S256x128`, checked by the kernel's evaluation: Lib/Ring.lean `Piece.tiledL`, linear in the pieces, through a loop's `@[irreducible]` trip theorem too), so they cover it. -/
theorem coverO (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : ¬ isBounded (flag x0)) (hO : isOnline (flag x0))  (y : S256x512.Idx) :
    ∃ pc ∈ (kernelRunO c i arg3 harg3 arg4 harg4 arg5 harg5 arg6 harg6 arg7 harg7 arg8 harg8 arg9 harg9 arg10 harg10 arg11 harg11 arg12 harg12 x0 x1 x2 x3 x4 hB hO).1, y ∈ pc.1.set :=
  View.cover_of_tiledL (kernelRunO c i arg3 harg3 arg4 harg4 arg5 harg5 arg6 harg6 arg7 harg7 arg8 harg8 arg9 harg9 arg10 harg10 arg11 harg11 arg12 harg12 x0 x1 x2 x3 x4 hB hO).1 S256x128.size (by sl_kernel_rfl) y

/-- What the run leaves in output 5's staging buffer: its pieces read back over junk. -/
def outO (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
    (x0 : Vec F S2 .f32) (x1 : Vec F S256x512 .bf16) (x2 : Vec F S8192x128 .bf16) (x3 : Vec F S1x128x8192 .bf16) (x4 : Vec F S256x512 .bf16) (hB : ¬ isBounded (flag x0)) (hO : isOnline (flag x0))  : Vec F S256x512 .bf16 :=
  VO0_5.read (Elt F) (VO0_5.writes (Elt F) VO0_5.junk (kernelRunO c i arg3 harg3 arg4 harg4 arg5 harg5 arg6 harg6 arg7 harg7 arg8 harg8 arg9 harg9 arg10 harg10 arg11 harg11 arg12 harg12 x0 x1 x2 x3 x4 hB hO).1)

/-! ## What the outputs hold after each point -/

/-- What the outputs' staging buffers hold after the body at point `t`: the contents the run through
    the branch taken leaves, at the point's memrefs and input blocks. -/
def outsAt0 (c : Dev nD) (t : Fin cfg0.N) : Vec F S256x512 .bf16 :=
  if hB : isBounded (flag (iblk m c 0 t)) then outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) hB (fun h => (isOnline_iff _).1 h hB)
  else outO c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) hB ((isOnline_iff _).2 hB)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  by_cases hB : isBounded (flag (iblk m c 0 t))
  · have hO : ¬ isOnline (flag (iblk m c 0 t)) := fun h => (isOnline_iff _).1 h hB
    rw [show outsAt0 m c t = _ from dif_pos hB]
    unfold outB
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ _ _ _ _ _ _ (iblk m c 0 t) (iblk m c 1 t) (iblk m c 2 t) (iblk m c 3 t) (iblk m c 4 t) hB hO).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _ _ _ _ _ _ hB hO)
  · have hO : isOnline (flag (iblk m c 0 t)) := (isOnline_iff _).2 hB
    rw [show outsAt0 m c t = _ from dif_neg hB]
    unfold outO
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRunO c (grid0.coords t) _ _ _ _ _ _ _ _ _ _ _ _ _ _ _ _ _ _ _ _ (iblk m c 0 t) (iblk m c 1 t) (iblk m c 2 t) (iblk m c 3 t) (iblk m c 4 t) hB hO).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, ⟨%e5, H5⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverO c _ _ _ _ _ _ _ _ _ _ _ _ _ _ _ _ _ _ _ _ _ _ _ _ _ _ hB hO)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Frames.lean ====
/-
  The claims without values: every execution of the kernel's program, of its idealization and of the reference ends with
  the arguments unchanged and every counter at zero, and the idealization differs from the program by the named constant.
-/
module

public import proofs.«01_k».proof.Defs
public import proofs.«01_k».proof.Proof.Run
public import proofs.«01_k».proof.Proof.RunBits
public import proofs.«01_k».proof.Proof.Gen.Kernel
public import proofs.«01_k».proof.Proof.Gen.KernelIdeal
public import proofs.«01_k».proof.Proof.Gen.Pre_finite_qk
public import proofs.«01_k».proof.Proof.Gen.ReferenceIdeal
public import proofs.«01_k».proof.Proof.Gen.ReferenceIdeal.Run
public import Idealize.ShloMosaic.Lib.Quiescent

@[expose] public section

noncomputable section

namespace Cert.FrameClaims

open Idealize.ShloMosaic Idealize.SL.Sem

/-- The program as printed. -/
theorem frame_p : Cert.quiescent_Kernel (hKernel := Cert.Kernel.Gen.facts) :=
  fun m ρ _ => Cert.Kernel.Hand.frame m ρ

/-- Its idealization. -/
theorem frame_pi : Cert.quiescent_KernelIdeal (hKernelIdeal := Cert.KernelIdeal.Gen.facts) :=
  fun m ρ _ => Cert.KernelIdeal.Hand.frame m ρ

/-- The reference, which runs on the host alone. -/
theorem frame_ri : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same two from the memories the value claim starts from. -/
theorem frame_pi_pre : Cert.quiescent_KernelIdeal_pre_finite_qk (hKernelIdeal := Cert.KernelIdeal.Gen.facts) (hPre_finite_qk := Cert.Pre_finite_qk.Gen.facts) :=
  fun m ρ _ => Cert.KernelIdeal.Hand.frame m ρ
theorem frame_ri_pre : Cert.quiescent_ReferenceIdeal_pre_finite_qk (hReferenceIdeal := Cert.ReferenceIdeal.Gen.facts) (hPre_finite_qk := Cert.Pre_finite_qk.Gen.facts) :=
  fun m ρ _ => frame_ri m ρ trivial

/-- The one rewrite: the scores' factor is read as one over the logarithm of two. -/
theorem preserves : Cert.preserves_Kernel_KernelIdeal :=
  IdealRules.named_const.statement Cert.KernelIdeal.κ "log2e" .f32 0x3FB8AA3B#32 (((Real.log 2)⁻¹ : ℝ) : EReal) rfl

end Cert.FrameClaims

end
-- ==== Proof.Slabs.lean ====
/-
  The scratch buffers hold one slab per head. Here: a slab read back after a write to the same slab is what was written,
  a write to another slab leaves it; and the values that one block of keys adds to a head's running sums, for the fixed
  shift and for the running maximum.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

section slabs
variable {Val : EltTy → Type} [∀ e, Nonempty (Val e)] {sig : RefSig} {κ : Kind} {sp : Space} {e : EltTy} {a b : ℕ}

/-- A write to another slab leaves this one. -/
theorem slab_miss (v : View sig κ sp ⟨3, ![4, a, b]⟩ e) (f : v.ty.Contents Val) {g g' : ℕ} (h : g ≠ g')
    (inb : ∀ x, (![g, 0, 0] : Fin 3 → ℕ) x + (![1, a, b] : Fin 3 → ℕ) x ≤ (![4, a, b] : Fin 3 → ℕ) x)
    (inb' : ∀ x, (![g', 0, 0] : Fin 3 → ℕ) x + (![1, a, b] : Fin 3 → ℕ) x ≤ (![4, a, b] : Fin 3 → ℕ) x)
    (w : (Rect.unit (s := ⟨3, ![4, a, b]⟩) ![g, 0, 0] ![1, a, b] inb).shape.Idx → Val e)
    (L : List (View.Piece Val ⟨3, ![4, a, b]⟩ e)) :
    v.readAt Val (Rect.unit (s := ⟨3, ![4, a, b]⟩) ![g', 0, 0] ![1, a, b] inb').toLoadRect
        (v.writes Val f (⟨Rect.unit (s := ⟨3, ![4, a, b]⟩) ![g, 0, 0] ![1, a, b] inb, w⟩ :: L))
      = v.readAt Val (Rect.unit (s := ⟨3, ![4, a, b]⟩) ![g', 0, 0] ![1, a, b] inb').toLoadRect (v.writes Val f L) := by
  funext x
  refine View.read_writes_cons_miss_of_axis v f _ L _ (0 : Fin 3) g 1 rfl rfl rfl ?_
  have hx : (x (0 : Fin 3)).val < 1 := (x (0 : Fin 3)).isLt
  show g' + 1 * (x (0 : Fin 3)).val < g ∨ g + 1 ≤ g' + 1 * (x (0 : Fin 3)).val
  omega

/-- A slab just written reads what was written. -/
theorem slab_hit (v : View sig κ sp ⟨3, ![4, a, b]⟩ e) (f : v.ty.Contents Val) {g : ℕ}
    (inb inb' : ∀ x, (![g, 0, 0] : Fin 3 → ℕ) x + (![1, a, b] : Fin 3 → ℕ) x ≤ (![4, a, b] : Fin 3 → ℕ) x)
    (w : (Rect.unit (s := ⟨3, ![4, a, b]⟩) ![g, 0, 0] ![1, a, b] inb).shape.Idx → Val e)
    (L : List (View.Piece Val ⟨3, ![4, a, b]⟩ e)) :
    v.readAt Val (Rect.unit (s := ⟨3, ![4, a, b]⟩) ![g, 0, 0] ![1, a, b] inb').toLoadRect
        (v.writes Val f (⟨Rect.unit (s := ⟨3, ![4, a, b]⟩) ![g, 0, 0] ![1, a, b] inb, w⟩ :: L)) = w :=
  funext fun x => View.read_writes_cons_emb v f _ w L x

/-- The same two for a load stated over the pieces alone. -/
theorem slab_missC (v : View sig κ sp ⟨3, ![4, a, b]⟩ e) {g g' : ℕ} (h : g ≠ g')
    (inb : ∀ x, (![g, 0, 0] : Fin 3 → ℕ) x + (![1, a, b] : Fin 3 → ℕ) x ≤ (![4, a, b] : Fin 3 → ℕ) x)
    (inb' : ∀ x, (![g', 0, 0] : Fin 3 → ℕ) x + (![1, a, b] : Fin 3 → ℕ) x ≤ (![4, a, b] : Fin 3 → ℕ) x)
    (w : (Rect.unit (s := ⟨3, ![4, a, b]⟩) ![g, 0, 0] ![1, a, b] inb).shape.Idx → Val e)
    (L : List (View.Piece Val ⟨3, ![4, a, b]⟩ e)) :
    v.readCov (⟨Rect.unit (s := ⟨3, ![4, a, b]⟩) ![g, 0, 0] ![1, a, b] inb, w⟩ :: L)
        (Rect.unit (s := ⟨3, ![4, a, b]⟩) ![g', 0, 0] ![1, a, b] inb').toLoadRect
      = v.readCov L (Rect.unit (s := ⟨3, ![4, a, b]⟩) ![g', 0, 0] ![1, a, b] inb').toLoadRect :=
  slab_miss v v.junk h inb inb' w L

theorem slab_hitC (v : View sig κ sp ⟨3, ![4, a, b]⟩ e) {g : ℕ}
    (inb inb' : ∀ x, (![g, 0, 0] : Fin 3 → ℕ) x + (![1, a, b] : Fin 3 → ℕ) x ≤ (![4, a, b] : Fin 3 → ℕ) x)
    (w : (Rect.unit (s := ⟨3, ![4, a, b]⟩) ![g, 0, 0] ![1, a, b] inb).shape.Idx → Val e)
    (L : List (View.Piece Val ⟨3, ![4, a, b]⟩ e)) :
    v.readCov (⟨Rect.unit (s := ⟨3, ![4, a, b]⟩) ![g, 0, 0] ![1, a, b] inb, w⟩ :: L)
        (Rect.unit (s := ⟨3, ![4, a, b]⟩) ![g, 0, 0] ![1, a, b] inb').toLoadRect = w :=
  slab_hit v v.junk inb inb' w L

end slabs

/-- The head's slab of the transposed queries. -/
def inb3 {a b : ℕ} (g : Fin 4) : ∀ x, (![g.val, 0, 0] : Fin 3 → ℕ) x + (![1, a, b] : Fin 3 → ℕ) x ≤ (![4, a, b] : Fin 3 → ℕ) x := by
  intro x; fin_cases x <;> simp <;> omega

/-- The slab of head `g` as a place to read. -/
abbrev sl3 (a b : ℕ) (g : Fin 4) : LoadRect ⟨3, ![4, a, b]⟩ :=
  (Rect.unit (s := ⟨3, ![4, a, b]⟩) ![g.val, 0, 0] ![1, a, b] (inb3 g)).toLoadRect

/-- The weights of a block of 1024 keys under the fixed shift. -/
def wt1 (s : FVec F S1024x256 .f32) (r : Elt F .f32) : FVec F S1024x256 .f32 :=
  exp2 (subf s (broadcast S1024x256 r))

/-- A block's part of a head's weight sums, added on. -/
def updL1 (s : FVec F S1024x256 .f32) (r : Elt F .f32) (l : FVec F S1x8x256 .f32) : FVec F S1x8x256 .f32 :=
  shapeCast S1x8x256 (addf (shapeCast S8x256 l shapeCasts_S1x8x256_S8x256)
    (multiReduction .add [0] S8x256 (shapeCast S128x8x256 (wt1 s r) shapeCasts_S1024x256_S128x8x256) 0x00000000#32
      reduces_S128x8x256_S8x256 (.inl rfl) rfl)) shapeCasts_S8x256_S1x8x256

/-- A block's part of a head's weighted values, added on. -/
def updA1 (v : FVec F S128x1024 .bf16) (s : FVec F S1024x256 .f32) (r : Elt F .f32) (a : FVec F S1x128x256 .f32) :
    FVec F S1x128x256 .f32 :=
  shapeCast S1x128x256 (addf (shapeCast S128x256 a shapeCasts_S1x128x256_S128x256)
    (matmul dot_S128x1024_S1024x256_S128x256_1_0_0_1_n_n none v (truncf .bf16 (wt1 s r) bitsLt_bf16_f32)
      (constant S128x256 .f32 0x00000000#32))) shapeCasts_S128x256_S1x128x256

/-- The running maximum after a block of 512 keys. -/
def newM (s : FVec F S512x256 .f32) (m : FVec F S1x1x256 .f32) : FVec F S1x256 .f32 :=
  maximumf (shapeCast S1x256 m shapeCasts_S1x1x256_S1x256)
    (shapeCast S1x256 (multiReduction .maximumf [0] S256 s 0xFF800000#32 reduces_S512x256_S256 (.inl rfl) rfl)
      shapeCasts_S256_S1x256)

def updM2 (s : FVec F S512x256 .f32) (m : FVec F S1x1x256 .f32) : FVec F S1x1x256 .f32 :=
  shapeCast S1x1x256 (newM s m) shapeCasts_S1x256_S1x1x256

/-- The factor that brings sums under the old maximum to the new one. -/
def alp (s : FVec F S512x256 .f32) (m : FVec F S1x1x256 .f32) : FVec F S1x256 .f32 :=
  exp2 (subf (shapeCast S1x256 m shapeCasts_S1x1x256_S1x256) (newM s m))

/-- The weights of a block of 512 keys under the new maximum. -/
def wt2 (s : FVec F S512x256 .f32) (m : FVec F S1x1x256 .f32) : FVec F S512x256 .f32 :=
  exp2 (subf s (broadcastTo S512x256 (newM s m) broadcasts_S1x256_S512x256))

def updL2 (s : FVec F S512x256 .f32) (m : FVec F S1x1x256 .f32) (l : FVec F S1x8x256 .f32) : FVec F S1x8x256 .f32 :=
  shapeCast S1x8x256 (addf (mulf (shapeCast S8x256 l shapeCasts_S1x8x256_S8x256)
      (broadcastTo S8x256 (alp s m) broadcasts_S1x256_S8x256))
    (multiReduction .add [0] S8x256 (shapeCast S64x8x256 (wt2 s m) shapeCasts_S512x256_S64x8x256) 0x00000000#32
      reduces_S64x8x256_S8x256 (.inl rfl) rfl)) shapeCasts_S8x256_S1x8x256

def updA2 (v : FVec F S128x512 .bf16) (s : FVec F S512x256 .f32) (m : FVec F S1x1x256 .f32) (a : FVec F S1x128x256 .f32) :
    FVec F S1x128x256 .f32 :=
  shapeCast S1x128x256 (addf (mulf (shapeCast S128x256 a shapeCasts_S1x128x256_S128x256)
      (broadcastTo S128x256 (alp s m) broadcasts_S1x256_S128x256))
    (matmul dot_S128x512_S512x256_S128x256_1_0_0_1_n_n none v (truncf .bf16 (wt2 s m) bitsLt_bf16_f32)
      (constant S128x256 .f32 0x00000000#32))) shapeCasts_S128x256_S1x128x256

/-- The scores of a block of 1024 keys for a head's queries. -/
def sc1 (kk : FVec F S1024x128 .bf16) (q : FVec F S1x128x256 .bf16) : FVec F S1024x256 .f32 :=
  matmul dot_S1024x128_S128x256_S1024x256_1_0_0_1_n_n none kk (shapeCast S128x256 q shapeCasts_S1x128x256_S128x256)
    (constant S1024x256 .f32 0x00000000#32)

def sc2 (kk : FVec F S512x128 .bf16) (q : FVec F S1x128x256 .bf16) : FVec F S512x256 .f32 :=
  matmul dot_S512x128_S128x256_S512x256_1_0_0_1_n_n none kk (shapeCast S128x256 q shapeCasts_S1x128x256_S128x256)
    (constant S512x256 .f32 0x00000000#32)

section loads
variable (arg3 : Memref sig .tc .smem S2 .f32) (arg5 : Memref sig .tc .vmem S8192x128 .bf16)
  (arg6 : Memref sig .tc .vmem S1x128x8192 .bf16) (X_arg3 : BufTy.Contents (Elt F) arg3.view.ty)
  (X_arg5 : BufTy.Contents (Elt F) arg5.view.ty) (X_arg6 : BufTy.Contents (Elt F) arg6.view.ty)

/-- The keys and the values of a block. -/
def ks1 (k : Fin k0_t1_loop.trips) (u : Fin 4) : FVec F S1024x128 .bf16 :=
  shapeCast S1024x128 (arg5.view.readAt (Elt F) (Rect.unit (s := S8192x128) (k0_off1 k (BitVec.ofNat 32 u.val)) S1024x128.size
    (k0_off1_inb k u)).toLoadRect X_arg5) shapeCasts_S1024x128_S1024x128

def vs1 (k : Fin k0_t1_loop.trips) (u : Fin 4) : FVec F S128x1024 .bf16 :=
  shapeCast S128x1024 (arg6.view.readAt (Elt F) (Rect.unit (s := S1x128x8192) (k0_off2 k (BitVec.ofNat 32 u.val)) S1x128x1024.size
    (k0_off2_inb k u)).toLoadRect X_arg6) shapeCasts_S1x128x1024_S128x1024

def ks2 (k : Fin k0_t2_loop.trips) (u : Fin 8) : FVec F S512x128 .bf16 :=
  shapeCast S512x128 (arg5.view.readAt (Elt F) (Rect.unit (s := S8192x128) (k0_off3 k (BitVec.ofNat 32 u.val)) S512x128.size
    (k0_off3_inb k u)).toLoadRect X_arg5) shapeCasts_S512x128_S512x128

def vs2 (k : Fin k0_t2_loop.trips) (u : Fin 8) : FVec F S128x512 .bf16 :=
  shapeCast S128x512 (arg6.view.readAt (Elt F) (Rect.unit (s := S1x128x8192) (k0_off4 k (BitVec.ofNat 32 u.val)) S1x128x512.size
    (k0_off4_inb k u)).toLoadRect X_arg6) shapeCasts_S1x128x512_S128x512

/-- The fixed shift. -/
def sh1 : Elt F .f32 :=
  arg3.view.readAt (Elt F) (Rect.unit (s := S2) ![0] S1.size inb_S2_S1_0).toLoadRect X_arg3 (Shape.Idx.first (s := S1) (by decide))

end loads

end Cert.KernelIdeal.Hand

end
-- ==== Proof.Trip1.lean ====
/-
  One trip of the loop with the fixed shift: what it leaves in each head's slab of weight sums and of weighted values.
-/
module

public import proofs.«01_k».proof.Proof.Slabs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg3 : BufTy.Contents (Elt F) arg3.view.ty) (X_arg5 : BufTy.Contents (Elt F) arg5.view.ty) (X_arg6 : BufTy.Contents (Elt F) arg6.view.ty) (X_arg9 : BufTy.Contents (Elt F) arg9.view.ty) (k : Fin k0_t1_loop.trips)
  (f11 : BufTy.Contents (Elt F) arg11.view.ty) (f12 : BufTy.Contents (Elt F) arg12.view.ty)

theorem trip1_L0 :
    arg11.view.readAt (Elt F) (sl3 8 256 0) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).1)
      = (updL1 (sc1 (ks1 arg5 X_arg5 k 3) (arg9.view.readAt (Elt F) (sl3 128 256 0) X_arg9)) (sh1 arg3 X_arg3) (updL1 (sc1 (ks1 arg5 X_arg5 k 2) (arg9.view.readAt (Elt F) (sl3 128 256 0) X_arg9)) (sh1 arg3 X_arg3) (updL1 (sc1 (ks1 arg5 X_arg5 k 1) (arg9.view.readAt (Elt F) (sl3 128 256 0) X_arg9)) (sh1 arg3 X_arg3) (updL1 (sc1 (ks1 arg5 X_arg5 k 0) (arg9.view.readAt (Elt F) (sl3 128 256 0) X_arg9)) (sh1 arg3 X_arg3) (arg11.view.readAt (Elt F) (sl3 8 256 0) f11))))) := by
  unfold tripL_k0_t1 trip_k0_t1
  exact (slab_miss _ _ (by decide) _ _ _ _).trans ((slab_miss _ _ (by decide) _ _ _ _).trans ((slab_miss _ _ (by decide) _ _ _ _).trans ((slab_hit _ _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) (rfl))))))))))))))))))))

theorem trip1_L1 :
    arg11.view.readAt (Elt F) (sl3 8 256 1) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).1)
      = (updL1 (sc1 (ks1 arg5 X_arg5 k 3) (arg9.view.readAt (Elt F) (sl3 128 256 1) X_arg9)) (sh1 arg3 X_arg3) (updL1 (sc1 (ks1 arg5 X_arg5 k 2) (arg9.view.readAt (Elt F) (sl3 128 256 1) X_arg9)) (sh1 arg3 X_arg3) (updL1 (sc1 (ks1 arg5 X_arg5 k 1) (arg9.view.readAt (Elt F) (sl3 128 256 1) X_arg9)) (sh1 arg3 X_arg3) (updL1 (sc1 (ks1 arg5 X_arg5 k 0) (arg9.view.readAt (Elt F) (sl3 128 256 1) X_arg9)) (sh1 arg3 X_arg3) (arg11.view.readAt (Elt F) (sl3 8 256 1) f11))))) := by
  unfold tripL_k0_t1 trip_k0_t1
  exact (slab_miss _ _ (by decide) _ _ _ _).trans ((slab_miss _ _ (by decide) _ _ _ _).trans ((slab_hit _ _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) (rfl)))))))))))))))))))

theorem trip1_L2 :
    arg11.view.readAt (Elt F) (sl3 8 256 2) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).1)
      = (updL1 (sc1 (ks1 arg5 X_arg5 k 3) (arg9.view.readAt (Elt F) (sl3 128 256 2) X_arg9)) (sh1 arg3 X_arg3) (updL1 (sc1 (ks1 arg5 X_arg5 k 2) (arg9.view.readAt (Elt F) (sl3 128 256 2) X_arg9)) (sh1 arg3 X_arg3) (updL1 (sc1 (ks1 arg5 X_arg5 k 1) (arg9.view.readAt (Elt F) (sl3 128 256 2) X_arg9)) (sh1 arg3 X_arg3) (updL1 (sc1 (ks1 arg5 X_arg5 k 0) (arg9.view.readAt (Elt F) (sl3 128 256 2) X_arg9)) (sh1 arg3 X_arg3) (arg11.view.readAt (Elt F) (sl3 8 256 2) f11))))) := by
  unfold tripL_k0_t1 trip_k0_t1
  exact (slab_miss _ _ (by decide) _ _ _ _).trans ((slab_hit _ _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) (rfl))))))))))))))))))

theorem trip1_L3 :
    arg11.view.readAt (Elt F) (sl3 8 256 3) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).1)
      = (updL1 (sc1 (ks1 arg5 X_arg5 k 3) (arg9.view.readAt (Elt F) (sl3 128 256 3) X_arg9)) (sh1 arg3 X_arg3) (updL1 (sc1 (ks1 arg5 X_arg5 k 2) (arg9.view.readAt (Elt F) (sl3 128 256 3) X_arg9)) (sh1 arg3 X_arg3) (updL1 (sc1 (ks1 arg5 X_arg5 k 1) (arg9.view.readAt (Elt F) (sl3 128 256 3) X_arg9)) (sh1 arg3 X_arg3) (updL1 (sc1 (ks1 arg5 X_arg5 k 0) (arg9.view.readAt (Elt F) (sl3 128 256 3) X_arg9)) (sh1 arg3 X_arg3) (arg11.view.readAt (Elt F) (sl3 8 256 3) f11))))) := by
  unfold tripL_k0_t1 trip_k0_t1
  exact (slab_hit _ _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) ((slab_missC _ (by decide) _ _ _ _).trans ((slab_missC _ (by decide) _ _ _ _).trans ((slab_missC _ (by decide) _ _ _ _).trans ((slab_hitC _ _ _ _ _).trans (congrArg (updL1 _ _) (rfl)))))))))))))))))

theorem trip1_A0 :
    arg12.view.readAt (Elt F) (sl3 128 256 0) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).2)
      = (updA1 (vs1 arg6 X_arg6 k 3) (sc1 (ks1 arg5 X_arg5 k 3) (arg9.view.readAt (Elt F) (sl3 128 256 0) X_arg9)) (sh1 arg3 X_arg3) (updA1 (vs1 arg6 X_arg6 k 2) (sc1 (ks1 arg5 X_arg5 k 2) (arg9.view.readAt (Elt F) (sl3 128 256 0) X_arg9)) (sh1 arg3 X_arg3) (updA1 (vs1 arg6 X_arg6 k 1) (sc1 (ks1 arg5 X_arg5 k 1) (arg9.view.readAt (Elt F) (sl3 128 256 0) X_arg9)) (sh1 arg3 X_arg3) (updA1 (vs1 arg6 X_arg6 k 0) (sc1 (ks1 arg5 X_arg5 k 0) (arg9.view.readAt (Elt F) (sl3 128 256 0) X_arg9)) (sh1 arg3 X_arg3) (arg12.view.readAt (Elt F) (sl3 128 256 0) f12))))) := by
  unfold tripL_k0_t1 trip_k0_t1
  exact (slab_miss _ _ (by decide) _ _ _ _).trans ((slab_miss _ _ (by decide) _ _ _ _).trans ((slab_miss _ _ (by decide) _ _ _ _).trans ((slab_hit _ _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) (rfl))))))))))))))))))))

theorem trip1_A1 :
    arg12.view.readAt (Elt F) (sl3 128 256 1) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).2)
      = (updA1 (vs1 arg6 X_arg6 k 3) (sc1 (ks1 arg5 X_arg5 k 3) (arg9.view.readAt (Elt F) (sl3 128 256 1) X_arg9)) (sh1 arg3 X_arg3) (updA1 (vs1 arg6 X_arg6 k 2) (sc1 (ks1 arg5 X_arg5 k 2) (arg9.view.readAt (Elt F) (sl3 128 256 1) X_arg9)) (sh1 arg3 X_arg3) (updA1 (vs1 arg6 X_arg6 k 1) (sc1 (ks1 arg5 X_arg5 k 1) (arg9.view.readAt (Elt F) (sl3 128 256 1) X_arg9)) (sh1 arg3 X_arg3) (updA1 (vs1 arg6 X_arg6 k 0) (sc1 (ks1 arg5 X_arg5 k 0) (arg9.view.readAt (Elt F) (sl3 128 256 1) X_arg9)) (sh1 arg3 X_arg3) (arg12.view.readAt (Elt F) (sl3 128 256 1) f12))))) := by
  unfold tripL_k0_t1 trip_k0_t1
  exact (slab_miss _ _ (by decide) _ _ _ _).trans ((slab_miss _ _ (by decide) _ _ _ _).trans ((slab_hit _ _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) (rfl)))))))))))))))))))

theorem trip1_A2 :
    arg12.view.readAt (Elt F) (sl3 128 256 2) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).2)
      = (updA1 (vs1 arg6 X_arg6 k 3) (sc1 (ks1 arg5 X_arg5 k 3) (arg9.view.readAt (Elt F) (sl3 128 256 2) X_arg9)) (sh1 arg3 X_arg3) (updA1 (vs1 arg6 X_arg6 k 2) (sc1 (ks1 arg5 X_arg5 k 2) (arg9.view.readAt (Elt F) (sl3 128 256 2) X_arg9)) (sh1 arg3 X_arg3) (updA1 (vs1 arg6 X_arg6 k 1) (sc1 (ks1 arg5 X_arg5 k 1) (arg9.view.readAt (Elt F) (sl3 128 256 2) X_arg9)) (sh1 arg3 X_arg3) (updA1 (vs1 arg6 X_arg6 k 0) (sc1 (ks1 arg5 X_arg5 k 0) (arg9.view.readAt (Elt F) (sl3 128 256 2) X_arg9)) (sh1 arg3 X_arg3) (arg12.view.readAt (Elt F) (sl3 128 256 2) f12))))) := by
  unfold tripL_k0_t1 trip_k0_t1
  exact (slab_miss _ _ (by decide) _ _ _ _).trans ((slab_hit _ _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) (rfl))))))))))))))))))

theorem trip1_A3 :
    arg12.view.readAt (Elt F) (sl3 128 256 3) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).2)
      = (updA1 (vs1 arg6 X_arg6 k 3) (sc1 (ks1 arg5 X_arg5 k 3) (arg9.view.readAt (Elt F) (sl3 128 256 3) X_arg9)) (sh1 arg3 X_arg3) (updA1 (vs1 arg6 X_arg6 k 2) (sc1 (ks1 arg5 X_arg5 k 2) (arg9.view.readAt (Elt F) (sl3 128 256 3) X_arg9)) (sh1 arg3 X_arg3) (updA1 (vs1 arg6 X_arg6 k 1) (sc1 (ks1 arg5 X_arg5 k 1) (arg9.view.readAt (Elt F) (sl3 128 256 3) X_arg9)) (sh1 arg3 X_arg3) (updA1 (vs1 arg6 X_arg6 k 0) (sc1 (ks1 arg5 X_arg5 k 0) (arg9.view.readAt (Elt F) (sl3 128 256 3) X_arg9)) (sh1 arg3 X_arg3) (arg12.view.readAt (Elt F) (sl3 128 256 3) f12))))) := by
  unfold tripL_k0_t1 trip_k0_t1
  exact (slab_hit _ _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) ((slab_missC _ (by decide) _ _ _ _).trans ((slab_missC _ (by decide) _ _ _ _).trans ((slab_missC _ (by decide) _ _ _ _).trans ((slab_hitC _ _ _ _ _).trans (congrArg (updA1 _ _ _) (rfl)))))))))))))))))

end

end Cert.KernelIdeal.Hand

end
-- ==== Proof.Trip2M.lean ====
/-
  One trip of the loop with the running maximum: what it leaves in each head's slab of running maxima.
-/
module

public import proofs.«01_k».proof.Proof.Slabs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg5 : BufTy.Contents (Elt F) arg5.view.ty) (X_arg6 : BufTy.Contents (Elt F) arg6.view.ty) (X_arg9 : BufTy.Contents (Elt F) arg9.view.ty) (k : Fin k0_t2_loop.trips)
  (f10 : BufTy.Contents (Elt F) arg10.view.ty) (f11 : BufTy.Contents (Elt F) arg11.view.ty) (f12 : BufTy.Contents (Elt F) arg12.view.ty)

theorem trip2_M0 :
    arg10.view.readAt (Elt F) (sl3 1 256 0) (arg10.view.writes (Elt F) f10 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).1)
      = (updM2 (sc2 (ks2 arg5 X_arg5 k 7) (arg9.view.readAt (Elt F) (sl3 128 256 0) X_arg9)) (updM2 (sc2 (ks2 arg5 X_arg5 k 6) (arg9.view.readAt (Elt F) (sl3 128 256 0) X_arg9)) (updM2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))))))))) := by
  unfold tripL_k0_t2 trip_k0_t2
  exact (slab_miss _ _ (by decide) _ _ _ _).trans ((slab_miss _ _ (by decide) _ _ _ _).trans ((slab_miss _ _ (by decide) _ _ _ _).trans ((slab_hit _ _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))))))))))))

theorem trip2_M1 :
    arg10.view.readAt (Elt F) (sl3 1 256 1) (arg10.view.writes (Elt F) f10 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).1)
      = (updM2 (sc2 (ks2 arg5 X_arg5 k 7) (arg9.view.readAt (Elt F) (sl3 128 256 1) X_arg9)) (updM2 (sc2 (ks2 arg5 X_arg5 k 6) (arg9.view.readAt (Elt F) (sl3 128 256 1) X_arg9)) (updM2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))))))))) := by
  unfold tripL_k0_t2 trip_k0_t2
  exact (slab_miss _ _ (by decide) _ _ _ _).trans ((slab_miss _ _ (by decide) _ _ _ _).trans ((slab_hit _ _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))))))

theorem trip2_M2 :
    arg10.view.readAt (Elt F) (sl3 1 256 2) (arg10.view.writes (Elt F) f10 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).1)
      = (updM2 (sc2 (ks2 arg5 X_arg5 k 7) (arg9.view.readAt (Elt F) (sl3 128 256 2) X_arg9)) (updM2 (sc2 (ks2 arg5 X_arg5 k 6) (arg9.view.readAt (Elt F) (sl3 128 256 2) X_arg9)) (updM2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))))))))) := by
  unfold tripL_k0_t2 trip_k0_t2
  exact (slab_miss _ _ (by decide) _ _ _ _).trans ((slab_hit _ _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))))))))))

theorem trip2_M3 :
    arg10.view.readAt (Elt F) (sl3 1 256 3) (arg10.view.writes (Elt F) f10 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).1)
      = (updM2 (sc2 (ks2 arg5 X_arg5 k 7) (arg9.view.readAt (Elt F) (sl3 128 256 3) X_arg9)) (updM2 (sc2 (ks2 arg5 X_arg5 k 6) (arg9.view.readAt (Elt F) (sl3 128 256 3) X_arg9)) (updM2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))))))))) := by
  unfold tripL_k0_t2 trip_k0_t2
  exact (slab_hit _ _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))))

end

end Cert.KernelIdeal.Hand

end
-- ==== Proof.Trip2L.lean ====
/-
  One trip of the loop with the running maximum: what it leaves in each head's slab of weight sums.
-/
module

public import proofs.«01_k».proof.Proof.Slabs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg5 : BufTy.Contents (Elt F) arg5.view.ty) (X_arg6 : BufTy.Contents (Elt F) arg6.view.ty) (X_arg9 : BufTy.Contents (Elt F) arg9.view.ty) (k : Fin k0_t2_loop.trips)
  (f10 : BufTy.Contents (Elt F) arg10.view.ty) (f11 : BufTy.Contents (Elt F) arg11.view.ty) (f12 : BufTy.Contents (Elt F) arg12.view.ty)

theorem trip2_L0 :
    arg11.view.readAt (Elt F) (sl3 8 256 0) (arg11.view.writes (Elt F) f11 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.1)
      = (updL2 (sc2 (ks2 arg5 X_arg5 k 7) (arg9.view.readAt (Elt F) (sl3 128 256 0) X_arg9)) (updM2 (sc2 (ks2 arg5 X_arg5 k 6) (arg9.view.readAt (Elt F) (sl3 128 256 0) X_arg9)) (updM2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))))))) (updL2 (sc2 (ks2 arg5 X_arg5 k 6) (arg9.view.readAt (Elt F) (sl3 128 256 0) X_arg9)) (updM2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))))))) (updL2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))))) (updL2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))))) (updL2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))) (updL2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))) (updL2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)) (updL2 (sc2 (ks2 arg5 X_arg5 k 0) (arg9.view.readAt (Elt F) (sl3 128 256 0) X_arg9)) (arg10.view.readAt (Elt F) (sl3 1 256 0) f10) (arg11.view.readAt (Elt F) (sl3 8 256 0) f11))))))))) := by
  unfold tripL_k0_t2 trip_k0_t2
  exact (slab_miss _ _ (by decide) _ _ _ _).trans ((slab_miss _ _ (by decide) _ _ _ _).trans ((slab_miss _ _ (by decide) _ _ _ _).trans ((slab_hit _ _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updL2 _) (rfl) (rfl))))))))))))))))))))))))))))))))))))))))

theorem trip2_L1 :
    arg11.view.readAt (Elt F) (sl3 8 256 1) (arg11.view.writes (Elt F) f11 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.1)
      = (updL2 (sc2 (ks2 arg5 X_arg5 k 7) (arg9.view.readAt (Elt F) (sl3 128 256 1) X_arg9)) (updM2 (sc2 (ks2 arg5 X_arg5 k 6) (arg9.view.readAt (Elt F) (sl3 128 256 1) X_arg9)) (updM2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))))))) (updL2 (sc2 (ks2 arg5 X_arg5 k 6) (arg9.view.readAt (Elt F) (sl3 128 256 1) X_arg9)) (updM2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))))))) (updL2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))))) (updL2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))))) (updL2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))) (updL2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))) (updL2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)) (updL2 (sc2 (ks2 arg5 X_arg5 k 0) (arg9.view.readAt (Elt F) (sl3 128 256 1) X_arg9)) (arg10.view.readAt (Elt F) (sl3 1 256 1) f10) (arg11.view.readAt (Elt F) (sl3 8 256 1) f11))))))))) := by
  unfold tripL_k0_t2 trip_k0_t2
  exact (slab_miss _ _ (by decide) _ _ _ _).trans ((slab_miss _ _ (by decide) _ _ _ _).trans ((slab_hit _ _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updL2 _) (rfl) (rfl)))))))))))))))))))))))))))))))))))))))

theorem trip2_L2 :
    arg11.view.readAt (Elt F) (sl3 8 256 2) (arg11.view.writes (Elt F) f11 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.1)
      = (updL2 (sc2 (ks2 arg5 X_arg5 k 7) (arg9.view.readAt (Elt F) (sl3 128 256 2) X_arg9)) (updM2 (sc2 (ks2 arg5 X_arg5 k 6) (arg9.view.readAt (Elt F) (sl3 128 256 2) X_arg9)) (updM2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))))))) (updL2 (sc2 (ks2 arg5 X_arg5 k 6) (arg9.view.readAt (Elt F) (sl3 128 256 2) X_arg9)) (updM2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))))))) (updL2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))))) (updL2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))))) (updL2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))) (updL2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))) (updL2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)) (updL2 (sc2 (ks2 arg5 X_arg5 k 0) (arg9.view.readAt (Elt F) (sl3 128 256 2) X_arg9)) (arg10.view.readAt (Elt F) (sl3 1 256 2) f10) (arg11.view.readAt (Elt F) (sl3 8 256 2) f11))))))))) := by
  unfold tripL_k0_t2 trip_k0_t2
  exact (slab_miss _ _ (by decide) _ _ _ _).trans ((slab_hit _ _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updL2 _) (rfl) (rfl))))))))))))))))))))))))))))))))))))))

theorem trip2_L3 :
    arg11.view.readAt (Elt F) (sl3 8 256 3) (arg11.view.writes (Elt F) f11 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.1)
      = (updL2 (sc2 (ks2 arg5 X_arg5 k 7) (arg9.view.readAt (Elt F) (sl3 128 256 3) X_arg9)) (updM2 (sc2 (ks2 arg5 X_arg5 k 6) (arg9.view.readAt (Elt F) (sl3 128 256 3) X_arg9)) (updM2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))))))) (updL2 (sc2 (ks2 arg5 X_arg5 k 6) (arg9.view.readAt (Elt F) (sl3 128 256 3) X_arg9)) (updM2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))))))) (updL2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))))) (updL2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))))) (updL2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))) (updL2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))) (updL2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)) (updL2 (sc2 (ks2 arg5 X_arg5 k 0) (arg9.view.readAt (Elt F) (sl3 128 256 3) X_arg9)) (arg10.view.readAt (Elt F) (sl3 1 256 3) f10) (arg11.view.readAt (Elt F) (sl3 8 256 3) f11))))))))) := by
  unfold tripL_k0_t2 trip_k0_t2
  exact (slab_hit _ _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updL2 _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updL2 _) (rfl) (rfl)))))))))))))))))))))))))))))))))))))

end

end Cert.KernelIdeal.Hand

end
-- ==== Proof.Trip2A.lean ====
/-
  One trip of the loop with the running maximum: what it leaves in each head's slab of weighted values.
-/
module

public import proofs.«01_k».proof.Proof.Slabs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg5 : BufTy.Contents (Elt F) arg5.view.ty) (X_arg6 : BufTy.Contents (Elt F) arg6.view.ty) (X_arg9 : BufTy.Contents (Elt F) arg9.view.ty) (k : Fin k0_t2_loop.trips)
  (f10 : BufTy.Contents (Elt F) arg10.view.ty) (f11 : BufTy.Contents (Elt F) arg11.view.ty) (f12 : BufTy.Contents (Elt F) arg12.view.ty)

theorem trip2_A0 :
    arg12.view.readAt (Elt F) (sl3 128 256 0) (arg12.view.writes (Elt F) f12 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.2)
      = (updA2 (vs2 arg6 X_arg6 k 7) (sc2 (ks2 arg5 X_arg5 k 7) (arg9.view.readAt (Elt F) (sl3 128 256 0) X_arg9)) (updM2 (sc2 (ks2 arg5 X_arg5 k 6) (arg9.view.readAt (Elt F) (sl3 128 256 0) X_arg9)) (updM2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))))))) (updA2 (vs2 arg6 X_arg6 k 6) (sc2 (ks2 arg5 X_arg5 k 6) (arg9.view.readAt (Elt F) (sl3 128 256 0) X_arg9)) (updM2 (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))))))) (updA2 (vs2 arg6 X_arg6 k 5) (sc2 (ks2 arg5 X_arg5 k 5) (arg9.view.readAt (Elt F) (sl3 128 256 0) X_arg9)) (updM2 (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))))) (updA2 (vs2 arg6 X_arg6 k 4) (sc2 (ks2 arg5 X_arg5 k 4) (arg9.view.readAt (Elt F) (sl3 128 256 0) X_arg9)) (updM2 (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))))) (updA2 (vs2 arg6 X_arg6 k 3) (sc2 (ks2 arg5 X_arg5 k 3) (arg9.view.readAt (Elt F) (sl3 128 256 0) X_arg9)) (updM2 (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)))) (updA2 (vs2 arg6 X_arg6 k 2) (sc2 (ks2 arg5 X_arg5 k 2) (arg9.view.readAt (Elt F) (sl3 128 256 0) X_arg9)) (updM2 (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10))) (updA2 (vs2 arg6 X_arg6 k 1) (sc2 (ks2 arg5 X_arg5 k 1) (arg9.view.readAt (Elt F) (sl3 128 256 0) X_arg9)) (updM2 (sc2 (ks2 arg5 X_arg5 k 0) (arg9.view.readAt (Elt F) (sl3 128 256 0) X_arg9)) (arg10.view.readAt (Elt F) (sl3 1 256 0) f10)) (updA2 (vs2 arg6 X_arg6 k 0) (sc2 (ks2 arg5 X_arg5 k 0) (arg9.view.readAt (Elt F) (sl3 128 256 0) X_arg9)) (arg10.view.readAt (Elt F) (sl3 1 256 0) f10) (arg12.view.readAt (Elt F) (sl3 128 256 0) f12))))))))) := by
  unfold tripL_k0_t2 trip_k0_t2
  exact (slab_miss _ _ (by decide) _ _ _ _).trans ((slab_miss _ _ (by decide) _ _ _ _).trans ((slab_miss _ _ (by decide) _ _ _ _).trans ((slab_hit _ _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updA2 _ _) (rfl) (rfl))))))))))))))))))))))))))))))))))))))))

theorem trip2_A1 :
    arg12.view.readAt (Elt F) (sl3 128 256 1) (arg12.view.writes (Elt F) f12 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.2)
      = (updA2 (vs2 arg6 X_arg6 k 7) (sc2 (ks2 arg5 X_arg5 k 7) (arg9.view.readAt (Elt F) (sl3 128 256 1) X_arg9)) (updM2 (sc2 (ks2 arg5 X_arg5 k 6) (arg9.view.readAt (Elt F) (sl3 128 256 1) X_arg9)) (updM2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))))))) (updA2 (vs2 arg6 X_arg6 k 6) (sc2 (ks2 arg5 X_arg5 k 6) (arg9.view.readAt (Elt F) (sl3 128 256 1) X_arg9)) (updM2 (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))))))) (updA2 (vs2 arg6 X_arg6 k 5) (sc2 (ks2 arg5 X_arg5 k 5) (arg9.view.readAt (Elt F) (sl3 128 256 1) X_arg9)) (updM2 (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))))) (updA2 (vs2 arg6 X_arg6 k 4) (sc2 (ks2 arg5 X_arg5 k 4) (arg9.view.readAt (Elt F) (sl3 128 256 1) X_arg9)) (updM2 (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))))) (updA2 (vs2 arg6 X_arg6 k 3) (sc2 (ks2 arg5 X_arg5 k 3) (arg9.view.readAt (Elt F) (sl3 128 256 1) X_arg9)) (updM2 (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)))) (updA2 (vs2 arg6 X_arg6 k 2) (sc2 (ks2 arg5 X_arg5 k 2) (arg9.view.readAt (Elt F) (sl3 128 256 1) X_arg9)) (updM2 (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10))) (updA2 (vs2 arg6 X_arg6 k 1) (sc2 (ks2 arg5 X_arg5 k 1) (arg9.view.readAt (Elt F) (sl3 128 256 1) X_arg9)) (updM2 (sc2 (ks2 arg5 X_arg5 k 0) (arg9.view.readAt (Elt F) (sl3 128 256 1) X_arg9)) (arg10.view.readAt (Elt F) (sl3 1 256 1) f10)) (updA2 (vs2 arg6 X_arg6 k 0) (sc2 (ks2 arg5 X_arg5 k 0) (arg9.view.readAt (Elt F) (sl3 128 256 1) X_arg9)) (arg10.view.readAt (Elt F) (sl3 1 256 1) f10) (arg12.view.readAt (Elt F) (sl3 128 256 1) f12))))))))) := by
  unfold tripL_k0_t2 trip_k0_t2
  exact (slab_miss _ _ (by decide) _ _ _ _).trans ((slab_miss _ _ (by decide) _ _ _ _).trans ((slab_hit _ _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updA2 _ _) (rfl) (rfl)))))))))))))))))))))))))))))))))))))))

theorem trip2_A2 :
    arg12.view.readAt (Elt F) (sl3 128 256 2) (arg12.view.writes (Elt F) f12 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.2)
      = (updA2 (vs2 arg6 X_arg6 k 7) (sc2 (ks2 arg5 X_arg5 k 7) (arg9.view.readAt (Elt F) (sl3 128 256 2) X_arg9)) (updM2 (sc2 (ks2 arg5 X_arg5 k 6) (arg9.view.readAt (Elt F) (sl3 128 256 2) X_arg9)) (updM2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))))))) (updA2 (vs2 arg6 X_arg6 k 6) (sc2 (ks2 arg5 X_arg5 k 6) (arg9.view.readAt (Elt F) (sl3 128 256 2) X_arg9)) (updM2 (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))))))) (updA2 (vs2 arg6 X_arg6 k 5) (sc2 (ks2 arg5 X_arg5 k 5) (arg9.view.readAt (Elt F) (sl3 128 256 2) X_arg9)) (updM2 (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))))) (updA2 (vs2 arg6 X_arg6 k 4) (sc2 (ks2 arg5 X_arg5 k 4) (arg9.view.readAt (Elt F) (sl3 128 256 2) X_arg9)) (updM2 (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))))) (updA2 (vs2 arg6 X_arg6 k 3) (sc2 (ks2 arg5 X_arg5 k 3) (arg9.view.readAt (Elt F) (sl3 128 256 2) X_arg9)) (updM2 (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)))) (updA2 (vs2 arg6 X_arg6 k 2) (sc2 (ks2 arg5 X_arg5 k 2) (arg9.view.readAt (Elt F) (sl3 128 256 2) X_arg9)) (updM2 (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10))) (updA2 (vs2 arg6 X_arg6 k 1) (sc2 (ks2 arg5 X_arg5 k 1) (arg9.view.readAt (Elt F) (sl3 128 256 2) X_arg9)) (updM2 (sc2 (ks2 arg5 X_arg5 k 0) (arg9.view.readAt (Elt F) (sl3 128 256 2) X_arg9)) (arg10.view.readAt (Elt F) (sl3 1 256 2) f10)) (updA2 (vs2 arg6 X_arg6 k 0) (sc2 (ks2 arg5 X_arg5 k 0) (arg9.view.readAt (Elt F) (sl3 128 256 2) X_arg9)) (arg10.view.readAt (Elt F) (sl3 1 256 2) f10) (arg12.view.readAt (Elt F) (sl3 128 256 2) f12))))))))) := by
  unfold tripL_k0_t2 trip_k0_t2
  exact (slab_miss _ _ (by decide) _ _ _ _).trans ((slab_hit _ _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updA2 _ _) (rfl) (rfl))))))))))))))))))))))))))))))))))))))

theorem trip2_A3 :
    arg12.view.readAt (Elt F) (sl3 128 256 3) (arg12.view.writes (Elt F) f12 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.2)
      = (updA2 (vs2 arg6 X_arg6 k 7) (sc2 (ks2 arg5 X_arg5 k 7) (arg9.view.readAt (Elt F) (sl3 128 256 3) X_arg9)) (updM2 (sc2 (ks2 arg5 X_arg5 k 6) (arg9.view.readAt (Elt F) (sl3 128 256 3) X_arg9)) (updM2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))))))) (updA2 (vs2 arg6 X_arg6 k 6) (sc2 (ks2 arg5 X_arg5 k 6) (arg9.view.readAt (Elt F) (sl3 128 256 3) X_arg9)) (updM2 (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))))))) (updA2 (vs2 arg6 X_arg6 k 5) (sc2 (ks2 arg5 X_arg5 k 5) (arg9.view.readAt (Elt F) (sl3 128 256 3) X_arg9)) (updM2 (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))))) (updA2 (vs2 arg6 X_arg6 k 4) (sc2 (ks2 arg5 X_arg5 k 4) (arg9.view.readAt (Elt F) (sl3 128 256 3) X_arg9)) (updM2 (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))))) (updA2 (vs2 arg6 X_arg6 k 3) (sc2 (ks2 arg5 X_arg5 k 3) (arg9.view.readAt (Elt F) (sl3 128 256 3) X_arg9)) (updM2 (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)))) (updA2 (vs2 arg6 X_arg6 k 2) (sc2 (ks2 arg5 X_arg5 k 2) (arg9.view.readAt (Elt F) (sl3 128 256 3) X_arg9)) (updM2 (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10))) (updA2 (vs2 arg6 X_arg6 k 1) (sc2 (ks2 arg5 X_arg5 k 1) (arg9.view.readAt (Elt F) (sl3 128 256 3) X_arg9)) (updM2 (sc2 (ks2 arg5 X_arg5 k 0) (arg9.view.readAt (Elt F) (sl3 128 256 3) X_arg9)) (arg10.view.readAt (Elt F) (sl3 1 256 3) f10)) (updA2 (vs2 arg6 X_arg6 k 0) (sc2 (ks2 arg5 X_arg5 k 0) (arg9.view.readAt (Elt F) (sl3 128 256 3) X_arg9)) (arg10.view.readAt (Elt F) (sl3 1 256 3) f10) (arg12.view.readAt (Elt F) (sl3 128 256 3) f12))))))))) := by
  unfold tripL_k0_t2 trip_k0_t2
  exact (slab_hit _ _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl)))))))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) ((slab_missC _ (by decide) _ _ _ _).trans ((slab_missC _ (by decide) _ _ _ _).trans ((slab_missC _ (by decide) _ _ _ _).trans ((slab_hitC _ _ _ _ _).trans (congrArg (updM2 _) (rfl))))))))))) ((slab_missC _ (by decide) _ _ _ _).trans ((slab_missC _ (by decide) _ _ _ _).trans ((slab_missC _ (by decide) _ _ _ _).trans ((slab_hitC _ _ _ _ _).trans (congrArg₂ (updA2 _ _) ((slab_missC _ (by decide) _ _ _ _).trans ((slab_missC _ (by decide) _ _ _ _).trans ((slab_missC _ (by decide) _ _ _ _).trans ((slab_hitC _ _ _ _ _).trans (congrArg (updM2 _) (rfl)))))) ((slab_missC _ (by decide) _ _ _ _).trans ((slab_missC _ (by decide) _ _ _ _).trans ((slab_missC _ (by decide) _ _ _ _).trans ((slab_hitC _ _ _ _ _).trans (congrArg₂ (updA2 _ _) (rfl) (rfl)))))))))))))))))))))))))))))))))))))

end

end Cert.KernelIdeal.Hand

end
-- ==== Proof.Loops.lean ====
/-
  The two loops, each of two trips: what they leave in a head's slabs.
-/
module

public import proofs.«01_k».proof.Proof.Trip1
public import proofs.«01_k».proof.Proof.Trip2M
public import proofs.«01_k».proof.Proof.Trip2L
public import proofs.«01_k».proof.Proof.Trip2A

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- Four blocks' parts of a head's weight sums, added on in turn. -/
def foldL1 (s : Fin 4 → FVec F S1024x256 .f32) (r : Elt F .f32) (l : FVec F S1x8x256 .f32) : FVec F S1x8x256 .f32 :=
  updL1 (s 3) r (updL1 (s 2) r (updL1 (s 1) r (updL1 (s 0) r l)))

def foldA1 (v : Fin 4 → FVec F S128x1024 .bf16) (s : Fin 4 → FVec F S1024x256 .f32) (r : Elt F .f32)
    (a : FVec F S1x128x256 .f32) : FVec F S1x128x256 .f32 :=
  updA1 (v 3) (s 3) r (updA1 (v 2) (s 2) r (updA1 (v 1) (s 1) r (updA1 (v 0) (s 0) r a)))

/-- A head's maxima, weight sums and weighted values after the first `n` of eight blocks. -/
def stM (s : Fin 8 → FVec F S512x256 .f32) (m : FVec F S1x1x256 .f32) : ℕ → FVec F S1x1x256 .f32
  | 0 => m
  | n + 1 => updM2 (s (Fin.ofNat 8 n)) (stM s m n)

def stL (s : Fin 8 → FVec F S512x256 .f32) (m : FVec F S1x1x256 .f32) (l : FVec F S1x8x256 .f32) : ℕ → FVec F S1x8x256 .f32
  | 0 => l
  | n + 1 => updL2 (s (Fin.ofNat 8 n)) (stM s m n) (stL s m l n)

def stA (v : Fin 8 → FVec F S128x512 .bf16) (s : Fin 8 → FVec F S512x256 .f32) (m : FVec F S1x1x256 .f32)
    (a : FVec F S1x128x256 .f32) : ℕ → FVec F S1x128x256 .f32
  | 0 => a
  | n + 1 => updA2 (v (Fin.ofNat 8 n)) (s (Fin.ofNat 8 n)) (stM s m n) (stA v s m a n)

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg3 : BufTy.Contents (Elt F) arg3.view.ty) (X_arg5 : BufTy.Contents (Elt F) arg5.view.ty) (X_arg6 : BufTy.Contents (Elt F) arg6.view.ty) (X_arg9 : BufTy.Contents (Elt F) arg9.view.ty) (k : Fin k0_t1_loop.trips)
  (f11 : BufTy.Contents (Elt F) arg11.view.ty) (f12 : BufTy.Contents (Elt F) arg12.view.ty)

theorem trip1_L (g : Fin 4) :
    arg11.view.readAt (Elt F) (sl3 8 256 g) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).1)
      = foldL1 (fun u => sc1 (ks1 arg5 X_arg5 k u) (arg9.view.readAt (Elt F) (sl3 128 256 g) X_arg9)) (sh1 arg3 X_arg3) (arg11.view.readAt (Elt F) (sl3 8 256 g) f11) := by
  match g with
  | 0 => exact trip1_L0 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 1 => exact trip1_L1 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 2 => exact trip1_L2 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 3 => exact trip1_L3 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12

theorem trip1_A (g : Fin 4) :
    arg12.view.readAt (Elt F) (sl3 128 256 g) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12).2)
      = foldA1 (fun u => vs1 arg6 X_arg6 k u) (fun u => sc1 (ks1 arg5 X_arg5 k u) (arg9.view.readAt (Elt F) (sl3 128 256 g) X_arg9)) (sh1 arg3 X_arg3) (arg12.view.readAt (Elt F) (sl3 128 256 g) f12) := by
  match g with
  | 0 => exact trip1_A0 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 1 => exact trip1_A1 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 2 => exact trip1_A2 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12
  | 3 => exact trip1_A3 𝒱 c bd i arg3 harg3 arg4 harg4 arg5 harg5 arg6 harg6 arg7 harg7 arg8 harg8 arg9 harg9 arg10 harg10 arg11 harg11 arg12 harg12 v32 cst_13 X_arg3 X_arg5 X_arg6 X_arg9 k f11 f12

theorem loop1_L (g : Fin 4) :
    arg11.view.readAt (Elt F) (sl3 8 256 g) (arg11.view.writes (Elt F) f11 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 (Scf.trips k0_t1_loop.lb k0_t1_loop.ub k0_t1_loop.st)).1)
      = foldL1 (fun u => sc1 (ks1 arg5 X_arg5 ⟨1, by decide⟩ u) (arg9.view.readAt (Elt F) (sl3 128 256 g) X_arg9)) (sh1 arg3 X_arg3) (foldL1 (fun u => sc1 (ks1 arg5 X_arg5 ⟨0, by decide⟩ u) (arg9.view.readAt (Elt F) (sl3 128 256 g) X_arg9)) (sh1 arg3 X_arg3) (arg11.view.readAt (Elt F) (sl3 8 256 g) f11)) := by
  have s : ∀ k : Fin k0_t1_loop.trips,
      arg11.view.readAt (Elt F) (sl3 8 256 g) (arg11.view.writes (Elt F) f11 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 (k.val + 1)).1)
        = foldL1 (fun u => sc1 (ks1 arg5 X_arg5 k u) (arg9.view.readAt (Elt F) (sl3 128 256 g) X_arg9)) (sh1 arg3 X_arg3) (arg11.view.readAt (Elt F) (sl3 8 256 g) (arg11.view.writes (Elt F) f11 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 k.val).1)) := fun k => by
    rw [pb_k0_t1_succ]
    dsimp only
    rw [View.writes_append]
    exact trip1_L 𝒱 c bd i arg3 harg3 arg4 harg4 arg5 harg5 arg6 harg6 arg7 harg7 arg8 harg8 arg9 harg9 arg10 harg10 arg11 harg11 arg12 harg12 v32 cst_13 X_arg3 X_arg5 X_arg6 X_arg9 k _ _ g
  exact (s ⟨1, by decide⟩).trans (congrArg (foldL1 (fun u => sc1 (ks1 arg5 X_arg5 ⟨1, by decide⟩ u) (arg9.view.readAt (Elt F) (sl3 128 256 g) X_arg9)) (sh1 arg3 X_arg3)) (s ⟨0, by decide⟩))

theorem loop1_A (g : Fin 4) :
    arg12.view.readAt (Elt F) (sl3 128 256 g) (arg12.view.writes (Elt F) f12 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 (Scf.trips k0_t1_loop.lb k0_t1_loop.ub k0_t1_loop.st)).2)
      = foldA1 (fun u => vs1 arg6 X_arg6 ⟨1, by decide⟩ u) (fun u => sc1 (ks1 arg5 X_arg5 ⟨1, by decide⟩ u) (arg9.view.readAt (Elt F) (sl3 128 256 g) X_arg9)) (sh1 arg3 X_arg3) (foldA1 (fun u => vs1 arg6 X_arg6 ⟨0, by decide⟩ u) (fun u => sc1 (ks1 arg5 X_arg5 ⟨0, by decide⟩ u) (arg9.view.readAt (Elt F) (sl3 128 256 g) X_arg9)) (sh1 arg3 X_arg3) (arg12.view.readAt (Elt F) (sl3 128 256 g) f12)) := by
  have s : ∀ k : Fin k0_t1_loop.trips,
      arg12.view.readAt (Elt F) (sl3 128 256 g) (arg12.view.writes (Elt F) f12 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 (k.val + 1)).2)
        = foldA1 (fun u => vs1 arg6 X_arg6 k u) (fun u => sc1 (ks1 arg5 X_arg5 k u) (arg9.view.readAt (Elt F) (sl3 128 256 g) X_arg9)) (sh1 arg3 X_arg3) (arg12.view.readAt (Elt F) (sl3 128 256 g) (arg12.view.writes (Elt F) f12 (pb_k0_t1 (F := F) 𝒱 c bd i arg3 harg3 arg4 harg4 arg5 harg5 arg6 harg6 arg7 harg7 arg8 harg8 arg9 harg9 arg10 harg10 arg11 harg11 arg12 harg12 v32 cst_13 X_arg3 X_arg5 X_arg6 X_arg9 f11 f12 k.val).2)) := fun k => by
    rw [pb_k0_t1_succ]
    dsimp only
    rw [View.writes_append]
    exact trip1_A 𝒱 c bd i arg3 harg3 arg4 harg4 arg5 harg5 arg6 harg6 arg7 harg7 arg8 harg8 arg9 harg9 arg10 harg10 arg11 harg11 arg12 harg12 v32 cst_13 X_arg3 X_arg5 X_arg6 X_arg9 k _ _ g
  exact (s ⟨1, by decide⟩).trans (congrArg (foldA1 (fun u => vs1 arg6 X_arg6 ⟨1, by decide⟩ u) (fun u => sc1 (ks1 arg5 X_arg5 ⟨1, by decide⟩ u) (arg9.view.readAt (Elt F) (sl3 128 256 g) X_arg9)) (sh1 arg3 X_arg3)) (s ⟨0, by decide⟩))

end

section
variable  (𝒱 : Variants) (c : Dev nD) (bd : Option 𝒱.V) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole) (v32 : FVec F S256x128 .f32) (cst_13 : F .f32) (X_arg5 : BufTy.Contents (Elt F) arg5.view.ty) (X_arg6 : BufTy.Contents (Elt F) arg6.view.ty) (X_arg9 : BufTy.Contents (Elt F) arg9.view.ty) (k : Fin k0_t2_loop.trips)
  (f10 : BufTy.Contents (Elt F) arg10.view.ty) (f11 : BufTy.Contents (Elt F) arg11.view.ty) (f12 : BufTy.Contents (Elt F) arg12.view.ty)

theorem trip2_M (g : Fin 4) :
    arg10.view.readAt (Elt F) (sl3 1 256 g) (arg10.view.writes (Elt F) f10 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).1)
      = (stM (fun u => sc2 (ks2 arg5 X_arg5 k u) (arg9.view.readAt (Elt F) (sl3 128 256 g) X_arg9)) (arg10.view.readAt (Elt F) (sl3 1 256 g) f10) 8) := by
  match g with
  | 0 => exact trip2_M0 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 1 => exact trip2_M1 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 2 => exact trip2_M2 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 3 => exact trip2_M3 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12

theorem trip2_L (g : Fin 4) :
    arg11.view.readAt (Elt F) (sl3 8 256 g) (arg11.view.writes (Elt F) f11 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.1)
      = (stL (fun u => sc2 (ks2 arg5 X_arg5 k u) (arg9.view.readAt (Elt F) (sl3 128 256 g) X_arg9)) (arg10.view.readAt (Elt F) (sl3 1 256 g) f10) (arg11.view.readAt (Elt F) (sl3 8 256 g) f11) 8) := by
  match g with
  | 0 => exact trip2_L0 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 1 => exact trip2_L1 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 2 => exact trip2_L2 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 3 => exact trip2_L3 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12

theorem trip2_A (g : Fin 4) :
    arg12.view.readAt (Elt F) (sl3 128 256 g) (arg12.view.writes (Elt F) f12 (tripL_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12).2.2)
      = (stA (fun u => vs2 arg6 X_arg6 k u) (fun u => sc2 (ks2 arg5 X_arg5 k u) (arg9.view.readAt (Elt F) (sl3 128 256 g) X_arg9)) (arg10.view.readAt (Elt F) (sl3 1 256 g) f10) (arg12.view.readAt (Elt F) (sl3 128 256 g) f12) 8) := by
  match g with
  | 0 => exact trip2_A0 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 1 => exact trip2_A1 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 2 => exact trip2_A2 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12
  | 3 => exact trip2_A3 𝒱 c bd i arg3 harg3 arg4 harg4 arg5 harg5 arg6 harg6 arg7 harg7 arg8 harg8 arg9 harg9 arg10 harg10 arg11 harg11 arg12 harg12 v32 cst_13 X_arg5 X_arg6 X_arg9 k f10 f11 f12

theorem step2_M (g : Fin 4) (k : Fin k0_t2_loop.trips) :
    (arg10.view.readAt (Elt F) (sl3 1 256 g) (arg10.view.writes (Elt F) f10 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 (k.val + 1)).1))
      = (stM (fun u => sc2 (ks2 arg5 X_arg5 k u) (arg9.view.readAt (Elt F) (sl3 128 256 g) X_arg9)) (arg10.view.readAt (Elt F) (sl3 1 256 g) (arg10.view.writes (Elt F) f10 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 k.val).1)) 8) := by
  rw [pb_k0_t2_succ]
  dsimp only
  rw [View.writes_append]
  exact trip2_M 𝒱 c bd i arg3 harg3 arg4 harg4 arg5 harg5 arg6 harg6 arg7 harg7 arg8 harg8 arg9 harg9 arg10 harg10 arg11 harg11 arg12 harg12 v32 cst_13 X_arg5 X_arg6 X_arg9 k _ _ _ g

theorem step2_L (g : Fin 4) (k : Fin k0_t2_loop.trips) :
    (arg11.view.readAt (Elt F) (sl3 8 256 g) (arg11.view.writes (Elt F) f11 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 (k.val + 1)).2.1))
      = (stL (fun u => sc2 (ks2 arg5 X_arg5 k u) (arg9.view.readAt (Elt F) (sl3 128 256 g) X_arg9)) (arg10.view.readAt (Elt F) (sl3 1 256 g) (arg10.view.writes (Elt F) f10 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 k.val).1)) (arg11.view.readAt (Elt F) (sl3 8 256 g) (arg11.view.writes (Elt F) f11 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 k.val).2.1)) 8) := by
  rw [pb_k0_t2_succ]
  dsimp only
  rw [View.writes_append]
  exact trip2_L 𝒱 c bd i arg3 harg3 arg4 harg4 arg5 harg5 arg6 harg6 arg7 harg7 arg8 harg8 arg9 harg9 arg10 harg10 arg11 harg11 arg12 harg12 v32 cst_13 X_arg5 X_arg6 X_arg9 k _ _ _ g

theorem step2_A (g : Fin 4) (k : Fin k0_t2_loop.trips) :
    (arg12.view.readAt (Elt F) (sl3 128 256 g) (arg12.view.writes (Elt F) f12 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 (k.val + 1)).2.2))
      = (stA (fun u => vs2 arg6 X_arg6 k u) (fun u => sc2 (ks2 arg5 X_arg5 k u) (arg9.view.readAt (Elt F) (sl3 128 256 g) X_arg9)) (arg10.view.readAt (Elt F) (sl3 1 256 g) (arg10.view.writes (Elt F) f10 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 k.val).1)) (arg12.view.readAt (Elt F) (sl3 128 256 g) (arg12.view.writes (Elt F) f12 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 k.val).2.2)) 8) := by
  rw [pb_k0_t2_succ]
  dsimp only
  rw [View.writes_append]
  exact trip2_A 𝒱 c bd i arg3 harg3 arg4 harg4 arg5 harg5 arg6 harg6 arg7 harg7 arg8 harg8 arg9 harg9 arg10 harg10 arg11 harg11 arg12 harg12 v32 cst_13 X_arg5 X_arg6 X_arg9 k _ _ _ g

theorem loop2_L (g : Fin 4) :
    (arg11.view.readAt (Elt F) (sl3 8 256 g) (arg11.view.writes (Elt F) f11 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 (Scf.trips k0_t2_loop.lb k0_t2_loop.ub k0_t2_loop.st)).2.1))
      = (stL (fun u => sc2 (ks2 arg5 X_arg5 ⟨1, by decide⟩ u) (arg9.view.readAt (Elt F) (sl3 128 256 g) X_arg9)) (stM (fun u => sc2 (ks2 arg5 X_arg5 ⟨0, by decide⟩ u) (arg9.view.readAt (Elt F) (sl3 128 256 g) X_arg9)) (arg10.view.readAt (Elt F) (sl3 1 256 g) f10) 8) (stL (fun u => sc2 (ks2 arg5 X_arg5 ⟨0, by decide⟩ u) (arg9.view.readAt (Elt F) (sl3 128 256 g) X_arg9)) (arg10.view.readAt (Elt F) (sl3 1 256 g) f10) (arg11.view.readAt (Elt F) (sl3 8 256 g) f11) 8) 8) :=
  (step2_L 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨1, by decide⟩).trans (congrArg₂ (fun a b => stL (fun u => sc2 (ks2 arg5 X_arg5 ⟨1, by decide⟩ u) (arg9.view.readAt (Elt F) (sl3 128 256 g) X_arg9)) a b 8) (step2_M 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨0, by decide⟩) (step2_L 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨0, by decide⟩))

theorem loop2_A (g : Fin 4) :
    (arg12.view.readAt (Elt F) (sl3 128 256 g) (arg12.view.writes (Elt F) f12 (pb_k0_t2 (F := F) 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 (Scf.trips k0_t2_loop.lb k0_t2_loop.ub k0_t2_loop.st)).2.2))
      = (stA (fun u => vs2 arg6 X_arg6 ⟨1, by decide⟩ u) (fun u => sc2 (ks2 arg5 X_arg5 ⟨1, by decide⟩ u) (arg9.view.readAt (Elt F) (sl3 128 256 g) X_arg9)) (stM (fun u => sc2 (ks2 arg5 X_arg5 ⟨0, by decide⟩ u) (arg9.view.readAt (Elt F) (sl3 128 256 g) X_arg9)) (arg10.view.readAt (Elt F) (sl3 1 256 g) f10) 8) (stA (fun u => vs2 arg6 X_arg6 ⟨0, by decide⟩ u) (fun u => sc2 (ks2 arg5 X_arg5 ⟨0, by decide⟩ u) (arg9.view.readAt (Elt F) (sl3 128 256 g) X_arg9)) (arg10.view.readAt (Elt F) (sl3 1 256 g) f10) (arg12.view.readAt (Elt F) (sl3 128 256 g) f12) 8) 8) :=
  (step2_A 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨1, by decide⟩).trans (congrArg₂ (fun a b => stA (fun u => vs2 arg6 X_arg6 ⟨1, by decide⟩ u) (fun u => sc2 (ks2 arg5 X_arg5 ⟨1, by decide⟩ u) (arg9.view.readAt (Elt F) (sl3 128 256 g) X_arg9)) a b 8) (step2_M 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨0, by decide⟩) (step2_A 𝒱 c bd i arg3 harg3 arg4 harg4 arg5 harg5 arg6 harg6 arg7 harg7 arg8 harg8 arg9 harg9 arg10 harg10 arg11 harg11 arg12 harg12 v32 cst_13 X_arg5 X_arg6 X_arg9 f10 f11 f12 g ⟨0, by decide⟩))

end

end Cert.KernelIdeal.Hand

end
-- ==== Proof.Elem.lean ====
/-
  The values one block of keys adds to a head's sums, read at an index at the ideal numbers.
-/
module

public import proofs.«01_k».proof.Proof.Slabs
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem negInf : Ideal.ofBits .f32 0xFF800000#32 = ⊥ := by
  simp [Ideal.ofBits, Ideal.ieee, -EReal.coe_mul]

theorem sc2_apply (kk : FVec Ideal S512x128 .bf16) (q : FVec Ideal S1x128x256 .bf16) (j : Fin 512) (c : Fin 256) :
    sc2 kk q (ix2 j c) = ∑ d : Fin 128, kk (ix2 j d) * q (ix3 0 d c) := by
  pointwise [sc2]

/-- The named constant at the ideal numbers: one over the logarithm of two. -/
theorem log2e_eq : Named.named (F := Ideal) (φ := .f32) κ "log2e" 0x3FB8AA3B#32 = (((Real.log 2)⁻¹ : ℝ) : EReal) :=
  IdealRules.named_const.ideal_named_scalar _ _ _ _ rfl

/-- A head's queries, scaled and transposed. -/
theorem qt_apply (x : FVec Ideal S256x128 .bf16) (d : Fin 128) (c : Fin 256) :
    k0_pay385 (F := Ideal) x (ix3 0 d c) = x (ix2 c d) * (((Real.log 2)⁻¹ : ℝ) : EReal) := by
  rw [← log2e_eq]
  pointwise [k0_pay385]

/-- What a head's sums give the output. -/
theorem fin_apply (a : FVec Ideal S1x128x256 .f32) (l : FVec Ideal S1x8x256 .f32) (g : FVec Ideal S256x128 .bf16)
    (r : Fin 256) (e : Fin 128) :
    k0_pay1 (F := Ideal) a l g (ix2 r e) = Ideal.div (a (ix3 0 e r)) (∑ h : Fin 8, l (ix3 0 h r)) * g (ix2 r e) := by
  pointwise [k0_pay1]

theorem sc1_apply (kk : FVec Ideal S1024x128 .bf16) (q : FVec Ideal S1x128x256 .bf16) (j : Fin 1024) (c : Fin 256) :
    sc1 kk q (ix2 j c) = ∑ d : Fin 128, kk (ix2 j d) * q (ix3 0 d c) := by
  pointwise [sc1]

theorem wt1_apply (s : FVec Ideal S1024x256 .f32) (r : Elt Ideal .f32) (j : Fin 1024) (c : Fin 256) :
    wt1 s r (ix2 j c) = Ideal.exp2 (s (ix2 j c) - r) := by
  pointwise [wt1]
  rfl

theorem updL1_apply (s : FVec Ideal S1024x256 .f32) (r : Elt Ideal .f32) (l : FVec Ideal S1x8x256 .f32) (h : Fin 8) (c : Fin 256) :
    updL1 s r l (ix3 0 h c) = l (ix3 0 h c) + ∑ a : Fin 128, wt1 s r (ix2 ⟨a.val * 8 + h.val, by omega⟩ c) := by
  pointwise [updL1]

theorem updA1_apply (v : FVec Ideal S128x1024 .bf16) (s : FVec Ideal S1024x256 .f32) (r : Elt Ideal .f32) (a : FVec Ideal S1x128x256 .f32) (e : Fin 128) (c : Fin 256) :
    updA1 v s r a (ix3 0 e c) = a (ix3 0 e c) + ∑ j : Fin 1024, v (ix2 e j) * wt1 s r (ix2 j c) := by
  pointwise [updA1]

theorem newM_apply (s : FVec Ideal S512x256 .f32) (m : FVec Ideal S1x1x256 .f32) (c : Fin 256) :
    newM s m (ix2 0 c) = max (m (ix3 0 0 c)) (Finset.univ.sup fun j : Fin 512 => s (ix2 j c)) := by
  pointwise [newM]
  rw [negInf]
  rfl

theorem updL2_apply (s : FVec Ideal S512x256 .f32) (m : FVec Ideal S1x1x256 .f32) (l : FVec Ideal S1x8x256 .f32) (h : Fin 8) (c : Fin 256) :
    updL2 s m l (ix3 0 h c) = l (ix3 0 h c) * alp s m (ix2 0 c) + ∑ a : Fin 64, wt2 s m (ix2 ⟨a.val * 8 + h.val, by omega⟩ c) := by
  pointwise [updL2]

theorem updA2_apply (v : FVec Ideal S128x512 .bf16) (s : FVec Ideal S512x256 .f32) (m : FVec Ideal S1x1x256 .f32) (a : FVec Ideal S1x128x256 .f32) (e : Fin 128) (c : Fin 256) :
    updA2 v s m a (ix3 0 e c) = a (ix3 0 e c) * alp s m (ix2 0 c) + ∑ j : Fin 512, v (ix2 e j) * wt2 s m (ix2 j c) := by
  pointwise [updA2]

theorem alp_apply (s : FVec Ideal S512x256 .f32) (m : FVec Ideal S1x1x256 .f32) (c : Fin 256) :
    alp s m (ix2 0 c) = Ideal.exp2 (m (ix3 0 0 c) - newM s m (ix2 0 c)) := by
  pointwise [alp]
  rfl

theorem wt2_apply (s : FVec Ideal S512x256 .f32) (m : FVec Ideal S1x1x256 .f32) (j : Fin 512) (c : Fin 256) :
    wt2 s m (ix2 j c) = Ideal.exp2 (s (ix2 j c) - newM s m (ix2 0 c)) := by
  pointwise [wt2]
  rfl

theorem updM2_apply (s : FVec Ideal S512x256 .f32) (m : FVec Ideal S1x1x256 .f32) (c : Fin 256) :
    updM2 s m (ix3 0 0 c) = newM s m (ix2 0 c) := by
  pointwise [updM2]

end Cert.KernelIdeal.Hand

end
-- ==== Proof.Softmax.lean ====
/-
  The arithmetic of the attention, over the ideal numbers: weighted sums under a shift, how a new block of keys extends
  them, and that the quotient of the two sums is the softmax's weighted mean whatever the shift.
-/
module

public import Idealize.ShloMosaic.PureOps.Ideal
public import Idealize.ShloMosaic.Lib.Pointwise

@[expose] public section

noncomputable section

namespace Cert.Softmax

open Idealize.ShloMosaic

/-- Two to a real power. -/
def E2 (x : ℝ) : ℝ := Real.rpow 2 x

theorem E2_pos (x : ℝ) : 0 < E2 x := Real.rpow_pos_of_pos (by norm_num) x

theorem E2_add (x y : ℝ) : E2 (x + y) = E2 x * E2 y := Real.rpow_add (by norm_num) x y

theorem exp2_sub (x y : ℝ) : Ideal.exp2 ((x : EReal) - (y : EReal)) = (E2 (x - y) : EReal) := by
  rw [← EReal.coe_sub]; rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative goes into a sum of ideal numbers. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top _) _ _

/-- The sum over a block of indices added on to the sum over those before it. -/
theorem sum_block (f : ℕ → EReal) (n b : ℕ) :
    ∑ i ∈ Finset.range (n * b), f i + ∑ i : Fin b, f (n * b + i.val) = ∑ i ∈ Finset.range ((n + 1) * b), f i := by
  rw [Nat.succ_mul, Finset.sum_range_add, Finset.sum_range (fun x => f (n * b + x))]

/-- The sums over the eight residue classes are together the sum. -/
theorem sum_classes (f : ℕ → EReal) (n : ℕ) :
    ∑ h : Fin 8, ∑ i ∈ Finset.range n, f (8 * i + h.val) = ∑ j ∈ Finset.range (n * 8), f j := by
  rw [Finset.sum_comm]
  induction n with
  | zero => simp
  | succ n ih => rw [Finset.sum_range_succ, ih, ← sum_block]; congr 1; simp [Nat.mul_comm]

/-- The least upper bound of finitely many reals, at least one, is a real. -/
theorem sup_coe {ι : Type*} (s : Finset ι) (hs : s.Nonempty) (f : ι → ℝ) :
    ∃ M : ℝ, s.sup (fun i => (f i : EReal)) = (M : EReal) := by
  obtain ⟨i, hi, h⟩ := Finset.exists_mem_eq_sup s hs fun i => (f i : EReal)
  exact ⟨f i, h⟩

section
variable (t : ℕ → ℝ) (V : ℕ → EReal) (n : ℕ) (hn : 0 < n)

/-- The softmax's weighted mean. -/
def mean : EReal :=
  ∑ j ∈ Finset.range n, V j * ((Real.exp (t j) / ∑ i ∈ Finset.range n, Real.exp (t i) : ℝ) : EReal)

include hn in
theorem quot_shift (M : ℝ) (j : ℕ) :
    Real.exp (t j - M) / ∑ i ∈ Finset.range n, Real.exp (t i - M) = Real.exp (t j) / ∑ i ∈ Finset.range n, Real.exp (t i) := by
  simp only [Real.exp_sub, ← Finset.sum_div]
  rw [div_div_div_cancel_right₀ (Real.exp_pos M).ne']

include hn in
theorem sumExp_pos (M : ℝ) : 0 < ∑ i ∈ Finset.range n, Real.exp (t i - M) :=
  Finset.sum_pos (fun _ _ => Real.exp_pos _) ⟨0, Finset.mem_range.2 hn⟩

theorem E2_log (x M : ℝ) : E2 (x * (Real.log 2)⁻¹ - M) = Real.exp (x - M * Real.log 2) := by
  have h : Real.log 2 ≠ 0 := (Real.log_pos (by norm_num)).ne'
  show (2 : ℝ) ^ (x * (Real.log 2)⁻¹ - M) = _
  rw [Real.rpow_def_of_pos (by norm_num)]
  congr 1
  field_simp

include hn in
/-- The kernel's quotient: the weighted values over the weights' sum, both under a shift. -/
theorem kernel_mean (M : ℝ) :
    Ideal.div (∑ j ∈ Finset.range n, V j * (E2 (t j * (Real.log 2)⁻¹ - M) : EReal))
      (∑ j ∈ Finset.range n, (E2 (t j * (Real.log 2)⁻¹ - M) : EReal)) = mean t V n := by
  have hp := sumExp_pos t n hn (M * Real.log 2)
  simp only [E2_log]
  rw [← coe_sum, Ideal.div_coe hp.ne', sum_mul_coe _ _ _ (by positivity)]
  refine Finset.sum_congr rfl fun j _ => ?_
  rw [mul_assoc, ← EReal.coe_mul, mul_one_div, quot_shift t n hn]

include hn in
/-- The reference's: the mean of the values under weights each divided by the sum. -/
theorem ref_mean (M : ℝ) :
    ∑ j ∈ Finset.range n, V j * Ideal.div (Ideal.exp ((t j : EReal) - (M : EReal)))
      (∑ i ∈ Finset.range n, Ideal.exp ((t i : EReal) - (M : EReal))) = mean t V n := by
  have hp := sumExp_pos t n hn M
  have he : ∀ i, Ideal.exp ((t i : EReal) - (M : EReal)) = (Real.exp (t i - M) : EReal) := fun i => by
    rw [← EReal.coe_sub]; rfl
  simp only [he]
  rw [← coe_sum]
  refine Finset.sum_congr rfl fun j _ => ?_
  rw [Ideal.div_coe hp.ne', ← EReal.coe_mul, mul_one_div, quot_shift t n hn]

end

end Cert.Softmax

end
-- ==== Proof.Blocks.lean ====
/-
  A block of keys at the ideal numbers: the scores as sums over the head's width, and what a block adds to the sums under
  a shift, for the fixed shift and for the running maximum.
-/
module

public import proofs.«01_k».proof.Proof.Elem
public import proofs.«01_k».proof.Proof.Softmax
public import Idealize.ShloMosaic.Lib.WholeRead

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic

section offs

theorem off1_0 (k : Fin k0_t1_loop.trips) (u : Fin 4) : k0_off1 k (BitVec.ofNat 32 u.val) 0 = (k.val * 4 + u.val) * 1024 := by
  revert k u; decide +kernel
theorem off1_1 (k : Fin k0_t1_loop.trips) (u : Fin 4) : k0_off1 k (BitVec.ofNat 32 u.val) 1 = 0 := by
  revert k u; decide +kernel
theorem off2_0 (k : Fin k0_t1_loop.trips) (u : Fin 4) : k0_off2 k (BitVec.ofNat 32 u.val) 0 = 0 := by
  revert k u; decide +kernel
theorem off2_1 (k : Fin k0_t1_loop.trips) (u : Fin 4) : k0_off2 k (BitVec.ofNat 32 u.val) 1 = 0 := by
  revert k u; decide +kernel
theorem off2_2 (k : Fin k0_t1_loop.trips) (u : Fin 4) : k0_off2 k (BitVec.ofNat 32 u.val) 2 = (k.val * 4 + u.val) * 1024 := by
  revert k u; decide +kernel
theorem off3_0 (k : Fin k0_t2_loop.trips) (u : Fin 8) : k0_off3 k (BitVec.ofNat 32 u.val) 0 = (k.val * 8 + u.val) * 512 := by
  revert k u; decide +kernel
theorem off3_1 (k : Fin k0_t2_loop.trips) (u : Fin 8) : k0_off3 k (BitVec.ofNat 32 u.val) 1 = 0 := by
  revert k u; decide +kernel
theorem off4_0 (k : Fin k0_t2_loop.trips) (u : Fin 8) : k0_off4 k (BitVec.ofNat 32 u.val) 0 = 0 := by
  revert k u; decide +kernel
theorem off4_1 (k : Fin k0_t2_loop.trips) (u : Fin 8) : k0_off4 k (BitVec.ofNat 32 u.val) 1 = 0 := by
  revert k u; decide +kernel
theorem off4_2 (k : Fin k0_t2_loop.trips) (u : Fin 8) : k0_off4 k (BitVec.ofNat 32 u.val) 2 = (k.val * 8 + u.val) * 512 := by
  revert k u; decide +kernel

end offs

/-- Scores by the key's number, zero past the end. -/
def scr (x2 : Vec Ideal S8192x128 .bf16) (q : FVec Ideal S1x128x256 .bf16) (c : Fin 256) (n : ℕ) : EReal :=
  if h : n < 8192 then ∑ d : Fin 128, x2 (ix2 ⟨n, h⟩ d) * q (ix3 0 d c) else 0

/-- Values by the key's number. -/
def val (x3 : Vec Ideal S1x128x8192 .bf16) (e : Fin 128) (n : ℕ) : EReal :=
  if h : n < 8192 then x3 (ix3 0 e ⟨n, h⟩) else 0

theorem cast1_apply (X : FVec Ideal S1x128x1024 .bf16) (e : Fin 128) (j : Fin 1024) :
    shapeCast S128x1024 X shapeCasts_S1x128x1024_S128x1024 (ix2 e j) = X (ix3 0 e j) := by
  pointwise []

theorem cast2_apply (X : FVec Ideal S1x128x512 .bf16) (e : Fin 128) (j : Fin 512) :
    shapeCast S128x512 X shapeCasts_S1x128x512_S128x512 (ix2 e j) = X (ix3 0 e j) := by
  pointwise []

section loads
variable (arg3 : Memref sig .tc .smem S2 .f32) (harg3 : arg3.IsWhole) (arg5 : Memref sig .tc .vmem S8192x128 .bf16) (harg5 : arg5.IsWhole)
  (arg6 : Memref sig .tc .vmem S1x128x8192 .bf16) (harg6 : arg6.IsWhole) (x0 : Vec Ideal S2 .f32)
  (x2 : Vec Ideal S8192x128 .bf16) (x3 : Vec Ideal S1x128x8192 .bf16) (q : FVec Ideal S1x128x256 .bf16)

theorem ks1_apply (k : Fin k0_t1_loop.trips) (u : Fin 4) (j : Fin 1024) (d : Fin 128) (h : (k.val * 4 + u.val) * 1024 + j.val < 8192) :
    ks1 arg5 (harg5.unread x2) k u (ix2 j d) = x2 (ix2 ⟨(k.val * 4 + u.val) * 1024 + j.val, h⟩ d) := by
  pointwise [ks1]
  rw [harg5.readAt_unread]
  congr 1
  funext a
  refine Fin.ext ?_
  match a with
  | ⟨0, _⟩ => show k0_off1 k (BitVec.ofNat 32 u.val) 0 + 1 * j.val = _; rw [off1_0, Nat.one_mul]; rfl
  | ⟨1, _⟩ => show k0_off1 k (BitVec.ofNat 32 u.val) 1 + 1 * d.val = _; rw [off1_1, Nat.one_mul, Nat.zero_add]; rfl

theorem vs1_apply (k : Fin k0_t1_loop.trips) (u : Fin 4) (e : Fin 128) (j : Fin 1024) (h : (k.val * 4 + u.val) * 1024 + j.val < 8192) :
    vs1 arg6 (harg6.unread x3) k u (ix2 e j) = x3 (ix3 0 e ⟨(k.val * 4 + u.val) * 1024 + j.val, h⟩) := by
  unfold vs1
  rw [cast1_apply, harg6.readAt_unread]
  congr 1
  funext a
  refine Fin.ext ?_
  match a with
  | ⟨0, _⟩ => show k0_off2 k (BitVec.ofNat 32 u.val) 0 + 1 * 0 = _; rw [off2_0]; rfl
  | ⟨1, _⟩ => show k0_off2 k (BitVec.ofNat 32 u.val) 1 + 1 * e.val = _; rw [off2_1, Nat.one_mul, Nat.zero_add]; rfl
  | ⟨2, _⟩ => show k0_off2 k (BitVec.ofNat 32 u.val) 2 + 1 * j.val = _; rw [off2_2, Nat.one_mul]; rfl

theorem ks2_apply (k : Fin k0_t2_loop.trips) (u : Fin 8) (j : Fin 512) (d : Fin 128) (h : (k.val * 8 + u.val) * 512 + j.val < 8192) :
    ks2 arg5 (harg5.unread x2) k u (ix2 j d) = x2 (ix2 ⟨(k.val * 8 + u.val) * 512 + j.val, h⟩ d) := by
  pointwise [ks2]
  rw [harg5.readAt_unread]
  congr 1
  funext a
  refine Fin.ext ?_
  match a with
  | ⟨0, _⟩ => show k0_off3 k (BitVec.ofNat 32 u.val) 0 + 1 * j.val = _; rw [off3_0, Nat.one_mul]; rfl
  | ⟨1, _⟩ => show k0_off3 k (BitVec.ofNat 32 u.val) 1 + 1 * d.val = _; rw [off3_1, Nat.one_mul, Nat.zero_add]; rfl

theorem vs2_apply (k : Fin k0_t2_loop.trips) (u : Fin 8) (e : Fin 128) (j : Fin 512) (h : (k.val * 8 + u.val) * 512 + j.val < 8192) :
    vs2 arg6 (harg6.unread x3) k u (ix2 e j) = x3 (ix3 0 e ⟨(k.val * 8 + u.val) * 512 + j.val, h⟩) := by
  unfold vs2
  rw [cast2_apply, harg6.readAt_unread]
  congr 1
  funext a
  refine Fin.ext ?_
  match a with
  | ⟨0, _⟩ => show k0_off4 k (BitVec.ofNat 32 u.val) 0 + 1 * 0 = _; rw [off4_0]; rfl
  | ⟨1, _⟩ => show k0_off4 k (BitVec.ofNat 32 u.val) 1 + 1 * e.val = _; rw [off4_1, Nat.one_mul, Nat.zero_add]; rfl
  | ⟨2, _⟩ => show k0_off4 k (BitVec.ofNat 32 u.val) 2 + 1 * j.val = _; rw [off4_2, Nat.one_mul]; rfl

theorem sh1_apply : sh1 (F := Ideal) arg3 (harg3.unread x0) = x0 (ix1 0) := by
  unfold sh1
  rw [harg3.readAt_unread]
  congr 1
  funext a
  match a with
  | ⟨0, _⟩ => exact Fin.ext rfl

theorem trips1 (k : Fin k0_t1_loop.trips) : k.val < 2 := lt_of_lt_of_eq k.isLt (by decide)
theorem trips2 (k : Fin k0_t2_loop.trips) : k.val < 2 := lt_of_lt_of_eq k.isLt (by decide)

theorem scr1 (k : Fin k0_t1_loop.trips) (u : Fin 4) (j : Fin 1024) (c : Fin 256) :
    sc1 (ks1 arg5 (harg5.unread x2) k u) q (ix2 j c) = scr x2 q c ((k.val * 4 + u.val) * 1024 + j.val) := by
  have hk := trips1 k
  have h : (k.val * 4 + u.val) * 1024 + j.val < 8192 := by omega
  rw [sc1_apply, scr, dif_pos h]
  exact Finset.sum_congr rfl fun d _ => by rw [ks1_apply arg5 harg5 x2 k u j d h]

theorem val1 (k : Fin k0_t1_loop.trips) (u : Fin 4) (e : Fin 128) (j : Fin 1024) :
    vs1 arg6 (harg6.unread x3) k u (ix2 e j) = val x3 e ((k.val * 4 + u.val) * 1024 + j.val) := by
  have hk := trips1 k
  have h : (k.val * 4 + u.val) * 1024 + j.val < 8192 := by omega
  rw [val, dif_pos h, vs1_apply arg6 harg6 x3 k u e j h]

theorem scr2 (k : Fin k0_t2_loop.trips) (u : Fin 8) (j : Fin 512) (c : Fin 256) :
    sc2 (ks2 arg5 (harg5.unread x2) k u) q (ix2 j c) = scr x2 q c ((k.val * 8 + u.val) * 512 + j.val) := by
  have hk := trips2 k
  have h : (k.val * 8 + u.val) * 512 + j.val < 8192 := by omega
  rw [sc2_apply, scr, dif_pos h]
  exact Finset.sum_congr rfl fun d _ => by rw [ks2_apply arg5 harg5 x2 k u j d h]

theorem val2 (k : Fin k0_t2_loop.trips) (u : Fin 8) (e : Fin 128) (j : Fin 512) :
    vs2 arg6 (harg6.unread x3) k u (ix2 e j) = val x3 e ((k.val * 8 + u.val) * 512 + j.val) := by
  have hk := trips2 k
  have h : (k.val * 8 + u.val) * 512 + j.val < 8192 := by omega
  rw [val, dif_pos h, vs2_apply arg6 harg6 x3 k u e j h]

end loads

/-! ## The sums under a shift -/

/-- The sums of a column's weights, eight residue classes apart, over the first `8 n` keys. -/
def SumL (S : ℕ → ℝ) (M : ℝ) (c : Fin 256) (n : ℕ) (l : FVec Ideal S1x8x256 .f32) : Prop :=
  ∀ h : Fin 8, l (ix3 0 h c) = ∑ i ∈ Finset.range n, (E2 (S (8 * i + h.val) - M) : EReal)

/-- The weighted values of a column over the first `n` keys. -/
def SumA (S : ℕ → ℝ) (V : Fin 128 → ℕ → EReal) (M : ℝ) (c : Fin 256) (n : ℕ) (a : FVec Ideal S1x128x256 .f32) : Prop :=
  ∀ e : Fin 128, a (ix3 0 e c) = ∑ j ∈ Finset.range n, V e j * (E2 (S j - M) : EReal)

section step
variable (S : ℕ → ℝ) (V : Fin 128 → ℕ → EReal) (c : Fin 256)

theorem stepL1 (M : ℝ) (n : ℕ) (s : FVec Ideal S1024x256 .f32) (l : FVec Ideal S1x8x256 .f32)
    (hs : ∀ j : Fin 1024, s (ix2 j c) = (S (n * 1024 + j.val) : EReal)) (hl : SumL S M c (n * 128) l) :
    SumL S M c ((n + 1) * 128) (updL1 s (M : EReal) l) := by
  intro h
  rw [updL1_apply, hl h, ← sum_block]
  congr 1
  refine Finset.sum_congr rfl fun a _ => ?_
  rw [wt1_apply, hs, exp2_sub]
  congr 4
  show n * 1024 + (a.val * 8 + h.val) = 8 * (n * 128 + a.val) + h.val
  ring

theorem stepA1 (M : ℝ) (n : ℕ) (v : FVec Ideal S128x1024 .bf16) (s : FVec Ideal S1024x256 .f32) (a : FVec Ideal S1x128x256 .f32)
    (hs : ∀ j : Fin 1024, s (ix2 j c) = (S (n * 1024 + j.val) : EReal))
    (hv : ∀ (e : Fin 128) (j : Fin 1024), v (ix2 e j) = V e (n * 1024 + j.val)) (ha : SumA S V M c (n * 1024) a) :
    SumA S V M c ((n + 1) * 1024) (updA1 v s (M : EReal) a) := by
  intro e
  rw [updA1_apply, ha e, ← sum_block]
  congr 1
  refine Finset.sum_congr rfl fun j _ => ?_
  rw [wt1_apply, hs, hv, exp2_sub]

/-- The state under the running maximum after `n` blocks: before the first the maximum is −∞ and the sums are empty. -/
def MaxAt (m : FVec Ideal S1x1x256 .f32) (M : ℝ) (c : Fin 256) (n : ℕ) : Prop :=
  m (ix3 0 0 c) = (M : EReal) ∨ (n = 0 ∧ m (ix3 0 0 c) = ⊥)

theorem newM_real (n : ℕ) (M : ℝ) (s : FVec Ideal S512x256 .f32) (m : FVec Ideal S1x1x256 .f32)
    (hs : ∀ j : Fin 512, s (ix2 j c) = (S (n * 512 + j.val) : EReal)) (hm : MaxAt m M c n) :
    ∃ M' : ℝ, newM s m (ix2 0 c) = (M' : EReal) := by
  obtain ⟨B, hB⟩ := sup_coe (Finset.univ : Finset (Fin 512)) ⟨0, Finset.mem_univ _⟩ fun j => S (n * 512 + j.val)
  rw [newM_apply]
  simp only [hs]
  rw [hB]
  rcases hm with h | ⟨_, h⟩
  · exact ⟨max M B, by rw [h]; exact (EReal.coe_strictMono.monotone.map_max).symm⟩
  · exact ⟨B, by rw [h]; exact max_eq_right bot_le⟩

theorem step2 (n : ℕ) (M : ℝ) (v : FVec Ideal S128x512 .bf16) (s : FVec Ideal S512x256 .f32) (m : FVec Ideal S1x1x256 .f32)
    (l : FVec Ideal S1x8x256 .f32) (a : FVec Ideal S1x128x256 .f32)
    (hs : ∀ j : Fin 512, s (ix2 j c) = (S (n * 512 + j.val) : EReal))
    (hv : ∀ (e : Fin 128) (j : Fin 512), v (ix2 e j) = V e (n * 512 + j.val))
    (hm : MaxAt m M c n) (hl : SumL S M c (n * 64) l) (ha : SumA S V M c (n * 512) a) :
    ∃ M' : ℝ, MaxAt (updM2 s m) M' c (n + 1) ∧ SumL S M' c ((n + 1) * 64) (updL2 s m l)
      ∧ SumA S V M' c ((n + 1) * 512) (updA2 v s m a) := by
  obtain ⟨M', hM'⟩ := newM_real S c n M s m hs hm
  have hal : ∃ α : ℝ, 0 ≤ α ∧ alp s m (ix2 0 c) = (α : EReal) ∧ (n = 0 ∨ ∀ x : ℝ, E2 (x - M) * α = E2 (x - M')) := by
    rw [alp_apply, hM']
    rcases hm with h | ⟨h0, h⟩
    · refine ⟨E2 (M - M'), (E2_pos _).le, by rw [h, exp2_sub], Or.inr fun x => ?_⟩
      rw [← E2_add]; congr 1; ring
    · refine ⟨0, le_rfl, ?_, Or.inl h0⟩
      rw [h, EReal.bot_sub]; rfl
  obtain ⟨α, h0, hα, hx⟩ := hal
  refine ⟨M', Or.inl ((updM2_apply s m c).trans hM'), fun h => ?_, fun e => ?_⟩
  · rw [updL2_apply, hl h, hα, sum_mul_coe _ _ _ h0, ← sum_block]
    congr 1
    · rcases hx with rfl | hx
      · simp
      · exact Finset.sum_congr rfl fun i _ => by rw [← EReal.coe_mul, hx]
    · refine Finset.sum_congr rfl fun i _ => ?_
      rw [wt2_apply, hM', hs, exp2_sub]
      congr 4
      show n * 512 + (i.val * 8 + h.val) = 8 * (n * 64 + i.val) + h.val
      ring
  · rw [updA2_apply, ha e, hα, sum_mul_coe _ _ _ h0, ← sum_block]
    congr 1
    · rcases hx with rfl | hx
      · simp
      · exact Finset.sum_congr rfl fun i _ => by rw [mul_assoc, ← EReal.coe_mul, hx]
    · refine Finset.sum_congr rfl fun j _ => ?_
      rw [wt2_apply, hM', hs, hv, exp2_sub]

end step

end Cert.KernelIdeal.Hand

end
-- ==== Proof.Tile.lean ====
/-
  What the body leaves of one head of one block of queries: at every query and feature the softmax-weighted mean of the
  values times the gate, through either branch.
-/
module

public import proofs.«01_k».proof.Proof.Loops
public import proofs.«01_k».proof.Proof.Blocks

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic

section folds
variable (S : ℕ → ℝ) (V : Fin 128 → ℕ → EReal) (c : Fin 256)

theorem foldL1_sum (M : ℝ) (b : ℕ) (s : Fin 4 → FVec Ideal S1024x256 .f32) (l : FVec Ideal S1x8x256 .f32)
    (hs : ∀ (u : Fin 4) (j : Fin 1024), s u (ix2 j c) = (S ((b + u.val) * 1024 + j.val) : EReal)) (hl : SumL S M c (b * 128) l) :
    SumL S M c ((b + 4) * 128) (foldL1 s (M : EReal) l) :=
  stepL1 S c M (b + 3) (s 3) _ (hs 3) (stepL1 S c M (b + 2) (s 2) _ (hs 2)
    (stepL1 S c M (b + 1) (s 1) _ (hs 1) (stepL1 S c M b (s 0) _ (hs 0) hl)))

theorem foldA1_sum (M : ℝ) (b : ℕ) (v : Fin 4 → FVec Ideal S128x1024 .bf16) (s : Fin 4 → FVec Ideal S1024x256 .f32)
    (a : FVec Ideal S1x128x256 .f32)
    (hs : ∀ (u : Fin 4) (j : Fin 1024), s u (ix2 j c) = (S ((b + u.val) * 1024 + j.val) : EReal))
    (hv : ∀ (u : Fin 4) (e : Fin 128) (j : Fin 1024), v u (ix2 e j) = V e ((b + u.val) * 1024 + j.val))
    (ha : SumA S V M c (b * 1024) a) :
    SumA S V M c ((b + 4) * 1024) (foldA1 v s (M : EReal) a) :=
  stepA1 S V c M (b + 3) (v 3) (s 3) _ (hs 3) (hv 3) (stepA1 S V c M (b + 2) (v 2) (s 2) _ (hs 2) (hv 2)
    (stepA1 S V c M (b + 1) (v 1) (s 1) _ (hs 1) (hv 1) (stepA1 S V c M b (v 0) (s 0) _ (hs 0) (hv 0) ha)))

theorem st_sum (b : ℕ) (v : Fin 8 → FVec Ideal S128x512 .bf16) (s : Fin 8 → FVec Ideal S512x256 .f32)
    (m : FVec Ideal S1x1x256 .f32) (l : FVec Ideal S1x8x256 .f32) (a : FVec Ideal S1x128x256 .f32)
    (hs : ∀ (u : Fin 8) (j : Fin 512), s u (ix2 j c) = (S ((b + u.val) * 512 + j.val) : EReal))
    (hv : ∀ (u : Fin 8) (e : Fin 128) (j : Fin 512), v u (ix2 e j) = V e ((b + u.val) * 512 + j.val))
    (h0 : ∃ M : ℝ, MaxAt m M c b ∧ SumL S M c (b * 64) l ∧ SumA S V M c (b * 512) a) (n : ℕ) (hn : n ≤ 8) :
    ∃ M : ℝ, MaxAt (stM s m n) M c (b + n) ∧ SumL S M c ((b + n) * 64) (stL s m l n)
      ∧ SumA S V M c ((b + n) * 512) (stA v s m a n) := by
  induction n with
  | zero => exact h0
  | succ n ih =>
    obtain ⟨M, hm, hl, ha⟩ := ih (Nat.le_of_succ_le hn)
    have hu : (Fin.ofNat 8 n).val = n := Nat.mod_eq_of_lt hn
    refine step2 S V c (b + n) M (v (Fin.ofNat 8 n)) (s (Fin.ofNat 8 n)) _ _ _ (fun j => ?_) (fun e j => ?_) hm hl ha
    · rw [hs, hu]
    · rw [hv, hu]

/-- The quotient of a head's sums, times the gate. -/
theorem fin_mean (t : ℕ → ℝ) (hS : ∀ n, S n = t n * (Real.log 2)⁻¹) (M : ℝ) (a : FVec Ideal S1x128x256 .f32)
    (l : FVec Ideal S1x8x256 .f32) (G : FVec Ideal S256x128 .bf16) (N : ℕ) (hN : 1024 * 8 = N) (hl : SumL S M c 1024 l) (ha : SumA S V M c N a) (e : Fin 128) :
    k0_pay1 (F := Ideal) a l G (ix2 c e) = mean t (V e) N * G (ix2 c e) := by
  rw [fin_apply, ha e, Finset.sum_congr rfl fun h _ => hl h, sum_classes (fun j => (E2 (S j - M) : EReal)) 1024, hN]
  congr 1
  simp only [hS]
  exact kernel_mean t (V e) N (by omega) M

end folds

/-! ## The scratch buffers when the loop starts -/

section whole
variable {Val : EltTy → Type} [∀ e, Nonempty (Val e)] {sig' : RefSig} {κ' : Kind} {sp : Space} {e : EltTy} {a b : ℕ}

theorem whole_slab (v : View sig' κ' sp ⟨3, ![4, a, b]⟩ e) (f : v.ty.Contents Val) (g : Fin 4) (z : Val e)
    (inb : ∀ x, (![0, 0, 0] : Fin 3 → ℕ) x + (![4, a, b] : Fin 3 → ℕ) x ≤ (![4, a, b] : Fin 3 → ℕ) x)
    (w : (Rect.unit (s := ⟨3, ![4, a, b]⟩) ![0, 0, 0] ![4, a, b] inb).shape.Idx → Val e) (hw : ∀ y, w y = z) (x) :
    v.readAt Val (sl3 a b g) (v.writes Val f [⟨Rect.unit (s := ⟨3, ![4, a, b]⟩) ![0, 0, 0] ![4, a, b] inb, w⟩]) x = z := by
  rw [View.readAt_apply]
  refine (View.read_writes_cons_hit_of_coords v f _ w [] ((sl3 a b g).idx x) _ fun q => ?_).trans (hw _)
  match q with
  | ⟨0, _⟩ => show _ = 0 + 1 * _; rw [Nat.zero_add, Nat.one_mul]
  | ⟨1, _⟩ => show _ = 0 + 1 * _; rw [Nat.zero_add, Nat.one_mul]
  | ⟨2, _⟩ => show _ = 0 + 1 * _; rw [Nat.zero_add, Nat.one_mul]

theorem four_slab (v : View sig' κ' sp ⟨3, ![4, a, b]⟩ e) (f : v.ty.Contents Val) (g : Fin 4)
    (w0 w1 w2 w3 : (⟨3, ![1, a, b]⟩ : Shape).Idx → Val e) :
    v.readAt Val (sl3 a b g) (v.writes Val f [
        ⟨Rect.unit (s := ⟨3, ![4, a, b]⟩) ![3, 0, 0] ![1, a, b] (inb3 (a := a) (b := b) 3), w3⟩,
        ⟨Rect.unit (s := ⟨3, ![4, a, b]⟩) ![2, 0, 0] ![1, a, b] (inb3 (a := a) (b := b) 2), w2⟩,
        ⟨Rect.unit (s := ⟨3, ![4, a, b]⟩) ![1, 0, 0] ![1, a, b] (inb3 (a := a) (b := b) 1), w1⟩,
        ⟨Rect.unit (s := ⟨3, ![4, a, b]⟩) ![0, 0, 0] ![1, a, b] (inb3 (a := a) (b := b) 0), w0⟩])
      = (![w0, w1, w2, w3] : Fin 4 → (⟨3, ![1, a, b]⟩ : Shape).Idx → Val e) g := by
  match g with
  | 3 => exact slab_hit v f _ _ _ _
  | 2 => exact (slab_miss v f (by decide) _ _ _ _).trans (slab_hit v f _ _ _ _)
  | 1 => exact (slab_miss v f (by decide) _ _ _ _).trans ((slab_miss v f (by decide) _ _ _ _).trans (slab_hit v f _ _ _ _))
  | 0 => exact (slab_miss v f (by decide) _ _ _ _).trans ((slab_miss v f (by decide) _ _ _ _).trans
      ((slab_miss v f (by decide) _ _ _ _).trans (slab_hit v f _ _ _ _)))

end whole

theorem z390 (y) : k0_pay390 (F := Ideal) y = 0 := by
  idx_vars y; pointwise [k0_pay390]
theorem z391 (y) : k0_pay391 (F := Ideal) y = 0 := by
  idx_vars y; pointwise [k0_pay391]
theorem z395 (y) : k0_pay395 (F := Ideal) y = ⊥ := by
  idx_vars y; pointwise [k0_pay395]; exact negInf

section block
variable (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
  (x0 : Vec Ideal S2 .f32) (x1 : Vec Ideal S256x512 .bf16) (x2 : Vec Ideal S8192x128 .bf16) (x3 : Vec Ideal S1x128x8192 .bf16) (x4 : Vec Ideal S256x512 .bf16)

abbrev col (g : Fin 4) (d : Fin 128) : Fin 512 := ⟨g.val * 128 + d.val, by omega⟩

/-- The pieces the four heads' scaled queries leave. -/
abbrev qpieces (X : BufTy.Contents (Elt Ideal) arg4.view.ty) : List (View.Piece (Elt Ideal) S4x128x256 .bf16) :=
  [⟨Rect.unit ![3, 0, 0] S1x128x256.size inb_S4x128x256_S1x128x256_3_0_0, k0_pay389 (F := Ideal) (k0_pay388 (arg4.view.readAt (Elt Ideal) (Rect.unit (s := S256x512) ![0, 384] S256x128.size inb_S256x512_S256x128_0_384).toLoadRect X)) (Named.named κ "log2e" 0x3FB8AA3B#32)⟩,
   ⟨Rect.unit ![2, 0, 0] S1x128x256.size inb_S4x128x256_S1x128x256_2_0_0, k0_pay387 (F := Ideal) (arg4.view.readAt (Elt Ideal) (Rect.unit (s := S256x512) ![0, 256] S256x128.size inb_S256x512_S256x128_0_256).toLoadRect X)⟩,
   ⟨Rect.unit ![1, 0, 0] S1x128x256.size inb_S4x128x256_S1x128x256_1_0_0, k0_pay386 (F := Ideal) (arg4.view.readAt (Elt Ideal) (Rect.unit (s := S256x512) ![0, 128] S256x128.size inb_S256x512_S256x128_0_128).toLoadRect X)⟩,
   ⟨Rect.unit ![0, 0, 0] S1x128x256.size inb_S4x128x256_S1x128x256_0_0_0, k0_pay385 (F := Ideal) (arg4.view.readAt (Elt Ideal) (Rect.unit (s := S256x512) ![0, 0] S256x128.size inb_S256x512_S256x128_0_0).toLoadRect X)⟩]

abbrev qbuf (X : BufTy.Contents (Elt Ideal) arg4.view.ty) : BufTy.Contents (Elt Ideal) arg9.view.ty :=
  arg9.view.writes (Elt Ideal) arg9.view.junk (qpieces arg4 X)

theorem rd4 (m : Memref sig .tc .vmem S256x512 .bf16) (hm : m.IsWhole) (x : Vec Ideal S256x512 .bf16) (g : Fin 4) (o : ℕ) (ho : o = g.val * 128)
    (inb : ∀ a, (![0, o] : Fin 2 → ℕ) a + S256x128.size a ≤ S256x512.size a) (r : Fin 256) (d : Fin 128) :
    m.view.readAt (Elt Ideal) (Rect.unit (s := S256x512) ![0, o] S256x128.size inb).toLoadRect (hm.unread x) (ix2 r d) = x (ix2 r (col g d)) := by
  rw [hm.readAt_unread]
  congr 1
  funext a
  refine Fin.ext ?_
  match a with
  | ⟨0, _⟩ => show 0 + 1 * r.val = r.val; omega
  | ⟨1, _⟩ => show o + 1 * d.val = g.val * 128 + d.val; omega

theorem q_apply (g : Fin 4) (d : Fin 128) (r : Fin 256) :
    arg9.view.readAt (Elt Ideal) (sl3 128 256 g) (qbuf arg4 arg9 (harg4.unread x1)) (ix3 0 d r)
      = x1 (ix2 r (col g d)) * (((Real.log 2)⁻¹ : ℝ) : EReal) := by
  refine (congrFun (four_slab (Val := Elt Ideal) arg9.view _ g _ _ _ _) _).trans ?_
  match g with
  | 0 => exact (qt_apply _ d r).trans (by rw [rd4 arg4 harg4 x1 0 0 rfl])
  | 1 => exact (qt_apply _ d r).trans (by rw [rd4 arg4 harg4 x1 1 128 rfl])
  | 2 => exact (qt_apply _ d r).trans (by rw [rd4 arg4 harg4 x1 2 256 rfl])
  | 3 => exact (qt_apply _ d r).trans (by rw [rd4 arg4 harg4 x1 3 384 rfl])

variable (X1 : S256x512.Idx → ℝ) (X2 : S8192x128.Idx → ℝ)

/-- The score of key `n` for query `r` of head `g`. -/
def tt (g : Fin 4) (r : Fin 256) (n : ℕ) : ℝ :=
  if h : n < 8192 then ∑ d : Fin 128, X2 (ix2 ⟨n, h⟩ d) * X1 (ix2 r (col g d)) else 0

theorem scr_real (h1 : ∀ y, x1 y = (X1 y : EReal)) (h2 : ∀ y, x2 y = (X2 y : EReal)) (g : Fin 4) (r : Fin 256) (n : ℕ) :
    scr x2 (arg9.view.readAt (Elt Ideal) (sl3 128 256 g) (qbuf arg4 arg9 (harg4.unread x1))) r n
      = ((tt X1 X2 g r n * (Real.log 2)⁻¹ : ℝ) : EReal) := by
  unfold scr tt
  by_cases h : n < 8192
  · rw [dif_pos h, dif_pos h, Finset.sum_mul, coe_sum]
    refine Finset.sum_congr rfl fun d _ => ?_
    rw [q_apply, h1, h2, ← EReal.coe_mul, ← EReal.coe_mul, mul_assoc]
  · rw [dif_neg h, dif_neg h, zero_mul, EReal.coe_zero]

/-- The block the body leaves. -/
def blk (y : S256x512.Idx) : EReal :=
  mean (tt X1 X2 ⟨(y 1).val / 128, Nat.div_lt_of_lt_mul (y 1).isLt⟩ (y 0)) (val x3 ⟨(y 1).val % 128, Nat.mod_lt _ (by norm_num)⟩) 8192 * x4 y

theorem blk_apply (g : Fin 4) (r : Fin 256) (e : Fin 128) :
    blk x3 x4 X1 X2 (ix2 r (col g e)) = mean (tt X1 X2 g r) (val x3 e) 8192 * x4 (ix2 r (col g e)) := by
  have hg : (⟨(g.val * 128 + e.val) / 128, by omega⟩ : Fin 4) = g := Fin.ext (by show (g.val * 128 + e.val) / 128 = _; omega)
  have he : (⟨(g.val * 128 + e.val) % 128, by omega⟩ : Fin 128) = e := Fin.ext (by show (g.val * 128 + e.val) % 128 = _; omega)
  show mean (tt X1 X2 (⟨(g.val * 128 + e.val) / 128, by omega⟩ : Fin 4) r) (val x3 (⟨(g.val * 128 + e.val) % 128, by omega⟩ : Fin 128)) 8192 * _ = _
  rw [hg, he]

theorem headB (M : ℝ) (h0 : x0 (ix1 0) = (M : EReal)) (h1 : ∀ y, x1 y = (X1 y : EReal)) (h2 : ∀ y, x2 y = (X2 y : EReal))
    (v32 : FVec Ideal S256x128 .f32) (cst : Ideal .f32) (g : Fin 4) (r : Fin 256) (e : Fin 128) (G : FVec Ideal S256x128 .bf16) :
    k0_pay1 (F := Ideal)
      (arg12.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).2 ++ [⟨Rect.unit ![0, 0, 0] S4x128x256.size inb_S4x128x256_S4x128x256_0_0_0, k0_pay390 (F := Ideal)⟩]) (sl3 128 256 g))
      (arg11.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).1 ++ [⟨Rect.unit ![0, 0, 0] S4x8x256.size inb_S4x8x256_S4x8x256_0_0_0, k0_pay391 (F := Ideal)⟩]) (sl3 8 256 g)) G (ix2 r e)
      = mean (tt X1 X2 g r) (val x3 e) 8192 * G (ix2 r e) := by
  have hs : ∀ (k : Fin k0_t1_loop.trips) (u : Fin 4) (j : Fin 1024), sc1 (ks1 arg5 (harg5.unread x2) k u) (arg9.view.readAt (Elt Ideal) (sl3 128 256 g) (qbuf arg4 arg9 (harg4.unread x1))) (ix2 j r)
      = (((fun n => tt X1 X2 g r n * (Real.log 2)⁻¹) ((k.val * 4 + u.val) * 1024 + j.val) : ℝ) : EReal) := fun k u j =>
    (scr1 arg5 harg5 x2 _ k u j r).trans (scr_real arg4 harg4 arg9 x1 x2 X1 X2 h1 h2 g r _)
  have hsh : sh1 (F := Ideal) arg3 (harg3.unread x0) = (M : EReal) := (sh1_apply arg3 harg3 x0).trans h0
  have hl : SumL (fun n => tt X1 X2 g r n * (Real.log 2)⁻¹) M r 1024 (arg11.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).1 ++ [⟨Rect.unit ![0, 0, 0] S4x8x256.size inb_S4x8x256_S4x8x256_0_0_0, k0_pay391 (F := Ideal)⟩]) (sl3 8 256 g)) := by
    unfold View.readCov
    rw [View.writes_append, loop1_L, hsh]
    refine foldL1_sum (fun n => tt X1 X2 g r n * (Real.log 2)⁻¹) r M 4 (fun u => sc1 (ks1 arg5 (harg5.unread x2) ⟨1, by decide⟩ u) (arg9.view.readAt (Elt Ideal) (sl3 128 256 g) (qbuf arg4 arg9 (harg4.unread x1)))) _ (hs ⟨1, by decide⟩) ?_
    refine foldL1_sum (fun n => tt X1 X2 g r n * (Real.log 2)⁻¹) r M 0 (fun u => sc1 (ks1 arg5 (harg5.unread x2) ⟨0, by decide⟩ u) (arg9.view.readAt (Elt Ideal) (sl3 128 256 g) (qbuf arg4 arg9 (harg4.unread x1)))) _ (fun u j => (hs ⟨0, by decide⟩ u j).trans (by simp)) ?_
    exact (fun h => (whole_slab (Val := Elt Ideal) arg11.view _ g (0 : EReal) _ _ z391 _).trans (by simp))
  have ha : SumA (fun n => tt X1 X2 g r n * (Real.log 2)⁻¹) (fun e n => val x3 e n) M r 8192 (arg12.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).2 ++ [⟨Rect.unit ![0, 0, 0] S4x128x256.size inb_S4x128x256_S4x128x256_0_0_0, k0_pay390 (F := Ideal)⟩]) (sl3 128 256 g)) := by
    unfold View.readCov
    rw [View.writes_append, loop1_A, hsh]
    refine foldA1_sum (fun n => tt X1 X2 g r n * (Real.log 2)⁻¹) (fun e n => val x3 e n) r M 4 (fun u => vs1 arg6 (harg6.unread x3) ⟨1, by decide⟩ u) (fun u => sc1 (ks1 arg5 (harg5.unread x2) ⟨1, by decide⟩ u) (arg9.view.readAt (Elt Ideal) (sl3 128 256 g) (qbuf arg4 arg9 (harg4.unread x1)))) _ (hs ⟨1, by decide⟩) (fun u e j => val1 arg6 harg6 x3 ⟨1, by decide⟩ u e j) ?_
    refine foldA1_sum (fun n => tt X1 X2 g r n * (Real.log 2)⁻¹) (fun e n => val x3 e n) r M 0 (fun u => vs1 arg6 (harg6.unread x3) ⟨0, by decide⟩ u) (fun u => sc1 (ks1 arg5 (harg5.unread x2) ⟨0, by decide⟩ u) (arg9.view.readAt (Elt Ideal) (sl3 128 256 g) (qbuf arg4 arg9 (harg4.unread x1)))) _ (fun u j => (hs ⟨0, by decide⟩ u j).trans (by simp)) (fun u e j => (val1 arg6 harg6 x3 ⟨0, by decide⟩ u e j).trans (by simp)) ?_
    exact (fun e => (whole_slab (Val := Elt Ideal) arg12.view _ g (0 : EReal) _ _ z390 _).trans (by simp))
  exact fin_mean (fun n => tt X1 X2 g r n * (Real.log 2)⁻¹) (fun e n => val x3 e n) r (tt X1 X2 g r) (fun _ => rfl) M _ _ G 8192 (by norm_num) hl ha e

theorem headO (h1 : ∀ y, x1 y = (X1 y : EReal)) (h2 : ∀ y, x2 y = (X2 y : EReal))
    (v32 : FVec Ideal S256x128 .f32) (cst : Ideal .f32) (g : Fin 4) (r : Fin 256) (e : Fin 128) (G : FVec Ideal S256x128 .bf16) :
    k0_pay1 (F := Ideal)
      (arg12.view.readCov ((pb_k0_t2 (F := Ideal) Variants.none c none i arg3 harg3 arg4 harg4 arg5 harg5 arg6 harg6 arg7 harg7 arg8 harg8 arg9 harg9 arg10 harg10 arg11 harg11 arg12 harg12 v32 cst (harg5.unread x2) (harg6.unread x3) (qbuf arg4 arg9 (harg4.unread x1)) (arg10.view.writes (Elt Ideal) arg10.view.junk [⟨Rect.unit ![0, 0, 0] S4x1x256.size inb_S4x1x256_S4x1x256_0_0_0, k0_pay395 (F := Ideal)⟩]) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t2_loop.lb k0_t2_loop.ub k0_t2_loop.st)).2.2 ++ [⟨Rect.unit ![0, 0, 0] S4x128x256.size inb_S4x128x256_S4x128x256_0_0_0, k0_pay390 (F := Ideal)⟩]) (sl3 128 256 g))
      (arg11.view.readCov ((pb_k0_t2 (F := Ideal) Variants.none c none i arg3 harg3 arg4 harg4 arg5 harg5 arg6 harg6 arg7 harg7 arg8 harg8 arg9 harg9 arg10 harg10 arg11 harg11 arg12 harg12 v32 cst (harg5.unread x2) (harg6.unread x3) (qbuf arg4 arg9 (harg4.unread x1)) (arg10.view.writes (Elt Ideal) arg10.view.junk [⟨Rect.unit ![0, 0, 0] S4x1x256.size inb_S4x1x256_S4x1x256_0_0_0, k0_pay395 (F := Ideal)⟩]) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t2_loop.lb k0_t2_loop.ub k0_t2_loop.st)).2.1 ++ [⟨Rect.unit ![0, 0, 0] S4x8x256.size inb_S4x8x256_S4x8x256_0_0_0, k0_pay391 (F := Ideal)⟩]) (sl3 8 256 g)) G (ix2 r e)
      = mean (tt X1 X2 g r) (val x3 e) 8192 * G (ix2 r e) := by
  have hs : ∀ (k : Fin k0_t2_loop.trips) (u : Fin 8) (j : Fin 512), sc2 (ks2 arg5 (harg5.unread x2) k u) (arg9.view.readAt (Elt Ideal) (sl3 128 256 g) (qbuf arg4 arg9 (harg4.unread x1))) (ix2 j r)
      = (((fun n => tt X1 X2 g r n * (Real.log 2)⁻¹) ((k.val * 8 + u.val) * 512 + j.val) : ℝ) : EReal) := fun k u j =>
    (scr2 arg5 harg5 x2 _ k u j r).trans (scr_real arg4 harg4 arg9 x1 x2 X1 X2 h1 h2 g r _)
  obtain ⟨M, -, hl, ha⟩ := st_sum (fun n => tt X1 X2 g r n * (Real.log 2)⁻¹) (fun e n => val x3 e n) r 8 (fun u => vs2 arg6 (harg6.unread x3) ⟨1, by decide⟩ u) (fun u => sc2 (ks2 arg5 (harg5.unread x2) ⟨1, by decide⟩ u) (arg9.view.readAt (Elt Ideal) (sl3 128 256 g) (qbuf arg4 arg9 (harg4.unread x1)))) _ _ _ (hs ⟨1, by decide⟩) (fun u e j => val2 arg6 harg6 x3 ⟨1, by decide⟩ u e j)
    (st_sum (fun n => tt X1 X2 g r n * (Real.log 2)⁻¹) (fun e n => val x3 e n) r 0 (fun u => vs2 arg6 (harg6.unread x3) ⟨0, by decide⟩ u) (fun u => sc2 (ks2 arg5 (harg5.unread x2) ⟨0, by decide⟩ u) (arg9.view.readAt (Elt Ideal) (sl3 128 256 g) (qbuf arg4 arg9 (harg4.unread x1)))) (arg10.view.readAt (Elt Ideal) (sl3 1 256 g) (arg10.view.writes (Elt Ideal) arg10.view.junk [⟨Rect.unit ![0, 0, 0] S4x1x256.size inb_S4x1x256_S4x1x256_0_0_0, k0_pay395 (F := Ideal)⟩])) (arg11.view.readAt (Elt Ideal) (sl3 8 256 g) (arg11.view.writes (Elt Ideal) arg11.view.junk [⟨Rect.unit ![0, 0, 0] S4x8x256.size inb_S4x8x256_S4x8x256_0_0_0, k0_pay391 (F := Ideal)⟩])) (arg12.view.readAt (Elt Ideal) (sl3 128 256 g) (arg12.view.writes (Elt Ideal) arg12.view.junk [⟨Rect.unit ![0, 0, 0] S4x128x256.size inb_S4x128x256_S4x128x256_0_0_0, k0_pay390 (F := Ideal)⟩]))
      (fun u j => (hs ⟨0, by decide⟩ u j).trans (by simp)) (fun u e j => (val2 arg6 harg6 x3 ⟨0, by decide⟩ u e j).trans (by simp))
      ⟨0, Or.inr ⟨rfl, whole_slab (Val := Elt Ideal) arg10.view _ g (⊥ : EReal) _ _ z395 _⟩, (fun h => (whole_slab (Val := Elt Ideal) arg11.view _ g (0 : EReal) _ _ z391 _).trans (by simp)), (fun e => (whole_slab (Val := Elt Ideal) arg12.view _ g (0 : EReal) _ _ z390 _).trans (by simp))⟩ 8 le_rfl) 8 le_rfl
  refine fin_mean (fun n => tt X1 X2 g r n * (Real.log 2)⁻¹) (fun e n => val x3 e n) r (tt X1 X2 g r) (fun _ => rfl) M _ _ G 8192 (by norm_num) ?_ ?_ e
  · unfold View.readCov
    rw [View.writes_append, loop2_L]
    exact hl
  · unfold View.readCov
    rw [View.writes_append, loop2_A]
    exact ha

end block

end Cert.KernelIdeal.Hand

end
-- ==== Proof.Body.lean ====
/-
  The block of the result one run of the body leaves, through either branch: at every query and column the
  softmax-weighted mean of the values, times the gate.
-/
module

public import proofs.«01_k».proof.Proof.Tile

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic

theorem emb_eq (g : Fin 4) (o : ℕ) (ho : o = g.val * 128)
    (inb : ∀ a, (![0, o] : Fin 2 → ℕ) a + S256x128.size a ≤ S256x512.size a) (r : Fin 256) (e : Fin 128) :
    (Rect.unit (s := S256x512) ![0, o] S256x128.size inb).emb (ix2 r e) = ix2 r (col g e) := by
  funext a
  refine Fin.ext ?_
  match a with
  | ⟨0, _⟩ => show 0 + 1 * r.val = r.val; omega
  | ⟨1, _⟩ => show o + 1 * e.val = g.val * 128 + e.val; omega

theorem ix_ex (x : S256x128.Idx) : ∃ (r : Fin 256) (e : Fin 128), x = ix2 r e := by
  idx_vars x
  exact ⟨_, _, rfl⟩

section block
variable (c : Dev nD) (i : grid0.Coords) (arg3 : Memref sig .tc .smem S2 .f32) (harg3 : arg3.IsWhole) (arg4 : Memref sig .tc .vmem S256x512 .bf16) (harg4 : arg4.IsWhole) (arg5 : Memref sig .tc .vmem S8192x128 .bf16) (harg5 : arg5.IsWhole) (arg6 : Memref sig .tc .vmem S1x128x8192 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S4x128x256 .bf16) (harg9 : arg9.IsWhole) (arg10 : Memref sig .tc .vmem S4x1x256 .f32) (harg10 : arg10.IsWhole) (arg11 : Memref sig .tc .vmem S4x8x256 .f32) (harg11 : arg11.IsWhole) (arg12 : Memref sig .tc .vmem S4x128x256 .f32) (harg12 : arg12.IsWhole)
  (x0 : Vec Ideal S2 .f32) (x1 : Vec Ideal S256x512 .bf16) (x2 : Vec Ideal S8192x128 .bf16) (x3 : Vec Ideal S1x128x8192 .bf16) (x4 : Vec Ideal S256x512 .bf16)
  (X1 : S256x512.Idx → ℝ) (X2 : S8192x128.Idx → ℝ)

theorem pieceB (M : ℝ) (h0 : x0 (ix1 0) = (M : EReal)) (h1 : ∀ y, x1 y = (X1 y : EReal)) (h2 : ∀ y, x2 y = (X2 y : EReal))
    (v32 : FVec Ideal S256x128 .f32) (cst : Ideal .f32) (g : Fin 4) (o : ℕ) (ho : o = g.val * 128)
    (inb : ∀ a, (![0, o] : Fin 2 → ℕ) a + S256x128.size a ≤ S256x512.size a) (r : Fin 256) (e : Fin 128) :
    k0_pay1 (F := Ideal)
      (arg12.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).2 ++ [⟨Rect.unit ![0, 0, 0] S4x128x256.size inb_S4x128x256_S4x128x256_0_0_0, k0_pay390 (F := Ideal)⟩]) (sl3 128 256 g))
      (arg11.view.readCov ((pb_k0_t1 (F := Ideal) Variants.none c none i arg3 harg3 arg4 harg4 arg5 harg5 arg6 harg6 arg7 harg7 arg8 harg8 arg9 harg9 arg10 harg10 arg11 harg11 arg12 harg12 v32 cst (harg3.unread x0) (harg5.unread x2) (harg6.unread x3) (qbuf arg4 arg9 (harg4.unread x1)) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t1_loop.lb k0_t1_loop.ub k0_t1_loop.st)).1 ++ [⟨Rect.unit ![0, 0, 0] S4x8x256.size inb_S4x8x256_S4x8x256_0_0_0, k0_pay391 (F := Ideal)⟩]) (sl3 8 256 g)) (arg7.view.readAt (Elt Ideal) (Rect.unit (s := S256x512) ![0, o] S256x128.size inb).toLoadRect (harg7.unread x4)) (ix2 r e)
      = blk x3 x4 X1 X2 ((Rect.unit (s := S256x512) ![0, o] S256x128.size inb).emb (ix2 r e)) := by
  refine (headB c i arg3 harg3 arg4 harg4 arg5 harg5 arg6 harg6 arg7 harg7 arg8 harg8 arg9 harg9 arg10 harg10 arg11 harg11 arg12 harg12 x0 x1 x2 x3 X1 X2 M h0 h1 h2 v32 cst g r e _).trans ?_
  rw [rd4 arg7 harg7 x4 g o ho inb r e, emb_eq g o ho inb r e, blk_apply]

theorem pieceO (h1 : ∀ y, x1 y = (X1 y : EReal)) (h2 : ∀ y, x2 y = (X2 y : EReal))
    (v32 : FVec Ideal S256x128 .f32) (cst : Ideal .f32) (g : Fin 4) (o : ℕ) (ho : o = g.val * 128)
    (inb : ∀ a, (![0, o] : Fin 2 → ℕ) a + S256x128.size a ≤ S256x512.size a) (r : Fin 256) (e : Fin 128) :
    k0_pay1 (F := Ideal)
      (arg12.view.readCov ((pb_k0_t2 (F := Ideal) Variants.none c none i arg3 harg3 arg4 harg4 arg5 harg5 arg6 harg6 arg7 harg7 arg8 harg8 arg9 harg9 arg10 harg10 arg11 harg11 arg12 harg12 v32 cst (harg5.unread x2) (harg6.unread x3) (qbuf arg4 arg9 (harg4.unread x1)) (arg10.view.writes (Elt Ideal) arg10.view.junk [⟨Rect.unit ![0, 0, 0] S4x1x256.size inb_S4x1x256_S4x1x256_0_0_0, k0_pay395 (F := Ideal)⟩]) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t2_loop.lb k0_t2_loop.ub k0_t2_loop.st)).2.2 ++ [⟨Rect.unit ![0, 0, 0] S4x128x256.size inb_S4x128x256_S4x128x256_0_0_0, k0_pay390 (F := Ideal)⟩]) (sl3 128 256 g))
      (arg11.view.readCov ((pb_k0_t2 (F := Ideal) Variants.none c none i arg3 harg3 arg4 harg4 arg5 harg5 arg6 harg6 arg7 harg7 arg8 harg8 arg9 harg9 arg10 harg10 arg11 harg11 arg12 harg12 v32 cst (harg5.unread x2) (harg6.unread x3) (qbuf arg4 arg9 (harg4.unread x1)) (arg10.view.writes (Elt Ideal) arg10.view.junk [⟨Rect.unit ![0, 0, 0] S4x1x256.size inb_S4x1x256_S4x1x256_0_0_0, k0_pay395 (F := Ideal)⟩]) (arg11.view.writes (Elt Ideal) arg11.view.junk [⟨Rect.unit ![0, 0, 0] S4x8x256.size inb_S4x8x256_S4x8x256_0_0_0, k0_pay391 (F := Ideal)⟩]) (arg12.view.writes (Elt Ideal) arg12.view.junk [⟨Rect.unit ![0, 0, 0] S4x128x256.size inb_S4x128x256_S4x128x256_0_0_0, k0_pay390 (F := Ideal)⟩]) (Scf.trips k0_t2_loop.lb k0_t2_loop.ub k0_t2_loop.st)).2.1 ++ [⟨Rect.unit ![0, 0, 0] S4x8x256.size inb_S4x8x256_S4x8x256_0_0_0, k0_pay391 (F := Ideal)⟩]) (sl3 8 256 g)) (arg7.view.readAt (Elt Ideal) (Rect.unit (s := S256x512) ![0, o] S256x128.size inb).toLoadRect (harg7.unread x4)) (ix2 r e)
      = blk x3 x4 X1 X2 ((Rect.unit (s := S256x512) ![0, o] S256x128.size inb).emb (ix2 r e)) := by
  refine (headO c i arg3 harg3 arg4 harg4 arg5 harg5 arg6 harg6 arg7 harg7 arg8 harg8 arg9 harg9 arg10 harg10 arg11 harg11 arg12 harg12 x1 x2 x3 X1 X2 h1 h2 v32 cst g r e _).trans ?_
  rw [rd4 arg7 harg7 x4 g o ho inb r e, emb_eq g o ho inb r e, blk_apply]

theorem outB_eq (hB : isBounded (flag x0)) (hO : ¬ isOnline (flag x0)) (M : ℝ) (h0 : x0 (ix1 0) = (M : EReal)) (h1 : ∀ y, x1 y = (X1 y : EReal)) (h2 : ∀ y, x2 y = (X2 y : EReal)) (y : S256x512.Idx) :
    outB (F := Ideal) c i arg3 harg3 arg4 harg4 arg5 harg5 arg6 harg6 arg7 harg7 arg8 harg8 arg9 harg9 arg10 harg10 arg11 harg11 arg12 harg12 x0 x1 x2 x3 x4 hB hO y = blk x3 x4 X1 X2 y := by
  unfold outB
  rw [View.read_writes_junk_eq_canon]
  refine View.canon_apply_of_pieces (Val := Elt Ideal) (blk x3 x4 X1 X2) _ ?_ y (coverB c i arg3 harg3 arg4 harg4 arg5 harg5 arg6 harg6 arg7 harg7 arg8 harg8 arg9 harg9 arg10 harg10 arg11 harg11 arg12 harg12 x0 x1 x2 x3 x4 hB hO y)
  refine List.forall_mem_cons.2 ⟨fun x => ?_, List.forall_mem_cons.2 ⟨fun x => ?_, List.forall_mem_cons.2 ⟨fun x => ?_, List.forall_mem_cons.2 ⟨fun x => ?_, fun p hp => absurd hp (List.not_mem_nil)⟩⟩⟩⟩
  · obtain ⟨r, e, rfl⟩ := ix_ex x
    exact pieceB c i arg3 harg3 arg4 harg4 arg5 harg5 arg6 harg6 arg7 harg7 arg8 harg8 arg9 harg9 arg10 harg10 arg11 harg11 arg12 harg12 x0 x1 x2 x3 x4 X1 X2 M h0 h1 h2 _ _ 3 384 rfl inb_S256x512_S256x128_0_384 r e
  · obtain ⟨r, e, rfl⟩ := ix_ex x
    exact pieceB c i arg3 harg3 arg4 harg4 arg5 harg5 arg6 harg6 arg7 harg7 arg8 harg8 arg9 harg9 arg10 harg10 arg11 harg11 arg12 harg12 x0 x1 x2 x3 x4 X1 X2 M h0 h1 h2 _ _ 2 256 rfl inb_S256x512_S256x128_0_256 r e
  · obtain ⟨r, e, rfl⟩ := ix_ex x
    exact pieceB c i arg3 harg3 arg4 harg4 arg5 harg5 arg6 harg6 arg7 harg7 arg8 harg8 arg9 harg9 arg10 harg10 arg11 harg11 arg12 harg12 x0 x1 x2 x3 x4 X1 X2 M h0 h1 h2 _ _ 1 128 rfl inb_S256x512_S256x128_0_128 r e
  · obtain ⟨r, e, rfl⟩ := ix_ex x
    exact pieceB c i arg3 harg3 arg4 harg4 arg5 harg5 arg6 harg6 arg7 harg7 arg8 harg8 arg9 harg9 arg10 harg10 arg11 harg11 arg12 harg12 x0 x1 x2 x3 x4 X1 X2 M h0 h1 h2 _ _ 0 0 rfl inb_S256x512_S256x128_0_0 r e

theorem outO_eq (hB : ¬ isBounded (flag x0)) (hO : isOnline (flag x0)) (h1 : ∀ y, x1 y = (X1 y : EReal)) (h2 : ∀ y, x2 y = (X2 y : EReal)) (y : S256x512.Idx) :
    outO (F := Ideal) c i arg3 harg3 arg4 harg4 arg5 harg5 arg6 harg6 arg7 harg7 arg8 harg8 arg9 harg9 arg10 harg10 arg11 harg11 arg12 harg12 x0 x1 x2 x3 x4 hB hO y = blk x3 x4 X1 X2 y := by
  unfold outO
  rw [View.read_writes_junk_eq_canon]
  refine View.canon_apply_of_pieces (Val := Elt Ideal) (blk x3 x4 X1 X2) _ ?_ y (coverO c i arg3 harg3 arg4 harg4 arg5 harg5 arg6 harg6 arg7 harg7 arg8 harg8 arg9 harg9 arg10 harg10 arg11 harg11 arg12 harg12 x0 x1 x2 x3 x4 hB hO y)
  refine List.forall_mem_cons.2 ⟨fun x => ?_, List.forall_mem_cons.2 ⟨fun x => ?_, List.forall_mem_cons.2 ⟨fun x => ?_, List.forall_mem_cons.2 ⟨fun x => ?_, fun p hp => absurd hp (List.not_mem_nil)⟩⟩⟩⟩
  · obtain ⟨r, e, rfl⟩ := ix_ex x
    exact pieceO c i arg3 harg3 arg4 harg4 arg5 harg5 arg6 harg6 arg7 harg7 arg8 harg8 arg9 harg9 arg10 harg10 arg11 harg11 arg12 harg12 x1 x2 x3 x4 X1 X2 h1 h2 _ _ 3 384 rfl inb_S256x512_S256x128_0_384 r e
  · obtain ⟨r, e, rfl⟩ := ix_ex x
    exact pieceO c i arg3 harg3 arg4 harg4 arg5 harg5 arg6 harg6 arg7 harg7 arg8 harg8 arg9 harg9 arg10 harg10 arg11 harg11 arg12 harg12 x1 x2 x3 x4 X1 X2 h1 h2 _ _ 2 256 rfl inb_S256x512_S256x128_0_256 r e
  · obtain ⟨r, e, rfl⟩ := ix_ex x
    exact pieceO c i arg3 harg3 arg4 harg4 arg5 harg5 arg6 harg6 arg7 harg7 arg8 harg8 arg9 harg9 arg10 harg10 arg11 harg11 arg12 harg12 x1 x2 x3 x4 X1 X2 h1 h2 _ _ 1 128 rfl inb_S256x512_S256x128_0_128 r e
  · obtain ⟨r, e, rfl⟩ := ix_ex x
    exact pieceO c i arg3 harg3 arg4 harg4 arg5 harg5 arg6 harg6 arg7 harg7 arg8 harg8 arg9 harg9 arg10 harg10 arg11 harg11 arg12 harg12 x1 x2 x3 x4 X1 X2 h1 h2 _ _ 0 0 rfl inb_S256x512_S256x128_0_0 r e

end block

end Cert.KernelIdeal.Hand

end
-- ==== Proof.Host.lean ====
/-
  What the region finds in the arrays it is called on: the casts of the queries, the keys and the gate, the values laid
  out with the keys last, and the pair of the bound on the scores and whether it is at most 50.
-/
module

public import proofs.«01_k».proof.Proof.Body
public import Idealize.ShloMosaic.Lib.Pipeline.Value
public import Idealize.ShloMosaic.Lib.StableHlo.Run

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic Idealize.ShloMosaic.StableHlo

variable (m : (ℓ : Loc nD τ sig) → Buf (Elt Ideal) ℓ)

theorem V_q (c : Dev nD) : (V m c main_v17 : S16384x1024.Idx → EReal) = (m ((c : Thread nD τ).loc main_arg2) : S16384x1024.Idx → EReal) := by
  show after hostOps0 _ (Proc.devRef .tc main_v17) = _
  unfold hostOps0
  after_results
  rfl

theorem V_k (c : Dev nD) : (V m c main_v18 : S16384x256.Idx → EReal) = (m ((c : Thread nD τ).loc main_arg3) : S16384x256.Idx → EReal) := by
  show after hostOps0 _ (Proc.devRef .tc main_v18) = _
  unfold hostOps0
  after_results
  rfl

theorem V_g (c : Dev nD) : (V m c main_v20 : S16384x1024.Idx → EReal) = (m ((c : Thread nD τ).loc main_arg5) : S16384x1024.Idx → EReal) := by
  show after hostOps0 _ (Proc.devRef .tc main_v20) = _
  unfold hostOps0
  after_results
  rfl

/-- The values with the keys last. -/
def vlast (v : Vec Ideal S16384x256 .f32) : Vec Ideal S4x128x8192 .f32 :=
  shapeCast S4x128x8192 (transpose S2x2x128x8192 [0, 2, 3, 1] (shapeCast S2x8192x2x128 v shapeCasts_S16384x256_S2x8192x2x128)
    transposes_S2x8192x2x128_S2x2x128x8192_0_2_3_1) shapeCasts_S2x2x128x8192_S4x128x8192

theorem V_v (c : Dev nD) : (V m c main_v19 : S4x128x8192.Idx → EReal) = vlast (m ((c : Thread nD τ).loc main_arg4)) := by
  show after hostOps0 _ (Proc.devRef .tc main_v19) = _
  unfold hostOps0
  after_results
  rfl

/-- The bound on the scores. -/
def bound (g1 g2 : Vec Ideal S1x128 .f32) : Vec Ideal S_ .f32 :=
  mulf (mulf (mulf (constant S_ .f32 0x43000000#32)
      (Host.reduce FloatOps.maximumf (Host.absf (mulf g1 (broadcastInDim S1x128 ![] bcast_S_S1x128 (constant (F := Ideal) S_ .f32 0x3E0293EE#32))))
        (constant S_ .f32 0xFF800000#32) reducesTo_S1x128_S_d0_1 h_S_))
      (Host.reduce FloatOps.maximumf (Host.absf g2) (constant S_ .f32 0xFF800000#32) reducesTo_S1x128_S_d0_1 h_S_))
    (constant S_ .f32 0x3F828F5C#32)

theorem V_s (c : Dev nD) : (V m c main_v16 : S2.Idx → EReal)
    = concatenate S2 0 [⟨S1, broadcastInDim S1 ![] bcast_S_S1 (bound (m ((c : Thread nD τ).loc main_arg0)) (m ((c : Thread nD τ).loc main_arg1)))⟩,
        ⟨S1, broadcastInDim S1 ![] bcast_S_S1 (uitofp (F := Ideal) .f32 (cmpf (F := Ideal) (φ := .f32) .ole
          (bound (m ((c : Thread nD τ).loc main_arg0)) (m ((c : Thread nD τ).loc main_arg1))) (constant S_ .f32 0x42480000#32)))⟩] concatenates_S1_S1_S2_d0 := by
  show after hostOps0 _ (Proc.devRef .tc main_v16) = _
  unfold hostOps0
  after_results
  rfl

theorem vlast_apply (v : Vec Ideal S16384x256 .f32) (b : Fin 2) (k : Fin 2) (d : Fin 128) (n : Fin 8192) :
    vlast v (ix3 ⟨b.val * 2 + k.val, by omega⟩ d n) = v (ix2 ⟨b.val * 8192 + n.val, by omega⟩ ⟨k.val * 128 + d.val, by omega⟩) := by
  pointwise [vlast]

section idx
theorem ix1_0 : ∀ t : Fin grid0.N, cc0_transform_1 (grid0.coords t) 0 = t.val / 64 * 32 + t.val % 32 := by decide +kernel
theorem ix1_1 : ∀ t : Fin grid0.N, cc0_transform_1 (grid0.coords t) 1 = t.val / 32 % 2 := by decide +kernel
theorem ix2_0 : ∀ t : Fin grid0.N, cc0_transform_2 (grid0.coords t) 0 = t.val / 64 := by decide +kernel
theorem ix2_1 : ∀ t : Fin grid0.N, cc0_transform_2 (grid0.coords t) 1 = t.val / 32 % 2 := by decide +kernel
theorem ix3_0 : ∀ t : Fin grid0.N, cc0_transform_3 (grid0.coords t) 0 = t.val / 64 * 2 + t.val / 32 % 2 := by decide +kernel
theorem ix4_0 : ∀ t : Fin grid0.N, cc0_transform_4 (grid0.coords t) 0 = t.val / 64 * 32 + t.val % 32 := by decide +kernel
theorem ix4_1 : ∀ t : Fin grid0.N, cc0_transform_4 (grid0.coords t) 1 = t.val / 32 % 2 := by decide +kernel
theorem ix5_0 : ∀ t : Fin grid0.N, cc0_transform_5 (grid0.coords t) 0 = t.val / 64 * 32 + t.val % 32 := by decide +kernel
theorem ix5_1 : ∀ t : Fin grid0.N, cc0_transform_5 (grid0.coords t) 1 = t.val / 32 % 2 := by decide +kernel
end idx

theorem tlt (t : Fin cfg0.N) : t.val < 128 := lt_of_lt_of_eq t.isLt (by decide +kernel)

variable (c : Dev nD) (t : Fin cfg0.N)

/-- The array's row and column of a block's row and column. -/
abbrev rowq (t : Fin cfg0.N) (r : Fin 256) : Fin 16384 := ⟨(t.val / 64 * 32 + t.val % 32) * 256 + r.val, by have := tlt t; omega⟩
abbrev colq (t : Fin cfg0.N) (j : Fin 512) : Fin 1024 := ⟨t.val / 32 % 2 * 512 + j.val, by omega⟩

theorem blk1 (r : Fin 256) (j : Fin 512) :
    (iblk m c 1 t : S256x512.Idx → EReal) (ix2 r j) = (m ((c : Thread nD τ).loc main_arg2) : S16384x1024.Idx → EReal) (ix2 (rowq t r) (colq t j)) := by
  rw [← V_q m c]
  show (V m c main_v17 : S16384x1024.Idx → EReal) _ = _
  congr 1
  funext a
  refine Fin.ext ?_
  match a with
  | ⟨0, _⟩ => show cc0_transform_1 (grid0.coords t) 0 * 256 + 1 * r.val = _; rw [ix1_0, Nat.one_mul]; rfl
  | ⟨1, _⟩ => show cc0_transform_1 (grid0.coords t) 1 * 512 + 1 * j.val = _; rw [ix1_1, Nat.one_mul]; rfl

theorem blk4 (r : Fin 256) (j : Fin 512) :
    (iblk m c 4 t : S256x512.Idx → EReal) (ix2 r j) = (m ((c : Thread nD τ).loc main_arg5) : S16384x1024.Idx → EReal) (ix2 (rowq t r) (colq t j)) := by
  rw [← V_g m c]
  show (V m c main_v20 : S16384x1024.Idx → EReal) _ = _
  congr 1
  funext a
  refine Fin.ext ?_
  match a with
  | ⟨0, _⟩ => show cc0_transform_4 (grid0.coords t) 0 * 256 + 1 * r.val = _; rw [ix4_0, Nat.one_mul]; rfl
  | ⟨1, _⟩ => show cc0_transform_4 (grid0.coords t) 1 * 512 + 1 * j.val = _; rw [ix4_1, Nat.one_mul]; rfl

theorem blk2 (n : Fin 8192) (d : Fin 128) :
    (iblk m c 2 t : S8192x128.Idx → EReal) (ix2 n d) = (m ((c : Thread nD τ).loc main_arg3) : S16384x256.Idx → EReal)
      (ix2 ⟨t.val / 64 * 8192 + n.val, by have := tlt t; omega⟩ ⟨t.val / 32 % 2 * 128 + d.val, by omega⟩) := by
  rw [← V_k m c]
  show (V m c main_v18 : S16384x256.Idx → EReal) _ = _
  congr 1
  funext a
  refine Fin.ext ?_
  match a with
  | ⟨0, _⟩ => show cc0_transform_2 (grid0.coords t) 0 * 8192 + 1 * n.val = _; rw [ix2_0, Nat.one_mul]; rfl
  | ⟨1, _⟩ => show cc0_transform_2 (grid0.coords t) 1 * 128 + 1 * d.val = _; rw [ix2_1, Nat.one_mul]; rfl

theorem blk3 (d : Fin 128) (n : Fin 8192) :
    (iblk m c 3 t : S1x128x8192.Idx → EReal) (ix3 0 d n) = (m ((c : Thread nD τ).loc main_arg4) : S16384x256.Idx → EReal)
      (ix2 ⟨t.val / 64 * 8192 + n.val, by have := tlt t; omega⟩ ⟨t.val / 32 % 2 * 128 + d.val, by omega⟩) := by
  have h := tlt t
  refine Eq.trans ?_ (vlast_apply (m ((c : Thread nD τ).loc main_arg4)) ⟨t.val / 64, by omega⟩ ⟨t.val / 32 % 2, by omega⟩ d n)
  rw [← V_v m c]
  show (V m c main_v19 : S4x128x8192.Idx → EReal) _ = _
  congr 1
  funext a
  refine Fin.ext ?_
  match a with
  | ⟨0, _⟩ => show cc0_transform_3 (grid0.coords t) 0 * 1 + 1 * 0 = t.val / 64 * 2 + t.val / 32 % 2; rw [ix3_0]; omega
  | ⟨1, _⟩ => show 0 * 128 + 1 * d.val = _; rw [Nat.zero_mul, Nat.zero_add, Nat.one_mul]; rfl
  | ⟨2, _⟩ => show 0 * 8192 + 1 * n.val = _; rw [Nat.zero_mul, Nat.zero_add, Nat.one_mul]; rfl

end Cert.KernelIdeal.Hand

end
-- ==== Proof.Finite.lean ====
/-
  The bound on the scores is a real number whenever the branch of the fixed shift is taken, and the precondition's words
  read: every query and every key is a real number.
-/
module

public import proofs.«01_k».proof.Proof.Host
public import proofs.«01_k».proof.Pre_finite_qk
public import Idealize.ShloMosaic.Lib.ReduceAll
public import Idealize.ShloMosaic.Lib.IdealHost

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic

theorem abs_nonneg_ereal (x : EReal) : 0 ≤ max x (-x) := by
  rcases le_total 0 x with h | h
  · exact le_max_of_le_left h
  · exact le_max_of_le_right (EReal.neg_nonneg.2 h)

theorem real_of_abs_lt (x : EReal) (h : max x (-x) < ⊤) : ∃ r : ℝ, x = (r : EReal) := by
  have h1 : x ≠ ⊤ := fun e => by rw [e] at h; exact absurd (lt_of_le_of_lt (le_max_left _ _) h) (lt_irrefl _)
  have h2 : x ≠ ⊥ := fun e => by rw [e, EReal.neg_bot] at h; exact absurd (lt_of_le_of_lt (le_max_right _ _) h) (lt_irrefl _)
  exact ⟨x.toReal, (EReal.coe_toReal h1 h2).symm⟩

theorem posInf : Ideal.ofBits .f32 0x7F800000#32 = ⊤ := by
  simp [Ideal.ofBits, Ideal.ieee, -EReal.coe_mul]

theorem maxabs_nonneg (x : FVec Ideal S1x128 .f32) (j : S_.Idx) :
    (0 : EReal) ≤ Host.reduce FloatOps.maximumf (Host.absf x) (constant (F := Ideal) S_ .f32 0xFF800000#32) reducesTo_S1x128_S_d0_1 h_S_ j := by
  rw [Host.reduce_eq_fold]
  refine (Finset.le_fold_max (β := EReal) 0).2 (Or.inr ⟨ix2 0 0, Finset.mem_filter.2 ⟨Finset.mem_univ _, Subsingleton.elim _ _⟩, ?_⟩)
  exact abs_nonneg_ereal _

theorem bound_nonneg (g1 g2 : Vec Ideal S1x128 .f32) (j : S_.Idx) : (0 : EReal) ≤ bound g1 g2 j := by
  have h1 : (0 : EReal) ≤ Ideal.ofBits .f32 0x43000000#32 := by
    simp [Ideal.ofBits, Ideal.ieee, -EReal.coe_mul]
  have h2 : (0 : EReal) ≤ Ideal.ofBits .f32 0x3F828F5C#32 := by
    simp [Ideal.ofBits, Ideal.ieee, -EReal.coe_mul]
  exact mul_nonneg (mul_nonneg (mul_nonneg h1 (maxabs_nonneg _ _)) (maxabs_nonneg _ _)) h2

variable (m : (ℓ : Loc nD τ sig) → Buf (Elt Ideal) ℓ) (c : Dev nD) (t : Fin cfg0.N)

theorem blk0 (n : Fin 2) : (iblk m c 0 t : S2.Idx → EReal) (ix1 n) = (V m c main_v16 : S2.Idx → EReal) (ix1 n) := by
  show (V m c main_v16 : S2.Idx → EReal) _ = _
  congr 1
  funext a
  refine Fin.ext ?_
  match a with
  | ⟨0, _⟩ => show 0 * 2 + 1 * n.val = n.val; omega

theorem shift_real (hB : isBounded (F := Ideal) (flag (iblk m c 0 t))) : ∃ M : ℝ, (iblk m c 0 t : S2.Idx → EReal) (ix1 0) = (M : EReal) := by
  have e0 : (iblk m c 0 t : S2.Idx → EReal) (ix1 0) = bound (m ((c : Thread nD τ).loc main_arg0)) (m ((c : Thread nD τ).loc main_arg1)) ix0 := by
    rw [blk0, V_s]
    pointwise []
  have e1 : (flag (iblk m c 0 t) : EReal) = uitofp (F := Ideal) .f32 (cmpf (F := Ideal) (φ := .f32) .ole
          (bound (m ((c : Thread nD τ).loc main_arg0)) (m ((c : Thread nD τ).loc main_arg1))) (constant S_ .f32 0x42480000#32)) ix0 := by
    have : (flag (iblk m c 0 t) : EReal) = (iblk m c 0 t : S2.Idx → EReal) (ix1 1) := by
      show (iblk m c 0 t : S2.Idx → EReal) _ = _
      congr 1
      funext a
      match a with
      | ⟨0, _⟩ => exact Fin.ext rfl
    rw [this, blk0, V_s]
    pointwise []
  have hb0 : (0 : EReal) ≤ bound (m ((c : Thread nD τ).loc main_arg0)) (m ((c : Thread nD τ).loc main_arg1)) ix0 := bound_nonneg _ _ _
  generalize bound (m ((c : Thread nD τ).loc main_arg0)) (m ((c : Thread nD τ).loc main_arg1)) = B at e0 e1 hb0
  have key : (B ix0 : EReal) ≤ Ideal.ofBits .f32 0x42480000#32 := by
    by_contra hn
    have hz : (flag (iblk m c 0 t) : EReal) = 0 := by
      rw [e1]
      show (((BitVec.ofBool (decide ((B ix0 : EReal) ≤ Ideal.ofBits .f32 0x42480000#32))).toNat : ℝ) : EReal) = 0
      rw [decide_eq_false hn]
      simp
    rw [hz] at hB
    have hlt : ¬ (Ideal.ofBits .f32 0x3F000000#32 < (0 : EReal)) := by
      refine not_lt.2 ?_
      simp [Ideal.ofBits, Ideal.ieee, -EReal.coe_mul]
    have hh : Scalar.cmpi .ne (Scalar.extui (BitVec.ofBool (decide (Ideal.ofBits .f32 0x3F000000#32 < (0 : EReal))))) 0#32 = 1#1 := hB
    rw [decide_eq_false hlt] at hh
    exact absurd hh (by decide)
  have htop : (B ix0 : EReal) ≠ ⊤ := fun e => by
    rw [e] at key
    simp [Ideal.ofBits, Ideal.ieee, -EReal.coe_mul] at key
  have hbot : (B ix0 : EReal) ≠ ⊥ := fun e => by
    rw [e] at hb0
    exact absurd hb0 (by simp)
  exact ⟨(B ix0 : EReal).toReal, e0.trans (EReal.coe_toReal htop hbot).symm⟩

end Cert.KernelIdeal.Hand

namespace Cert.Pre_finite_qk

open Idealize.ShloMosaic Cert.KernelIdeal.Hand

variable [Facts]

theorem reals (g1 g2 : FVec Ideal S1x128 .f32) (q : FVec Ideal S16384x1024 .f32) (k : FVec Ideal S16384x256 .f32)
    (v : FVec Ideal S16384x256 .f32) (g : FVec Ideal S16384x1024 .f32) (h : fn (F := Ideal) g1 g2 q k v g = fun _ => 1#1) :
    (∀ i, ∃ r : ℝ, q i = (r : EReal)) ∧ (∀ i, ∃ r : ℝ, k i = (r : EReal)) := by
  have h0 := congrFun h (fun a => a.elim0)
  dsimp only [fn] at h0
  have h1 := IntOp.andi_eq_one.1 h0
  refine ⟨fun i => ?_, fun i => ?_⟩
  · have h2 := Host.reduce_andi_all _ _ _ _ _ h1.1 i
    refine real_of_abs_lt _ ?_
    have h3 : BitVec.ofBool (decide (max (q i : EReal) (-(q i)) < Ideal.ofBits .f32 0x7F800000#32)) = 1#1 := h2
    rw [posInf] at h3
    by_contra hn
    rw [decide_eq_false hn] at h3
    exact absurd h3 (by decide)
  · have h2 := Host.reduce_andi_all _ _ _ _ _ h1.2 i
    refine real_of_abs_lt _ ?_
    have h3 : BitVec.ofBool (decide (max (k i : EReal) (-(k i)) < Ideal.ofBits .f32 0x7F800000#32)) = 1#1 := h2
    rw [posInf] at h3
    by_contra hn
    rw [decide_eq_false hn] at h3
    exact absurd h3 (by decide)

end Cert.Pre_finite_qk

end
-- ==== Proof.Array.lean ====
/-
  The kernel's result array. Each grid point writes one block; the blocks tile the array; and each of them is the block of
  one function of the arguments: the mean of a head's values under the weights of its scores, times the gate.
-/
module

public import proofs.«01_k».proof.Proof.Body
public import proofs.«01_k».proof.Proof.Finite
public import Idealize.ShloMosaic.Lib.Pipeline.Value

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic Idealize.SL.Sem
open Idealize.ShloMosaic.Pipeline (Dat)

/-- The score of the query at row `i 0` and the head of column `i 1` with the `n`-th key of its sequence. -/
def score (Q : S16384x1024.Idx → ℝ) (K : S16384x256.Idx → ℝ) (a : Fin 16384) (b : Fin 1024) (n : ℕ) : ℝ :=
  if h : n < 8192 then ∑ d : Fin 128, K (ix2 ⟨a.val / 8192 * 8192 + n, by omega⟩ ⟨b.val / 512 * 128 + d.val, by omega⟩)
      * Q (ix2 a ⟨b.val / 128 * 128 + d.val, by omega⟩) else 0

/-- The value the `n`-th key of its sequence carries for column `b`. -/
def carried (v : S16384x256.Idx → EReal) (a : Fin 16384) (b : Fin 1024) (n : ℕ) : EReal :=
  if h : n < 8192 then v (ix2 ⟨a.val / 8192 * 8192 + n, by omega⟩ ⟨b.val / 512 * 128 + b.val % 128, by omega⟩) else 0

/-- The attention's result at row `a` and column `b`. -/
def att (Q : S16384x1024.Idx → ℝ) (K : S16384x256.Idx → ℝ) (v : S16384x256.Idx → EReal) (g : S16384x1024.Idx → EReal) : S16384x1024.Idx → EReal :=
  fun i => mean (score Q K (i 0) (i 1)) (carried v (i 0) (i 1)) 8192 * g i

variable (m : (ℓ : Loc nD τ sig) → Buf (Elt Ideal) ℓ) (ρ : Dev nD → PrngReg) (c : Dev nD)
variable (Q : S16384x1024.Idx → ℝ) (K : S16384x256.Idx → ℝ)

/-- What the arguments on device `c` make of it. -/
abbrev attOf (Q : S16384x1024.Idx → ℝ) (K : S16384x256.Idx → ℝ) : Buf (Elt Ideal) ((c : Thread nD τ).loc main_v21) :=
  att Q K (m ((c : Thread nD τ).loc main_arg4)) (m ((c : Thread nD τ).loc main_arg5))

theorem ix_exb (x : S256x512.Idx) : ∃ (r : Fin 256) (e : Fin 512), x = ix2 r e := by
  idx_vars x
  exact ⟨_, _, rfl⟩

theorem ix_exk (x : S8192x128.Idx) : ∃ (r : Fin 8192) (e : Fin 128), x = ix2 r e := by
  idx_vars x
  exact ⟨_, _, rfl⟩

section Point
variable (hQ : ∀ i, (m ((c : Thread nD τ).loc main_arg2) : S16384x1024.Idx → EReal) i = (Q i : EReal))
variable (hK : ∀ i, (m ((c : Thread nD τ).loc main_arg3) : S16384x256.Idx → EReal) i = (K i : EReal))
variable (t : Fin cfg0.N)

abbrev X1 (Q : S16384x1024.Idx → ℝ) (t : Fin cfg0.N) : S256x512.Idx → ℝ := fun y => Q (ix2 (rowq t (y 0)) (colq t (y 1)))
abbrev X2 (K : S16384x256.Idx → ℝ) (t : Fin cfg0.N) : S8192x128.Idx → ℝ := fun y =>
  K (ix2 ⟨t.val / 64 * 8192 + (y 0).val, by have := tlt t; have : (y 0).val < 8192 := (y 0).isLt; omega⟩
    ⟨t.val / 32 % 2 * 128 + (y 1).val, by have : (y 1).val < 128 := (y 1).isLt; omega⟩)

theorem tt_eq (g : Fin 4) (r : Fin 256) (e : Fin 128) : tt (X1 Q t) (X2 K t) g r = score Q K (rowq t r) (colq t (col g e)) := by
  have h := tlt t
  funext n
  unfold tt score
  by_cases hn : n < 8192
  · rw [dif_pos hn, dif_pos hn]
    refine Finset.sum_congr rfl fun d _ => ?_
    refine congrArg₂ (· * ·) (congrArg K (congrArg₂ ix2 (Fin.ext ?_) (Fin.ext ?_))) (congrArg Q (congrArg₂ ix2 rfl (Fin.ext ?_)))
    · show t.val / 64 * 8192 + n = ((t.val / 64 * 32 + t.val % 32) * 256 + r.val) / 8192 * 8192 + n
      omega
    · show t.val / 32 % 2 * 128 + d.val = (t.val / 32 % 2 * 512 + (g.val * 128 + e.val)) / 512 * 128 + d.val
      omega
    · show t.val / 32 % 2 * 512 + (g.val * 128 + d.val) = (t.val / 32 % 2 * 512 + (g.val * 128 + e.val)) / 128 * 128 + d.val
      omega
  · rw [dif_neg hn, dif_neg hn]

theorem val_eq (g : Fin 4) (r : Fin 256) (e : Fin 128) :
    val (iblk m c 3 t) e = carried (m ((c : Thread nD τ).loc main_arg4)) (rowq t r) (colq t (col g e)) := by
  have h := tlt t
  funext n
  unfold val carried
  by_cases hn : n < 8192
  · rw [dif_pos hn, dif_pos hn, blk3]
    refine congrArg (m ((c : Thread nD τ).loc main_arg4) : S16384x256.Idx → EReal) (congrArg₂ ix2 (Fin.ext ?_) (Fin.ext ?_))
    · show t.val / 64 * 8192 + n = ((t.val / 64 * 32 + t.val % 32) * 256 + r.val) / 8192 * 8192 + n
      omega
    · show t.val / 32 % 2 * 128 + e.val = (t.val / 32 % 2 * 512 + (g.val * 128 + e.val)) / 512 * 128 + (t.val / 32 % 2 * 512 + (g.val * 128 + e.val)) % 128
      omega
  · rw [dif_neg hn, dif_neg hn]

include hQ hK in
theorem outs_eq (y : S256x512.Idx) :
    (outsAt0 m c t : S256x512.Idx → EReal) y = blk (iblk m c 3 t) (iblk m c 4 t) (X1 Q t) (X2 K t) y := by
  have h1 : ∀ y : S256x512.Idx, (iblk m c 1 t : S256x512.Idx → EReal) y = ((X1 Q t y : ℝ) : EReal) := fun y => by
    obtain ⟨r, j, rfl⟩ := ix_exb y
    rw [blk1, hQ]; rfl
  have h2 : ∀ y : S8192x128.Idx, (iblk m c 2 t : S8192x128.Idx → EReal) y = ((X2 K t y : ℝ) : EReal) := fun y => by
    obtain ⟨r, j, rfl⟩ := ix_exk y
    rw [blk2, hK]; rfl
  unfold outsAt0
  split
  · next hB =>
    obtain ⟨M, hM⟩ := shift_real m c t hB
    exact outB_eq c _ _ _ _ _ _ _ _ _ _ _ _ _ _ _ _ _ _ _ _ _ _ _ _ _ _ _ _ _ _ M hM h1 h2 y
  · next hB =>
    exact outO_eq c _ _ _ _ _ _ _ _ _ _ _ _ _ _ _ _ _ _ _ _ _ _ _ _ _ _ _ _ _ _ h1 h2 y

include hQ hK in
theorem flushed_eq : (dats m 0 c).flushed 5 t = (win0_5.blk t).view.read (Elt Ideal) (attOf m c Q K) := by
  show (cfg0.win 5).cut (grid0.coords t) ((dats m 0 c).after 5 t) = _
  rw [after0_5]
  funext y
  obtain ⟨r, j, rfl⟩ : ∃ (r : Fin 256) (j : Fin 512), y = ix2 r j := ix_exb y
  obtain ⟨g, e, rfl⟩ : ∃ (g : Fin 4) (e : Fin 128), j = col g e :=
    ⟨⟨j.val / 128, by omega⟩, ⟨j.val % 128, by omega⟩, Fin.ext (show j.val = j.val / 128 * 128 + j.val % 128 by omega)⟩
  have hl : (outsAt0 m c t : S256x512.Idx → EReal) (ix2 r (col g e)) = att Q K (m ((c : Thread nD τ).loc main_arg4)) (m ((c : Thread nD τ).loc main_arg5)) (ix2 (rowq t r) (colq t (col g e))) := by
    rw [outs_eq m c Q K hQ hK, blk_apply, blk4, tt_eq Q K t g r e, val_eq m c t g r e]
    rfl
  refine Eq.trans (b := (outsAt0 m c t : S256x512.Idx → EReal) (ix2 r (col g e))) ?_ (hl.trans ?_)
  · show (outsAt0 m c t : S256x512.Idx → EReal) _ = _
    congr 1
  · show _ = att Q K (m ((c : Thread nD τ).loc main_arg4)) (m ((c : Thread nD τ).loc main_arg5)) _
    congr 1
    funext a
    refine Fin.ext ?_
    match a with
    | ⟨0, _⟩ => show _ = cc0_transform_5 (grid0.coords t) 0 * 256 + 1 * r.val; rw [ix5_0, Nat.one_mul]; rfl
    | ⟨1, _⟩ => show _ = cc0_transform_5 (grid0.coords t) 1 * 512 + 1 * (col g e).val; rw [ix5_1, Nat.one_mul]; rfl

end Point

theorem mem_blk (t : Fin cfg0.N) (i : S16384x1024.Idx) :
    i ∈ ((cfg0.win 5).blk t).view.set ↔ ((t.val / 64 * 32 + t.val % 32) * 256 ≤ (i 0 : Nat) ∧ (i 0 : Nat) < (t.val / 64 * 32 + t.val % 32) * 256 + 256)
      ∧ (t.val / 32 % 2 * 512 ≤ (i 1 : Nat) ∧ (i 1 : Nat) < t.val / 32 % 2 * 512 + 512) := by
  show i ∈ ((View.whole main_v21).slice (win0_5.rect t)).set ↔ _
  rw [View.set_slice_whole, Rect.mem_set_unit]
  have e0 : win0_5.index t 0 * win0_5.size 0 = (t.val / 64 * 32 + t.val % 32) * 256 := congrArg (· * 256) (ix5_0 t)
  have e1 : win0_5.index t 1 * win0_5.size 1 = t.val / 32 % 2 * 512 := congrArg (· * 512) (ix5_1 t)
  have x0 : win0_5.xsize (grid0.coords t) 0 = 256 := rfl
  have x1 : win0_5.xsize (grid0.coords t) 1 = 512 := rfl
  refine ⟨fun h => ⟨?_, ?_⟩, fun h a => ?_⟩
  · have : win0_5.index t 0 * win0_5.size 0 ≤ (i 0 : Nat) ∧ (i 0 : Nat) < win0_5.index t 0 * win0_5.size 0 + win0_5.xsize (grid0.coords t) 0 := h 0
    rw [e0, x0] at this; exact this
  · have : win0_5.index t 1 * win0_5.size 1 ≤ (i 1 : Nat) ∧ (i 1 : Nat) < win0_5.index t 1 * win0_5.size 1 + win0_5.xsize (grid0.coords t) 1 := h 1
    rw [e1, x1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e0, x0]; exact h.1
    | ⟨1, _⟩ => show win0_5.index t 1 * win0_5.size 1 ≤ (i 1 : Nat) ∧ (i 1 : Nat) < win0_5.index t 1 * win0_5.size 1 + win0_5.xsize (grid0.coords t) 1
                rw [e1, x1]; exact h.2

theorem cover (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 128 := by decide +kernel
  refine ⟨⟨(i 0 : Nat) / 8192 * 64 + (i 1 : Nat) / 512 * 32 + (i 0 : Nat) % 8192 / 256, by omega⟩, flush0_5 _, ?_⟩
  rw [mem_blk]
  dsimp only
  omega

theorem final (hQ : ∀ i, (m ((c : Thread nD τ).loc main_arg2) : S16384x1024.Idx → EReal) i = (Q i : EReal))
    (hK : ∀ i, (m ((c : Thread nD τ).loc main_arg3) : S16384x256.Idx → EReal) i = (K i : EReal)) :
    (dats m 0 c).arrAt 5 cfg0.N = attOf m c Q K :=
  (dats m 0 c).arrAt_eq_of_cover 5 (attOf m c Q K) (fun t _ => flushed_eq m c Q K hQ hK t) cover

/-- The run, read: the result array at the attention of the arguments, the arguments unchanged. -/
theorem run (Q : Dev nD → S16384x1024.Idx → ℝ) (K : Dev nD → S16384x256.Idx → ℝ)
    (hQ : ∀ (c : Dev nD) i, (m ((c : Thread nD τ).loc main_arg2) : S16384x1024.Idx → EReal) i = (Q c i : EReal))
    (hK : ∀ (c : Dev nD) i, (m ((c : Thread nD τ).loc main_arg3) : S16384x256.Idx → EReal) i = (K c i : EReal)) :
    θ_run defs (onTc (τ := τ) (main (F := Ideal))) ⟨m, fun _ => 0, ρ⟩ fun r => ∀ c : Dev nD,
      r.2.mem ((c.tc : Thread nD τ).loc main_v21) = attOf m c (Q c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final m c (Q c) (K c) (hQ c) (hK c)), h.2 c⟩)
    (θ_run_and (run_main m ρ) (unchanged m ρ))

end Cert.KernelIdeal.Hand

end
-- ==== Proof.Ref.lean ====
/-
  The reference's result: the same mean of the values, times the gate.
-/
module

public import proofs.«01_k».proof.Proof.Softmax
public import proofs.«01_k».proof.Proof.Gen.ReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.ReferenceIdeal.Hand

open Cert.ReferenceIdeal Cert.ReferenceIdeal.Gen Cert.Softmax
open Idealize.ShloMosaic Idealize.ShloMosaic.TcCoe Idealize.ShloMosaic.Tactic Idealize.SL.Sem

variable (q : FVec Ideal S16384x1024 .f32) (k : FVec Ideal S16384x256 .f32) (v : FVec Ideal S16384x256 .f32) (gt : FVec Ideal S16384x1024 .f32)

/-- The scores of each head's queries with its keys. -/
def sc : FVec Ideal S2x2x4x8192x8192 .f32 :=
  transpose S2x2x4x8192x8192 [0, 1, 4, 3, 2] (Host.dotGeneral (F := Ideal) dot_S2x8192x2x128_S2x8192x2x4x128_S2x2x8192x8192x4_3_4_1_13_02_02 none
    (shapeCast _ k shapeCasts_S16384x256_S2x8192x2x128) (shapeCast _ q shapeCasts_S16384x1024_S2x8192x2x4x128)) transposes_S2x2x8192x8192x4_S2x2x4x8192x8192_0_1_4_3_2

/-- Their greatest, per query. -/
def mx (s : FVec Ideal S2x2x4x8192x8192 .f32) : FVec Ideal S2x2x4x8192 .f32 :=
  maximumf (broadcastInDim S2x2x4x8192 ![] bcast_S_S2x2x4x8192 (constant S_ .f32 0xFF800000#32))
    (Host.reduce FloatOps.maximumf s (constant S_ .f32 0xFF800000#32) reducesTo_S2x2x4x8192x8192_S2x2x4x8192_d4 h_S_)

/-- A number per query, repeated along the keys. -/
def rep (x : FVec Ideal S2x2x4x8192 .f32) : FVec Ideal S2x2x4x8192x8192 .f32 :=
  broadcastInDim S2x2x4x8192x8192 ![0, 1, 2, 3, 4] bcast_S2x2x4x8192x1_S2x2x4x8192x8192_0_1_2_3_4
    (broadcastInDim S2x2x4x8192x1 ![0, 1, 2, 3] bcast_S2x2x4x8192_S2x2x4x8192x1_0_1_2_3 x)

/-- The exponentials, and their sums. -/
def ex (s : FVec Ideal S2x2x4x8192x8192 .f32) : FVec Ideal S2x2x4x8192x8192 .f32 := Host.exp (subf s (rep (mx s)))
def den (e : FVec Ideal S2x2x4x8192x8192 .f32) : FVec Ideal S2x2x4x8192 .f32 :=
  Host.reduceAdd e (constant S_ .f32 0x00000000#32) reducesTo_S2x2x4x8192x8192_S2x2x4x8192_d4 h_S_
def pr (e : FVec Ideal S2x2x4x8192x8192 .f32) : FVec Ideal S2x2x4x8192x8192 .f32 := Host.divf e (rep (den e))

/-- The weighted values, back in rows. -/
def wv (p : FVec Ideal S2x2x4x8192x8192 .f32) : FVec Ideal S16384x1024 .f32 :=
  shapeCast _ (transpose S2x8192x2x4x128 [0, 4, 1, 3, 2] (Host.dotGeneral (F := Ideal) dot_S2x8192x2x128_S2x2x4x8192x8192_S2x2x128x4x8192_1_4_3_23_02_01 none
    (shapeCast _ v shapeCasts_S16384x256_S2x8192x2x128) p) transposes_S2x2x128x4x8192_S2x8192x2x4x128_0_4_1_3_2) shapeCasts_S2x8192x2x4x128_S16384x1024

/-- The first product at an index. -/
theorem dot1_apply (l : FVec Ideal S2x8192x2x128 .f32) (r : FVec Ideal S2x8192x2x4x128 .f32) (b : Fin 2) (h : Fin 2) (s t : Fin 8192) (g : Fin 4) :
    (Host.dotGeneral (F := Ideal) dot_S2x8192x2x128_S2x8192x2x4x128_S2x2x8192x8192x4_3_4_1_13_02_02 none l r (ix5 b h s t g) : EReal)
      = ∑ d : Fin 128, (l (ix4 b s h d) : EReal) * r (ix5 b t h g d) := by
  let D := dot_S2x8192x2x128_S2x8192x2x4x128_S2x2x8192x8192x4_3_4_1_13_02_02
  have hr : D.contr.rank = 1 := rfl
  have hs : D.contr.size ⟨0, by omega⟩ = 128 := rfl
  simp only [Host.dotGeneral]
  rw [Ideal.dotGeneral_apply, ← Equiv.sum_comp (ValueIdx.contrEquiv1 D 128 hr hs).symm]
  refine Finset.sum_congr rfl fun d _ => ?_
  have h0 := ValueIdx.contrEquiv1_symm_val D 128 hr hs d
  refine congrArg₂ (· * ·) (congrArg l ?_) (congrArg r ?_)
  · funext a; apply Fin.ext
    match a with
    | ⟨0, _⟩ => rfl
    | ⟨1, _⟩ => rfl
    | ⟨2, _⟩ => rfl
    | ⟨3, _⟩ => exact h0
  · funext a; apply Fin.ext
    match a with
    | ⟨0, _⟩ => rfl
    | ⟨1, _⟩ => rfl
    | ⟨2, _⟩ => rfl
    | ⟨3, _⟩ => rfl
    | ⟨4, _⟩ => exact h0

/-- The second. -/
theorem dot2_apply (l : FVec Ideal S2x8192x2x128 .f32) (r : FVec Ideal S2x2x4x8192x8192 .f32) (b : Fin 2) (h : Fin 2) (e : Fin 128) (g : Fin 4) (t : Fin 8192) :
    (Host.dotGeneral (F := Ideal) dot_S2x8192x2x128_S2x2x4x8192x8192_S2x2x128x4x8192_1_4_3_23_02_01 none l r (ix5 b h e g t) : EReal)
      = ∑ s : Fin 8192, (l (ix4 b s h e) : EReal) * r (ix5 b h g t s) := by
  let D := dot_S2x8192x2x128_S2x2x4x8192x8192_S2x2x128x4x8192_1_4_3_23_02_01
  have hr : D.contr.rank = 1 := rfl
  have hs : D.contr.size ⟨0, by omega⟩ = 8192 := rfl
  simp only [Host.dotGeneral]
  rw [Ideal.dotGeneral_apply, ← Equiv.sum_comp (ValueIdx.contrEquiv1 D 8192 hr hs).symm]
  refine Finset.sum_congr rfl fun d _ => ?_
  have h0 := ValueIdx.contrEquiv1_symm_val D 8192 hr hs d
  refine congrArg₂ (· * ·) (congrArg l ?_) (congrArg r ?_)
  · funext a; apply Fin.ext
    match a with
    | ⟨0, _⟩ => rfl
    | ⟨1, _⟩ => exact h0
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl
    | ⟨4, _⟩ => exact h0

theorem kv_apply (x : FVec Ideal S16384x256 .f32) (b : Fin 2) (s : Fin 8192) (h : Fin 2) (d : Fin 128) :
    shapeCast S2x8192x2x128 x shapeCasts_S16384x256_S2x8192x2x128 (ix4 b s h d) = x (ix2 ⟨b.val * 8192 + s.val, by omega⟩ ⟨h.val * 128 + d.val, by omega⟩) := by
  refine shapeCast_apply _ _ _ _ ?_
  rw [Shape.rowMajor_val_two, Shape.rowMajor_val_four]
  show (b.val * 8192 + s.val) * 256 + (h.val * 128 + d.val) = ((b.val * 8192 + s.val) * 2 + h.val) * 128 + d.val
  omega

theorem q_apply (x : FVec Ideal S16384x1024 .f32) (b : Fin 2) (t : Fin 8192) (h : Fin 2) (g : Fin 4) (d : Fin 128) :
    shapeCast S2x8192x2x4x128 x shapeCasts_S16384x1024_S2x8192x2x4x128 (ix5 b t h g d)
      = x (ix2 ⟨b.val * 8192 + t.val, by omega⟩ ⟨(h.val * 4 + g.val) * 128 + d.val, by omega⟩) := by
  refine shapeCast_apply _ _ _ _ ?_
  rw [Shape.rowMajor_val_two, Shape.rowMajor_val_five]
  show (b.val * 8192 + t.val) * 1024 + ((h.val * 4 + g.val) * 128 + d.val) = (((b.val * 8192 + t.val) * 2 + h.val) * 4 + g.val) * 128 + d.val
  omega

theorem out_apply (x : FVec Ideal S2x8192x2x4x128 .f32) (b : Fin 2) (t : Fin 8192) (h : Fin 2) (g : Fin 4) (d : Fin 128) :
    shapeCast S16384x1024 x shapeCasts_S2x8192x2x4x128_S16384x1024 (ix2 ⟨b.val * 8192 + t.val, by omega⟩ ⟨(h.val * 4 + g.val) * 128 + d.val, by omega⟩)
      = x (ix5 b t h g d) := by
  refine shapeCast_apply _ _ _ _ ?_
  rw [Shape.rowMajor_val_two, Shape.rowMajor_val_five]
  show (((b.val * 8192 + t.val) * 2 + h.val) * 4 + g.val) * 128 + d.val = (b.val * 8192 + t.val) * 1024 + ((h.val * 4 + g.val) * 128 + d.val)
  omega

theorem tr1_apply (x : FVec Ideal S2x2x8192x8192x4 .f32) (b : Fin 2) (h : Fin 2) (g : Fin 4) (t s : Fin 8192) :
    transpose S2x2x4x8192x8192 [0, 1, 4, 3, 2] x transposes_S2x2x8192x8192x4_S2x2x4x8192x8192_0_1_4_3_2 (ix5 b h g t s) = x (ix5 b h s t g) := by
  unfold transpose
  refine congrArg x ?_
  funext a; apply Fin.ext
  match a with
  | ⟨0, _⟩ => rfl
  | ⟨1, _⟩ => rfl
  | ⟨2, _⟩ => rfl
  | ⟨3, _⟩ => rfl
  | ⟨4, _⟩ => rfl

theorem tr2_apply (x : FVec Ideal S2x2x128x4x8192 .f32) (b : Fin 2) (t : Fin 8192) (h : Fin 2) (g : Fin 4) (e : Fin 128) :
    transpose S2x8192x2x4x128 [0, 4, 1, 3, 2] x transposes_S2x2x128x4x8192_S2x8192x2x4x128_0_4_1_3_2 (ix5 b t h g e) = x (ix5 b h e g t) := by
  unfold transpose
  refine congrArg x ?_
  funext a; apply Fin.ext
  match a with
  | ⟨0, _⟩ => rfl
  | ⟨1, _⟩ => rfl
  | ⟨2, _⟩ => rfl
  | ⟨3, _⟩ => rfl
  | ⟨4, _⟩ => rfl

theorem sc_apply (b : Fin 2) (h : Fin 2) (g : Fin 4) (t s : Fin 8192) : (sc q k (ix5 b h g t s) : EReal)
    = ∑ d : Fin 128, (k (ix2 ⟨b.val * 8192 + s.val, by omega⟩ ⟨h.val * 128 + d.val, by omega⟩) : EReal)
      * q (ix2 ⟨b.val * 8192 + t.val, by omega⟩ ⟨(h.val * 4 + g.val) * 128 + d.val, by omega⟩) := by
  unfold sc
  rw [tr1_apply, dot1_apply]
  exact Finset.sum_congr rfl fun d _ => by rw [kv_apply, q_apply]

theorem rep_apply (x : FVec Ideal S2x2x4x8192 .f32) (b : Fin 2) (h : Fin 2) (g : Fin 4) (t s : Fin 8192) : rep x (ix5 b h g t s) = x (ix4 b h g t) := by
  pointwise [rep]

theorem ex_apply (x : FVec Ideal S2x2x4x8192x8192 .f32) (b : Fin 2) (h : Fin 2) (g : Fin 4) (t s : Fin 8192) :
    ex x (ix5 b h g t s) = Ideal.exp (x (ix5 b h g t s) - mx x (ix4 b h g t)) := by
  rw [← rep_apply (mx x) b h g t s]; rfl

theorem pr_apply (x : FVec Ideal S2x2x4x8192x8192 .f32) (b : Fin 2) (h : Fin 2) (g : Fin 4) (t s : Fin 8192) :
    pr x (ix5 b h g t s) = Ideal.div (x (ix5 b h g t s)) (den x (ix4 b h g t)) := by
  rw [← rep_apply (den x) b h g t s]; rfl

theorem den_apply (x : FVec Ideal S2x2x4x8192x8192 .f32) (b : Fin 2) (h : Fin 2) (g : Fin 4) (t : Fin 8192) :
    (den x (ix4 b h g t) : EReal) = ∑ s : Fin 8192, (x (ix5 b h g t s) : EReal) := by
  unfold den
  rw [ValueIdx.hostReduceAdd_apply]
  unfold Ideal.hostReduceAdd
  rw [Shape.ReducesTo.sum_fiber_r5_a4]
  refine (congrArg (· + _) Ideal.ofBits_zero_f32).trans (zero_add _)

theorem drop_eq (b : Fin 2) (h : Fin 2) (g : Fin 4) (t s : Fin 8192) :
    reducesTo_S2x2x4x8192x8192_S2x2x4x8192_d4.drop (ix5 b h g t s) = ix4 b h g t := by
  funext a; apply Fin.ext
  match a with
  | ⟨0, _⟩ => rfl
  | ⟨1, _⟩ => rfl
  | ⟨2, _⟩ => rfl
  | ⟨3, _⟩ => rfl

theorem reduce_max_real {s t u : Shape} {axes : List (Fin s.rank)} (x : FVec Ideal s .f32) (init : FVec Ideal u .f32) (h : s.ReducesTo axes t)
    (hu : 0 < u.numel) (j : t.Idx) (i0 : s.Idx) (h0 : h.drop i0 = j) (hi : ∀ i, (init i : EReal) = ⊥) (hx : ∀ i, ∃ r : ℝ, x i = (r : EReal)) :
    ∃ M : ℝ, (Host.reduce (FloatOps.maximumf (F := Ideal) (φ := .f32)) x init h hu j : EReal) = (M : EReal) := by
  have h1 : (Host.reduce (FloatOps.maximumf (F := Ideal) (φ := .f32)) x init h hu j : EReal) = (Finset.univ.filter fun i => h.drop i = j).fold max (init (Shape.Idx.first hu) : EReal) x :=
    Host.reduce_eq_fold (FloatOps.maximumf (F := Ideal) (φ := .f32)) x init h hu j
  rw [hi] at h1
  have hlt : (Host.reduce (FloatOps.maximumf (F := Ideal) (φ := .f32)) x init h hu j : EReal) < ⊤ := by
    rw [h1]
    refine (Finset.fold_max_lt (β := EReal) ⊤).2 ⟨bot_lt_top, fun i _ => ?_⟩
    obtain ⟨r, hr⟩ := hx i
    rw [hr]; exact EReal.coe_lt_top r
  have hgt : ⊥ < (Host.reduce (FloatOps.maximumf (F := Ideal) (φ := .f32)) x init h hu j : EReal) := by
    rw [h1]
    refine (Finset.lt_fold_max (β := EReal) ⊥).2 (Or.inr ⟨i0, Finset.mem_filter.2 ⟨Finset.mem_univ _, h0⟩, ?_⟩)
    obtain ⟨r, hr⟩ := hx i0
    rw [hr]; exact EReal.bot_lt_coe r
  exact ⟨_, (EReal.coe_toReal hlt.ne hgt.ne').symm⟩

theorem mx_max {s : Shape} (y : FVec Ideal s .f32) (h : S_.BroadcastsInDim s ![]) (j : s.Idx) :
    (maximumf (broadcastInDim s ![] h (constant (F := Ideal) S_ .f32 0xFF800000#32)) y j : EReal) = max (Ideal.ofBits .f32 0xFF800000#32) (y j : EReal) := rfl

theorem neg_inf : Ideal.ofBits .f32 0xFF800000#32 = ⊥ := by
  simp [Ideal.ofBits, Ideal.ieee, -EReal.coe_mul]

theorem mx_real (x : FVec Ideal S2x2x4x8192x8192 .f32) (hx : ∀ i, ∃ r : ℝ, x i = (r : EReal)) (b : Fin 2) (h : Fin 2) (g : Fin 4) (t : Fin 8192) :
    ∃ M : ℝ, (mx x (ix4 b h g t) : EReal) = (M : EReal) := by
  unfold mx
  rw [mx_max, neg_inf, max_eq_right bot_le]
  have h0 : reducesTo_S2x2x4x8192x8192_S2x2x4x8192_d4.drop (ix5 b h g t t) = ix4 b h g t := drop_eq b h g t t
  exact reduce_max_real x (constant S_ .f32 0xFF800000#32) reducesTo_S2x2x4x8192x8192_S2x2x4x8192_d4 h_S_ (ix4 b h g t) (ix5 b h g t t) h0 (fun _ => neg_inf) hx

theorem wv_apply (p : FVec Ideal S2x2x4x8192x8192 .f32) (b : Fin 2) (t : Fin 8192) (h : Fin 2) (g : Fin 4) (e : Fin 128) :
    (wv v p (ix2 ⟨b.val * 8192 + t.val, by omega⟩ ⟨(h.val * 4 + g.val) * 128 + e.val, by omega⟩) : EReal)
      = ∑ s : Fin 8192, (v (ix2 ⟨b.val * 8192 + s.val, by omega⟩ ⟨h.val * 128 + e.val, by omega⟩) : EReal) * p (ix5 b h g t s) := by
  unfold wv
  rw [out_apply]
  rw [tr2_apply, dot2_apply]
  exact Finset.sum_congr rfl fun s _ => by rw [kv_apply]

end Cert.ReferenceIdeal.Hand

end
-- ==== Proof.Algebraic.lean ====
/-
  The value claim: on real queries and keys the kernel's result array and the reference's are the same function of the
  arguments.
-/
module

public import proofs.«01_k».proof.Defs
public import proofs.«01_k».proof.Proof.Array
public import proofs.«01_k».proof.Proof.Ref
public import proofs.«01_k».proof.Proof.Gen.Pre_finite_qk

@[expose] public section

set_option maxRecDepth 16384

noncomputable section

namespace Cert.AttentionClaim

open Idealize.ShloMosaic Idealize.ShloMosaic.TcCoe Idealize.ShloMosaic.Tactic Idealize.SL.Sem Cert.Softmax
open Cert.KernelIdeal.Hand (att score carried attOf)
open Cert.ReferenceIdeal.Hand (sc mx ex den pr wv)
open Cert.ReferenceIdeal

variable (q : FVec Ideal S16384x1024 .f32) (k : FVec Ideal S16384x256 .f32) (v : FVec Ideal S16384x256 .f32) (gt : FVec Ideal S16384x1024 .f32)
variable (Q : S16384x1024.Idx → ℝ) (K : S16384x256.Idx → ℝ)

/-- The reference's score is the real number `score`. -/
theorem sc_real (hq : ∀ i, (q i : EReal) = (Q i : EReal)) (hk : ∀ i, (k i : EReal) = (K i : EReal)) (b : Fin 2) (h : Fin 2) (g : Fin 4) (t s : Fin 8192) (e : Fin 128) :
    (sc q k (ix5 b h g t s) : EReal)
      = ((score Q K ⟨b.val * 8192 + t.val, by omega⟩ ⟨(h.val * 4 + g.val) * 128 + e.val, by omega⟩ s.val : ℝ) : EReal) := by
  rw [Cert.ReferenceIdeal.Hand.sc_apply]
  unfold score
  rw [dif_pos s.isLt, coe_sum]
  refine Finset.sum_congr rfl fun d _ => ?_
  rw [hq, hk, ← EReal.coe_mul]
  refine congrArg _ (congrArg₂ (· * ·) (congrArg K (congrArg₂ ix2 (Fin.ext ?_) (Fin.ext ?_))) (congrArg Q (congrArg₂ ix2 rfl (Fin.ext ?_))))
  · show b.val * 8192 + s.val = (b.val * 8192 + t.val) / 8192 * 8192 + s.val
    omega
  · show h.val * 128 + d.val = ((h.val * 4 + g.val) * 128 + e.val) / 512 * 128 + d.val
    omega
  · show (h.val * 4 + g.val) * 128 + d.val = ((h.val * 4 + g.val) * 128 + e.val) / 128 * 128 + d.val
    omega

theorem ix_ex5 (x : S2x2x4x8192x8192.Idx) : ∃ (b h : Fin 2) (g : Fin 4) (t s : Fin 8192), x = ix5 b h g t s := by
  idx_vars x
  exact ⟨_, _, _, _, _, rfl⟩

theorem ix_ex2 (x : S16384x1024.Idx) : ∃ (a : Fin 16384) (b : Fin 1024), x = ix2 a b := by
  idx_vars x
  exact ⟨_, _, rfl⟩

theorem wv_eq (hq : ∀ i, (q i : EReal) = (Q i : EReal)) (hk : ∀ i, (k i : EReal) = (K i : EReal)) (b : Fin 2) (t : Fin 8192) (h : Fin 2) (g : Fin 4) (e : Fin 128) :
    (wv v (pr (ex (sc q k))) (ix2 ⟨b.val * 8192 + t.val, by omega⟩ ⟨(h.val * 4 + g.val) * 128 + e.val, by omega⟩) : EReal)
      = mean (score Q K ⟨b.val * 8192 + t.val, by omega⟩ ⟨(h.val * 4 + g.val) * 128 + e.val, by omega⟩)
          (carried v ⟨b.val * 8192 + t.val, by omega⟩ ⟨(h.val * 4 + g.val) * 128 + e.val, by omega⟩) 8192 := by
  have hsc := fun s : Fin 8192 => sc_real q k Q K hq hk b h g t s e
  have hall : ∀ i, ∃ r : ℝ, (sc q k i : EReal) = (r : EReal) := fun i => by
    obtain ⟨b', h', g', t', s', rfl⟩ := ix_ex5 i
    exact ⟨_, sc_real q k Q K hq hk b' h' g' t' s' 0⟩
  obtain ⟨M, hM⟩ := Cert.ReferenceIdeal.Hand.mx_real (sc q k) hall b h g t
  have hex : ∀ s : Fin 8192, (ex (sc q k) (ix5 b h g t s) : EReal)
      = Ideal.exp (((score Q K ⟨b.val * 8192 + t.val, by omega⟩ ⟨(h.val * 4 + g.val) * 128 + e.val, by omega⟩ s.val : ℝ) : EReal) - (M : EReal)) := fun s => by
    rw [Cert.ReferenceIdeal.Hand.ex_apply, hsc, hM]
  rw [Cert.ReferenceIdeal.Hand.wv_apply, ← ref_mean _ _ 8192 (by omega) M, Finset.sum_range]
  refine Finset.sum_congr rfl fun s _ => ?_
  rw [Cert.ReferenceIdeal.Hand.pr_apply, hex, Cert.ReferenceIdeal.Hand.den_apply, Finset.sum_range]
  refine congrArg₂ (· * ·) ?_ (congrArg _ (Finset.sum_congr rfl fun s' _ => hex s'))
  unfold carried
  rw [dif_pos s.isLt]
  refine congrArg v (congrArg₂ ix2 (Fin.ext ?_) (Fin.ext ?_))
  · show b.val * 8192 + s.val = (b.val * 8192 + t.val) / 8192 * 8192 + s.val
    omega
  · show h.val * 128 + e.val = ((h.val * 4 + g.val) * 128 + e.val) / 512 * 128 + ((h.val * 4 + g.val) * 128 + e.val) % 128
    omega

/-- The reference's whole result. -/
theorem ref_eq (hq : ∀ i, (q i : EReal) = (Q i : EReal)) (hk : ∀ i, (k i : EReal) = (K i : EReal)) :
    (truncf .bf16 (mulf (wv v (pr (ex (sc q k)))) gt) Cert.ReferenceIdeal.Gen.bitsLt_bf16_f32 : S16384x1024.Idx → EReal) = att Q K v gt := by
  funext i
  obtain ⟨a, c, rfl⟩ := ix_ex2 i
  have ha : a = ⟨(⟨a.val / 8192, by omega⟩ : Fin 2).val * 8192 + (⟨a.val % 8192, by omega⟩ : Fin 8192).val, by show a.val / 8192 * 8192 + a.val % 8192 < 16384; omega⟩ :=
    Fin.ext (show a.val = a.val / 8192 * 8192 + a.val % 8192 by omega)
  have hc : c = ⟨((⟨c.val / 512, by omega⟩ : Fin 2).val * 4 + (⟨c.val / 128 % 4, by omega⟩ : Fin 4).val) * 128 + (⟨c.val % 128, by omega⟩ : Fin 128).val,
      by show (c.val / 512 * 4 + c.val / 128 % 4) * 128 + c.val % 128 < 1024; omega⟩ :=
    Fin.ext (show c.val = (c.val / 512 * 4 + c.val / 128 % 4) * 128 + c.val % 128 by omega)
  have h := wv_eq q k v Q K hq hk ⟨a.val / 8192, by omega⟩ ⟨a.val % 8192, by omega⟩ ⟨c.val / 512, by omega⟩ ⟨c.val / 128 % 4, by omega⟩ ⟨c.val % 128, by omega⟩
  rw [← ha, ← hc] at h
  show (wv v (pr (ex (sc q k))) (ix2 a c) : EReal) * gt (ix2 a c) = mean (score Q K a c) (carried v a c) 8192 * gt (ix2 a c)
  rw [h]

/-- From memories that agree on the arguments, the queries and keys real, both runs end with the same array. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m ρ m' ρ' hpre hagree
  have hr := fun c => Cert.Pre_finite_qk.reals _ _ _ _ _ _ (hpre c)
  choose Q hQ using fun c => (hr c).1
  choose K hK using fun c => (hr c).2
  refine ⟨_, Cert.KernelIdeal.Hand.run m ρ Q K hQ hK, ?_⟩
  refine (θ_run Cert.ReferenceIdeal.defs _ _).mono (fun _ h c => ⟨(h c).1.trans ?_, (h c).2⟩) (Cert.ReferenceIdeal.Value.run (F := Ideal) m' ρ')
  rw [(hagree c).2.2.1, (hagree c).2.2.2.1, (hagree c).2.2.2.2.1, (hagree c).2.2.2.2.2]
  exact ref_eq _ _ _ _ (Q c) (K c) (hQ c) (hK c)

end Cert.AttentionClaim

end
-- ==== Proof.Chunk.lean ====
/-
  One slice of columns of the feed-forward: the rows projected, each row mixed with the one before it and the one after it,
  and the first half gated by its own sigmoid and the second half. Read at an index at the ideal numbers.
-/
module

public import proofs.«01_k».proof.Proof.Gen.Kernel2Ideal.Skeleton
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

section Defs
variable {F : FTy → Type} [FloatOps F] [Named F]

/-- The rows times a slice of the weights. -/
def proj (y : FVec F S528x1024 .bf16) (w : Vec F S1x1024x256 .bf16) : FVec F S528x256 .f32 :=
  matmul dot_S528x1024_S1024x256_S528x256_1_0_0_1_n_n none y (shapeCast S1024x256 w shapeCasts_S1x1024x256_S1024x256)
    (constant S528x256 .f32 0x00000000#32)

/-- In groups of eight: the last row of a group is the group before's. -/
def carryP (x : FVec F S66x8x256 .f32) : FVec F S66x8x256 .f32 :=
  select (broadcastTo S66x8x256 (shapeCast S1x8x256 (cmpi .sge (iota .tc S1x8x256 32 [1] iota_S1x8x256_d1_w32) (broadcast S1x8x256 7#32))
      shapeCasts_S1x8x256_S1x8x256) broadcasts_S1x8x256_S66x8x256)
    (concatenate S66x8x256 0 [⟨S1x8x256, extractStridedSlice S1x8x256 ![65, 0, 0] x slices_S66x8x256_o65_0_0_S1x8x256⟩,
      ⟨S65x8x256, extractStridedSlice S65x8x256 ![0, 0, 0] x slices_S66x8x256_o0_0_0_S65x8x256⟩] concatenates_S1x8x256_S65x8x256_S66x8x256_d0) x

/-- In groups of eight: the first row of a group is the group after's. -/
def carryN (x : FVec F S66x8x256 .f32) : FVec F S66x8x256 .f32 :=
  select (broadcastTo S66x8x256 (shapeCast S1x8x256 (cmpi .slt (iota .tc S1x8x256 32 [1] iota_S1x8x256_d1_w32) (broadcast S1x8x256 1#32))
      shapeCasts_S1x8x256_S1x8x256) broadcasts_S1x8x256_S66x8x256)
    (concatenate S66x8x256 0 [⟨S65x8x256, extractStridedSlice S65x8x256 ![1, 0, 0] x slices_S66x8x256_o1_0_0_S65x8x256⟩,
      ⟨S1x8x256, extractStridedSlice S1x8x256 ![0, 0, 0] x slices_S66x8x256_o0_0_0_S1x8x256⟩] concatenates_S65x8x256_S1x8x256_S66x8x256_d0) x

/-- The row before, round the end. -/
def prev (u : FVec F S528x256 .f32) : FVec F S528x256 .f32 :=
  shapeCast S528x256 (dynamicRotate 1 1#32 none (carryP (shapeCast S66x8x256 u shapeCasts_S528x256_S66x8x256)) rotates_S66x8x256_d1) shapeCasts_S66x8x256_S528x256

/-- The row after, round the end. -/
def next (u : FVec F S528x256 .f32) : FVec F S528x256 .f32 :=
  shapeCast S528x256 (dynamicRotate 1 7#32 none (carryN (shapeCast S66x8x256 u shapeCasts_S528x256_S66x8x256)) rotates_S66x8x256_d1) shapeCasts_S66x8x256_S528x256

/-- A row of weights, for every row. -/
def bc (c : Vec F S1x1x256 .f32) : FVec F S528x256 .f32 :=
  broadcastTo S528x256 (shapeCast S1x256 c shapeCasts_S1x1x256_S1x256) broadcasts_S1x256_S528x256

/-- Each row mixed with its two neighbours, and the offset. -/
def conv (u : FVec F S528x256 .f32) (c0 c1 c2 cb : Vec F S1x1x256 .f32) : FVec F S512x256 .f32 :=
  addf (extractStridedSlice S512x256 ![0, 0] (addf (addf (mulf u (bc c1)) (mulf (prev u) (bc c0))) (mulf (next u) (bc c2))) slices_S528x256_o0_0_S512x256)
    (broadcastTo S512x256 (shapeCast S1x256 cb shapeCasts_S1x1x256_S1x256) broadcasts_S1x256_S512x256)

/-- The first half, times its sigmoid, times the second half. -/
def gated (a b : FVec F S512x256 .f32) : FVec F S512x256 .bf16 :=
  shapeCast S512x256 (truncf .bf16 (mulf (mulf a (divf (broadcast S512x256 (Scalar.ofBits .f32 0x3F800000#32))
    (addf (broadcast S512x256 (Scalar.ofBits .f32 0x3F800000#32)) (exp2 (mulf a (broadcast S512x256 (Named.named κ "neg_log2e" 0xBFB8AA3B#32))))))) b)
    bitsLt_bf16_f32) shapeCasts_S512x256_S512x256

/-- A slice of columns of the gated rows. -/
def chunk (y : FVec F S528x1024 .bf16) (wa : Vec F S1x1024x256 .bf16) (a0 a1 a2 ab : Vec F S1x1x256 .f32)
    (wb : Vec F S1x1024x256 .bf16) (b0 b1 b2 bb : Vec F S1x1x256 .f32) : FVec F S512x256 .bf16 :=
  gated (conv (proj y wa) a0 a1 a2 ab) (conv (proj y wb) b0 b1 b2 bb)

/-- A root mean square's rows, at one row height. -/
def normT (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The same, of eight rows. -/
def normE (x : FVec F S8x1024 .f32) (g : FVec F S1x1024 .f32) : FVec F S8x1024 .f32 :=
  mulf (mulf x (broadcastTo S8x1024 (rsqrt (addf (divf (shapeCast S8x1 (multiReduction .add [1] S8 (mulf x x) 0x00000000#32 reduces_S8x1024_S8 (.inl rfl) rfl)
    shapeCasts_S8_S8x1) (broadcast S8x1 (Scalar.ofBits .f32 0x44800000#32))) (broadcast S8x1 (Scalar.ofBits .f32 0x358637BD#32)))) broadcasts_S8x1_S8x1024))
    (broadcastTo S8x1024 (shapeCast S1x1024 g shapeCasts_S1x1024_S1x1024) broadcasts_S1x1024_S8x1024)

/-- The rows of a block, and after them two times eight rows. -/
def joined (x : FVec F S512x1024 .f32) (a b : FVec F S8x1024 .f32) : FVec F S528x1024 .bf16 :=
  truncf .bf16 (concatenate S528x1024 0 [⟨S512x1024, x⟩, ⟨S8x1024, a⟩, ⟨S8x1024, b⟩]
    concatenates_S512x1024_S8x1024_S8x1024_S528x1024_d0) bitsLt_bf16_f32

/-- Eight rows, zeroed past a sequence's end. -/
def edge (pos k : BitVec 32) (x : FVec F S8x1024 .f32) : FVec F S8x1024 .f32 :=
  Scalar.select (Scalar.cmpi .eq pos k) (broadcast S8x1024 (Scalar.ofBits .f32 0x00000000#32)) x

/-- The rows of a block, the eight that follow and the eight that come before, zeroed past a sequence's ends. -/
def rows (x : FVec F S512x1024 .f32) (xp xn : FVec F S8x1024 .f32) (g : FVec F S1x1024 .f32) (pos : BitVec 32) : FVec F S528x1024 .bf16 :=
  joined (normT x g) (edge pos 15#32 (normE xn g)) (edge pos 0#32 (normE xp g))

/-- The rows with their feed-forward added. -/
def grown (x : FVec F S512x1024 .f32) (act : FVec F S512x2816 .bf16) (w : Vec F S1x2816x1024 .bf16) : FVec F S512x1024 .f32 :=
  addf x (matmul dot_S512x2816_S2816x1024_S512x1024_1_0_0_1_n_n none act (shapeCast S2816x1024 w shapeCasts_S1x2816x1024_S2816x1024)
    (constant S512x1024 .f32 0x00000000#32))

/-- And normalised. -/
def last (x : FVec F S512x1024 .f32) (act : FVec F S512x2816 .bf16) (w : Vec F S1x2816x1024 .bf16) (g : FVec F S1x1024 .f32) : FVec F S512x1024 .f32 :=
  normT (grown x act w) g

theorem pay14_eq (y : FVec F S528x1024 .bf16) (wa : Vec F S1x1024x256 .bf16) (a0 a1 a2 ab : Vec F S1x1x256 .f32)
    (wb : Vec F S1x1024x256 .bf16) (b0 b1 b2 bb : Vec F S1x1x256 .f32) :
    k0_pay14 (k0_pay10 (proj y wa) (mulf (proj y wa) (bc a1)) (prev (proj y wa)) (k0_pay9 a0) a2 ab) (k0_pay11 y wb) (k0_pay12 y wb b1) (k0_pay13 y wb) b0 b2 bb
      = chunk y wa a0 a1 a2 ab wb b0 b1 b2 bb := rfl

end Defs

theorem proj_apply (y : FVec Ideal S528x1024 .bf16) (w : Vec Ideal S1x1024x256 .bf16) (r : Fin 528) (e : Fin 256) :
    proj y w (ix2 r e) = ∑ d : Fin 1024, y (ix2 r d) * w (ix3 0 d e) := by
  pointwise [proj]

theorem bc_apply (c : Vec Ideal S1x1x256 .f32) (r : Fin 528) (e : Fin 256) : bc c (ix2 r e) = c (ix3 0 0 e) := by
  pointwise [bc]

theorem negLog2e_eq : Named.named (F := Ideal) (φ := .f32) κ "neg_log2e" 0xBFB8AA3B#32 = ((-((Real.log 2)⁻¹) : ℝ) : EReal) :=
  IdealRules.named_const.ideal_named_scalar _ _ _ _ rfl

theorem gated_apply (a b : FVec Ideal S512x256 .f32) (r : Fin 512) (e : Fin 256) :
    gated a b (ix2 r e) = a (ix2 r e) * Ideal.div (Ideal.ofBits .f32 0x3F800000#32) (Ideal.ofBits .f32 0x3F800000#32
      + Ideal.exp2 (a (ix2 r e) * ((-((Real.log 2)⁻¹) : ℝ) : EReal))) * b (ix2 r e) := by
  rw [← negLog2e_eq]
  pointwise [gated]
  rfl

theorem normT_apply (x : FVec Ideal S512x1024 .f32) (g : FVec Ideal S1x1024 .f32) (r : Fin 512) (e : Fin 1024) :
    normT x g (ix2 r e) = x (ix2 r e) * Ideal.rsqrt (Ideal.div (∑ d : Fin 1024, x (ix2 r d) * x (ix2 r d)) (Ideal.ofBits .f32 0x44800000#32)
      + Ideal.ofBits .f32 0x358637BD#32) * g (ix2 0 e) := by
  pointwise [normT]

theorem normE_apply (x : FVec Ideal S8x1024 .f32) (g : FVec Ideal S1x1024 .f32) (r : Fin 8) (e : Fin 1024) :
    normE x g (ix2 r e) = x (ix2 r e) * Ideal.rsqrt (Ideal.div (∑ d : Fin 1024, x (ix2 r d) * x (ix2 r d)) (Ideal.ofBits .f32 0x44800000#32)
      + Ideal.ofBits .f32 0x358637BD#32) * g (ix2 0 e) := by
  pointwise [normE]

theorem last_apply (x : FVec Ideal S512x1024 .f32) (act : FVec Ideal S512x2816 .bf16) (w : Vec Ideal S1x2816x1024 .bf16) (g : FVec Ideal S1x1024 .f32)
    (r : Fin 512) (e : Fin 1024) (z : Fin 1024 → EReal)
    (hz : ∀ d, z d = x (ix2 r d) + ∑ k : Fin 2816, act (ix2 r k) * w (ix3 0 k d)) :
    last x act w g (ix2 r e) = z e * Ideal.rsqrt (Ideal.div (∑ d : Fin 1024, z d * z d) (Ideal.ofBits .f32 0x44800000#32)
      + Ideal.ofBits .f32 0x358637BD#32) * g (ix2 0 e) := by
  have h : ∀ d, grown x act w (ix2 r d) = z d := fun d => by
    rw [hz]
    pointwise [grown]
  unfold last
  rw [normT_apply]
  simp only [h]

theorem ge7 : ∀ s : Fin 8, IntOp.cmpi CmpIPredicate.sge (BitVec.ofNat 32 s.val) 7#32 = if s.val = 7 then 1#1 else 0#1 := by decide

theorem lt1 : ∀ s : Fin 8, IntOp.cmpi CmpIPredicate.slt (BitVec.ofNat 32 s.val) 1#32 = if s.val = 0 then 1#1 else 0#1 := by decide

theorem eq_if (a b : BitVec 32) : Scalar.cmpi CmpIPredicate.eq a b = if a = b then 1#1 else 0#1 := by
  by_cases h : a = b
  · subst h; simp [Scalar.cmpi, IntOp.cmpi]
  · have hb : (a == b) = false := by simpa using h
    rw [if_neg h]
    show BitVec.ofBool (a == b) = 0#1
    rw [hb]; rfl

theorem sel_if {α : Type} (p : Prop) [Decidable p] (a b : α) : Scalar.select (if p then 1#1 else 0#1) a b = if p then a else b := by
  by_cases h : p <;> simp [Scalar.select, h]

/-- A row of a group: the last one is the group before's. -/
theorem carryP_apply (x : FVec Ideal S66x8x256 .f32) (g : Fin 66) (s : Fin 8) (e : Fin 256) :
    carryP x (ix3 g s e) = if s.val = 7 then x (ix3 ⟨(g.val + 65) % 66, Nat.mod_lt _ (by decide)⟩ s e) else x (ix3 g s e) := by
  pointwise [carryP]
  rw [ge7, sel_if]
  split
  · split
    · exact congrArg x (congrArg (fun k => ix3 k s e) (Fin.ext (show 65 + g.val = (g.val + 65) % 66 by omega)))
    · exact congrArg x (congrArg (fun k => ix3 k s e) (Fin.ext (show g.val - 1 = (g.val + 65) % 66 by omega)))
  · rfl

theorem carryN_apply (x : FVec Ideal S66x8x256 .f32) (g : Fin 66) (s : Fin 8) (e : Fin 256) :
    carryN x (ix3 g s e) = if s.val = 0 then x (ix3 ⟨(g.val + 1) % 66, Nat.mod_lt _ (by decide)⟩ s e) else x (ix3 g s e) := by
  pointwise [carryN]
  rw [lt1, sel_if]
  split
  · split
    · exact congrArg x (congrArg (fun k => ix3 k s e) (Fin.ext (show 1 + g.val = (g.val + 1) % 66 by omega)))
    · exact congrArg x (congrArg (fun k => ix3 k s e) (Fin.ext (show g.val - 65 = (g.val + 1) % 66 by omega)))
  · rfl

theorem grouped_apply (u : FVec Ideal S528x256 .f32) (g : Fin 66) (s : Fin 8) (e : Fin 256) :
    shapeCast S66x8x256 u shapeCasts_S528x256_S66x8x256 (ix3 g s e) = u (ix2 ⟨g.val * 8 + s.val, by omega⟩ e) := by
  pointwise

theorem prev_apply (u : FVec Ideal S528x256 .f32) (r : Fin 528) (e : Fin 256) :
    prev u (ix2 r e) = u (ix2 ⟨(r.val + 527) % 528, Nat.mod_lt _ (by decide)⟩ e) := by
  pointwise [prev]
  rw [carryP_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem next_apply (u : FVec Ideal S528x256 .f32) (r : Fin 528) (e : Fin 256) :
    next u (ix2 r e) = u (ix2 ⟨(r.val + 1) % 528, Nat.mod_lt _ (by decide)⟩ e) := by
  pointwise [next]
  rw [carryN_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem conv_apply (u : FVec Ideal S528x256 .f32) (c0 c1 c2 cb : Vec Ideal S1x1x256 .f32) (r : Fin 512) (e : Fin 256) :
    conv u c0 c1 c2 cb (ix2 r e) = u (ix2 ⟨r.val, by omega⟩ e) * c1 (ix3 0 0 e) + u (ix2 ⟨(r.val + 527) % 528, Nat.mod_lt _ (by decide)⟩ e) * c0 (ix3 0 0 e)
      + u (ix2 ⟨r.val + 1, by omega⟩ e) * c2 (ix3 0 0 e) + cb (ix3 0 0 e) := by
  have hn : next u (ix2 ⟨r.val, by omega⟩ e) = u (ix2 ⟨r.val + 1, by omega⟩ e) := by
    rw [next_apply]
    exact congrArg u (congrArg (fun k => ix2 k e) (Fin.ext (show (r.val + 1) % 528 = r.val + 1 by omega)))
  rw [← hn, ← prev_apply u ⟨r.val, by omega⟩ e, ← bc_apply c0 ⟨r.val, by omega⟩ e, ← bc_apply c1 ⟨r.val, by omega⟩ e, ← bc_apply c2 ⟨r.val, by omega⟩ e]
  pointwise [conv]

theorem joined_apply (x : FVec Ideal S512x1024 .f32) (a b : FVec Ideal S8x1024 .f32) (r : Fin 528) (e : Fin 1024) :
    joined x a b (ix2 r e) = if h : r.val < 512 then x (ix2 ⟨r.val, h⟩ e) else
      if h' : r.val - 512 < 8 then a (ix2 ⟨r.val - 512, h'⟩ e) else b (ix2 ⟨r.val - 512 - 8, by omega⟩ e) := by
  pointwise [joined]

theorem edge_apply (pos k : BitVec 32) (x : FVec Ideal S8x1024 .f32) (r : Fin 8) (e : Fin 1024) :
    edge pos k x (ix2 r e) = if pos = k then 0 else x (ix2 r e) := by
  pointwise [edge]
  rw [eq_if, sel_if]

end Cert.Kernel2Ideal.Hand

end
-- ==== Proof.Feed.lean ====
/-
  The feed-forward's mathematics, row by row: a row normalised, projected, mixed with the rows before and after it in its
  sequence, gated, projected back, added, normalised again. And the two ways of writing a number times its sigmoid.
-/
module

public import Idealize.ShloMosaic.Lib.Pointwise

@[expose] public section

set_option maxRecDepth 16384

noncomputable section

namespace Cert.Feed

open Idealize.ShloMosaic Idealize.ShloMosaic.TcCoe Idealize.ShloMosaic.Tactic

/-- A row over its root mean square, times a row of weights. -/
def nrm (x g : Fin 1024 → EReal) (d : Fin 1024) : EReal :=
  x d * Ideal.rsqrt (Ideal.div (∑ d : Fin 1024, x d * x d) (Ideal.ofBits .f32 0x44800000#32) + Ideal.ofBits .f32 0x358637BD#32) * g d

/-- A number times its sigmoid, times another. -/
def gate (a b : EReal) : EReal :=
  a * Ideal.div (Ideal.ofBits .f32 0x3F800000#32) (Ideal.ofBits .f32 0x3F800000#32 + Ideal.exp2 (a * ((-((Real.log 2)⁻¹) : ℝ) : EReal))) * b

section
variable (H : Fin 16384 → Fin 1024 → EReal) (g gf : Fin 1024 → EReal) (W : Fin 1024 → Fin 5632 → EReal) (C : Fin 3 → Fin 5632 → EReal)
  (B : Fin 5632 → EReal) (D : Fin 2816 → Fin 1024 → EReal)

/-- A normalised row, projected. -/
def upr (R : Fin 16384) (f : Fin 5632) : EReal := ∑ d : Fin 1024, nrm (H R) g d * W d f

/-- The projected row mixed with its neighbours in the sequence. -/
def mixr (R : Fin 16384) (f : Fin 5632) : EReal :=
  upr H g W R f * C 1 f + (if h : R.val % 8192 = 0 then 0 else upr H g W ⟨R.val - 1, by omega⟩ f * C 0 f)
    + (if h : R.val % 8192 = 8191 then 0 else upr H g W ⟨R.val + 1, by omega⟩ f * C 2 f) + B f

/-- The gated row. -/
def actr (R : Fin 16384) (k : Fin 2816) : EReal := gate (mixr H g W C B R ⟨k.val, by omega⟩) (mixr H g W C B R ⟨2816 + k.val, by omega⟩)

/-- The row with its feed-forward added. -/
def sumr (R : Fin 16384) (d : Fin 1024) : EReal := H R d + ∑ k : Fin 2816, actr H g W C B R k * D k d

/-- The result. -/
def res (R : Fin 16384) (e : Fin 1024) : EReal := nrm (sumr H g W C B D R) gf e

end

theorem one_bits : Ideal.ofBits .f32 0x3F800000#32 = 1 := Ideal.ofBits_one_f32

/-- Two to the power of a number over minus the logarithm of two is the exponential of minus the number. -/
theorem exp2_neg (x : EReal) : Ideal.exp2 (x * ((-((Real.log 2)⁻¹) : ℝ) : EReal)) = Ideal.exp (-x) := by
  have hl : 0 < Real.log 2 := Real.log_pos (by norm_num)
  have hneg : (-((Real.log 2)⁻¹) : ℝ) < 0 := by
    have := inv_pos.2 hl; linarith
  induction x using EReal.rec with
  | bot =>
    rw [EReal.bot_mul_coe_of_neg hneg, EReal.neg_bot, Ideal.exp_top]
    exact Ideal.exp2_top
  | top =>
    rw [EReal.top_mul_coe_of_neg hneg, EReal.neg_top, Ideal.exp2_bot]
    exact Ideal.exp_bot.symm
  | coe r =>
    rw [← EReal.coe_mul, Ideal.exp2_coe, ← EReal.coe_neg, Ideal.exp_coe]
    congr 1
    show (2 : ℝ) ^ (r * -(Real.log 2)⁻¹) = Real.exp (-r)
    rw [Real.rpow_def_of_pos (by norm_num)]
    congr 1
    field_simp

theorem gate_eq (a b : EReal) : gate a b = a * Ideal.div (Ideal.ofBits .f32 0x3F800000#32) (Ideal.ofBits .f32 0x3F800000#32 + Ideal.exp (-a)) * b := by
  unfold gate
  rw [exp2_neg]

end Cert.Feed

end
-- ==== Proof.Slices.lean ====
/-
  A grid point of the feed-forward: the eleven slices of columns it writes to its working array together are the gated rows,
  and what it leaves is the rows with their feed-forward added, normalised.
-/
module

public import proofs.«01_k».proof.Proof.Chunk
public import proofs.«01_k».proof.Proof.Feed
public import proofs.«01_k».proof.Proof.Gen.Kernel2Ideal.Value
public import Idealize.ShloMosaic.Lib.WholeRead
public import Idealize.ShloMosaic.Lib.Pipeline.Value

@[expose] public section

set_option maxRecDepth 16384

noncomputable section

namespace Cert.Kernel2Ideal.Hand

open Cert.Kernel2Ideal Cert.Kernel2Ideal.Gen Cert.Feed
open Idealize.ShloMosaic Idealize.ShloMosaic.TcCoe Idealize.ShloMosaic.Tactic

/-- A row projected to column `f`. -/
def up (y : FVec Ideal S528x1024 .bf16) (x4 : Vec Ideal S1x1024x5632 .bf16) (r : Fin 528) (f : Fin 5632) : EReal :=
  ∑ d : Fin 1024, y (ix2 r d) * x4 (ix3 0 d f)

/-- A projected row mixed with its two neighbours, and the offset. -/
def mixed (y : FVec Ideal S528x1024 .bf16) (x4 : Vec Ideal S1x1024x5632 .bf16) (x5 : Vec Ideal S1x3x5632 .f32) (x6 : Vec Ideal S1x1x5632 .f32)
    (r : Fin 512) (f : Fin 5632) : EReal :=
  up y x4 ⟨r.val, by omega⟩ f * x5 (ix3 0 1 f) + up y x4 ⟨(r.val + 527) % 528, Nat.mod_lt _ (by decide)⟩ f * x5 (ix3 0 0 f)
    + up y x4 ⟨r.val + 1, by omega⟩ f * x5 (ix3 0 2 f) + x6 (ix3 0 0 f)

/-- The gated rows. -/
def act (y : FVec Ideal S528x1024 .bf16) (x4 : Vec Ideal S1x1024x5632 .bf16) (x5 : Vec Ideal S1x3x5632 .f32) (x6 : Vec Ideal S1x1x5632 .f32)
    (r : Fin 512) (k : Fin 2816) : EReal :=
  gate (mixed y x4 x5 x6 r ⟨k.val, by omega⟩) (mixed y x4 x5 x6 r ⟨2816 + k.val, by omega⟩)

/-- The same, as an array. -/
def acts (y : FVec Ideal S528x1024 .bf16) (x4 : Vec Ideal S1x1024x5632 .bf16) (x5 : Vec Ideal S1x3x5632 .f32) (x6 : Vec Ideal S1x1x5632 .f32) :
    FVec Ideal S512x2816 .bf16 :=
  fun i => act y x4 x5 x6 (i 0) (i 1)

section loads
variable (arg5 : Memref sig .tc .vmem S1x1024x5632 .bf16) (harg5 : arg5.IsWhole) (arg6 : Memref sig .tc .vmem S1x3x5632 .f32) (harg6 : arg6.IsWhole)
  (arg7 : Memref sig .tc .vmem S1x1x5632 .f32) (harg7 : arg7.IsWhole)
  (x4 : Vec Ideal S1x1024x5632 .bf16) (x5 : Vec Ideal S1x3x5632 .f32) (x6 : Vec Ideal S1x1x5632 .f32)

theorem load5 (o : ℕ) (h) (d : Fin 1024) (e : Fin 256) (f : Fin 5632) (hf : f.val = o + e.val) :
    View.readAt (Elt Ideal) arg5.view (Rect.unit (s := S1x1024x5632) ![0, 0, o] S1x1024x256.size h).toLoadRect (harg5.unread x4) (ix3 0 d e) = x4 (ix3 0 d f) := by
  rw [harg5.readAt_unread]
  congr 1
  funext a
  refine Fin.ext ?_
  match a with
  | ⟨0, _⟩ => rfl
  | ⟨1, _⟩ => show 0 + 1 * d.val = d.val; omega
  | ⟨2, _⟩ => show o + 1 * e.val = f.val; omega

theorem load6 (j : Fin 3) (jn : ℕ) (hj : j.val = jn) (o : ℕ) (h) (e : Fin 256) (f : Fin 5632) (hf : f.val = o + e.val) :
    View.readAt (Elt Ideal) arg6.view (Rect.unit (s := S1x3x5632) ![0, jn, o] S1x1x256.size h).toLoadRect (harg6.unread x5) (ix3 0 0 e) = x5 (ix3 0 j f) := by
  rw [harg6.readAt_unread]
  congr 1
  funext a
  refine Fin.ext ?_
  match a with
  | ⟨0, _⟩ => rfl
  | ⟨1, _⟩ => show jn + 1 * 0 = j.val; omega
  | ⟨2, _⟩ => show o + 1 * e.val = f.val; omega

theorem load7 (o : ℕ) (h) (e : Fin 256) (f : Fin 5632) (hf : f.val = o + e.val) :
    View.readAt (Elt Ideal) arg7.view (Rect.unit (s := S1x1x5632) ![0, 0, o] S1x1x256.size h).toLoadRect (harg7.unread x6) (ix3 0 0 e) = x6 (ix3 0 0 f) := by
  rw [harg7.readAt_unread]
  congr 1
  funext a
  refine Fin.ext ?_
  match a with
  | ⟨0, _⟩ => rfl
  | ⟨1, _⟩ => rfl
  | ⟨2, _⟩ => show o + 1 * e.val = f.val; omega

/-- The slice at column `o`, from the arrays' slices. -/
abbrev slice (y : FVec Ideal S528x1024 .bf16) (o p : ℕ) (ha : ∀ a, (![0, 0, o] : Fin 3 → ℕ) a + S1x1024x256.size a ≤ S1x1024x5632.size a)
    (ha0 : ∀ a, (![0, 0, o] : Fin 3 → ℕ) a + S1x1x256.size a ≤ S1x3x5632.size a)
    (ha1 : ∀ a, (![0, 1, o] : Fin 3 → ℕ) a + S1x1x256.size a ≤ S1x3x5632.size a)
    (ha2 : ∀ a, (![0, 2, o] : Fin 3 → ℕ) a + S1x1x256.size a ≤ S1x3x5632.size a)
    (hac : ∀ a, (![0, 0, o] : Fin 3 → ℕ) a + S1x1x256.size a ≤ S1x1x5632.size a)
    (hb : ∀ a, (![0, 0, p] : Fin 3 → ℕ) a + S1x1024x256.size a ≤ S1x1024x5632.size a)
    (hb0 : ∀ a, (![0, 0, p] : Fin 3 → ℕ) a + S1x1x256.size a ≤ S1x3x5632.size a)
    (hb1 : ∀ a, (![0, 1, p] : Fin 3 → ℕ) a + S1x1x256.size a ≤ S1x3x5632.size a)
    (hb2 : ∀ a, (![0, 2, p] : Fin 3 → ℕ) a + S1x1x256.size a ≤ S1x3x5632.size a)
    (hbc : ∀ a, (![0, 0, p] : Fin 3 → ℕ) a + S1x1x256.size a ≤ S1x1x5632.size a) : FVec Ideal S512x256 .bf16 :=
  chunk y
    (View.readAt (Elt Ideal) arg5.view (Rect.unit (s := S1x1024x5632) ![0, 0, o] S1x1024x256.size ha).toLoadRect (harg5.unread x4))
    (View.readAt (Elt Ideal) arg6.view (Rect.unit (s := S1x3x5632) ![0, 0, o] S1x1x256.size ha0).toLoadRect (harg6.unread x5))
    (View.readAt (Elt Ideal) arg6.view (Rect.unit (s := S1x3x5632) ![0, 1, o] S1x1x256.size ha1).toLoadRect (harg6.unread x5))
    (View.readAt (Elt Ideal) arg6.view (Rect.unit (s := S1x3x5632) ![0, 2, o] S1x1x256.size ha2).toLoadRect (harg6.unread x5))
    (View.readAt (Elt Ideal) arg7.view (Rect.unit (s := S1x1x5632) ![0, 0, o] S1x1x256.size hac).toLoadRect (harg7.unread x6))
    (View.readAt (Elt Ideal) arg5.view (Rect.unit (s := S1x1024x5632) ![0, 0, p] S1x1024x256.size hb).toLoadRect (harg5.unread x4))
    (View.readAt (Elt Ideal) arg6.view (Rect.unit (s := S1x3x5632) ![0, 0, p] S1x1x256.size hb0).toLoadRect (harg6.unread x5))
    (View.readAt (Elt Ideal) arg6.view (Rect.unit (s := S1x3x5632) ![0, 1, p] S1x1x256.size hb1).toLoadRect (harg6.unread x5))
    (View.readAt (Elt Ideal) arg6.view (Rect.unit (s := S1x3x5632) ![0, 2, p] S1x1x256.size hb2).toLoadRect (harg6.unread x5))
    (View.readAt (Elt Ideal) arg7.view (Rect.unit (s := S1x1x5632) ![0, 0, p] S1x1x256.size hbc).toLoadRect (harg7.unread x6))

theorem slice_apply (y : FVec Ideal S528x1024 .bf16) (o p : ℕ) (ha : ∀ a, (![0, 0, o] : Fin 3 → ℕ) a + S1x1024x256.size a ≤ S1x1024x5632.size a)
    (ha0 : ∀ a, (![0, 0, o] : Fin 3 → ℕ) a + S1x1x256.size a ≤ S1x3x5632.size a)
    (ha1 : ∀ a, (![0, 1, o] : Fin 3 → ℕ) a + S1x1x256.size a ≤ S1x3x5632.size a)
    (ha2 : ∀ a, (![0, 2, o] : Fin 3 → ℕ) a + S1x1x256.size a ≤ S1x3x5632.size a)
    (hac : ∀ a, (![0, 0, o] : Fin 3 → ℕ) a + S1x1x256.size a ≤ S1x1x5632.size a)
    (hb : ∀ a, (![0, 0, p] : Fin 3 → ℕ) a + S1x1024x256.size a ≤ S1x1024x5632.size a)
    (hb0 : ∀ a, (![0, 0, p] : Fin 3 → ℕ) a + S1x1x256.size a ≤ S1x3x5632.size a)
    (hb1 : ∀ a, (![0, 1, p] : Fin 3 → ℕ) a + S1x1x256.size a ≤ S1x3x5632.size a)
    (hb2 : ∀ a, (![0, 2, p] : Fin 3 → ℕ) a + S1x1x256.size a ≤ S1x3x5632.size a)
    (hbc : ∀ a, (![0, 0, p] : Fin 3 → ℕ) a + S1x1x256.size a ≤ S1x1x5632.size a) (hp : p = 2816 + o)
    (r : Fin 512) (e : Fin 256) (k : Fin 2816) (hk : k.val = o + e.val) :
    slice arg5 harg5 arg6 harg6 arg7 harg7 x4 x5 x6 y o p ha ha0 ha1 ha2 hac hb hb0 hb1 hb2 hbc (ix2 r e) = act y x4 x5 x6 r k := by
  unfold slice chunk
  rw [gated_apply, conv_apply, conv_apply]
  simp only [proj_apply]
  have h1 : ((⟨k.val, by omega⟩ : Fin 5632)).val = o + e.val := hk
  have h2 : ((⟨2816 + k.val, by omega⟩ : Fin 5632)).val = p + e.val := by show 2816 + k.val = _; omega
  simp only [load5 arg5 harg5 x4 o ha _ e _ h1, load5 arg5 harg5 x4 p hb _ e _ h2,
    load6 arg6 harg6 x5 0 0 rfl o ha0 e _ h1, load6 arg6 harg6 x5 1 1 rfl o ha1 e _ h1, load6 arg6 harg6 x5 2 2 rfl o ha2 e _ h1,
    load6 arg6 harg6 x5 0 0 rfl p hb0 e _ h2, load6 arg6 harg6 x5 1 1 rfl p hb1 e _ h2, load6 arg6 harg6 x5 2 2 rfl p hb2 e _ h2,
    load7 arg7 harg7 x6 o hac e _ h1, load7 arg7 harg7 x6 p hbc e _ h2]
  rfl

theorem ix_slice (x : S512x256.Idx) : ∃ (r : Fin 512) (e : Fin 256), x = ix2 r e := by
  idx_vars x
  exact ⟨_, _, rfl⟩

theorem slice_piece (y : FVec Ideal S528x1024 .bf16) (o p : ℕ) (ha : ∀ a, (![0, 0, o] : Fin 3 → ℕ) a + S1x1024x256.size a ≤ S1x1024x5632.size a)
    (ha0 : ∀ a, (![0, 0, o] : Fin 3 → ℕ) a + S1x1x256.size a ≤ S1x3x5632.size a)
    (ha1 : ∀ a, (![0, 1, o] : Fin 3 → ℕ) a + S1x1x256.size a ≤ S1x3x5632.size a)
    (ha2 : ∀ a, (![0, 2, o] : Fin 3 → ℕ) a + S1x1x256.size a ≤ S1x3x5632.size a)
    (hac : ∀ a, (![0, 0, o] : Fin 3 → ℕ) a + S1x1x256.size a ≤ S1x1x5632.size a)
    (hb : ∀ a, (![0, 0, p] : Fin 3 → ℕ) a + S1x1024x256.size a ≤ S1x1024x5632.size a)
    (hb0 : ∀ a, (![0, 0, p] : Fin 3 → ℕ) a + S1x1x256.size a ≤ S1x3x5632.size a)
    (hb1 : ∀ a, (![0, 1, p] : Fin 3 → ℕ) a + S1x1x256.size a ≤ S1x3x5632.size a)
    (hb2 : ∀ a, (![0, 2, p] : Fin 3 → ℕ) a + S1x1x256.size a ≤ S1x3x5632.size a)
    (hbc : ∀ a, (![0, 0, p] : Fin 3 → ℕ) a + S1x1x256.size a ≤ S1x1x5632.size a) (hp : p = 2816 + o) (ho : o + 256 ≤ 2816) (h)
    (x : S512x256.Idx) :
    slice arg5 harg5 arg6 harg6 arg7 harg7 x4 x5 x6 y o p ha ha0 ha1 ha2 hac hb hb0 hb1 hb2 hbc x
      = acts y x4 x5 x6 ((Rect.unit (s := S512x2816) ![0, o] S512x256.size h).emb x) := by
  obtain ⟨r, e, rfl⟩ := ix_slice x
  rw [slice_apply arg5 harg5 arg6 harg6 arg7 harg7 x4 x5 x6 y o p ha ha0 ha1 ha2 hac hb hb0 hb1 hb2 hbc hp r e ⟨o + e.val, by omega⟩ rfl]
  unfold acts
  refine congrArg₂ (act y x4 x5 x6) (Fin.ext ?_) (Fin.ext ?_)
  · show r.val = 0 + 1 * r.val; omega
  · show o + e.val = o + 1 * e.val; omega

end loads

section run
variable (c : Dev nD) (i : grid0.Coords)
  (arg1 : Memref sig .tc .vmem S512x1024 .f32) (harg1 : arg1.IsWhole) (arg2 : Memref sig .tc .vmem S8x1024 .f32) (harg2 : arg2.IsWhole)
  (arg3 : Memref sig .tc .vmem S8x1024 .f32) (harg3 : arg3.IsWhole) (arg4 : Memref sig .tc .vmem S1x1024 .f32) (harg4 : arg4.IsWhole)
  (arg5 : Memref sig .tc .vmem S1x1024x5632 .bf16) (harg5 : arg5.IsWhole) (arg6 : Memref sig .tc .vmem S1x3x5632 .f32) (harg6 : arg6.IsWhole)
  (arg7 : Memref sig .tc .vmem S1x1x5632 .f32) (harg7 : arg7.IsWhole) (arg8 : Memref sig .tc .vmem S1x2816x1024 .bf16) (harg8 : arg8.IsWhole)
  (arg9 : Memref sig .tc .vmem S1x1024 .f32) (harg9 : arg9.IsWhole) (arg10 : Memref sig .tc .vmem S512x1024 .f32) (harg10 : arg10.IsWhole)
  (arg11 : Memref sig .tc .vmem S512x2816 .bf16) (harg11 : arg11.IsWhole)
  (x0 : Vec Ideal S512x1024 .f32) (x1 : Vec Ideal S8x1024 .f32) (x2 : Vec Ideal S8x1024 .f32) (x3 : Vec Ideal S1x1024 .f32)
  (x4 : Vec Ideal S1x1024x5632 .bf16) (x5 : Vec Ideal S1x3x5632 .f32) (x6 : Vec Ideal S1x1x5632 .f32) (x7 : Vec Ideal S1x2816x1024 .bf16)
  (x8 : Vec Ideal S1x1024 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The rows a point works on. -/
theorem rows_eq : kernelRun0_A.sl.v58 (F := Ideal) c i arg1 harg1 arg2 harg2 arg3 harg3 arg4 harg4 x0 x1 x2 x3 = rows x0 x1 x2 x3 (kernelRun0_A.sl.v11 i) := by
  have h : kernelRun0_A.sl.v58 (F := Ideal) c i arg1 harg1 arg2 harg2 arg3 harg3 arg4 harg4 x0 x1 x2 x3
      = rows (View.readAt (Elt Ideal) arg1.view (Rect.unit ![0, 0] S512x1024.size inb_S512x1024_S512x1024_0_0).toLoadRect (harg1.unread x0))
          (View.readAt (Elt Ideal) arg2.view (Rect.unit ![0, 0] S8x1024.size inb_S8x1024_S8x1024_0_0).toLoadRect (harg2.unread x1))
          (View.readAt (Elt Ideal) arg3.view (Rect.unit ![0, 0] S8x1024.size inb_S8x1024_S8x1024_0_0).toLoadRect (harg3.unread x2))
          (View.readAt (Elt Ideal) arg4.view (Rect.unit ![0, 0] S1x1024.size inb_S1x1024_S1x1024_0_0).toLoadRect (harg4.unread x3))
          (kernelRun0_A.sl.v11 i) := rfl
  rw [h, View.readAt_eq_ld, View.readAt_eq_ld, View.readAt_eq_ld, View.readAt_eq_ld, harg1.read_unread, harg2.read_unread, harg3.read_unread, harg4.read_unread,
    View.ld_unit_zero hz2, View.ld_unit_zero hz2, View.ld_unit_zero hz2, View.ld_unit_zero hz2]

/-- The slices a point has written. -/
abbrev wrote : List (View.Piece (Elt Ideal) S512x2816 .bf16) :=
  kernelRun0_A.sl.HS0_11 (F := Ideal) c i arg1 harg1 arg2 harg2 arg3 harg3 arg4 harg4 arg5 harg5 arg6 harg6 arg7 harg7 x0 x1 x2 x3 x4 x5 x6

abbrev yrows : FVec Ideal S528x1024 .bf16 := kernelRun0_A.sl.v58 (F := Ideal) c i arg1 harg1 arg2 harg2 arg3 harg3 arg4 harg4 x0 x1 x2 x3

theorem wrote_eq : ∀ q ∈ wrote c i arg1 harg1 arg2 harg2 arg3 harg3 arg4 harg4 arg5 harg5 arg6 harg6 arg7 harg7 x0 x1 x2 x3 x4 x5 x6, ∀ x : q.1.shape.Idx, q.2 x = acts (yrows c i arg1 harg1 arg2 harg2 arg3 harg3 arg4 harg4 x0 x1 x2 x3) x4 x5 x6 (q.1.emb x) := by
  unfold wrote kernelRun0_A.sl.HS0_11
  refine List.forall_mem_cons.2 ⟨fun x => (slice_piece arg5 harg5 arg6 harg6 arg7 harg7 x4 x5 x6 (yrows c i arg1 harg1 arg2 harg2 arg3 harg3 arg4 harg4 x0 x1 x2 x3) 2560 5376 inb_S1x1024x5632_S1x1024x256_0_0_2560 inb_S1x3x5632_S1x1x256_0_0_2560 inb_S1x3x5632_S1x1x256_0_1_2560 inb_S1x3x5632_S1x1x256_0_2_2560 inb_S1x1x5632_S1x1x256_0_0_2560 inb_S1x1024x5632_S1x1024x256_0_0_5376 inb_S1x3x5632_S1x1x256_0_0_5376 inb_S1x3x5632_S1x1x256_0_1_5376 inb_S1x3x5632_S1x1x256_0_2_5376 inb_S1x1x5632_S1x1x256_0_0_5376 rfl (by decide) inb_S512x2816_S512x256_0_2560 x), ?_⟩
  refine List.forall_mem_cons.2 ⟨fun x => (slice_piece arg5 harg5 arg6 harg6 arg7 harg7 x4 x5 x6 (yrows c i arg1 harg1 arg2 harg2 arg3 harg3 arg4 harg4 x0 x1 x2 x3) 2304 5120 inb_S1x1024x5632_S1x1024x256_0_0_2304 inb_S1x3x5632_S1x1x256_0_0_2304 inb_S1x3x5632_S1x1x256_0_1_2304 inb_S1x3x5632_S1x1x256_0_2_2304 inb_S1x1x5632_S1x1x256_0_0_2304 inb_S1x1024x5632_S1x1024x256_0_0_5120 inb_S1x3x5632_S1x1x256_0_0_5120 inb_S1x3x5632_S1x1x256_0_1_5120 inb_S1x3x5632_S1x1x256_0_2_5120 inb_S1x1x5632_S1x1x256_0_0_5120 rfl (by decide) inb_S512x2816_S512x256_0_2304 x), ?_⟩
  refine List.forall_mem_cons.2 ⟨fun x => (slice_piece arg5 harg5 arg6 harg6 arg7 harg7 x4 x5 x6 (yrows c i arg1 harg1 arg2 harg2 arg3 harg3 arg4 harg4 x0 x1 x2 x3) 2048 4864 inb_S1x1024x5632_S1x1024x256_0_0_2048 inb_S1x3x5632_S1x1x256_0_0_2048 inb_S1x3x5632_S1x1x256_0_1_2048 inb_S1x3x5632_S1x1x256_0_2_2048 inb_S1x1x5632_S1x1x256_0_0_2048 inb_S1x1024x5632_S1x1024x256_0_0_4864 inb_S1x3x5632_S1x1x256_0_0_4864 inb_S1x3x5632_S1x1x256_0_1_4864 inb_S1x3x5632_S1x1x256_0_2_4864 inb_S1x1x5632_S1x1x256_0_0_4864 rfl (by decide) inb_S512x2816_S512x256_0_2048 x), ?_⟩
  refine List.forall_mem_cons.2 ⟨fun x => (slice_piece arg5 harg5 arg6 harg6 arg7 harg7 x4 x5 x6 (yrows c i arg1 harg1 arg2 harg2 arg3 harg3 arg4 harg4 x0 x1 x2 x3) 1792 4608 inb_S1x1024x5632_S1x1024x256_0_0_1792 inb_S1x3x5632_S1x1x256_0_0_1792 inb_S1x3x5632_S1x1x256_0_1_1792 inb_S1x3x5632_S1x1x256_0_2_1792 inb_S1x1x5632_S1x1x256_0_0_1792 inb_S1x1024x5632_S1x1024x256_0_0_4608 inb_S1x3x5632_S1x1x256_0_0_4608 inb_S1x3x5632_S1x1x256_0_1_4608 inb_S1x3x5632_S1x1x256_0_2_4608 inb_S1x1x5632_S1x1x256_0_0_4608 rfl (by decide) inb_S512x2816_S512x256_0_1792 x), ?_⟩
  refine List.forall_mem_cons.2 ⟨fun x => (slice_piece arg5 harg5 arg6 harg6 arg7 harg7 x4 x5 x6 (yrows c i arg1 harg1 arg2 harg2 arg3 harg3 arg4 harg4 x0 x1 x2 x3) 1536 4352 inb_S1x1024x5632_S1x1024x256_0_0_1536 inb_S1x3x5632_S1x1x256_0_0_1536 inb_S1x3x5632_S1x1x256_0_1_1536 inb_S1x3x5632_S1x1x256_0_2_1536 inb_S1x1x5632_S1x1x256_0_0_1536 inb_S1x1024x5632_S1x1024x256_0_0_4352 inb_S1x3x5632_S1x1x256_0_0_4352 inb_S1x3x5632_S1x1x256_0_1_4352 inb_S1x3x5632_S1x1x256_0_2_4352 inb_S1x1x5632_S1x1x256_0_0_4352 rfl (by decide) inb_S512x2816_S512x256_0_1536 x), ?_⟩
  refine List.forall_mem_cons.2 ⟨fun x => (slice_piece arg5 harg5 arg6 harg6 arg7 harg7 x4 x5 x6 (yrows c i arg1 harg1 arg2 harg2 arg3 harg3 arg4 harg4 x0 x1 x2 x3) 1280 4096 inb_S1x1024x5632_S1x1024x256_0_0_1280 inb_S1x3x5632_S1x1x256_0_0_1280 inb_S1x3x5632_S1x1x256_0_1_1280 inb_S1x3x5632_S1x1x256_0_2_1280 inb_S1x1x5632_S1x1x256_0_0_1280 inb_S1x1024x5632_S1x1024x256_0_0_4096 inb_S1x3x5632_S1x1x256_0_0_4096 inb_S1x3x5632_S1x1x256_0_1_4096 inb_S1x3x5632_S1x1x256_0_2_4096 inb_S1x1x5632_S1x1x256_0_0_4096 rfl (by decide) inb_S512x2816_S512x256_0_1280 x), ?_⟩
  refine List.forall_mem_cons.2 ⟨fun x => (slice_piece arg5 harg5 arg6 harg6 arg7 harg7 x4 x5 x6 (yrows c i arg1 harg1 arg2 harg2 arg3 harg3 arg4 harg4 x0 x1 x2 x3) 1024 3840 inb_S1x1024x5632_S1x1024x256_0_0_1024 inb_S1x3x5632_S1x1x256_0_0_1024 inb_S1x3x5632_S1x1x256_0_1_1024 inb_S1x3x5632_S1x1x256_0_2_1024 inb_S1x1x5632_S1x1x256_0_0_1024 inb_S1x1024x5632_S1x1024x256_0_0_3840 inb_S1x3x5632_S1x1x256_0_0_3840 inb_S1x3x5632_S1x1x256_0_1_3840 inb_S1x3x5632_S1x1x256_0_2_3840 inb_S1x1x5632_S1x1x256_0_0_3840 rfl (by decide) inb_S512x2816_S512x256_0_1024 x), ?_⟩
  refine List.forall_mem_cons.2 ⟨fun x => (slice_piece arg5 harg5 arg6 harg6 arg7 harg7 x4 x5 x6 (yrows c i arg1 harg1 arg2 harg2 arg3 harg3 arg4 harg4 x0 x1 x2 x3) 768 3584 inb_S1x1024x5632_S1x1024x256_0_0_768 inb_S1x3x5632_S1x1x256_0_0_768 inb_S1x3x5632_S1x1x256_0_1_768 inb_S1x3x5632_S1x1x256_0_2_768 inb_S1x1x5632_S1x1x256_0_0_768 inb_S1x1024x5632_S1x1024x256_0_0_3584 inb_S1x3x5632_S1x1x256_0_0_3584 inb_S1x3x5632_S1x1x256_0_1_3584 inb_S1x3x5632_S1x1x256_0_2_3584 inb_S1x1x5632_S1x1x256_0_0_3584 rfl (by decide) inb_S512x2816_S512x256_0_768 x), ?_⟩
  refine List.forall_mem_cons.2 ⟨fun x => (slice_piece arg5 harg5 arg6 harg6 arg7 harg7 x4 x5 x6 (yrows c i arg1 harg1 arg2 harg2 arg3 harg3 arg4 harg4 x0 x1 x2 x3) 512 3328 inb_S1x1024x5632_S1x1024x256_0_0_512 inb_S1x3x5632_S1x1x256_0_0_512 inb_S1x3x5632_S1x1x256_0_1_512 inb_S1x3x5632_S1x1x256_0_2_512 inb_S1x1x5632_S1x1x256_0_0_512 inb_S1x1024x5632_S1x1024x256_0_0_3328 inb_S1x3x5632_S1x1x256_0_0_3328 inb_S1x3x5632_S1x1x256_0_1_3328 inb_S1x3x5632_S1x1x256_0_2_3328 inb_S1x1x5632_S1x1x256_0_0_3328 rfl (by decide) inb_S512x2816_S512x256_0_512 x), ?_⟩
  refine List.forall_mem_cons.2 ⟨fun x => (slice_piece arg5 harg5 arg6 harg6 arg7 harg7 x4 x5 x6 (yrows c i arg1 harg1 arg2 harg2 arg3 harg3 arg4 harg4 x0 x1 x2 x3) 256 3072 inb_S1x1024x5632_S1x1024x256_0_0_256 inb_S1x3x5632_S1x1x256_0_0_256 inb_S1x3x5632_S1x1x256_0_1_256 inb_S1x3x5632_S1x1x256_0_2_256 inb_S1x1x5632_S1x1x256_0_0_256 inb_S1x1024x5632_S1x1024x256_0_0_3072 inb_S1x3x5632_S1x1x256_0_0_3072 inb_S1x3x5632_S1x1x256_0_1_3072 inb_S1x3x5632_S1x1x256_0_2_3072 inb_S1x1x5632_S1x1x256_0_0_3072 rfl (by decide) inb_S512x2816_S512x256_0_256 x), ?_⟩
  refine List.forall_mem_cons.2 ⟨fun x => (slice_piece arg5 harg5 arg6 harg6 arg7 harg7 x4 x5 x6 (yrows c i arg1 harg1 arg2 harg2 arg3 harg3 arg4 harg4 x0 x1 x2 x3) 0 2816 inb_S1x1024x5632_S1x1024x256_0_0_0 inb_S1x3x5632_S1x1x256_0_0_0 inb_S1x3x5632_S1x1x256_0_1_0 inb_S1x3x5632_S1x1x256_0_2_0 inb_S1x1x5632_S1x1x256_0_0_0 inb_S1x1024x5632_S1x1024x256_0_0_2816 inb_S1x3x5632_S1x1x256_0_0_2816 inb_S1x3x5632_S1x1x256_0_1_2816 inb_S1x3x5632_S1x1x256_0_2_2816 inb_S1x1x5632_S1x1x256_0_0_2816 rfl (by decide) inb_S512x2816_S512x256_0_0 x), ?_⟩
  exact fun q hq => absurd hq (List.not_mem_nil)

theorem wrote_cover (y : S512x2816.Idx) : ∃ q ∈ wrote c i arg1 harg1 arg2 harg2 arg3 harg3 arg4 harg4 arg5 harg5 arg6 harg6 arg7 harg7 x0 x1 x2 x3 x4 x5 x6, y ∈ q.1.set := by
  have h0 : (y 0 : Nat) < 512 := (y 0).isLt
  have h1 : (y 1 : Nat) < 2816 := (y 1).isLt
  have key : ∀ (o : ℕ) (h), o ≤ (y 1 : Nat) → (y 1 : Nat) < o + 256 → y ∈ (Rect.unit (s := S512x2816) ![0, o] S512x256.size h).set := fun o h ha hb => by
    rw [Rect.mem_set_unit]
    intro a
    match a with
    | ⟨0, _⟩ => exact ⟨Nat.zero_le _, by show (y 0 : Nat) < 0 + 512; omega⟩
    | ⟨1, _⟩ => exact ⟨ha, hb⟩
  unfold wrote kernelRun0_A.sl.HS0_11
  by_cases h10 : 2560 ≤ (y 1 : Nat)
  · exact ⟨_, List.Mem.head _, key 2560 inb_S512x2816_S512x256_0_2560 (by omega) (by omega)⟩
  by_cases h9 : 2304 ≤ (y 1 : Nat)
  · exact ⟨_, List.Mem.tail _ (List.Mem.head _), key 2304 inb_S512x2816_S512x256_0_2304 (by omega) (by omega)⟩
  by_cases h8 : 2048 ≤ (y 1 : Nat)
  · exact ⟨_, List.Mem.tail _ (List.Mem.tail _ (List.Mem.head _)), key 2048 inb_S512x2816_S512x256_0_2048 (by omega) (by omega)⟩
  by_cases h7 : 1792 ≤ (y 1 : Nat)
  · exact ⟨_, List.Mem.tail _ (List.Mem.tail _ (List.Mem.tail _ (List.Mem.head _))), key 1792 inb_S512x2816_S512x256_0_1792 (by omega) (by omega)⟩
  by_cases h6 : 1536 ≤ (y 1 : Nat)
  · exact ⟨_, List.Mem.tail _ (List.Mem.tail _ (List.Mem.tail _ (List.Mem.tail _ (List.Mem.head _)))), key 1536 inb_S512x2816_S512x256_0_1536 (by omega) (by omega)⟩
  by_cases h5 : 1280 ≤ (y 1 : Nat)
  · exact ⟨_, List.Mem.tail _ (List.Mem.tail _ (List.Mem.tail _ (List.Mem.tail _ (List.Mem.tail _ (List.Mem.head _))))), key 1280 inb_S512x2816_S512x256_0_1280 (by omega) (by omega)⟩
  by_cases h4 : 1024 ≤ (y 1 : Nat)
  · exact ⟨_, List.Mem.tail _ (List.Mem.tail _ (List.Mem.tail _ (List.Mem.tail _ (List.Mem.tail _ (List.Mem.tail _ (List.Mem.head _)))))), key 1024 inb_S512x2816_S512x256_0_1024 (by omega) (by omega)⟩
  by_cases h3 : 768 ≤ (y 1 : Nat)
  · exact ⟨_, List.Mem.tail _ (List.Mem.tail _ (List.Mem.tail _ (List.Mem.tail _ (List.Mem.tail _ (List.Mem.tail _ (List.Mem.tail _ (List.Mem.head _))))))), key 768 inb_S512x2816_S512x256_0_768 (by omega) (by omega)⟩
  by_cases h2 : 512 ≤ (y 1 : Nat)
  · exact ⟨_, List.Mem.tail _ (List.Mem.tail _ (List.Mem.tail _ (List.Mem.tail _ (List.Mem.tail _ (List.Mem.tail _ (List.Mem.tail _ (List.Mem.tail _ (List.Mem.head _)))))))), key 512 inb_S512x2816_S512x256_0_512 (by omega) (by omega)⟩
  by_cases h1 : 256 ≤ (y 1 : Nat)
  · exact ⟨_, List.Mem.tail _ (List.Mem.tail _ (List.Mem.tail _ (List.Mem.tail _ (List.Mem.tail _ (List.Mem.tail _ (List.Mem.tail _ (List.Mem.tail _ (List.Mem.tail _ (List.Mem.head _))))))))), key 256 inb_S512x2816_S512x256_0_256 (by omega) (by omega)⟩
  exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), key 0 inb_S512x2816_S512x256_0_0 (by omega) (by omega)⟩

theorem acts_eq : kernelRun0_A.sl.v1215 (F := Ideal) c i arg1 harg1 arg2 harg2 arg3 harg3 arg4 harg4 arg5 harg5 arg6 harg6 arg7 harg7 arg11 x0 x1 x2 x3 x4 x5 x6
    = acts (yrows c i arg1 harg1 arg2 harg2 arg3 harg3 arg4 harg4 x0 x1 x2 x3) x4 x5 x6 := by
  unfold kernelRun0_A.sl.v1215 View.readCov
  rw [View.readAt_eq_ld, View.read_writes_junk_eq_canon, View.ld_unit_zero hz2]
  funext y
  exact View.canon_apply_of_pieces (acts (yrows c i arg1 harg1 arg2 harg2 arg3 harg3 arg4 harg4 x0 x1 x2 x3) x4 x5 x6) (wrote c i arg1 harg1 arg2 harg2 arg3 harg3 arg4 harg4 arg5 harg5 arg6 harg6 arg7 harg7 x0 x1 x2 x3 x4 x5 x6) (wrote_eq c i arg1 harg1 arg2 harg2 arg3 harg3 arg4 harg4 arg5 harg5 arg6 harg6 arg7 harg7 x0 x1 x2 x3 x4 x5 x6) y (wrote_cover c i arg1 harg1 arg2 harg2 arg3 harg3 arg4 harg4 arg5 harg5 arg6 harg6 arg7 harg7 x0 x1 x2 x3 x4 x5 x6 y)

/-- What a point leaves. -/
theorem out_eq : out0_A_9 (F := Ideal) c i arg1 harg1 arg2 harg2 arg3 harg3 arg4 harg4 arg5 harg5 arg6 harg6 arg7 harg7 arg8 harg8 arg9 harg9 arg10 harg10 arg11 harg11
      x0 x1 x2 x3 x4 x5 x6 x7 x8
    = last x0 (acts (rows x0 x1 x2 x3 (kernelRun0_A.sl.v11 i)) x4 x5 x6) x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11
    x0 x1 x2 x3 x4 x5 x6 x7 x8)]
  unfold kernelRun0_A
  dsimp only
  rw [View.canon_unit_zero hz2]
  rw [← rows_eq c i arg1 harg1 arg2 harg2 arg3 harg3 arg4 harg4 x0 x1 x2 x3, ← acts_eq c i arg1 harg1 arg2 harg2 arg3 harg3 arg4 harg4 arg5 harg5 arg6 harg6 arg7 harg7 arg11 x0 x1 x2 x3 x4 x5 x6]
  have h1 : View.readAt (Elt Ideal) arg1.view (Rect.unit ![0, 0] S512x1024.size inb_S512x1024_S512x1024_0_0).toLoadRect (harg1.unread x0) = x0 := by
    rw [View.readAt_eq_ld, harg1.read_unread, View.ld_unit_zero hz2]
  have h8 : View.readAt (Elt Ideal) arg8.view (Rect.unit ![0, 0, 0] S1x2816x1024.size inb_S1x2816x1024_S1x2816x1024_0_0_0).toLoadRect (harg8.unread x7) = x7 := by
    rw [View.readAt_eq_ld, harg8.read_unread, View.ld_unit_zero hz3]
  have h9 : View.readAt (Elt Ideal) arg9.view (Rect.unit ![0, 0] S1x1024.size inb_S1x1024_S1x1024_0_0).toLoadRect (harg9.unread x8) = x8 := by
    rw [View.readAt_eq_ld, harg9.read_unread, View.ld_unit_zero hz2]
  unfold kernelRun0_A.sl.r_23 kernelRun0_A.sl.r_24 kernelRun0_A.sl.r_25
  rw [h1, h8, h9]
  rfl

end run

end Cert.Kernel2Ideal.Hand

end
-- ==== Proof.FeedArray.lean ====
/-
  The feed-forward kernel's result array. Each grid point reads 512 rows of its array, the row before them and the row
  after them, and writes the 512 rows of the result; the rows tile the array.
-/
module

public import proofs.«01_k».proof.Proof.Slices
public import Idealize.ShloMosaic.Lib.StableHlo.Run

@[expose] public section

set_option maxRecDepth 16384

noncomputable section

namespace Cert.Kernel2Ideal.Hand

open Cert.Kernel2Ideal Cert.Kernel2Ideal.Gen Cert.Feed
open Idealize.ShloMosaic Idealize.ShloMosaic.TcCoe Idealize.ShloMosaic.Tactic Idealize.ShloMosaic.StableHlo Idealize.SL.Sem
open Idealize.ShloMosaic.Pipeline (Dat)

section point
variable (H : Fin 16384 → Fin 1024 → EReal) (g gf : Fin 1024 → EReal) (W : Fin 1024 → Fin 5632 → EReal) (C : Fin 3 → Fin 5632 → EReal)
  (B : Fin 5632 → EReal) (D : Fin 2816 → Fin 1024 → EReal)
variable (t : ℕ) (ht : t < 32) (pos : BitVec 32) (hp0 : pos = 0#32 ↔ t % 16 = 0) (hp15 : pos = 15#32 ↔ t % 16 = 15)
variable (x0 : Vec Ideal S512x1024 .f32) (x1 : Vec Ideal S8x1024 .f32) (x2 : Vec Ideal S8x1024 .f32) (x3 : Vec Ideal S1x1024 .f32)
  (x4 : Vec Ideal S1x1024x5632 .bf16) (x5 : Vec Ideal S1x3x5632 .f32) (x6 : Vec Ideal S1x1x5632 .f32) (x7 : Vec Ideal S1x2816x1024 .bf16)
  (x8 : Vec Ideal S1x1024 .f32)
variable (h0 : ∀ (r : Fin 512) (R : Fin 16384), R.val = t * 512 + r.val → ∀ d, x0 (ix2 r d) = H R d)
  (h1 : ∀ R : Fin 16384, R.val + 1 = t * 512 → ∀ d, x1 (ix2 7 d) = H R d)
  (h2 : ∀ R : Fin 16384, R.val = t * 512 + 512 → ∀ d, x2 (ix2 0 d) = H R d)
  (h3 : ∀ d, x3 (ix2 0 d) = g d) (h4 : ∀ d f, x4 (ix3 0 d f) = W d f) (h5 : ∀ j f, x5 (ix3 0 j f) = C j f) (h6 : ∀ f, x6 (ix3 0 0 f) = B f)
  (h7 : ∀ k d, x7 (ix3 0 k d) = D k d) (h8 : ∀ d, x8 (ix2 0 d) = gf d)

include h0 h3 in
theorem rows_mid (r : Fin 528) (hr : r.val < 512) (R : Fin 16384) (hR : R.val = t * 512 + r.val) (d : Fin 1024) :
    rows (F := Ideal) x0 x1 x2 x3 pos (ix2 r d) = nrm (H R) g d := by
  unfold rows
  rw [joined_apply, dif_pos hr, normT_apply, h3]
  simp only [h0 ⟨r.val, hr⟩ R hR]
  rfl

include h2 h3 hp15 in
theorem rows_after (r : Fin 528) (hr : r.val = 512) (ht' : ¬ t % 16 = 15) (R : Fin 16384) (hR : R.val = t * 512 + 512) (d : Fin 1024) :
    rows (F := Ideal) x0 x1 x2 x3 pos (ix2 r d) = nrm (H R) g d := by
  have e : (⟨r.val - 512, by omega⟩ : Fin 8) = 0 := Fin.ext (by show r.val - 512 = 0; omega)
  unfold rows
  rw [joined_apply, dif_neg (by omega), dif_pos (by omega), e, edge_apply, if_neg (fun h => ht' (hp15.1 h)), normE_apply, h3]
  simp only [h2 R hR]
  rfl

include hp15 in
theorem rows_end (r : Fin 528) (hr : r.val = 512) (ht' : t % 16 = 15) (d : Fin 1024) :
    rows (F := Ideal) x0 x1 x2 x3 pos (ix2 r d) = 0 := by
  unfold rows
  rw [joined_apply, dif_neg (by omega), dif_pos (by omega), edge_apply, if_pos (hp15.2 ht')]

include h1 h3 hp0 in
theorem rows_before (r : Fin 528) (hr : r.val = 527) (ht' : ¬ t % 16 = 0) (R : Fin 16384) (hR : R.val + 1 = t * 512) (d : Fin 1024) :
    rows (F := Ideal) x0 x1 x2 x3 pos (ix2 r d) = nrm (H R) g d := by
  have e : (⟨r.val - 512 - 8, by omega⟩ : Fin 8) = 7 := Fin.ext (by show r.val - 512 - 8 = 7; omega)
  unfold rows
  rw [joined_apply, dif_neg (by omega), dif_neg (by omega), e, edge_apply, if_neg (fun h => ht' (hp0.1 h)), normE_apply, h3]
  simp only [h1 R hR]
  rfl

include hp0 in
theorem rows_start (r : Fin 528) (hr : r.val = 527) (ht' : t % 16 = 0) (d : Fin 1024) :
    rows (F := Ideal) x0 x1 x2 x3 pos (ix2 r d) = 0 := by
  unfold rows
  rw [joined_apply, dif_neg (by omega), dif_neg (by omega), edge_apply, if_pos (hp0.2 ht')]

include h4 in
theorem up_of (y : FVec Ideal S528x1024 .bf16) (r : Fin 528) (f : Fin 5632) (R : Fin 16384) (hy : ∀ d, y (ix2 r d) = nrm (H R) g d) :
    up y x4 r f = upr H g W R f := by
  unfold up upr
  exact Finset.sum_congr rfl fun d _ => by rw [hy, h4]

theorem up_zero (y : FVec Ideal S528x1024 .bf16) (r : Fin 528) (f : Fin 5632) (hy : ∀ d, y (ix2 r d) = 0) : up y x4 r f = 0 := by
  unfold up
  exact Finset.sum_eq_zero fun d _ => by rw [hy, zero_mul]

include ht hp0 hp15 h0 h1 h2 h3 h4 h5 h6 in
theorem mixed_eq (r : Fin 512) (R : Fin 16384) (hR : R.val = t * 512 + r.val) (f : Fin 5632) :
    mixed (rows x0 x1 x2 x3 pos) x4 x5 x6 r f = mixr H g W C B R f := by
  have hr := r.isLt
  unfold mixed mixr
  have e1 : up (rows x0 x1 x2 x3 pos) x4 ⟨r.val, by omega⟩ f = upr H g W R f :=
    up_of H g W x4 h4 _ _ f R fun d => rows_mid H g t pos x0 x1 x2 x3 h0 h3 _ hr R hR d
  have e0 : up (rows x0 x1 x2 x3 pos) x4 ⟨(r.val + 527) % 528, Nat.mod_lt _ (by decide)⟩ f * C 0 f
      = if h : R.val % 8192 = 0 then 0 else upr H g W ⟨R.val - 1, by omega⟩ f * C 0 f := by
    by_cases hz : r.val = 0
    · by_cases htz : t % 16 = 0
      · rw [dif_pos (by omega), up_zero x4 _ _ f fun d => rows_start t pos hp0 x0 x1 x2 x3 _ (by show (r.val + 527) % 528 = 527; omega) htz d, zero_mul]
      · rw [dif_neg (by omega), up_of H g W x4 h4 _ _ f ⟨R.val - 1, by omega⟩ fun d =>
          rows_before H g t pos hp0 x0 x1 x2 x3 h1 h3 _ (by show (r.val + 527) % 528 = 527; omega) htz _ (by show R.val - 1 + 1 = t * 512; omega) d]
    · rw [dif_neg (by omega), up_of H g W x4 h4 _ _ f ⟨R.val - 1, by omega⟩ fun d =>
          rows_mid H g t pos x0 x1 x2 x3 h0 h3 _ (by show (r.val + 527) % 528 < 512; omega) _ (by show R.val - 1 = t * 512 + (r.val + 527) % 528; omega) d]
  have e2 : up (rows x0 x1 x2 x3 pos) x4 ⟨r.val + 1, by omega⟩ f * C 2 f
      = if h : R.val % 8192 = 8191 then 0 else upr H g W ⟨R.val + 1, by omega⟩ f * C 2 f := by
    by_cases hz : r.val = 511
    · by_cases htz : t % 16 = 15
      · rw [dif_pos (by omega), up_zero x4 _ _ f fun d => rows_end t pos hp15 x0 x1 x2 x3 _ (by show r.val + 1 = 512; omega) htz d, zero_mul]
      · rw [dif_neg (by omega), up_of H g W x4 h4 _ _ f ⟨R.val + 1, by omega⟩ fun d =>
          rows_after H g t pos hp15 x0 x1 x2 x3 h2 h3 _ (by show r.val + 1 = 512; omega) htz _ (by show R.val + 1 = t * 512 + 512; omega) d]
    · rw [dif_neg (by omega), up_of H g W x4 h4 _ _ f ⟨R.val + 1, by omega⟩ fun d =>
          rows_mid H g t pos x0 x1 x2 x3 h0 h3 _ (by show r.val + 1 < 512; omega) _ (by show R.val + 1 = t * 512 + (r.val + 1); omega) d]
  rw [e1, h5, h5, h5, h6, e0, e2]

theorem acts_apply (y : FVec Ideal S528x1024 .bf16) (r : Fin 512) (k : Fin 2816) : acts y x4 x5 x6 (ix2 r k) = act y x4 x5 x6 r k := rfl

include ht hp0 hp15 h0 h1 h2 h3 h4 h5 h6 h7 h8 in
theorem last_eq (r : Fin 512) (R : Fin 16384) (hR : R.val = t * 512 + r.val) (e : Fin 1024) :
    last x0 (acts (rows x0 x1 x2 x3 pos) x4 x5 x6) x7 x8 (ix2 r e) = res H g gf W C B D R e := by
  rw [last_apply x0 _ x7 x8 r e (sumr H g W C B D R) ?_, h8]
  · rfl
  · intro d
    unfold sumr
    rw [h0 r R hR]
    refine congrArg (H R d + ·) (Finset.sum_congr rfl fun k _ => ?_)
    rw [h7]
    refine congrArg (· * D k d) ?_
    rw [acts_apply]
    unfold act actr
    rw [mixed_eq H g W C B t ht pos hp0 hp15 x0 x1 x2 x3 x4 x5 x6 h0 h1 h2 h3 h4 h5 h6 r R hR,
      mixed_eq H g W C B t ht pos hp0 hp15 x0 x1 x2 x3 x4 x5 x6 h0 h1 h2 h3 h4 h5 h6 r R hR]

end point

section args
variable (m : (ℓ : Loc nD τ sig) → Buf (Elt Ideal) ℓ) (c : Dev nD)

/-- The arguments, by their numbers. -/
abbrev aH (R : Fin 16384) (d : Fin 1024) : EReal := (m ((c : Thread nD τ).loc main_arg0) : S16384x1024.Idx → EReal) (ix2 R d)
abbrev ag (d : Fin 1024) : EReal := (m ((c : Thread nD τ).loc main_arg1) : S2x1024.Idx → EReal) (ix2 1 d)
abbrev agf (d : Fin 1024) : EReal := (m ((c : Thread nD τ).loc main_arg2) : S1024.Idx → EReal) (ix1 d)
abbrev aW (d : Fin 1024) (f : Fin 5632) : EReal := (m ((c : Thread nD τ).loc main_arg3) : S2x1024x5632.Idx → EReal) (ix3 1 d f)
abbrev aC (j : Fin 3) (f : Fin 5632) : EReal := (m ((c : Thread nD τ).loc main_arg4) : S2x3x5632.Idx → EReal) (ix3 1 j f)
abbrev aB (f : Fin 5632) : EReal := (m ((c : Thread nD τ).loc main_arg5) : S2x5632.Idx → EReal) (ix2 1 f)
abbrev aD (k : Fin 2816) (d : Fin 1024) : EReal := (m ((c : Thread nD τ).loc main_arg6) : S2x2816x1024.Idx → EReal) (ix3 1 k d)

/-- The result of the arguments. -/
def resOf : Buf (Elt Ideal) ((c : Thread nD τ).loc main_v7) :=
  fun (i : S16384x1024.Idx) => res (aH m c) (ag m c) (agf m c) (aW m c) (aC m c) (aB m c) (aD m c) (i 0) (i 1)

theorem V_g : (V m c main_v2 : S1x1024.Idx → EReal) = shapeCast S1x1024 (shapeCast S1024 (extractStridedSlice S1x1024 ![1, 0]
    (m ((c : Thread nD τ).loc main_arg1) : Vec Ideal S2x1024 .f32) slices_S2x1024_S1x1024_1_0) shapeCasts_S1x1024_S1024) shapeCasts_S1024_S1x1024 := by
  show after hostOps0 _ (Proc.devRef .tc main_v2) = _
  unfold hostOps0
  after_results
  rfl

theorem V_W : (V m c main_v3 : S2x1024x5632.Idx → EReal) = (m ((c : Thread nD τ).loc main_arg3) : S2x1024x5632.Idx → EReal) := by
  show after hostOps0 _ (Proc.devRef .tc main_v3) = _
  unfold hostOps0
  after_results
  rfl

theorem V_B : (V m c main_v4 : S2x1x5632.Idx → EReal) = broadcastInDim S2x1x5632 ![0, 2] bcast_S2x5632_S2x1x5632_0_2
    (m ((c : Thread nD τ).loc main_arg5) : Vec Ideal S2x5632 .f32) := by
  show after hostOps0 _ (Proc.devRef .tc main_v4) = _
  unfold hostOps0
  after_results

theorem V_D : (V m c main_v5 : S2x2816x1024.Idx → EReal) = (m ((c : Thread nD τ).loc main_arg6) : S2x2816x1024.Idx → EReal) := by
  show after hostOps0 _ (Proc.devRef .tc main_v5) = _
  unfold hostOps0
  after_results
  rfl

theorem V_gf : (V m c main_v6 : S1x1024.Idx → EReal) = shapeCast S1x1024 (m ((c : Thread nD τ).loc main_arg2) : Vec Ideal S1024 .f32) shapeCasts_S1024_S1x1024 := by
  show after hostOps0 _ (Proc.devRef .tc main_v6) = _
  unfold hostOps0
  after_results
  rfl

theorem V_H : (V m c main_arg0 : S16384x1024.Idx → EReal) = (m ((c : Thread nD τ).loc main_arg0) : S16384x1024.Idx → EReal) := by
  show after hostOps0 _ (Proc.devRef .tc main_arg0) = _
  unfold hostOps0
  after_results

theorem V_C : (V m c main_arg4 : S2x3x5632.Idx → EReal) = (m ((c : Thread nD τ).loc main_arg4) : S2x3x5632.Idx → EReal) := by
  show after hostOps0 _ (Proc.devRef .tc main_arg4) = _
  unfold hostOps0
  after_results

theorem row_apply (x : Vec Ideal S2x1024 .f32) (d : Fin 1024) :
    shapeCast S1x1024 (shapeCast S1024 (extractStridedSlice S1x1024 ![1, 0] x slices_S2x1024_S1x1024_1_0) shapeCasts_S1x1024_S1024) shapeCasts_S1024_S1x1024 (ix2 0 d)
      = x (ix2 1 d) := by
  pointwise []

theorem lift_apply (x : Vec Ideal S1024 .f32) (d : Fin 1024) : shapeCast S1x1024 x shapeCasts_S1024_S1x1024 (ix2 0 d) = x (ix1 d) := by
  pointwise []

theorem spread_apply (x : Vec Ideal S2x5632 .f32) (f : Fin 5632) :
    broadcastInDim S2x1x5632 ![0, 2] bcast_S2x5632_S2x1x5632_0_2 x (ix3 1 0 f) = x (ix2 1 f) := by
  pointwise []

theorem tlt (t : Fin cfg0.N) : t.val < 32 := lt_of_lt_of_eq t.isLt (by decide +kernel)

section idx
theorem i0_0 : ∀ t : Fin grid0.N, cc0_transform_0 (grid0.coords t) 0 = t.val := by decide +kernel
theorem i1_0 : ∀ t : Fin grid0.N, cc0_transform_1 (grid0.coords t) 0 = 64 * t.val - 1 := by decide +kernel
theorem i2_0 : ∀ t : Fin grid0.N, cc0_transform_2 (grid0.coords t) 0 = min (64 * t.val + 64) 2047 := by decide +kernel
theorem i9_0 : ∀ t : Fin grid0.N, cc0_transform_9 (grid0.coords t) 0 = t.val := by decide +kernel
theorem i9_1 : ∀ t : Fin grid0.N, cc0_transform_9 (grid0.coords t) 1 = 0 := by decide +kernel
theorem pos_0 : ∀ t : Fin grid0.N, kernelRun0_A.sl.v11 (grid0.coords t) = 0#32 ↔ t.val % 16 = 0 := by decide +kernel
theorem pos_15 : ∀ t : Fin grid0.N, kernelRun0_A.sl.v11 (grid0.coords t) = 15#32 ↔ t.val % 16 = 15 := by decide +kernel
end idx

variable (t : Fin cfg0.N)

theorem b0 (r : Fin 512) (R : Fin 16384) (hR : R.val = t.val * 512 + r.val) (d : Fin 1024) : (iblk m c 0 t : S512x1024.Idx → EReal) (ix2 r d) = aH m c R d := by
  unfold aH
  rw [← V_H m c]
  show (V m c main_arg0 : S16384x1024.Idx → EReal) _ = _
  congr 1
  funext a
  refine Fin.ext ?_
  match a with
  | ⟨0, _⟩ => show cc0_transform_0 (grid0.coords t) 0 * 512 + 1 * r.val = R.val; rw [i0_0]; omega
  | ⟨1, _⟩ => show 0 * 1024 + 1 * d.val = d.val; omega

theorem b1 (R : Fin 16384) (hR : R.val + 1 = t.val * 512) (d : Fin 1024) : (iblk m c 1 t : S8x1024.Idx → EReal) (ix2 7 d) = aH m c R d := by
  unfold aH
  rw [← V_H m c]
  show (V m c main_arg0 : S16384x1024.Idx → EReal) _ = _
  congr 1
  funext a
  refine Fin.ext ?_
  match a with
  | ⟨0, _⟩ => show cc0_transform_1 (grid0.coords t) 0 * 8 + 1 * 7 = R.val; rw [i1_0]; omega
  | ⟨1, _⟩ => show 0 * 1024 + 1 * d.val = d.val; omega

theorem b2 (R : Fin 16384) (hR : R.val = t.val * 512 + 512) (d : Fin 1024) : (iblk m c 2 t : S8x1024.Idx → EReal) (ix2 0 d) = aH m c R d := by
  have := R.isLt
  unfold aH
  rw [← V_H m c]
  show (V m c main_arg0 : S16384x1024.Idx → EReal) _ = _
  congr 1
  funext a
  refine Fin.ext ?_
  match a with
  | ⟨0, _⟩ => show cc0_transform_2 (grid0.coords t) 0 * 8 + 1 * 0 = R.val; rw [i2_0]; omega
  | ⟨1, _⟩ => show 0 * 1024 + 1 * d.val = d.val; omega

theorem b3 (d : Fin 1024) : (iblk m c 3 t : S1x1024.Idx → EReal) (ix2 0 d) = ag m c d := by
  unfold ag
  rw [← row_apply (m ((c : Thread nD τ).loc main_arg1)) d, ← V_g m c]
  show (V m c main_v2 : S1x1024.Idx → EReal) _ = _
  congr 1
  funext a
  refine Fin.ext ?_
  match a with
  | ⟨0, _⟩ => rfl
  | ⟨1, _⟩ => show 0 * 1024 + 1 * d.val = d.val; omega

theorem b4 (d : Fin 1024) (f : Fin 5632) : (iblk m c 4 t : S1x1024x5632.Idx → EReal) (ix3 0 d f) = aW m c d f := by
  unfold aW
  rw [← V_W m c]
  show (V m c main_v3 : S2x1024x5632.Idx → EReal) _ = _
  congr 1
  funext a
  refine Fin.ext ?_
  match a with
  | ⟨0, _⟩ => rfl
  | ⟨1, _⟩ => show 0 * 1024 + 1 * d.val = d.val; omega
  | ⟨2, _⟩ => show 0 * 5632 + 1 * f.val = f.val; omega

theorem b5 (j : Fin 3) (f : Fin 5632) : (iblk m c 5 t : S1x3x5632.Idx → EReal) (ix3 0 j f) = aC m c j f := by
  unfold aC
  rw [← V_C m c]
  show (V m c main_arg4 : S2x3x5632.Idx → EReal) _ = _
  congr 1
  funext a
  refine Fin.ext ?_
  match a with
  | ⟨0, _⟩ => rfl
  | ⟨1, _⟩ => show 0 * 3 + 1 * j.val = j.val; omega
  | ⟨2, _⟩ => show 0 * 5632 + 1 * f.val = f.val; omega

theorem b6 (f : Fin 5632) : (iblk m c 6 t : S1x1x5632.Idx → EReal) (ix3 0 0 f) = aB m c f := by
  unfold aB
  rw [← spread_apply (m ((c : Thread nD τ).loc main_arg5)) f, ← V_B m c]
  show (V m c main_v4 : S2x1x5632.Idx → EReal) _ = _
  congr 1
  funext a
  refine Fin.ext ?_
  match a with
  | ⟨0, _⟩ => rfl
  | ⟨1, _⟩ => rfl
  | ⟨2, _⟩ => show 0 * 5632 + 1 * f.val = f.val; omega

theorem b7 (k : Fin 2816) (d : Fin 1024) : (iblk m c 7 t : S1x2816x1024.Idx → EReal) (ix3 0 k d) = aD m c k d := by
  unfold aD
  rw [← V_D m c]
  show (V m c main_v5 : S2x2816x1024.Idx → EReal) _ = _
  congr 1
  funext a
  refine Fin.ext ?_
  match a with
  | ⟨0, _⟩ => rfl
  | ⟨1, _⟩ => show 0 * 2816 + 1 * k.val = k.val; omega
  | ⟨2, _⟩ => show 0 * 1024 + 1 * d.val = d.val; omega

theorem b8 (d : Fin 1024) : (iblk m c 8 t : S1x1024.Idx → EReal) (ix2 0 d) = agf m c d := by
  unfold agf
  rw [← lift_apply (m ((c : Thread nD τ).loc main_arg2)) d, ← V_gf m c]
  show (V m c main_v6 : S1x1024.Idx → EReal) _ = _
  congr 1
  funext a
  refine Fin.ext ?_
  match a with
  | ⟨0, _⟩ => rfl
  | ⟨1, _⟩ => show 0 * 1024 + 1 * d.val = d.val; omega

/-- What a point leaves, in the arguments. -/
theorem outs_eq (r : Fin 512) (R : Fin 16384) (hR : R.val = t.val * 512 + r.val) (e : Fin 1024) :
    (outsAt0 m c t : S512x1024.Idx → EReal) (ix2 r e) = res (aH m c) (ag m c) (agf m c) (aW m c) (aC m c) (aB m c) (aD m c) R e := by
  unfold outsAt0
  rw [out_eq]
  exact last_eq (aH m c) (ag m c) (agf m c) (aW m c) (aC m c) (aB m c) (aD m c) t.val (tlt t) _ (pos_0 t) (pos_15 t) _ _ _ _ _ _ _ _ _
    (fun r R hR d => b0 m c t r R hR d) (fun R hR d => b1 m c t R hR d) (fun R hR d => b2 m c t R hR d) (fun d => b3 m c t d)
    (fun d f => b4 m c t d f) (fun j f => b5 m c t j f) (fun f => b6 m c t f) (fun k d => b7 m c t k d) (fun d => b8 m c t d) r R hR e

theorem ix_block (x : S512x1024.Idx) : ∃ (r : Fin 512) (e : Fin 1024), x = ix2 r e := by
  idx_vars x
  exact ⟨_, _, rfl⟩

theorem flushed_eq : (dats m 0 c).flushed 9 t = (win0_9.blk t).view.read (Elt Ideal) (resOf m c) := by
  have ht := tlt t
  show (cfg0.win 9).cut (grid0.coords t) ((dats m 0 c).after 9 t) = _
  rw [after0_9]
  funext y
  obtain ⟨r, e, rfl⟩ : ∃ (r : Fin 512) (e : Fin 1024), y = ix2 r e := ix_block y
  refine Eq.trans (b := (outsAt0 m c t : S512x1024.Idx → EReal) (ix2 r e)) ?_ ((outs_eq m c t r ⟨t.val * 512 + r.val, by omega⟩ rfl e).trans ?_)
  · show (outsAt0 m c t : S512x1024.Idx → EReal) _ = _
    congr 1
  · show _ = resOf m c _
    unfold resOf
    refine congrArg₂ (res (aH m c) (ag m c) (agf m c) (aW m c) (aC m c) (aB m c) (aD m c)) (Fin.ext ?_) (Fin.ext ?_)
    · show t.val * 512 + r.val = cc0_transform_9 (grid0.coords t) 0 * 512 + 1 * r.val; rw [i9_0]; omega
    · show e.val = 0 * 1024 + 1 * e.val; omega

theorem mem_blk (i : S16384x1024.Idx) :
    i ∈ ((cfg0.win 9).blk t).view.set ↔ t.val * 512 ≤ (i 0 : Nat) ∧ (i 0 : Nat) < t.val * 512 + 512 := by
  have h1 : (i 1 : Nat) < 1024 := (i 1).isLt
  show i ∈ ((View.whole main_v7).slice (win0_9.rect t)).set ↔ _
  rw [View.set_slice_whole, Rect.mem_set_unit]
  have e0 : win0_9.index t 0 * win0_9.size 0 = t.val * 512 := congrArg (· * 512) (i9_0 t)
  have e1 : win0_9.index t 1 * win0_9.size 1 = 0 * 1024 := congrArg (· * 1024) (i9_1 t)
  have x0 : win0_9.xsize (grid0.coords t) 0 = 512 := rfl
  have x1 : win0_9.xsize (grid0.coords t) 1 = 1024 := rfl
  refine ⟨fun h => ?_, fun h a => ?_⟩
  · have : win0_9.index t 0 * win0_9.size 0 ≤ (i 0 : Nat) ∧ (i 0 : Nat) < win0_9.index t 0 * win0_9.size 0 + win0_9.xsize (grid0.coords t) 0 := h 0
    rw [e0, x0] at this; exact this
  · match a with
    | ⟨0, _⟩ => show win0_9.index t 0 * win0_9.size 0 ≤ (i 0 : Nat) ∧ (i 0 : Nat) < win0_9.index t 0 * win0_9.size 0 + win0_9.xsize (grid0.coords t) 0
                rw [e0, x0]; exact h
    | ⟨1, _⟩ => show win0_9.index t 1 * win0_9.size 1 ≤ (i 1 : Nat) ∧ (i 1 : Nat) < win0_9.index t 1 * win0_9.size 1 + win0_9.xsize (grid0.coords t) 1
                rw [e1, x1]; exact ⟨by omega, by omega⟩

theorem cover (i : S16384x1024.Idx) : ∃ t : Fin cfg0.N, (cfg0.win 9).flush t = true ∧ i ∈ ((cfg0.win 9).blk t).view.set := by
  have h0 : (i 0 : Nat) < 16384 := (i 0).isLt
  have hN : cfg0.N = 32 := by decide +kernel
  refine ⟨⟨(i 0 : Nat) / 512, by omega⟩, flush0_9 _, ?_⟩
  rw [mem_blk]
  dsimp only
  omega

theorem final : (dats m 0 c).arrAt 9 cfg0.N = resOf m c :=
  (dats m 0 c).arrAt_eq_of_cover 9 (resOf m c) (fun t _ => flushed_eq m c t) cover

end args

/-- The run, read: the result array at the feed-forward of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 9).trans (final m c), h.2 c⟩)
    (θ_run_and (run_main m ρ) (unchanged m ρ))

end Cert.Kernel2Ideal.Hand

end
-- ==== Proof.FeedRef.lean ====
/-
  The reference's feed-forward, read at an index: the same rows.
-/
module

public import proofs.«01_k».proof.Proof.Feed
public import proofs.«01_k».proof.Proof.Gen.Reference2Ideal.Run
public import Idealize.ShloMosaic.Lib.Pointwise
public import Idealize.ShloMosaic.Lib.IdealHost
public import Idealize.ShloMosaic.Lib.Tactic.CleanTypes

@[expose] public section

set_option maxRecDepth 16384

noncomputable section

namespace Cert.Reference2Ideal.Hand

open Cert.Reference2Ideal Cert.Reference2Ideal.Gen Cert.Feed
open Idealize.ShloMosaic Idealize.ShloMosaic.TcCoe Idealize.ShloMosaic.Tactic Idealize.SL.Sem

/-- The rows' sums of squares. -/
def sq (x : FVec Ideal S2x8192x1024 .f32) : FVec Ideal S2x8192 .f32 :=
  Host.reduceAdd (mulf x x) (constant S_ .f32 0x00000000#32) reducesTo_S2x8192x1024_S2x8192_d2 h_S_

/-- A row of weights, for every row. -/
def lane (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- One over the root of the mean, from the sums. -/
def inv (s : FVec Ideal S2x8192 .f32) : FVec Ideal S2x8192x1024 .f32 :=
  broadcastInDim S2x8192x1024 ![0, 1, 2] bcast_S2x8192x1_S2x8192x1024_0_1_2 (Host.rsqrt (addf (Host.divf
    (broadcastInDim S2x8192x1 ![0, 1] bcast_S2x8192_S2x8192x1_0_1 s) (broadcastInDim S2x8192x1 ![] bcast_S_S2x8192x1 (constant S_ .f32 0x44800000#32)))
    (broadcastInDim S2x8192x1 ![] bcast_S_S2x8192x1 (constant S_ .f32 0x358637BD#32))))

/-- The rows normalised. -/
def normed (x : FVec Ideal S2x8192x1024 .f32) (g : FVec Ideal S1024 .f32) : FVec Ideal S2x8192x1024 .f32 :=
  mulf (mulf x (inv (sq x))) (lane g)

/-- The rows projected. -/
def projected (y : FVec Ideal S2x8192x1024 .f32) (w : FVec Ideal S1024x5632 .f32) : FVec Ideal S2x8192x5632 .f32 :=
  Host.dotGeneral dot_S2x8192x1024_S1024x5632_S2x8192x5632_2_0_01_1_n_n none y w

/-- A row of zeros before each sequence and one after. -/
def padded (u : FVec Ideal S2x8192x5632 .f32) : FVec Ideal S2x8194x5632 .f32 :=
  pad S2x8194x5632 ![0, 1, 0] ![0, 1, 0] ![0, 0, 0] u (sitofp (F := Ideal) .f32 (constantI S_ 32 0#32)) pads_S2x8192x5632_S2x8194x5632_000_110_000 h_S_

/-- A row of columns' weights, for every row. -/
def wide (c : FVec Ideal S5632 .f32) : FVec Ideal S2x8192x5632 .f32 :=
  broadcastInDim S2x8192x5632 ![0, 1, 2] bcast_S1x1x5632_S2x8192x5632_0_1_2 (broadcastInDim S1x1x5632 ![2] bcast_S5632_S1x1x5632_2 c)

/-- The three taps and the offset. -/
def taps (p : FVec Ideal S2x8194x5632 .f32) (c : FVec Ideal S3x5632 .f32) (b : FVec Ideal S5632 .f32) : FVec Ideal S2x8192x5632 .f32 :=
  addf (addf (addf
      (mulf (extractStridedSlice S2x8192x5632 ![0, 0, 0] p slices_S2x8194x5632_S2x8192x5632_0_0_0)
        (wide (shapeCast S5632 (extractStridedSlice S1x5632 ![0, 0] c slices_S3x5632_S1x5632_0_0) shapeCasts_S1x5632_S5632)))
      (mulf (extractStridedSlice S2x8192x5632 ![0, 1, 0] p slices_S2x8194x5632_S2x8192x5632_0_1_0)
        (wide (shapeCast S5632 (extractStridedSlice S1x5632 ![1, 0] c slices_S3x5632_S1x5632_1_0) shapeCasts_S1x5632_S5632))))
      (mulf (extractStridedSlice S2x8192x5632 ![0, 2, 0] p slices_S2x8194x5632_S2x8192x5632_0_2_0)
        (wide (shapeCast S5632 (extractStridedSlice S1x5632 ![2, 0] c slices_S3x5632_S1x5632_2_0) shapeCasts_S1x5632_S5632))))
    (wide b)

/-- The first half times its sigmoid. -/
def silu (a : FVec Ideal S2x8192x2816 .f32) : FVec Ideal S2x8192x2816 .f32 :=
  mulf a (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf a))))

/-- And times the second half. -/
def halves (v : FVec Ideal S2x8192x5632 .f32) : FVec Ideal S2x8192x2816 .f32 :=
  mulf (silu (extractStridedSlice S2x8192x2816 ![0, 0, 0] v slices_S2x8192x5632_S2x8192x2816_0_0_0))
    (extractStridedSlice S2x8192x2816 ![0, 0, 2816] v slices_S2x8192x5632_S2x8192x2816_0_0_2816)

/-- Projected back. -/
def back (a : FVec Ideal S2x8192x2816 .f32) (w : FVec Ideal S2816x1024 .f32) : FVec Ideal S2x8192x1024 .f32 :=
  Host.dotGeneral dot_S2x8192x2816_S2816x1024_S2x8192x1024_2_0_01_1_n_n none a w

theorem sq_apply (x : FVec Ideal S2x8192x1024 .f32) (b : Fin 2) (n : Fin 8192) :
    (sq x (ix2 b n) : EReal) = ∑ d : Fin 1024, (x (ix3 b n d) : EReal) * x (ix3 b n d) := by
  unfold sq
  rw [ValueIdx.hostReduceAdd_apply]
  unfold Ideal.hostReduceAdd
  rw [Shape.ReducesTo.sum_fiber_r3_a2]
  exact (congrArg (· + _) Ideal.ofBits_zero_f32).trans (zero_add _)

theorem lane_apply (g : FVec Ideal S1024 .f32) (b : Fin 2) (n : Fin 8192) (d : Fin 1024) : lane g (ix3 b n d) = g (ix1 d) := by
  pointwise [lane]

theorem inv_apply (s : FVec Ideal S2x8192 .f32) (b : Fin 2) (n : Fin 8192) (d : Fin 1024) :
    inv s (ix3 b n d) = Ideal.rsqrt (Ideal.div (s (ix2 b n)) (Ideal.ofBits .f32 0x44800000#32) + Ideal.ofBits .f32 0x358637BD#32) := by
  pointwise [inv]

theorem normed_apply (x : FVec Ideal S2x8192x1024 .f32) (g : FVec Ideal S1024 .f32) (b : Fin 2) (n : Fin 8192) (d : Fin 1024) :
    normed x g (ix3 b n d) = nrm (fun d => x (ix3 b n d)) (fun d => g (ix1 d)) d := by
  unfold nrm
  rw [← sq_apply, ← inv_apply (sq x) b n d]
  show x (ix3 b n d) * inv (sq x) (ix3 b n d) * lane g (ix3 b n d) = x (ix3 b n d) * inv (sq x) (ix3 b n d) * g (ix1 d)
  rw [lane_apply]

theorem projected_apply (y : FVec Ideal S2x8192x1024 .f32) (w : FVec Ideal S1024x5632 .f32) (b : Fin 2) (n : Fin 8192) (f : Fin 5632) :
    (projected y w (ix3 b n f) : EReal) = ∑ d : Fin 1024, (y (ix3 b n d) : EReal) * w (ix2 d f) := by
  let D := dot_S2x8192x1024_S1024x5632_S2x8192x5632_2_0_01_1_n_n
  have hr : D.contr.rank = 1 := rfl
  have hs : D.contr.size ⟨0, by omega⟩ = 1024 := rfl
  unfold projected
  simp only [Host.dotGeneral]
  rw [Ideal.dotGeneral_apply, ← Equiv.sum_comp (ValueIdx.contrEquiv1 D 1024 hr hs).symm]
  refine Finset.sum_congr rfl fun d _ => ?_
  have h0 := ValueIdx.contrEquiv1_symm_val D 1024 hr hs d
  refine congrArg₂ (· * ·) (congrArg y ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

theorem back_apply (y : FVec Ideal S2x8192x2816 .f32) (w : FVec Ideal S2816x1024 .f32) (b : Fin 2) (n : Fin 8192) (f : Fin 1024) :
    (back y w (ix3 b n f) : EReal) = ∑ d : Fin 2816, (y (ix3 b n d) : EReal) * w (ix2 d f) := by
  let D := dot_S2x8192x2816_S2816x1024_S2x8192x1024_2_0_01_1_n_n
  have hr : D.contr.rank = 1 := rfl
  have hs : D.contr.size ⟨0, by omega⟩ = 2816 := rfl
  unfold back
  simp only [Host.dotGeneral]
  rw [Ideal.dotGeneral_apply, ← Equiv.sum_comp (ValueIdx.contrEquiv1 D 2816 hr hs).symm]
  refine Finset.sum_congr rfl fun d _ => ?_
  have h0 := ValueIdx.contrEquiv1_symm_val D 2816 hr hs d
  refine congrArg₂ (· * ·) (congrArg y ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

theorem padded_apply (u : FVec Ideal S2x8192x5632 .f32) (b : Fin 2) (n : Fin 8194) (f : Fin 5632) :
    (padded u (ix3 b n f) : EReal) = if h : 1 ≤ n.val ∧ n.val ≤ 8192 then u (ix3 b ⟨n.val - 1, by omega⟩ f) else 0 := by
  pointwise [padded]
  by_cases h : 1 ≤ n.val ∧ n.val ≤ 8192
  · rw [dif_pos h, dif_pos ⟨h.1, by omega⟩]
  · rw [dif_neg h, dif_neg (by omega)]
    show (((0#32 : BitVec 32).toInt : ℝ) : EReal) = 0
    norm_num

theorem wide_apply (c : FVec Ideal S5632 .f32) (b : Fin 2) (n : Fin 8192) (f : Fin 5632) : wide c (ix3 b n f) = c (ix1 f) := by
  pointwise [wide]

theorem taps_apply (p : FVec Ideal S2x8194x5632 .f32) (c : FVec Ideal S3x5632 .f32) (o : FVec Ideal S5632 .f32) (b : Fin 2) (n : Fin 8192) (f : Fin 5632) :
    (taps p c o (ix3 b n f) : EReal) = (p (ix3 b ⟨n.val, by omega⟩ f) : EReal) * c (ix2 0 f) + (p (ix3 b ⟨1 + n.val, by omega⟩ f) : EReal) * c (ix2 1 f)
      + (p (ix3 b ⟨2 + n.val, by omega⟩ f) : EReal) * c (ix2 2 f) + o (ix1 f) := by
  pointwise [taps, wide]

theorem silu_apply (a : FVec Ideal S2x8192x2816 .f32) (j : S2x8192x2816.Idx) :
    (silu a j : EReal) = (a j : EReal) * Ideal.div (Ideal.ofBits .f32 0x3F800000#32) (Ideal.ofBits .f32 0x3F800000#32 + Ideal.exp (-(a j : EReal))) := rfl

theorem halves_apply (v : FVec Ideal S2x8192x5632 .f32) (b : Fin 2) (n : Fin 8192) (k : Fin 2816) :
    (halves v (ix3 b n k) : EReal) = gate (v (ix3 b n ⟨k.val, by omega⟩)) (v (ix3 b n ⟨2816 + k.val, by omega⟩)) := by
  have h1 : extractStridedSlice S2x8192x2816 ![0, 0, 0] v slices_S2x8192x5632_S2x8192x2816_0_0_0 (ix3 b n k) = v (ix3 b n ⟨k.val, by omega⟩) := by
    pointwise []
  have h2 : extractStridedSlice S2x8192x2816 ![0, 0, 2816] v slices_S2x8192x5632_S2x8192x2816_0_0_2816 (ix3 b n k) = v (ix3 b n ⟨2816 + k.val, by omega⟩) := by
    pointwise []
  rw [gate_eq, ← h1, ← h2, ← silu_apply]
  rfl

section whole
variable (x : FVec Ideal S16384x1024 .f32) (gs : FVec Ideal S2x1024 .f32) (gf : FVec Ideal S1024 .f32) (ws : FVec Ideal S2x1024x5632 .f32)
  (cs : FVec Ideal S2x3x5632 .f32) (bs : FVec Ideal S2x5632 .f32) (ds : FVec Ideal S2x2816x1024 .f32)

abbrev X : FVec Ideal S2x8192x1024 .f32 := shapeCast S2x8192x1024 x shapeCasts_S16384x1024_S2x8192x1024
abbrev G : FVec Ideal S1024 .f32 := shapeCast S1024 (extractStridedSlice S1x1024 ![1, 0] gs slices_S2x1024_S1x1024_1_0) shapeCasts_S1x1024_S1024
abbrev Wt : FVec Ideal S1024x5632 .f32 := shapeCast S1024x5632 (extractStridedSlice S1x1024x5632 ![1, 0, 0] ws slices_S2x1024x5632_S1x1024x5632_1_0_0) shapeCasts_S1x1024x5632_S1024x5632
abbrev Ct : FVec Ideal S3x5632 .f32 := shapeCast S3x5632 (extractStridedSlice S1x3x5632 ![1, 0, 0] cs slices_S2x3x5632_S1x3x5632_1_0_0) shapeCasts_S1x3x5632_S3x5632
abbrev Bt : FVec Ideal S5632 .f32 := shapeCast S5632 (extractStridedSlice S1x5632 ![1, 0] bs slices_S2x5632_S1x5632_1_0) shapeCasts_S1x5632_S5632
abbrev Dt : FVec Ideal S2816x1024 .f32 := shapeCast S2816x1024 (extractStridedSlice S1x2816x1024 ![1, 0, 0] ds slices_S2x2816x1024_S1x2816x1024_1_0_0) shapeCasts_S1x2816x1024_S2816x1024

theorem X_apply (b : Fin 2) (n : Fin 8192) (d : Fin 1024) : X x (ix3 b n d) = x (ix2 ⟨b.val * 8192 + n.val, by omega⟩ d) := by
  refine shapeCast_apply _ _ _ _ ?_
  rw [Shape.rowMajor_val_two, Shape.rowMajor_val_three]
  rfl

theorem out_apply (y : FVec Ideal S2x8192x1024 .f32) (b : Fin 2) (n : Fin 8192) (d : Fin 1024) :
    shapeCast S16384x1024 y shapeCasts_S2x8192x1024_S16384x1024 (ix2 ⟨b.val * 8192 + n.val, by omega⟩ d) = y (ix3 b n d) := by
  refine shapeCast_apply _ _ _ _ ?_
  rw [Shape.rowMajor_val_two, Shape.rowMajor_val_three]
  rfl

theorem G_apply (d : Fin 1024) : G gs (ix1 d) = gs (ix2 1 d) := by
  pointwise [G]

theorem Wt_apply (d : Fin 1024) (f : Fin 5632) : Wt ws (ix2 d f) = ws (ix3 1 d f) := by
  pointwise [Wt]

theorem Ct_apply (j : Fin 3) (f : Fin 5632) : Ct cs (ix2 j f) = cs (ix3 1 j f) := by
  pointwise [Ct]

theorem Bt_apply (f : Fin 5632) : Bt bs (ix1 f) = bs (ix2 1 f) := by
  pointwise [Bt]

theorem Dt_apply (k : Fin 2816) (d : Fin 1024) : Dt ds (ix2 k d) = ds (ix3 1 k d) := by
  pointwise [Dt]

/-- The arguments, by their numbers. -/
abbrev eH (R : Fin 16384) (d : Fin 1024) : EReal := x (ix2 R d)
abbrev eg (d : Fin 1024) : EReal := gs (ix2 1 d)
abbrev egf (d : Fin 1024) : EReal := gf (ix1 d)
abbrev eW (d : Fin 1024) (f : Fin 5632) : EReal := ws (ix3 1 d f)
abbrev eC (j : Fin 3) (f : Fin 5632) : EReal := cs (ix3 1 j f)
abbrev eB (f : Fin 5632) : EReal := bs (ix2 1 f)
abbrev eD (k : Fin 2816) (d : Fin 1024) : EReal := ds (ix3 1 k d)

theorem up_eq (b : Fin 2) (n : Fin 8192) (R : Fin 16384) (hR : R.val = b.val * 8192 + n.val) (f : Fin 5632) :
    (projected (normed (X x) (G gs)) (Wt ws) (ix3 b n f) : EReal) = upr (eH x) (eg gs) (eW ws) R f := by
  have hX : ∀ d, X x (ix3 b n d) = x (ix2 R d) := fun d => (X_apply x b n d).trans (congrArg x (congrArg₂ ix2 (Fin.ext hR.symm) rfl))
  rw [projected_apply]
  unfold upr
  refine Finset.sum_congr rfl fun d _ => ?_
  rw [normed_apply, Wt_apply]
  simp only [hX, G_apply]

theorem mixed_eq (b : Fin 2) (n : Fin 8192) (R : Fin 16384) (hR : R.val = b.val * 8192 + n.val) (f : Fin 5632) :
    (taps (padded (projected (normed (X x) (G gs)) (Wt ws))) (Ct cs) (Bt bs) (ix3 b n f) : EReal) = mixr (eH x) (eg gs) (eW ws) (eC cs) (eB bs) R f := by
  have hn := n.isLt
  have hb := b.isLt
  rw [taps_apply, padded_apply, padded_apply, padded_apply, Ct_apply, Ct_apply, Ct_apply, Bt_apply]
  unfold mixr
  refine congrArg₂ (· + ·) (congrArg₂ (· + ·) ((add_comm _ _).trans (congrArg₂ (· + ·) ?_ ?_)) ?_) rfl
  · rw [dif_pos (by dsimp only; omega), up_eq x gs ws b _ R (by dsimp only; omega)]
  · by_cases h : n.val = 0
    · rw [dif_neg (by dsimp only; omega), dif_pos (by omega), zero_mul]
    · rw [dif_pos (by dsimp only; omega), dif_neg (by omega), up_eq x gs ws b _ ⟨R.val - 1, by omega⟩ (by dsimp only; omega)]
  · by_cases h : n.val = 8191
    · rw [dif_neg (by dsimp only; omega), dif_pos (by omega), zero_mul]
    · rw [dif_pos (by dsimp only; omega), dif_neg (by omega), up_eq x gs ws b _ ⟨R.val + 1, by omega⟩ (by dsimp only; omega)]

/-- The rows with their feed-forward added. -/
def sums : FVec Ideal S2x8192x1024 .f32 :=
  addf (X x) (back (halves (taps (padded (projected (normed (X x) (G gs)) (Wt ws))) (Ct cs) (Bt bs))) (Dt ds))

theorem sums_apply (b : Fin 2) (n : Fin 8192) (R : Fin 16384) (hR : R.val = b.val * 8192 + n.val) (d : Fin 1024) :
    (sums x gs ws cs bs ds (ix3 b n d) : EReal) = sumr (eH x) (eg gs) (eW ws) (eC cs) (eB bs) (eD ds) R d := by
  show (X x (ix3 b n d) : EReal) + (back _ (Dt ds) (ix3 b n d) : EReal) = _
  rw [back_apply, show X x (ix3 b n d) = x (ix2 R d) from (X_apply x b n d).trans (congrArg x (congrArg₂ ix2 (Fin.ext hR.symm) rfl))]
  unfold sumr
  refine congrArg₂ (· + ·) rfl (Finset.sum_congr rfl fun k _ => ?_)
  rw [halves_apply, Dt_apply, mixed_eq x gs ws cs bs b n _ hR, mixed_eq x gs ws cs bs b n _ hR]
  rfl

theorem whole_apply (i : S16384x1024.Idx) :
    (shapeCast S16384x1024 (normed (sums x gs ws cs bs ds) gf) shapeCasts_S2x8192x1024_S16384x1024 i : EReal)
      = res (eH x) (eg gs) (egf gf) (eW ws) (eC cs) (eB bs) (eD ds) (i 0) (i 1) := by
  obtain ⟨R, d, rfl⟩ : ∃ (R : Fin 16384) (d : Fin 1024), i = ix2 R d := by
    idx_vars i
    exact ⟨_, _, rfl⟩
  obtain ⟨b, n, rfl⟩ : ∃ (b : Fin 2) (n : Fin 8192), R = ⟨b.val * 8192 + n.val, by omega⟩ :=
    ⟨⟨R.val / 8192, by omega⟩, ⟨R.val % 8192, by omega⟩, Fin.ext (show R.val = R.val / 8192 * 8192 + R.val % 8192 by omega)⟩
  rw [out_apply, normed_apply]
  unfold res
  refine congrArg₂ (fun z w => nrm z w d) (funext fun d => ?_) rfl
  exact sums_apply x gs ws cs bs ds b n _ rfl d

end whole

theorem res_eq (m : (ℓ : Loc nD τ sig) → Buf (Elt Ideal) ℓ) (c : Dev nD) :
    (Value.res_main_v68 m c : S16384x1024.Idx → EReal) = shapeCast S16384x1024 (normed (sums (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg2))) shapeCasts_S2x8192x1024_S16384x1024 := by
  unfold Value.res_main_v68
  rfl

end Cert.Reference2Ideal.Hand

end
-- ==== Proof.FeedClaims.lean ====
/-
  The claims of the feed-forward's program: the frames, the named constant, and the value claim on all arguments.
-/
module

public import proofs.«01_k».proof.Defs
public import proofs.«01_k».proof.Proof.FeedArray
public import proofs.«01_k».proof.Proof.FeedRef
public import proofs.«01_k».proof.Proof.Gen.Kernel2
public import proofs.«01_k».proof.Proof.Gen.Kernel2.Frame
public import proofs.«01_k».proof.Proof.Gen.Kernel2Ideal.Frame
public import Idealize.ShloMosaic.Lib.Quiescent

@[expose] public section

set_option maxRecDepth 16384

noncomputable section

namespace Cert.FeedClaims

open Idealize.ShloMosaic Idealize.ShloMosaic.TcCoe Idealize.SL.Sem

/-- The program as printed. -/
theorem frame_p : Cert.quiescent_Kernel2 (hKernel2 := Cert.Kernel2.Gen.facts) :=
  fun m ρ _ => Cert.Kernel2.Gen.frame m ρ

/-- Its idealization. -/
theorem frame_pi : Cert.quiescent_Kernel2Ideal (hKernel2Ideal := Cert.Kernel2Ideal.Gen.facts) :=
  fun m ρ _ => Cert.Kernel2Ideal.Gen.frame m ρ

/-- The reference, which runs on the host alone. -/
theorem frame_ri : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The one rewrite: the gate's factor is read as minus one over the logarithm of two. -/
theorem preserves : Cert.preserves_Kernel2_Kernel2Ideal :=
  IdealRules.named_const.statement Cert.Kernel2Ideal.κ "neg_log2e" .f32 0xBFB8AA3B#32 ((-((Real.log 2)⁻¹) : ℝ) : EReal) rfl

/-- From memories that agree on the arguments both runs end with the same array. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Hand.run m ρ, ?_⟩
  refine (θ_run Cert.Reference2Ideal.defs _ _).mono (fun _ h c => ⟨(h c).1.trans ?_, (h c).2⟩) (Cert.Reference2Ideal.Value.run (F := Ideal) m' ρ')
  refine (Cert.Reference2Ideal.Hand.res_eq m' c).trans (funext fun i => ?_)
  refine (Cert.Reference2Ideal.Hand.whole_apply _ _ _ _ _ _ _ i).trans ?_
  rw [(hagree c).1, (hagree c).2.1, (hagree c).2.2.1, (hagree c).2.2.2.1, (hagree c).2.2.2.2.1, (hagree c).2.2.2.2.2.1, (hagree c).2.2.2.2.2.2]
  rfl

end Cert.FeedClaims

end
-- ==== Proof.Taps.lean ====
/-
  One slice of columns of the delta net's input projection: the rows projected, each row mixed with the two before it and the
  two after it and multiplied by its sigmoid, and a head of it over its root sum square. Read at an index at the ideal numbers.
-/
module

public import proofs.«01_k».proof.Proof.Gen.Kernel3Ideal.Skeleton
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

section Defs
variable {F : FTy → Type} [FloatOps F] [Named F]

/-- The rows times a slice of the weights. -/
def proj (y : FVec F S272x1024 .bf16) (w : Vec F S1024x256 .bf16) : FVec F S272x256 .f32 :=
  matmul dot_S272x1024_S1024x256_S272x256_1_0_0_1_n_n none y (shapeCast S1024x256 w shapeCasts_S1024x256_S1024x256)
    (constant S272x256 .f32 0x00000000#32)

/-- In groups of eight: the last rows of a group, from `k` on, are the group before's. -/
def carryP (k : BitVec 32) (x : FVec F S34x8x256 .f32) : FVec F S34x8x256 .f32 :=
  select (broadcastTo S34x8x256 (shapeCast S1x8x256 (cmpi .sge (iota .tc S1x8x256 32 [1] iota_S1x8x256_d1_w32) (broadcast S1x8x256 k))
      shapeCasts_S1x8x256_S1x8x256) broadcasts_S1x8x256_S34x8x256)
    (concatenate S34x8x256 0 [⟨S1x8x256, extractStridedSlice S1x8x256 ![33, 0, 0] x slices_S34x8x256_o33_0_0_S1x8x256⟩,
      ⟨S33x8x256, extractStridedSlice S33x8x256 ![0, 0, 0] x slices_S34x8x256_o0_0_0_S33x8x256⟩] concatenates_S1x8x256_S33x8x256_S34x8x256_d0) x

/-- In groups of eight: the first rows of a group, below `k`, are the group after's. -/
def carryN (k : BitVec 32) (x : FVec F S34x8x256 .f32) : FVec F S34x8x256 .f32 :=
  select (broadcastTo S34x8x256 (shapeCast S1x8x256 (cmpi .slt (iota .tc S1x8x256 32 [1] iota_S1x8x256_d1_w32) (broadcast S1x8x256 k))
      shapeCasts_S1x8x256_S1x8x256) broadcasts_S1x8x256_S34x8x256)
    (concatenate S34x8x256 0 [⟨S33x8x256, extractStridedSlice S33x8x256 ![1, 0, 0] x slices_S34x8x256_o1_0_0_S33x8x256⟩,
      ⟨S1x8x256, extractStridedSlice S1x8x256 ![0, 0, 0] x slices_S34x8x256_o0_0_0_S1x8x256⟩] concatenates_S33x8x256_S1x8x256_S34x8x256_d0) x

/-- A row `j` rows before, round the end. -/
def prev (k j : BitVec 32) (u : FVec F S272x256 .f32) : FVec F S272x256 .f32 :=
  shapeCast S272x256 (dynamicRotate 1 j none (carryP k (shapeCast S34x8x256 u shapeCasts_S272x256_S34x8x256)) rotates_S34x8x256_d1) shapeCasts_S34x8x256_S272x256

/-- A row after, round the end. -/
def next (k j : BitVec 32) (u : FVec F S272x256 .f32) : FVec F S272x256 .f32 :=
  shapeCast S272x256 (dynamicRotate 1 j none (carryN k (shapeCast S34x8x256 u shapeCasts_S272x256_S34x8x256)) rotates_S34x8x256_d1) shapeCasts_S34x8x256_S272x256

/-- A row of weights, for every row. -/
def bc (c : Vec F S1x256 .f32) : FVec F S272x256 .f32 :=
  broadcastTo S272x256 (shapeCast S1x256 c shapeCasts_S1x256_S1x256) broadcasts_S1x256_S272x256

/-- Each row mixed with its four neighbours, and the offset. -/
def conv (u : FVec F S272x256 .f32) (c0 c1 c2 c3 c4 cb : Vec F S1x256 .f32) : FVec F S256x256 .f32 :=
  addf (extractStridedSlice S256x256 ![0, 0] (addf (addf (addf (addf (mulf u (bc c2)) (mulf (prev 6#32 2#32 u) (bc c0))) (mulf (prev 7#32 1#32 u) (bc c1)))
      (mulf (next 1#32 7#32 u) (bc c3))) (mulf (next 2#32 6#32 u) (bc c4))) slices_S272x256_o0_0_S256x256)
    (broadcastTo S256x256 (shapeCast S1x256 cb shapeCasts_S1x256_S1x256) broadcasts_S1x256_S256x256)

/-- Times its sigmoid. -/
def silu (a : FVec F S256x256 .f32) : FVec F S256x256 .f32 :=
  mulf a (divf (broadcast S256x256 (Scalar.ofBits .f32 0x3F800000#32))
    (addf (broadcast S256x256 (Scalar.ofBits .f32 0x3F800000#32)) (exp2 (mulf a (broadcast S256x256 (Named.named κ "neg_log2e" 0xBFB8AA3B#32))))))

/-- A head, over its root sum square. -/
def unit (s : BitVec 32) (x : FVec F S256x128 .f32) : FVec F S256x128 .bf16 :=
  truncf .bf16 (mulf x (broadcastTo S256x128 (mulf (rsqrt (addf (shapeCast S256x1 (multiReduction .add [1] S256 (mulf x x) 0x00000000#32 reduces_S256x128_S256 (.inl rfl) rfl)
    shapeCasts_S256_S256x1) (broadcast S256x1 (Scalar.ofBits .f32 0x358637BD#32)))) (broadcast S256x1 (Scalar.ofBits .f32 s))) broadcasts_S256x1_S256x128))
    bitsLt_bf16_f32

/-- A slice of columns, mixed. -/
def chunk (y : FVec F S272x1024 .bf16) (w : Vec F S1024x256 .bf16) (c0 c1 c2 c3 c4 cb : Vec F S1x256 .f32) : FVec F S256x256 .f32 :=
  silu (conv (proj y w) c0 c1 c2 c3 c4 cb)

/-- The first head of it. -/
def headA (s : BitVec 32) (u : FVec F S256x256 .f32) : FVec F S256x128 .bf16 :=
  unit s (extractStridedSlice S256x128 ![0, 0] u slices_S256x256_o0_0_S256x128)

/-- The second. -/
def headB (s : BitVec 32) (u : FVec F S256x256 .f32) : FVec F S256x128 .bf16 :=
  unit s (extractStridedSlice S256x128 ![0, 128] u slices_S256x256_o0_128_S256x128)

/-- A slice of columns of the values. -/
def cast16 (u : FVec F S256x256 .f32) : FVec F S256x256 .bf16 := truncf .bf16 u bitsLt_bf16_f32

/-- The block's own rows times a slice of the weights. -/
def plain (y : FVec F S272x1024 .bf16) (w : Vec F S1024x256 .bf16) : FVec F S256x256 .bf16 :=
  truncf .bf16 (matmul dot_S256x1024_S1024x256_S256x256_1_0_0_1_n_n none (extractStridedSlice S256x1024 ![0, 0] y slices_S272x1024_o0_0_S256x1024)
    (shapeCast S1024x256 w shapeCasts_S1024x256_S1024x256) (constant S256x256 .f32 0x00000000#32)) bitsLt_bf16_f32

/-- A root mean square's rows, at one row height. -/
def normT (x : FVec F S256x1024 .f32) (g : FVec F S1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl)
    shapeCasts_S256_S256x1) (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

/-- The same, of eight rows. -/
def normE (x : FVec F S8x1024 .f32) (g : FVec F S1x1024 .f32) : FVec F S8x1024 .f32 :=
  mulf (mulf x (broadcastTo S8x1024 (rsqrt (addf (divf (shapeCast S8x1 (multiReduction .add [1] S8 (mulf x x) 0x00000000#32 reduces_S8x1024_S8 (.inl rfl) rfl)
    shapeCasts_S8_S8x1) (broadcast S8x1 (Scalar.ofBits .f32 0x44800000#32))) (broadcast S8x1 (Scalar.ofBits .f32 0x358637BD#32)))) broadcasts_S8x1_S8x1024))
    (broadcastTo S8x1024 (shapeCast S1x1024 g shapeCasts_S1x1024_S1x1024) broadcasts_S1x1024_S8x1024)

/-- The rows of a block, and after them two times eight rows. -/
def joined (x : FVec F S256x1024 .f32) (a b : FVec F S8x1024 .f32) : FVec F S272x1024 .bf16 :=
  truncf .bf16 (concatenate S272x1024 0 [⟨S256x1024, x⟩, ⟨S8x1024, a⟩, ⟨S8x1024, b⟩]
    concatenates_S256x1024_S8x1024_S8x1024_S272x1024_d0) bitsLt_bf16_f32

/-- Eight rows, zeroed past a sequence's end. -/
def edge (pos k : BitVec 32) (x : FVec F S8x1024 .f32) : FVec F S8x1024 .f32 :=
  Scalar.select (Scalar.cmpi .eq pos k) (broadcast S8x1024 (Scalar.ofBits .f32 0x00000000#32)) x

/-- The rows of a block, the eight that follow and the eight that come before, zeroed past a sequence's ends. -/
def rows (x : FVec F S256x1024 .f32) (xp xn : FVec F S8x1024 .f32) (g : FVec F S1x1024 .f32) (pos : BitVec 32) : FVec F S272x1024 .bf16 :=
  joined (normT x g) (edge pos 31#32 (normE xn g)) (edge pos 0#32 (normE xp g))

end Defs

theorem proj_apply (y : FVec Ideal S272x1024 .bf16) (w : Vec Ideal S1024x256 .bf16) (r : Fin 272) (e : Fin 256) :
    proj y w (ix2 r e) = ∑ d : Fin 1024, y (ix2 r d) * w (ix2 d e) := by
  pointwise [proj]

theorem plain_apply (y : FVec Ideal S272x1024 .bf16) (w : Vec Ideal S1024x256 .bf16) (r : Fin 256) (e : Fin 256) :
    plain y w (ix2 r e) = ∑ d : Fin 1024, y (ix2 ⟨r.val, by omega⟩ d) * w (ix2 d e) := by
  pointwise [plain]

theorem bc_apply (c : Vec Ideal S1x256 .f32) (r : Fin 272) (e : Fin 256) : bc c (ix2 r e) = c (ix2 0 e) := by
  pointwise [bc]

theorem negLog2e_eq : Named.named (F := Ideal) (φ := .f32) κ "neg_log2e" 0xBFB8AA3B#32 = ((-((Real.log 2)⁻¹) : ℝ) : EReal) :=
  IdealRules.named_const.ideal_named_scalar _ _ _ _ rfl

theorem silu_apply (a : FVec Ideal S256x256 .f32) (r : Fin 256) (e : Fin 256) :
    silu a (ix2 r e) = a (ix2 r e) * Ideal.div (Ideal.ofBits .f32 0x3F800000#32) (Ideal.ofBits .f32 0x3F800000#32
      + Ideal.exp2 (a (ix2 r e) * ((-((Real.log 2)⁻¹) : ℝ) : EReal))) := by
  rw [← negLog2e_eq]
  pointwise [silu]
  rfl

theorem cast16_apply (a : FVec Ideal S256x256 .f32) (r : Fin 256) (e : Fin 256) : cast16 a (ix2 r e) = a (ix2 r e) := by
  pointwise [cast16]

theorem unit_apply (s : BitVec 32) (x : FVec Ideal S256x128 .f32) (r : Fin 256) (e : Fin 128) :
    unit s x (ix2 r e) = x (ix2 r e) * (Ideal.rsqrt ((∑ d : Fin 128, x (ix2 r d) * x (ix2 r d)) + Ideal.ofBits .f32 0x358637BD#32) * Ideal.ofBits .f32 s) := by
  pointwise [unit]

theorem headA_apply (s : BitVec 32) (u : FVec Ideal S256x256 .f32) (r : Fin 256) (e : Fin 128) :
    headA s u (ix2 r e) = u (ix2 r ⟨e.val, by omega⟩) * (Ideal.rsqrt ((∑ d : Fin 128, u (ix2 r ⟨d.val, by omega⟩) * u (ix2 r ⟨d.val, by omega⟩))
      + Ideal.ofBits .f32 0x358637BD#32) * Ideal.ofBits .f32 s) := by
  have h : ∀ d : Fin 128, extractStridedSlice S256x128 ![0, 0] u slices_S256x256_o0_0_S256x128 (ix2 r d) = u (ix2 r ⟨d.val, by omega⟩) := fun d => by
    pointwise []
  unfold headA
  rw [unit_apply]
  simp only [h]

theorem headB_apply (s : BitVec 32) (u : FVec Ideal S256x256 .f32) (r : Fin 256) (e : Fin 128) :
    headB s u (ix2 r e) = u (ix2 r ⟨128 + e.val, by omega⟩) * (Ideal.rsqrt ((∑ d : Fin 128, u (ix2 r ⟨128 + d.val, by omega⟩) * u (ix2 r ⟨128 + d.val, by omega⟩))
      + Ideal.ofBits .f32 0x358637BD#32) * Ideal.ofBits .f32 s) := by
  have h : ∀ d : Fin 128, extractStridedSlice S256x128 ![0, 128] u slices_S256x256_o0_128_S256x128 (ix2 r d) = u (ix2 r ⟨128 + d.val, by omega⟩) := fun d => by
    pointwise []
  unfold headB
  rw [unit_apply]
  simp only [h]

theorem normT_apply (x : FVec Ideal S256x1024 .f32) (g : FVec Ideal S1x1024 .f32) (r : Fin 256) (e : Fin 1024) :
    normT x g (ix2 r e) = x (ix2 r e) * Ideal.rsqrt (Ideal.div (∑ d : Fin 1024, x (ix2 r d) * x (ix2 r d)) (Ideal.ofBits .f32 0x44800000#32)
      + Ideal.ofBits .f32 0x358637BD#32) * g (ix2 0 e) := by
  pointwise [normT]

theorem normE_apply (x : FVec Ideal S8x1024 .f32) (g : FVec Ideal S1x1024 .f32) (r : Fin 8) (e : Fin 1024) :
    normE x g (ix2 r e) = x (ix2 r e) * Ideal.rsqrt (Ideal.div (∑ d : Fin 1024, x (ix2 r d) * x (ix2 r d)) (Ideal.ofBits .f32 0x44800000#32)
      + Ideal.ofBits .f32 0x358637BD#32) * g (ix2 0 e) := by
  pointwise [normE]

theorem ge6 : ∀ s : Fin 8, IntOp.cmpi CmpIPredicate.sge (BitVec.ofNat 32 s.val) 6#32 = if 6 ≤ s.val then 1#1 else 0#1 := by decide
theorem ge7 : ∀ s : Fin 8, IntOp.cmpi CmpIPredicate.sge (BitVec.ofNat 32 s.val) 7#32 = if 7 ≤ s.val then 1#1 else 0#1 := by decide
theorem lt1 : ∀ s : Fin 8, IntOp.cmpi CmpIPredicate.slt (BitVec.ofNat 32 s.val) 1#32 = if s.val < 1 then 1#1 else 0#1 := by decide
theorem lt2 : ∀ s : Fin 8, IntOp.cmpi CmpIPredicate.slt (BitVec.ofNat 32 s.val) 2#32 = if s.val < 2 then 1#1 else 0#1 := by decide

theorem eq_if (a b : BitVec 32) : Scalar.cmpi CmpIPredicate.eq a b = if a = b then 1#1 else 0#1 := by
  by_cases h : a = b
  · subst h; simp [Scalar.cmpi, IntOp.cmpi]
  · have hb : (a == b) = false := by simpa using h
    rw [if_neg h]
    show BitVec.ofBool (a == b) = 0#1
    rw [hb]; rfl

theorem sel_if {α : Type} (p : Prop) [Decidable p] (a b : α) : Scalar.select (if p then 1#1 else 0#1) a b = if p then a else b := by
  by_cases h : p <;> simp [Scalar.select, h]

theorem grouped_apply (u : FVec Ideal S272x256 .f32) (g : Fin 34) (s : Fin 8) (e : Fin 256) :
    shapeCast S34x8x256 u shapeCasts_S272x256_S34x8x256 (ix3 g s e) = u (ix2 ⟨g.val * 8 + s.val, by omega⟩ e) := by
  pointwise

theorem carryP7_apply (x : FVec Ideal S34x8x256 .f32) (g : Fin 34) (s : Fin 8) (e : Fin 256) :
    carryP 7#32 x (ix3 g s e) = if 7 ≤ s.val then x (ix3 ⟨(g.val + 33) % 34, Nat.mod_lt _ (by decide)⟩ s e) else x (ix3 g s e) := by
  pointwise [carryP]
  rw [ge7, sel_if]
  split
  · split
    · exact congrArg x (congrArg (fun k => ix3 k s e) (Fin.ext (show 33 + g.val = (g.val + 33) % 34 by omega)))
    · exact congrArg x (congrArg (fun k => ix3 k s e) (Fin.ext (show g.val - 1 = (g.val + 33) % 34 by omega)))
  · rfl

theorem carryN1_apply (x : FVec Ideal S34x8x256 .f32) (g : Fin 34) (s : Fin 8) (e : Fin 256) :
    carryN 1#32 x (ix3 g s e) = if s.val < 1 then x (ix3 ⟨(g.val + 1) % 34, Nat.mod_lt _ (by decide)⟩ s e) else x (ix3 g s e) := by
  pointwise [carryN]
  rw [lt1, sel_if]
  split
  · split
    · exact congrArg x (congrArg (fun k => ix3 k s e) (Fin.ext (show 1 + g.val = (g.val + 1) % 34 by omega)))
    · exact congrArg x (congrArg (fun k => ix3 k s e) (Fin.ext (show g.val - 33 = (g.val + 1) % 34 by omega)))
  · rfl

theorem prev1_apply (u : FVec Ideal S272x256 .f32) (r : Fin 272) (e : Fin 256) :
    prev 7#32 1#32 u (ix2 r e) = u (ix2 ⟨(r.val + 271) % 272, Nat.mod_lt _ (by decide)⟩ e) := by
  pointwise [prev]
  rw [carryP7_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem next1_apply (u : FVec Ideal S272x256 .f32) (r : Fin 272) (e : Fin 256) :
    next 1#32 7#32 u (ix2 r e) = u (ix2 ⟨(r.val + 1) % 272, Nat.mod_lt _ (by decide)⟩ e) := by
  pointwise [next]
  rw [carryN1_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem carryP6_apply (x : FVec Ideal S34x8x256 .f32) (g : Fin 34) (s : Fin 8) (e : Fin 256) :
    carryP 6#32 x (ix3 g s e) = if 6 ≤ s.val then x (ix3 ⟨(g.val + 33) % 34, Nat.mod_lt _ (by decide)⟩ s e) else x (ix3 g s e) := by
  pointwise [carryP]
  rw [ge6, sel_if]
  split
  · split
    · exact congrArg x (congrArg (fun k => ix3 k s e) (Fin.ext (show 33 + g.val = (g.val + 33) % 34 by omega)))
    · exact congrArg x (congrArg (fun k => ix3 k s e) (Fin.ext (show g.val - 1 = (g.val + 33) % 34 by omega)))
  · rfl

theorem carryN2_apply (x : FVec Ideal S34x8x256 .f32) (g : Fin 34) (s : Fin 8) (e : Fin 256) :
    carryN 2#32 x (ix3 g s e) = if s.val < 2 then x (ix3 ⟨(g.val + 1) % 34, Nat.mod_lt _ (by decide)⟩ s e) else x (ix3 g s e) := by
  pointwise [carryN]
  rw [lt2, sel_if]
  split
  · split
    · exact congrArg x (congrArg (fun k => ix3 k s e) (Fin.ext (show 1 + g.val = (g.val + 1) % 34 by omega)))
    · exact congrArg x (congrArg (fun k => ix3 k s e) (Fin.ext (show g.val - 33 = (g.val + 1) % 34 by omega)))
  · rfl

theorem prev2_apply (u : FVec Ideal S272x256 .f32) (r : Fin 272) (e : Fin 256) :
    prev 6#32 2#32 u (ix2 r e) = u (ix2 ⟨(r.val + 270) % 272, Nat.mod_lt _ (by decide)⟩ e) := by
  pointwise [prev]
  rw [carryP6_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem next2_apply (u : FVec Ideal S272x256 .f32) (r : Fin 272) (e : Fin 256) :
    next 2#32 6#32 u (ix2 r e) = u (ix2 ⟨(r.val + 2) % 272, Nat.mod_lt _ (by decide)⟩ e) := by
  pointwise [next]
  rw [carryN2_apply]
  have hr := r.isLt
  split
  · next h =>
    rw [grouped_apply]
    refine congrArg u (congrArg (fun k => ix2 k e) (Fin.ext ?_))
    dsimp only at h ⊢
    omega
  · next h =>
    rw [grouped_apply]
    refine congrArg u (congrArg (fun k => ix2 k e) (Fin.ext ?_))
    dsimp only at h ⊢
    omega

theorem conv_apply (u : FVec Ideal S272x256 .f32) (c0 c1 c2 c3 c4 cb : Vec Ideal S1x256 .f32) (r : Fin 256) (e : Fin 256) :
    conv u c0 c1 c2 c3 c4 cb (ix2 r e) = u (ix2 ⟨r.val, by omega⟩ e) * c2 (ix2 0 e) + u (ix2 ⟨(r.val + 270) % 272, Nat.mod_lt _ (by decide)⟩ e) * c0 (ix2 0 e)
      + u (ix2 ⟨(r.val + 271) % 272, Nat.mod_lt _ (by decide)⟩ e) * c1 (ix2 0 e)
      + u (ix2 ⟨(r.val + 1) % 272, Nat.mod_lt _ (by decide)⟩ e) * c3 (ix2 0 e)
      + u (ix2 ⟨(r.val + 2) % 272, Nat.mod_lt _ (by decide)⟩ e) * c4 (ix2 0 e) + cb (ix2 0 e) := by
  rw [← prev2_apply u ⟨r.val, by omega⟩ e, ← prev1_apply u ⟨r.val, by omega⟩ e, ← next1_apply u ⟨r.val, by omega⟩ e, ← next2_apply u ⟨r.val, by omega⟩ e,
    ← bc_apply c0 ⟨r.val, by omega⟩ e, ← bc_apply c1 ⟨r.val, by omega⟩ e, ← bc_apply c2 ⟨r.val, by omega⟩ e, ← bc_apply c3 ⟨r.val, by omega⟩ e,
    ← bc_apply c4 ⟨r.val, by omega⟩ e]
  pointwise [conv]

theorem joined_apply (x : FVec Ideal S256x1024 .f32) (a b : FVec Ideal S8x1024 .f32) (r : Fin 272) (e : Fin 1024) :
    joined x a b (ix2 r e) = if h : r.val < 256 then x (ix2 ⟨r.val, h⟩ e) else
      if h' : r.val - 256 < 8 then a (ix2 ⟨r.val - 256, h'⟩ e) else b (ix2 ⟨r.val - 256 - 8, by omega⟩ e) := by
  pointwise [joined]

theorem edge_apply (pos k : BitVec 32) (x : FVec Ideal S8x1024 .f32) (r : Fin 8) (e : Fin 1024) :
    edge pos k x (ix2 r e) = if pos = k then 0 else x (ix2 r e) := by
  pointwise [edge]
  rw [eq_if, sel_if]

end Cert.Kernel3Ideal.Hand

end
-- ==== Proof.Delta.lean ====
/-
  The delta net's input projection on numbers: a row over its root mean square, projected; the first 4096 columns mixed with the
  two rows before and the two rows after in the sequence and multiplied by their sigmoid; the queries' and the keys' heads over
  their root sum square.
-/
module

public import proofs.«01_k».proof.Proof.Feed

@[expose] public section

set_option maxRecDepth 16384

noncomputable section

namespace Cert.Delta

open Idealize.ShloMosaic Idealize.ShloMosaic.TcCoe Idealize.ShloMosaic.Tactic

/-- A number times its sigmoid. -/
def sil (a : EReal) : EReal :=
  a * Ideal.div (Ideal.ofBits .f32 0x3F800000#32) (Ideal.ofBits .f32 0x3F800000#32 + Ideal.exp2 (a * ((-((Real.log 2)⁻¹) : ℝ) : EReal)))

theorem sil_eq (a : EReal) : sil a = a * Ideal.div (Ideal.ofBits .f32 0x3F800000#32) (Ideal.ofBits .f32 0x3F800000#32 + Ideal.exp (-a)) := by
  unfold sil
  rw [Cert.Feed.exp2_neg]

/-- One of a row's numbers, over the root sum square of its head of 128. -/
def unitary (s : EReal) (u : Fin 128 → EReal) (x : EReal) : EReal :=
  x * (Ideal.rsqrt ((∑ d : Fin 128, u d * u d) + Ideal.ofBits .f32 0x358637BD#32) * s)

section
variable (H : Fin 16384 → Fin 1024 → EReal) (g : Fin 1024 → EReal) (W : Fin 1024 → Fin 6208 → EReal) (C : Fin 5 → Fin 4096 → EReal)
  (B : Fin 4096 → EReal)

/-- A normalised row, projected. -/
def pr (R : Fin 16384) (f : Fin 6208) : EReal := ∑ d : Fin 1024, Cert.Feed.nrm (H R) g d * W d f

/-- The projected row `k` rows before, in the sequence, times a weight. -/
def back (k : ℕ) (R : Fin 16384) (f : Fin 6208) (c : EReal) : EReal :=
  if h : R.val % 8192 < k then 0 else pr H g W ⟨R.val - k, by omega⟩ f * c

/-- The projected row `k` rows after. -/
def forth (k : ℕ) (R : Fin 16384) (f : Fin 6208) (c : EReal) : EReal :=
  if h : 8192 ≤ R.val % 8192 + k then 0 else pr H g W ⟨R.val + k, by omega⟩ f * c

/-- The projected row mixed with its neighbours in the sequence. -/
def mixr (R : Fin 16384) (f : Fin 4096) : EReal :=
  pr H g W R ⟨f.val, by omega⟩ * C 2 f + back H g W 2 R ⟨f.val, by omega⟩ (C 0 f) + back H g W 1 R ⟨f.val, by omega⟩ (C 1 f)
    + forth H g W 1 R ⟨f.val, by omega⟩ (C 3 f) + forth H g W 2 R ⟨f.val, by omega⟩ (C 4 f) + B f

/-- And multiplied by its sigmoid. -/
def actr (R : Fin 16384) (f : Fin 4096) : EReal := sil (mixr H g W C B R f)

/-- The queries. -/
def qr (R : Fin 16384) (j : Fin 1024) : EReal :=
  unitary (Ideal.ofBits .f32 0x3DB504F3#32) (fun d => actr H g W C B R ⟨j.val / 128 * 128 + d.val, by omega⟩) (actr H g W C B R ⟨j.val, by omega⟩)

/-- The keys. -/
def kr (R : Fin 16384) (j : Fin 1024) : EReal :=
  unitary (Ideal.ofBits .f32 0x3F800000#32) (fun d => actr H g W C B R ⟨1024 + j.val / 128 * 128 + d.val, by omega⟩)
    (actr H g W C B R ⟨1024 + j.val, by omega⟩)

/-- The values. -/
def vr (R : Fin 16384) (j : Fin 2048) : EReal := actr H g W C B R ⟨2048 + j.val, by omega⟩

/-- The output's gate, before its sigmoid. -/
def zr (R : Fin 16384) (j : Fin 2048) : EReal := pr H g W R ⟨4096 + j.val, by omega⟩

end

end Cert.Delta

end
-- ==== Proof.Columns.lean ====
/-
  A grid point of the delta net's input projection: the slices of columns it writes to its results together are the queries,
  the keys, the values and the output's gate of its rows.
-/
module

public import proofs.«01_k».proof.Proof.Taps
public import proofs.«01_k».proof.Proof.Delta
public import proofs.«01_k».proof.Proof.Gen.Kernel3Ideal.Frame
public import Idealize.ShloMosaic.Lib.Pipeline.Value

@[expose] public section

set_option maxRecDepth 16384

noncomputable section

namespace Cert.Kernel3Ideal.Hand

open Cert.Kernel3Ideal Cert.Kernel3Ideal.Gen Cert.Delta
open Idealize.ShloMosaic Idealize.ShloMosaic.TcCoe Idealize.ShloMosaic.Tactic

section vals
variable (y : FVec Ideal S272x1024 .bf16) (x4 : Vec Ideal S1024x6208 .bf16) (x5 : Vec Ideal S5x4096 .f32) (x6 : Vec Ideal S1x4096 .f32)

/-- A row projected to column `f`. -/
def up (r : Fin 272) (f : Fin 6208) : EReal := ∑ d : Fin 1024, y (ix2 r d) * x4 (ix2 d f)

/-- A projected row mixed with its four neighbours, and the offset. -/
def mixed (r : Fin 256) (f : Fin 4096) : EReal :=
  up y x4 ⟨r.val, by omega⟩ ⟨f.val, by omega⟩ * x5 (ix2 2 f) + up y x4 ⟨(r.val + 270) % 272, Nat.mod_lt _ (by decide)⟩ ⟨f.val, by omega⟩ * x5 (ix2 0 f)
    + up y x4 ⟨(r.val + 271) % 272, Nat.mod_lt _ (by decide)⟩ ⟨f.val, by omega⟩ * x5 (ix2 1 f)
    + up y x4 ⟨(r.val + 1) % 272, Nat.mod_lt _ (by decide)⟩ ⟨f.val, by omega⟩ * x5 (ix2 3 f)
    + up y x4 ⟨(r.val + 2) % 272, Nat.mod_lt _ (by decide)⟩ ⟨f.val, by omega⟩ * x5 (ix2 4 f) + x6 (ix2 0 f)

/-- And multiplied by its sigmoid. -/
def act (r : Fin 256) (f : Fin 4096) : EReal := sil (mixed y x4 x5 x6 r f)

def qs : FVec Ideal S256x1024 .bf16 := fun i =>
  unitary (Ideal.ofBits .f32 0x3DB504F3#32) (fun d => act y x4 x5 x6 (i 0) ⟨(i 1).val / 128 * 128 + d.val, by have : (i 1).val < 1024 := (i 1).isLt; omega⟩)
    (act y x4 x5 x6 (i 0) ⟨(i 1).val, by have : (i 1).val < 1024 := (i 1).isLt; omega⟩)

def ks : FVec Ideal S256x1024 .bf16 := fun i =>
  unitary (Ideal.ofBits .f32 0x3F800000#32) (fun d => act y x4 x5 x6 (i 0) ⟨1024 + (i 1).val / 128 * 128 + d.val, by have : (i 1).val < 1024 := (i 1).isLt; omega⟩)
    (act y x4 x5 x6 (i 0) ⟨1024 + (i 1).val, by have : (i 1).val < 1024 := (i 1).isLt; omega⟩)

def vs : FVec Ideal S256x2048 .bf16 := fun i =>
  act y x4 x5 x6 (i 0) ⟨2048 + (i 1).val, by have : (i 1).val < 2048 := (i 1).isLt; omega⟩

def zs : FVec Ideal S256x2048 .bf16 := fun i =>
  up y x4 ⟨(i 0).val, by have : (i 0).val < 256 := (i 0).isLt; omega⟩ ⟨4096 + (i 1).val, by have : (i 1).val < 2048 := (i 1).isLt; omega⟩

theorem load4 (o : ℕ) (h) (d : Fin 1024) (e : Fin 256) (f : Fin 6208) (hf : f.val = o + e.val) :
    View.ld x4 (Rect.unit (s := S1024x6208) ![0, o] S1024x256.size h) (ix2 d e) = x4 (ix2 d f) := by
  show x4 _ = _
  congr 1
  funext a
  refine Fin.ext ?_
  match a with
  | ⟨0, _⟩ => show 0 + 1 * d.val = d.val; omega
  | ⟨1, _⟩ => show o + 1 * e.val = f.val; omega

theorem load5 (j : Fin 5) (jn : ℕ) (hj : j.val = jn) (o : ℕ) (h) (e : Fin 256) (f : Fin 4096) (hf : f.val = o + e.val) :
    View.ld x5 (Rect.unit (s := S5x4096) ![jn, o] S1x256.size h) (ix2 0 e) = x5 (ix2 j f) := by
  show x5 _ = _
  congr 1
  funext a
  refine Fin.ext ?_
  match a with
  | ⟨0, _⟩ => show jn + 1 * 0 = j.val; omega
  | ⟨1, _⟩ => show o + 1 * e.val = f.val; omega

theorem load6 (o : ℕ) (h) (e : Fin 256) (f : Fin 4096) (hf : f.val = o + e.val) :
    View.ld x6 (Rect.unit (s := S1x4096) ![0, o] S1x256.size h) (ix2 0 e) = x6 (ix2 0 f) := by
  show x6 _ = _
  congr 1
  funext a
  refine Fin.ext ?_
  match a with
  | ⟨0, _⟩ => rfl
  | ⟨1, _⟩ => show o + 1 * e.val = f.val; omega

section slice
variable (o : ℕ) (hw : ∀ a, (![0, o] : Fin 2 → ℕ) a + S1024x256.size a ≤ S1024x6208.size a)
  (h0 : ∀ a, (![0, o] : Fin 2 → ℕ) a + S1x256.size a ≤ S5x4096.size a)
  (h1 : ∀ a, (![1, o] : Fin 2 → ℕ) a + S1x256.size a ≤ S5x4096.size a)
  (h2 : ∀ a, (![2, o] : Fin 2 → ℕ) a + S1x256.size a ≤ S5x4096.size a)
  (h3 : ∀ a, (![3, o] : Fin 2 → ℕ) a + S1x256.size a ≤ S5x4096.size a)
  (h4 : ∀ a, (![4, o] : Fin 2 → ℕ) a + S1x256.size a ≤ S5x4096.size a)
  (hb : ∀ a, (![0, o] : Fin 2 → ℕ) a + S1x256.size a ≤ S1x4096.size a)

/-- The slice at column `o`, from the arrays' slices. -/
abbrev slice : FVec Ideal S256x256 .f32 :=
  chunk y (View.ld x4 (Rect.unit (s := S1024x6208) ![0, o] S1024x256.size hw))
    (View.ld x5 (Rect.unit (s := S5x4096) ![0, o] S1x256.size h0)) (View.ld x5 (Rect.unit (s := S5x4096) ![1, o] S1x256.size h1))
    (View.ld x5 (Rect.unit (s := S5x4096) ![2, o] S1x256.size h2)) (View.ld x5 (Rect.unit (s := S5x4096) ![3, o] S1x256.size h3))
    (View.ld x5 (Rect.unit (s := S5x4096) ![4, o] S1x256.size h4)) (View.ld x6 (Rect.unit (s := S1x4096) ![0, o] S1x256.size hb))

theorem slice_apply (r : Fin 256) (e : Fin 256) (f : Fin 4096) (hf : f.val = o + e.val) :
    slice y x4 x5 x6 o hw h0 h1 h2 h3 h4 hb (ix2 r e) = act y x4 x5 x6 r f := by
  unfold slice chunk
  rw [silu_apply, conv_apply]
  simp only [proj_apply]
  have hg : ((⟨f.val, by omega⟩ : Fin 6208)).val = o + e.val := hf
  simp only [load4 x4 o hw _ e _ hg, load5 x5 0 0 rfl o h0 e _ hf, load5 x5 1 1 rfl o h1 e _ hf, load5 x5 2 2 rfl o h2 e _ hf,
    load5 x5 3 3 rfl o h3 e _ hf, load5 x5 4 4 rfl o h4 e _ hf, load6 x6 o hb e _ hf]
  rfl

theorem ix_head (x : S256x128.Idx) : ∃ (r : Fin 256) (e : Fin 128), x = ix2 r e := by
  idx_vars x
  exact ⟨_, _, rfl⟩

theorem ix_slice (x : S256x256.Idx) : ∃ (r : Fin 256) (e : Fin 256), x = ix2 r e := by
  idx_vars x
  exact ⟨_, _, rfl⟩

theorem unitary_congr (s : EReal) (u v : Fin 128 → EReal) (a b : EReal) (h : ∀ d, u d = v d) (hab : a = b) : unitary s u a = unitary s v b := by
  rw [funext h, hab]

theorem qpieceA (p : ℕ) (hp : o = p) (hm : p % 256 = 0) (hl : p + 256 ≤ 1024) (n : ℕ) (hn : n = p + 0)
    (h : ∀ a, (![0, n] : Fin 2 → ℕ) a + S256x128.size a ≤ S256x1024.size a) (x : S256x128.Idx) :
    headA 0x3DB504F3#32 (slice y x4 x5 x6 o hw h0 h1 h2 h3 h4 hb) x = qs y x4 x5 x6 ((Rect.unit (s := S256x1024) ![0, n] S256x128.size h).emb x) := by
  obtain ⟨r, e, rfl⟩ := ix_head x
  rw [headA_apply]
  show unitary (Ideal.ofBits .f32 0x3DB504F3#32) (fun d : Fin 128 => slice y x4 x5 x6 o hw h0 h1 h2 h3 h4 hb (ix2 r ⟨d.val, by omega⟩)) _ = _
  unfold qs
  have hr : ((Rect.unit (s := S256x1024) ![0, n] S256x128.size h).emb (ix2 r e) 0 : Fin 256) = r := Fin.ext (by show 0 + 1 * r.val = r.val; omega)
  have he : ((Rect.unit (s := S256x1024) ![0, n] S256x128.size h).emb (ix2 r e) 1).val = n + e.val := by show n + 1 * e.val = n + e.val; omega
  refine unitary_congr _ _ _ _ _ (fun d => ?_) ?_
  · rw [slice_apply y x4 x5 x6 o hw h0 h1 h2 h3 h4 hb r _ ⟨o + (d.val), by omega⟩ rfl]
    refine congrArg₂ (act y x4 x5 x6) hr.symm (Fin.ext ?_)
    show o + (d.val) = _ / 128 * 128 + d.val
    rw [he]; omega
  · rw [slice_apply y x4 x5 x6 o hw h0 h1 h2 h3 h4 hb r _ ⟨o + (e.val), by omega⟩ rfl]
    refine congrArg₂ (act y x4 x5 x6) hr.symm (Fin.ext ?_)
    show o + (e.val) = _
    rw [he]; omega

theorem qpieceB (p : ℕ) (hp : o = p) (hm : p % 256 = 0) (hl : p + 256 ≤ 1024) (n : ℕ) (hn : n = p + 128)
    (h : ∀ a, (![0, n] : Fin 2 → ℕ) a + S256x128.size a ≤ S256x1024.size a) (x : S256x128.Idx) :
    headB 0x3DB504F3#32 (slice y x4 x5 x6 o hw h0 h1 h2 h3 h4 hb) x = qs y x4 x5 x6 ((Rect.unit (s := S256x1024) ![0, n] S256x128.size h).emb x) := by
  obtain ⟨r, e, rfl⟩ := ix_head x
  rw [headB_apply]
  show unitary (Ideal.ofBits .f32 0x3DB504F3#32) (fun d : Fin 128 => slice y x4 x5 x6 o hw h0 h1 h2 h3 h4 hb (ix2 r ⟨128 + d.val, by omega⟩)) _ = _
  unfold qs
  have hr : ((Rect.unit (s := S256x1024) ![0, n] S256x128.size h).emb (ix2 r e) 0 : Fin 256) = r := Fin.ext (by show 0 + 1 * r.val = r.val; omega)
  have he : ((Rect.unit (s := S256x1024) ![0, n] S256x128.size h).emb (ix2 r e) 1).val = n + e.val := by show n + 1 * e.val = n + e.val; omega
  refine unitary_congr _ _ _ _ _ (fun d => ?_) ?_
  · rw [slice_apply y x4 x5 x6 o hw h0 h1 h2 h3 h4 hb r _ ⟨o + (128 + d.val), by omega⟩ rfl]
    refine congrArg₂ (act y x4 x5 x6) hr.symm (Fin.ext ?_)
    show o + (128 + d.val) = _ / 128 * 128 + d.val
    rw [he]; omega
  · rw [slice_apply y x4 x5 x6 o hw h0 h1 h2 h3 h4 hb r _ ⟨o + (128 + e.val), by omega⟩ rfl]
    refine congrArg₂ (act y x4 x5 x6) hr.symm (Fin.ext ?_)
    show o + (128 + e.val) = _
    rw [he]; omega

theorem kpieceA (p : ℕ) (hp : o = 1024 + p) (hm : p % 256 = 0) (hl : p + 256 ≤ 1024) (n : ℕ) (hn : n = p + 0)
    (h : ∀ a, (![0, n] : Fin 2 → ℕ) a + S256x128.size a ≤ S256x1024.size a) (x : S256x128.Idx) :
    headA 0x3F800000#32 (slice y x4 x5 x6 o hw h0 h1 h2 h3 h4 hb) x = ks y x4 x5 x6 ((Rect.unit (s := S256x1024) ![0, n] S256x128.size h).emb x) := by
  obtain ⟨r, e, rfl⟩ := ix_head x
  rw [headA_apply]
  show unitary (Ideal.ofBits .f32 0x3F800000#32) (fun d : Fin 128 => slice y x4 x5 x6 o hw h0 h1 h2 h3 h4 hb (ix2 r ⟨d.val, by omega⟩)) _ = _
  unfold ks
  have hr : ((Rect.unit (s := S256x1024) ![0, n] S256x128.size h).emb (ix2 r e) 0 : Fin 256) = r := Fin.ext (by show 0 + 1 * r.val = r.val; omega)
  have he : ((Rect.unit (s := S256x1024) ![0, n] S256x128.size h).emb (ix2 r e) 1).val = n + e.val := by show n + 1 * e.val = n + e.val; omega
  refine unitary_congr _ _ _ _ _ (fun d => ?_) ?_
  · rw [slice_apply y x4 x5 x6 o hw h0 h1 h2 h3 h4 hb r _ ⟨o + (d.val), by omega⟩ rfl]
    refine congrArg₂ (act y x4 x5 x6) hr.symm (Fin.ext ?_)
    show o + (d.val) = 1024 + _ / 128 * 128 + d.val
    rw [he]; omega
  · rw [slice_apply y x4 x5 x6 o hw h0 h1 h2 h3 h4 hb r _ ⟨o + (e.val), by omega⟩ rfl]
    refine congrArg₂ (act y x4 x5 x6) hr.symm (Fin.ext ?_)
    show o + (e.val) = 1024 + _
    rw [he]; omega

theorem kpieceB (p : ℕ) (hp : o = 1024 + p) (hm : p % 256 = 0) (hl : p + 256 ≤ 1024) (n : ℕ) (hn : n = p + 128)
    (h : ∀ a, (![0, n] : Fin 2 → ℕ) a + S256x128.size a ≤ S256x1024.size a) (x : S256x128.Idx) :
    headB 0x3F800000#32 (slice y x4 x5 x6 o hw h0 h1 h2 h3 h4 hb) x = ks y x4 x5 x6 ((Rect.unit (s := S256x1024) ![0, n] S256x128.size h).emb x) := by
  obtain ⟨r, e, rfl⟩ := ix_head x
  rw [headB_apply]
  show unitary (Ideal.ofBits .f32 0x3F800000#32) (fun d : Fin 128 => slice y x4 x5 x6 o hw h0 h1 h2 h3 h4 hb (ix2 r ⟨128 + d.val, by omega⟩)) _ = _
  unfold ks
  have hr : ((Rect.unit (s := S256x1024) ![0, n] S256x128.size h).emb (ix2 r e) 0 : Fin 256) = r := Fin.ext (by show 0 + 1 * r.val = r.val; omega)
  have he : ((Rect.unit (s := S256x1024) ![0, n] S256x128.size h).emb (ix2 r e) 1).val = n + e.val := by show n + 1 * e.val = n + e.val; omega
  refine unitary_congr _ _ _ _ _ (fun d => ?_) ?_
  · rw [slice_apply y x4 x5 x6 o hw h0 h1 h2 h3 h4 hb r _ ⟨o + (128 + d.val), by omega⟩ rfl]
    refine congrArg₂ (act y x4 x5 x6) hr.symm (Fin.ext ?_)
    show o + (128 + d.val) = 1024 + _ / 128 * 128 + d.val
    rw [he]; omega
  · rw [slice_apply y x4 x5 x6 o hw h0 h1 h2 h3 h4 hb r _ ⟨o + (128 + e.val), by omega⟩ rfl]
    refine congrArg₂ (act y x4 x5 x6) hr.symm (Fin.ext ?_)
    show o + (128 + e.val) = 1024 + _
    rw [he]; omega

theorem vpiece (p : ℕ) (hp : o = 2048 + p) (hl : p + 256 ≤ 2048) (h : ∀ a, (![0, p] : Fin 2 → ℕ) a + S256x256.size a ≤ S256x2048.size a) (x : S256x256.Idx) :
    cast16 (slice y x4 x5 x6 o hw h0 h1 h2 h3 h4 hb) x = vs y x4 x5 x6 ((Rect.unit (s := S256x2048) ![0, p] S256x256.size h).emb x) := by
  obtain ⟨r, e, rfl⟩ := ix_slice x
  rw [cast16_apply, slice_apply y x4 x5 x6 o hw h0 h1 h2 h3 h4 hb r _ ⟨o + e.val, by omega⟩ rfl]
  unfold vs
  refine congrArg₂ (act y x4 x5 x6) (Fin.ext ?_) (Fin.ext ?_)
  · show r.val = 0 + 1 * r.val; omega
  · show o + e.val = 2048 + (p + 1 * e.val); omega

include o in
theorem zpiece (p : ℕ) (hp : o = 4096 + p) (hl : p + 256 ≤ 2048) (h : ∀ a, (![0, p] : Fin 2 → ℕ) a + S256x256.size a ≤ S256x2048.size a) (x : S256x256.Idx) :
    plain y (View.ld x4 (Rect.unit (s := S1024x6208) ![0, o] S1024x256.size hw)) x = zs y x4 ((Rect.unit (s := S256x2048) ![0, p] S256x256.size h).emb x) := by
  obtain ⟨r, e, rfl⟩ := ix_slice x
  rw [plain_apply]
  simp only [load4 x4 o hw _ e ⟨o + e.val, by omega⟩ rfl]
  unfold zs
  show up y x4 ⟨r.val, by omega⟩ ⟨o + e.val, by omega⟩ = _
  refine congrArg₂ (up y x4) (Fin.ext ?_) (Fin.ext ?_)
  · show r.val = 0 + 1 * r.val; omega
  · show o + e.val = 4096 + (p + 1 * e.val); omega

end slice

end vals

section outs
variable (i : grid0.Coords) (x0 : Vec Ideal S256x1024 .f32) (x1 : Vec Ideal S8x1024 .f32) (x2 : Vec Ideal S8x1024 .f32) (x3 : Vec Ideal S1x1024 .f32)
  (x4 : Vec Ideal S1024x6208 .bf16) (x5 : Vec Ideal S5x4096 .f32) (x6 : Vec Ideal S1x4096 .f32) (x7 x8 : Vec Ideal S1x128 .f32) (x9 x10 : Vec Ideal S256x256 .bf16)

theorem hz2 : (![0, 0] : Fin 2 → Nat) = fun _ => 0 := funext fun a => by fin_cases a <;> rfl

/-- The tile's number in its sequence. -/
def pos (i : grid0.Coords) : BitVec 32 := (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32)))

/-- The rows a point works on. -/
theorem rows_eq : k0_pay179 (F := Ideal) i x0 x1 x2 x3 x4 x5 x6 x7 x8 x9 x10 = rows x0 x1 x2 x3 (pos i) := by
  have h : k0_pay179 (F := Ideal) i x0 x1 x2 x3 x4 x5 x6 x7 x8 x9 x10
      = rows (View.ld x0 r0_1) (View.ld x1 r0_2) (View.ld x2 r0_2) (View.ld x3 r0_0) (pos i) := rfl
  rw [h]
  congr 1
  · exact View.ld_unit_zero hz2 _ _
  · exact View.ld_unit_zero hz2 _ _
  · exact View.ld_unit_zero hz2 _ _
  · exact View.ld_unit_zero hz2 _ _

/-- The slices a point writes to window 11. -/
abbrev wq : List (View.Piece (Elt Ideal) S256x1024 .bf16) := [⟨r0_38, k0_pay40 (k0_pay36 (k0_pay193 i x0 x1 x2 x3 x4 x5 x6 x7 x8 x9 x10) (k0_pay194 i x0 x1 x2 x3 x4 x5 x6 x7 x8 x9 x10) (k0_pay195 i x0 x1 x2 x3 x4 x5 x6 x7 x8 x9 x10) (k0_pay192 i x0 x1 x2 x3 x4 x5 x6 x7 x8 x9 x10) (View.ld x5 r0_34) (View.ld x5 r0_35) (View.ld x6 r0_36))⟩, ⟨r0_37, k0_pay39 (k0_pay37 (k0_pay193 i x0 x1 x2 x3 x4 x5 x6 x7 x8 x9 x10) (k0_pay194 i x0 x1 x2 x3 x4 x5 x6 x7 x8 x9 x10) (k0_pay195 i x0 x1 x2 x3 x4 x5 x6 x7 x8 x9 x10) (k0_pay192 i x0 x1 x2 x3 x4 x5 x6 x7 x8 x9 x10) (View.ld x5 r0_34) (View.ld x5 r0_35) (View.ld x6 r0_36)) (k0_pay38 (k0_pay193 i x0 x1 x2 x3 x4 x5 x6 x7 x8 x9 x10) (k0_pay194 i x0 x1 x2 x3 x4 x5 x6 x7 x8 x9 x10) (k0_pay195 i x0 x1 x2 x3 x4 x5 x6 x7 x8 x9 x10) (k0_pay192 i x0 x1 x2 x3 x4 x5 x6 x7 x8 x9 x10) (View.ld x5 r0_34) (View.ld x5 r0_35) (View.ld x6 r0_36))⟩, ⟨r0_29, k0_pay32 (k0_pay190 i x0 x1 x2 x3 x4 x5 x6 x7 x8 x9 x10) (k0_pay191 i x0 x1 x2 x3 x4 x5 x6 x7 x8 x9 x10) (View.ld x5 r0_26) (View.ld x6 r0_27)⟩, ⟨r0_28, k0_pay31 (k0_pay190 i x0 x1 x2 x3 x4 x5 x6 x7 x8 x9 x10) (k0_pay191 i x0 x1 x2 x3 x4 x5 x6 x7 x8 x9 x10) (View.ld x5 r0_26) (View.ld x6 r0_27)⟩, ⟨r0_20, k0_pay24 (k0_pay20 (k0_pay184 i x0 x1 x2 x3 x4 x5 x6 x7 x8 x9 x10) (k0_pay185 i x0 x1 x2 x3 x4 x5 x6 x7 x8 x9 x10) (k0_pay186 i x0 x1 x2 x3 x4 x5 x6 x7 x8 x9 x10) (k0_pay187 i x0 x1 x2 x3 x4 x5 x6 x7 x8 x9 x10) (k0_pay188 i x0 x1 x2 x3 x4 x5 x6 x7 x8 x9 x10) (View.ld x5 r0_16) (View.ld x5 r0_17) (View.ld x6 r0_18))⟩, ⟨r0_19, k0_pay23 (k0_pay21 (k0_pay184 i x0 x1 x2 x3 x4 x5 x6 x7 x8 x9 x10) (k0_pay185 i x0 x1 x2 x3 x4 x5 x6 x7 x8 x9 x10) (k0_pay186 i x0 x1 x2 x3 x4 x5 x6 x7 x8 x9 x10) (k0_pay187 i x0 x1 x2 x3 x4 x5 x6 x7 x8 x9 x10) (k0_pay188 i x0 x1 x2 x3 x4 x5 x6 x7 x8 x9 x10) (View.ld x5 r0_16) (View.ld x5 r0_17) (View.ld x6 r0_18)) (k0_pay22 (k0_pay184 i x0 x1 x2 x3 x4 x5 x6 x7 x8 x9 x10) (k0_pay185 i x0 x1 x2 x3 x4 x5 x6 x7 x8 x9 x10) (k0_pay186 i x0 x1 x2 x3 x4 x5 x6 x7 x8 x9 x10) (k0_pay187 i x0 x1 x2 x3 x4 x5 x6 x7 x8 x9 x10) (k0_pay188 i x0 x1 x2 x3 x4 x5 x6 x7 x8 x9 x10) (View.ld x5 r0_16) (View.ld x5 r0_17) (View.ld x6 r0_18)) (Scalar.ofBits .f32 0x358637BD#32)⟩, ⟨r0_11, k0_pay14 (k0_pay182 i x0 x1 x2 x3 x4 x5 x6 x7 x8 x9 x10) (k0_pay183 i x0 x1 x2 x3 x4 x5 x6 x7 x8 x9 x10) (View.ld x5 r0_8) (View.ld x6 r0_9)⟩, ⟨r0_10, k0_pay13 (k0_pay182 i x0 x1 x2 x3 x4 x5 x6 x7 x8 x9 x10) (k0_pay183 i x0 x1 x2 x3 x4 x5 x6 x7 x8 x9 x10) (View.ld x5 r0_8) (View.ld x6 r0_9)⟩]

theorem wq_eq : ∀ q ∈ wq i x0 x1 x2 x3 x4 x5 x6 x7 x8 x9 x10, ∀ x : q.1.shape.Idx, q.2 x = (qs (k0_pay179 i x0 x1 x2 x3 x4 x5 x6 x7 x8 x9 x10) x4 x5 x6) (q.1.emb x) := by
  unfold wq
  refine List.forall_mem_cons.2 ⟨fun x => (qpieceB (k0_pay179 i x0 x1 x2 x3 x4 x5 x6 x7 x8 x9 x10) x4 x5 x6 768 inb_S1024x6208_S1024x256_0_768 inb_S5x4096_S1x256_0_768 inb_S5x4096_S1x256_1_768 inb_S5x4096_S1x256_2_768 inb_S5x4096_S1x256_3_768 inb_S5x4096_S1x256_4_768 inb_S1x4096_S1x256_0_768 768 rfl rfl (by decide) 896 rfl inb_S256x1024_S256x128_0_896 x), ?_⟩
  refine List.forall_mem_cons.2 ⟨fun x => (qpieceA (k0_pay179 i x0 x1 x2 x3 x4 x5 x6 x7 x8 x9 x10) x4 x5 x6 768 inb_S1024x6208_S1024x256_0_768 inb_S5x4096_S1x256_0_768 inb_S5x4096_S1x256_1_768 inb_S5x4096_S1x256_2_768 inb_S5x4096_S1x256_3_768 inb_S5x4096_S1x256_4_768 inb_S1x4096_S1x256_0_768 768 rfl rfl (by decide) 768 rfl inb_S256x1024_S256x128_0_768 x), ?_⟩
  refine List.forall_mem_cons.2 ⟨fun x => (qpieceB (k0_pay179 i x0 x1 x2 x3 x4 x5 x6 x7 x8 x9 x10) x4 x5 x6 512 inb_S1024x6208_S1024x256_0_512 inb_S5x4096_S1x256_0_512 inb_S5x4096_S1x256_1_512 inb_S5x4096_S1x256_2_512 inb_S5x4096_S1x256_3_512 inb_S5x4096_S1x256_4_512 inb_S1x4096_S1x256_0_512 512 rfl rfl (by decide) 640 rfl inb_S256x1024_S256x128_0_640 x), ?_⟩
  refine List.forall_mem_cons.2 ⟨fun x => (qpieceA (k0_pay179 i x0 x1 x2 x3 x4 x5 x6 x7 x8 x9 x10) x4 x5 x6 512 inb_S1024x6208_S1024x256_0_512 inb_S5x4096_S1x256_0_512 inb_S5x4096_S1x256_1_512 inb_S5x4096_S1x256_2_512 inb_S5x4096_S1x256_3_512 inb_S5x4096_S1x256_4_512 inb_S1x4096_S1x256_0_512 512 rfl rfl (by decide) 512 rfl inb_S256x1024_S256x128_0_512 x), ?_⟩
  refine List.forall_mem_cons.2 ⟨fun x => (qpieceB (k0_pay179 i x0 x1 x2 x3 x4 x5 x6 x7 x8 x9 x10) x4 x5 x6 256 inb_S1024x6208_S1024x256_0_256 inb_S5x4096_S1x256_0_256 inb_S5x4096_S1x256_1_256 inb_S5x4096_S1x256_2_256 inb_S5x4096_S1x256_3_256 inb_S5x4096_S1x256_4_256 inb_S1x4096_S1x256_0_256 256 rfl rfl (by decide) 384 rfl inb_S256x1024_S256x128_0_384 x), ?_⟩
  refine List.forall_mem_cons.2 ⟨fun x => (qpieceA (k0_pay179 i x0 x1 x2 x3 x4 x5 x6 x7 x8 x9 x10) x4 x5 x6 256 inb_S1024x6208_S1024x256_0_256 inb_S5x4096_S1x256_0_256 inb_S5x4096_S1x256_1_256 inb_S5x4096_S1x256_2_256 inb_S5x4096_S1x256_3_256 inb_S5x4096_S1x256_4_256 inb_S1x4096_S1x256_0_256 256 rfl rfl (by decide) 256 rfl inb_S256x1024_S256x128_0_256 x), ?_⟩
  refine List.forall_mem_cons.2 ⟨fun x => (qpieceB (k0_pay179 i x0 x1 x2 x3 x4 x5 x6 x7 x8 x9 x10) x4 x5 x6 0 inb_S1024x6208_S1024x256_0_0 inb_S5x4096_S1x256_0_0 inb_S5x4096_S1x256_1_0 inb_S5x4096_S1x256_2_0 inb_S5x4096_S1x256_3_0 inb_S5x4096_S1x256_4_0 inb_S1x4096_S1x256_0_0 0 rfl rfl (by decide) 128 rfl inb_S256x1024_S256x128_0_128 x), ?_⟩
  refine List.forall_mem_cons.2 ⟨fun x => (qpieceA (k0_pay179 i x0 x1 x2 x3 x4 x5 x6 x7 x8 x9 x10) x4 x5 x6 0 inb_S1024x6208_S1024x256_0_0 inb_S5x4096_S1x256_0_0 inb_S5x4096_S1x256_1_0 inb_S5x4096_S1x256_2_0 inb_S5x4096_S1x256_3_0 inb_S5x4096_S1x256_4_0 inb_S1x4096_S1x256_0_0 0 rfl rfl (by decide) 0 rfl inb_S256x1024_S256x128_0_0 x), ?_⟩
  exact fun q hq => absurd hq (List.not_mem_nil)

/-- What a point leaves in window 11. -/
theorem out11_eq : out0_11 (F := Ideal) i x0 x1 x2 x3 x4 x5 x6 x7 x8 x9 x10 = (qs (rows x0 x1 x2 x3 (pos i)) x4 x5 x6) := by
  rw [← rows_eq i x0 x1 x2 x3 x4 x5 x6 x7 x8 x9 x10]
  funext y
  exact View.canon_apply_of_pieces (qs (k0_pay179 i x0 x1 x2 x3 x4 x5 x6 x7 x8 x9 x10) x4 x5 x6) (wq i x0 x1 x2 x3 x4 x5 x6 x7 x8 x9 x10) (wq_eq i x0 x1 x2 x3 x4 x5 x6 x7 x8 x9 x10) y (cover0_11 _ _ _ _ _ _ _ _ y)

/-- The slices a point writes to window 12. -/
abbrev wk : List (View.Piece (Elt Ideal) S256x1024 .bf16) := [⟨r0_38, k0_pay85 (k0_pay215 i x0 x1 x2 x3 x4 x5 x6 x7 x8 x9 x10) (k0_pay216 i x0 x1 x2 x3 x4 x5 x6 x7 x8 x9 x10) (Scalar.ofBits .f32 0x3F800000#32)⟩, ⟨r0_37, k0_pay84 (k0_pay215 i x0 x1 x2 x3 x4 x5 x6 x7 x8 x9 x10) (k0_pay216 i x0 x1 x2 x3 x4 x5 x6 x7 x8 x9 x10) (Scalar.ofBits .f32 0x3F800000#32)⟩, ⟨r0_29, k0_pay77 (k0_pay74 (k0_pay209 i x0 x1 x2 x3 x4 x5 x6 x7 x8 x9 x10) (k0_pay210 i x0 x1 x2 x3 x4 x5 x6 x7 x8 x9 x10) (k0_pay211 i x0 x1 x2 x3 x4 x5 x6 x7 x8 x9 x10) (View.ld x5 r0_58) (View.ld x6 r0_59)) (k0_pay75 (k0_pay209 i x0 x1 x2 x3 x4 x5 x6 x7 x8 x9 x10) (k0_pay210 i x0 x1 x2 x3 x4 x5 x6 x7 x8 x9 x10) (k0_pay211 i x0 x1 x2 x3 x4 x5 x6 x7 x8 x9 x10) (View.ld x5 r0_58) (View.ld x6 r0_59)) (k0_pay76 (F := Ideal))⟩, ⟨r0_28, k0_pay73 (k0_pay209 i x0 x1 x2 x3 x4 x5 x6 x7 x8 x9 x10) (k0_pay210 i x0 x1 x2 x3 x4 x5 x6 x7 x8 x9 x10) (k0_pay211 i x0 x1 x2 x3 x4 x5 x6 x7 x8 x9 x10) (View.ld x5 r0_58) (View.ld x6 r0_59)⟩, ⟨r0_20, k0_pay63 (k0_pay205 i x0 x1 x2 x3 x4 x5 x6 x7 x8 x9 x10) (k0_pay206 i x0 x1 x2 x3 x4 x5 x6 x7 x8 x9 x10) (k0_pay207 i x0 x1 x2 x3 x4 x5 x6 x7 x8 x9 x10)⟩, ⟨r0_19, k0_pay62 (k0_pay205 i x0 x1 x2 x3 x4 x5 x6 x7 x8 x9 x10) (k0_pay206 i x0 x1 x2 x3 x4 x5 x6 x7 x8 x9 x10) (k0_pay207 i x0 x1 x2 x3 x4 x5 x6 x7 x8 x9 x10)⟩, ⟨r0_11, k0_pay53 (k0_pay50 (k0_pay197 i x0 x1 x2 x3 x4 x5 x6 x7 x8 x9 x10) (k0_pay198 i x0 x1 x2 x3 x4 x5 x6 x7 x8 x9 x10) (k0_pay199 i x0 x1 x2 x3 x4 x5 x6 x7 x8 x9 x10) (k0_pay200 i x0 x1 x2 x3 x4 x5 x6 x7 x8 x9 x10) (View.ld x5 r0_44) (View.ld x6 r0_45)) (k0_pay51 (k0_pay197 i x0 x1 x2 x3 x4 x5 x6 x7 x8 x9 x10) (k0_pay198 i x0 x1 x2 x3 x4 x5 x6 x7 x8 x9 x10) (k0_pay199 i x0 x1 x2 x3 x4 x5 x6 x7 x8 x9 x10) (k0_pay200 i x0 x1 x2 x3 x4 x5 x6 x7 x8 x9 x10) (View.ld x5 r0_44) (View.ld x6 r0_45)) (k0_pay52 (F := Ideal))⟩, ⟨r0_10, k0_pay49 (k0_pay197 i x0 x1 x2 x3 x4 x5 x6 x7 x8 x9 x10) (k0_pay198 i x0 x1 x2 x3 x4 x5 x6 x7 x8 x9 x10) (k0_pay199 i x0 x1 x2 x3 x4 x5 x6 x7 x8 x9 x10) (k0_pay200 i x0 x1 x2 x3 x4 x5 x6 x7 x8 x9 x10) (View.ld x5 r0_44) (View.ld x6 r0_45)⟩]

theorem wk_eq : ∀ q ∈ wk i x0 x1 x2 x3 x4 x5 x6 x7 x8 x9 x10, ∀ x : q.1.shape.Idx, q.2 x = (ks (k0_pay179 i x0 x1 x2 x3 x4 x5 x6 x7 x8 x9 x10) x4 x5 x6) (q.1.emb x) := by
  unfold wk
  refine List.forall_mem_cons.2 ⟨fun x => (kpieceB (k0_pay179 i x0 x1 x2 x3 x4 x5 x6 x7 x8 x9 x10) x4 x5 x6 1792 inb_S1024x6208_S1024x256_0_1792 inb_S5x4096_S1x256_0_1792 inb_S5x4096_S1x256_1_1792 inb_S5x4096_S1x256_2_1792 inb_S5x4096_S1x256_3_1792 inb_S5x4096_S1x256_4_1792 inb_S1x4096_S1x256_0_1792 768 rfl rfl (by decide) 896 rfl inb_S256x1024_S256x128_0_896 x), ?_⟩
  refine List.forall_mem_cons.2 ⟨fun x => (kpieceA (k0_pay179 i x0 x1 x2 x3 x4 x5 x6 x7 x8 x9 x10) x4 x5 x6 1792 inb_S1024x6208_S1024x256_0_1792 inb_S5x4096_S1x256_0_1792 inb_S5x4096_S1x256_1_1792 inb_S5x4096_S1x256_2_1792 inb_S5x4096_S1x256_3_1792 inb_S5x4096_S1x256_4_1792 inb_S1x4096_S1x256_0_1792 768 rfl rfl (by decide) 768 rfl inb_S256x1024_S256x128_0_768 x), ?_⟩
  refine List.forall_mem_cons.2 ⟨fun x => (kpieceB (k0_pay179 i x0 x1 x2 x3 x4 x5 x6 x7 x8 x9 x10) x4 x5 x6 1536 inb_S1024x6208_S1024x256_0_1536 inb_S5x4096_S1x256_0_1536 inb_S5x4096_S1x256_1_1536 inb_S5x4096_S1x256_2_1536 inb_S5x4096_S1x256_3_1536 inb_S5x4096_S1x256_4_1536 inb_S1x4096_S1x256_0_1536 512 rfl rfl (by decide) 640 rfl inb_S256x1024_S256x128_0_640 x), ?_⟩
  refine List.forall_mem_cons.2 ⟨fun x => (kpieceA (k0_pay179 i x0 x1 x2 x3 x4 x5 x6 x7 x8 x9 x10) x4 x5 x6 1536 inb_S1024x6208_S1024x256_0_1536 inb_S5x4096_S1x256_0_1536 inb_S5x4096_S1x256_1_1536 inb_S5x4096_S1x256_2_1536 inb_S5x4096_S1x256_3_1536 inb_S5x4096_S1x256_4_1536 inb_S1x4096_S1x256_0_1536 512 rfl rfl (by decide) 512 rfl inb_S256x1024_S256x128_0_512 x), ?_⟩
  refine List.forall_mem_cons.2 ⟨fun x => (kpieceB (k0_pay179 i x0 x1 x2 x3 x4 x5 x6 x7 x8 x9 x10) x4 x5 x6 1280 inb_S1024x6208_S1024x256_0_1280 inb_S5x4096_S1x256_0_1280 inb_S5x4096_S1x256_1_1280 inb_S5x4096_S1x256_2_1280 inb_S5x4096_S1x256_3_1280 inb_S5x4096_S1x256_4_1280 inb_S1x4096_S1x256_0_1280 256 rfl rfl (by decide) 384 rfl inb_S256x1024_S256x128_0_384 x), ?_⟩
  refine List.forall_mem_cons.2 ⟨fun x => (kpieceA (k0_pay179 i x0 x1 x2 x3 x4 x5 x6 x7 x8 x9 x10) x4 x5 x6 1280 inb_S1024x6208_S1024x256_0_1280 inb_S5x4096_S1x256_0_1280 inb_S5x4096_S1x256_1_1280 inb_S5x4096_S1x256_2_1280 inb_S5x4096_S1x256_3_1280 inb_S5x4096_S1x256_4_1280 inb_S1x4096_S1x256_0_1280 256 rfl rfl (by decide) 256 rfl inb_S256x1024_S256x128_0_256 x), ?_⟩
  refine List.forall_mem_cons.2 ⟨fun x => (kpieceB (k0_pay179 i x0 x1 x2 x3 x4 x5 x6 x7 x8 x9 x10) x4 x5 x6 1024 inb_S1024x6208_S1024x256_0_1024 inb_S5x4096_S1x256_0_1024 inb_S5x4096_S1x256_1_1024 inb_S5x4096_S1x256_2_1024 inb_S5x4096_S1x256_3_1024 inb_S5x4096_S1x256_4_1024 inb_S1x4096_S1x256_0_1024 0 rfl rfl (by decide) 128 rfl inb_S256x1024_S256x128_0_128 x), ?_⟩
  refine List.forall_mem_cons.2 ⟨fun x => (kpieceA (k0_pay179 i x0 x1 x2 x3 x4 x5 x6 x7 x8 x9 x10) x4 x5 x6 1024 inb_S1024x6208_S1024x256_0_1024 inb_S5x4096_S1x256_0_1024 inb_S5x4096_S1x256_1_1024 inb_S5x4096_S1x256_2_1024 inb_S5x4096_S1x256_3_1024 inb_S5x4096_S1x256_4_1024 inb_S1x4096_S1x256_0_1024 0 rfl rfl (by decide) 0 rfl inb_S256x1024_S256x128_0_0 x), ?_⟩
  exact fun q hq => absurd hq (List.not_mem_nil)

/-- What a point leaves in window 12. -/
theorem out12_eq : out0_12 (F := Ideal) i x0 x1 x2 x3 x4 x5 x6 x7 x8 x9 x10 = (ks (rows x0 x1 x2 x3 (pos i)) x4 x5 x6) := by
  rw [← rows_eq i x0 x1 x2 x3 x4 x5 x6 x7 x8 x9 x10]
  funext y
  exact View.canon_apply_of_pieces (ks (k0_pay179 i x0 x1 x2 x3 x4 x5 x6 x7 x8 x9 x10) x4 x5 x6) (wk i x0 x1 x2 x3 x4 x5 x6 x7 x8 x9 x10) (wk_eq i x0 x1 x2 x3 x4 x5 x6 x7 x8 x9 x10) y (cover0_12 _ _ _ _ _ _ _ _ y)

/-- The slices a point writes to window 13. -/
abbrev wv : List (View.Piece (Elt Ideal) S256x2048 .bf16) := [⟨r0_130, k0_pay155 (k0_pay151 (k0_pay224 i x0 x1 x2 x3 x4 x5 x6 x7 x8 x9 x10) (k0_pay149 (k0_pay179 i x0 x1 x2 x3 x4 x5 x6 x7 x8 x9 x10) (View.ld x4 r0_123) (View.ld x5 r0_124)) (k0_pay150 (k0_pay179 i x0 x1 x2 x3 x4 x5 x6 x7 x8 x9 x10) (View.ld x4 r0_123)) (View.ld x5 r0_125) (View.ld x5 r0_126) (View.ld x5 r0_127)) (k0_pay152 (k0_pay224 i x0 x1 x2 x3 x4 x5 x6 x7 x8 x9 x10)) k0_pay153 (k0_pay154 (k0_pay224 i x0 x1 x2 x3 x4 x5 x6 x7 x8 x9 x10)) (View.ld x5 r0_128) (View.ld x6 r0_129)⟩, ⟨r0_122, k0_pay147 (k0_pay142 (k0_pay223 i x0 x1 x2 x3 x4 x5 x6 x7 x8 x9 x10) (k0_pay138 (k0_pay179 i x0 x1 x2 x3 x4 x5 x6 x7 x8 x9 x10) (View.ld x4 r0_115) (View.ld x5 r0_116)) (k0_pay139 (k0_pay179 i x0 x1 x2 x3 x4 x5 x6 x7 x8 x9 x10) (View.ld x4 r0_115)) (k0_pay140 (k0_pay179 i x0 x1 x2 x3 x4 x5 x6 x7 x8 x9 x10) (View.ld x4 r0_115)) k0_pay141 (View.ld x5 r0_117) (View.ld x5 r0_118) (View.ld x5 r0_119)) (k0_pay143 (k0_pay223 i x0 x1 x2 x3 x4 x5 x6 x7 x8 x9 x10)) k0_pay144 (k0_pay145 (k0_pay223 i x0 x1 x2 x3 x4 x5 x6 x7 x8 x9 x10)) (k0_pay146 (k0_pay223 i x0 x1 x2 x3 x4 x5 x6 x7 x8 x9 x10)) (View.ld x5 r0_120) (View.ld x6 r0_121)⟩, ⟨r0_114, k0_pay136 (k0_pay132 (k0_pay222 i x0 x1 x2 x3 x4 x5 x6 x7 x8 x9 x10) (k0_pay128 (k0_pay179 i x0 x1 x2 x3 x4 x5 x6 x7 x8 x9 x10) (View.ld x4 r0_107) (View.ld x5 r0_108)) (k0_pay129 (k0_pay179 i x0 x1 x2 x3 x4 x5 x6 x7 x8 x9 x10) (View.ld x4 r0_107)) (k0_pay130 (k0_pay179 i x0 x1 x2 x3 x4 x5 x6 x7 x8 x9 x10) (View.ld x4 r0_107)) k0_pay131 (View.ld x5 r0_109) (View.ld x5 r0_110) (View.ld x5 r0_111)) (k0_pay133 (k0_pay222 i x0 x1 x2 x3 x4 x5 x6 x7 x8 x9 x10)) k0_pay134 (k0_pay135 (k0_pay222 i x0 x1 x2 x3 x4 x5 x6 x7 x8 x9 x10)) (View.ld x5 r0_112) (View.ld x6 r0_113)⟩, ⟨r0_106, k0_pay126 (k0_pay123 (k0_pay221 i x0 x1 x2 x3 x4 x5 x6 x7 x8 x9 x10) (k0_pay119 (k0_pay179 i x0 x1 x2 x3 x4 x5 x6 x7 x8 x9 x10) (View.ld x4 r0_99) (View.ld x5 r0_100)) (k0_pay120 (k0_pay179 i x0 x1 x2 x3 x4 x5 x6 x7 x8 x9 x10) (View.ld x4 r0_99)) k0_pay121 (k0_pay122 (k0_pay179 i x0 x1 x2 x3 x4 x5 x6 x7 x8 x9 x10) (View.ld x4 r0_99)) (View.ld x5 r0_101) (View.ld x5 r0_102) (View.ld x5 r0_103)) (k0_pay124 (k0_pay221 i x0 x1 x2 x3 x4 x5 x6 x7 x8 x9 x10)) k0_pay125 (View.ld x5 r0_104) (View.ld x6 r0_105)⟩, ⟨r0_98, k0_pay117 (k0_pay114 (k0_pay220 i x0 x1 x2 x3 x4 x5 x6 x7 x8 x9 x10) (k0_pay109 (k0_pay179 i x0 x1 x2 x3 x4 x5 x6 x7 x8 x9 x10) (View.ld x4 r0_91) (View.ld x5 r0_92)) (k0_pay110 (k0_pay179 i x0 x1 x2 x3 x4 x5 x6 x7 x8 x9 x10) (View.ld x4 r0_91)) k0_pay111 (k0_pay112 (k0_pay179 i x0 x1 x2 x3 x4 x5 x6 x7 x8 x9 x10) (View.ld x4 r0_91)) (k0_pay113 (k0_pay179 i x0 x1 x2 x3 x4 x5 x6 x7 x8 x9 x10) (View.ld x4 r0_91)) (View.ld x5 r0_93) (View.ld x5 r0_94) (View.ld x5 r0_95)) (k0_pay115 (k0_pay220 i x0 x1 x2 x3 x4 x5 x6 x7 x8 x9 x10)) (iota .tc S1x8x256 32 [1] iota_S1x8x256_d1_w32) k0_pay116 (View.ld x5 r0_96) (View.ld x6 r0_97)⟩, ⟨r0_90, k0_pay107 (k0_pay105 (k0_pay219 i x0 x1 x2 x3 x4 x5 x6 x7 x8 x9 x10) (k0_pay101 (k0_pay179 i x0 x1 x2 x3 x4 x5 x6 x7 x8 x9 x10) (View.ld x4 r0_83) (View.ld x5 r0_84)) (k0_pay102 (k0_pay179 i x0 x1 x2 x3 x4 x5 x6 x7 x8 x9 x10) (View.ld x4 r0_83)) k0_pay103 (k0_pay104 (k0_pay179 i x0 x1 x2 x3 x4 x5 x6 x7 x8 x9 x10) (View.ld x4 r0_83)) (View.ld x5 r0_85) (View.ld x5 r0_86) (View.ld x5 r0_87)) (k0_pay106 (k0_pay219 i x0 x1 x2 x3 x4 x5 x6 x7 x8 x9 x10)) (iota .tc S1x8x256 32 [1] iota_S1x8x256_d1_w32) 2#32 (View.ld x5 r0_88) (View.ld x6 r0_89)⟩, ⟨r0_82, k0_pay99 (k0_pay97 (k0_pay218 i x0 x1 x2 x3 x4 x5 x6 x7 x8 x9 x10) (k0_pay94 (k0_pay179 i x0 x1 x2 x3 x4 x5 x6 x7 x8 x9 x10) (View.ld x4 r0_75) (View.ld x5 r0_76)) (k0_pay95 (k0_pay179 i x0 x1 x2 x3 x4 x5 x6 x7 x8 x9 x10) (View.ld x4 r0_75)) k0_pay96 (View.ld x5 r0_77) (View.ld x5 r0_78) (View.ld x5 r0_79)) (k0_pay98 (k0_pay218 i x0 x1 x2 x3 x4 x5 x6 x7 x8 x9 x10)) (iota .tc S1x8x256 32 [1] iota_S1x8x256_d1_w32) (View.ld x5 r0_80) (View.ld x6 r0_81)⟩, ⟨r0_74, k0_pay92 (k0_pay90 (k0_pay217 i x0 x1 x2 x3 x4 x5 x6 x7 x8 x9 x10) (k0_pay87 (k0_pay179 i x0 x1 x2 x3 x4 x5 x6 x7 x8 x9 x10) (View.ld x4 r0_67) (View.ld x5 r0_68)) (k0_pay88 (k0_pay179 i x0 x1 x2 x3 x4 x5 x6 x7 x8 x9 x10) (View.ld x4 r0_67)) (iota .tc S1x8x256 32 [1] iota_S1x8x256_d1_w32) k0_pay89 (View.ld x5 r0_69) (View.ld x5 r0_70) (View.ld x5 r0_71)) (k0_pay91 (k0_pay217 i x0 x1 x2 x3 x4 x5 x6 x7 x8 x9 x10)) (View.ld x5 r0_72) (View.ld x6 r0_73)⟩]

theorem wv_eq : ∀ q ∈ wv i x0 x1 x2 x3 x4 x5 x6 x7 x8 x9 x10, ∀ x : q.1.shape.Idx, q.2 x = (vs (k0_pay179 i x0 x1 x2 x3 x4 x5 x6 x7 x8 x9 x10) x4 x5 x6) (q.1.emb x) := by
  unfold wv
  refine List.forall_mem_cons.2 ⟨fun x => (vpiece (k0_pay179 i x0 x1 x2 x3 x4 x5 x6 x7 x8 x9 x10) x4 x5 x6 3840 inb_S1024x6208_S1024x256_0_3840 inb_S5x4096_S1x256_0_3840 inb_S5x4096_S1x256_1_3840 inb_S5x4096_S1x256_2_3840 inb_S5x4096_S1x256_3_3840 inb_S5x4096_S1x256_4_3840 inb_S1x4096_S1x256_0_3840 1792 rfl (by decide) inb_S256x2048_S256x256_0_1792 x), ?_⟩
  refine List.forall_mem_cons.2 ⟨fun x => (vpiece (k0_pay179 i x0 x1 x2 x3 x4 x5 x6 x7 x8 x9 x10) x4 x5 x6 3584 inb_S1024x6208_S1024x256_0_3584 inb_S5x4096_S1x256_0_3584 inb_S5x4096_S1x256_1_3584 inb_S5x4096_S1x256_2_3584 inb_S5x4096_S1x256_3_3584 inb_S5x4096_S1x256_4_3584 inb_S1x4096_S1x256_0_3584 1536 rfl (by decide) inb_S256x2048_S256x256_0_1536 x), ?_⟩
  refine List.forall_mem_cons.2 ⟨fun x => (vpiece (k0_pay179 i x0 x1 x2 x3 x4 x5 x6 x7 x8 x9 x10) x4 x5 x6 3328 inb_S1024x6208_S1024x256_0_3328 inb_S5x4096_S1x256_0_3328 inb_S5x4096_S1x256_1_3328 inb_S5x4096_S1x256_2_3328 inb_S5x4096_S1x256_3_3328 inb_S5x4096_S1x256_4_3328 inb_S1x4096_S1x256_0_3328 1280 rfl (by decide) inb_S256x2048_S256x256_0_1280 x), ?_⟩
  refine List.forall_mem_cons.2 ⟨fun x => (vpiece (k0_pay179 i x0 x1 x2 x3 x4 x5 x6 x7 x8 x9 x10) x4 x5 x6 3072 inb_S1024x6208_S1024x256_0_3072 inb_S5x4096_S1x256_0_3072 inb_S5x4096_S1x256_1_3072 inb_S5x4096_S1x256_2_3072 inb_S5x4096_S1x256_3_3072 inb_S5x4096_S1x256_4_3072 inb_S1x4096_S1x256_0_3072 1024 rfl (by decide) inb_S256x2048_S256x256_0_1024 x), ?_⟩
  refine List.forall_mem_cons.2 ⟨fun x => (vpiece (k0_pay179 i x0 x1 x2 x3 x4 x5 x6 x7 x8 x9 x10) x4 x5 x6 2816 inb_S1024x6208_S1024x256_0_2816 inb_S5x4096_S1x256_0_2816 inb_S5x4096_S1x256_1_2816 inb_S5x4096_S1x256_2_2816 inb_S5x4096_S1x256_3_2816 inb_S5x4096_S1x256_4_2816 inb_S1x4096_S1x256_0_2816 768 rfl (by decide) inb_S256x2048_S256x256_0_768 x), ?_⟩
  refine List.forall_mem_cons.2 ⟨fun x => (vpiece (k0_pay179 i x0 x1 x2 x3 x4 x5 x6 x7 x8 x9 x10) x4 x5 x6 2560 inb_S1024x6208_S1024x256_0_2560 inb_S5x4096_S1x256_0_2560 inb_S5x4096_S1x256_1_2560 inb_S5x4096_S1x256_2_2560 inb_S5x4096_S1x256_3_2560 inb_S5x4096_S1x256_4_2560 inb_S1x4096_S1x256_0_2560 512 rfl (by decide) inb_S256x2048_S256x256_0_512 x), ?_⟩
  refine List.forall_mem_cons.2 ⟨fun x => (vpiece (k0_pay179 i x0 x1 x2 x3 x4 x5 x6 x7 x8 x9 x10) x4 x5 x6 2304 inb_S1024x6208_S1024x256_0_2304 inb_S5x4096_S1x256_0_2304 inb_S5x4096_S1x256_1_2304 inb_S5x4096_S1x256_2_2304 inb_S5x4096_S1x256_3_2304 inb_S5x4096_S1x256_4_2304 inb_S1x4096_S1x256_0_2304 256 rfl (by decide) inb_S256x2048_S256x256_0_256 x), ?_⟩
  refine List.forall_mem_cons.2 ⟨fun x => (vpiece (k0_pay179 i x0 x1 x2 x3 x4 x5 x6 x7 x8 x9 x10) x4 x5 x6 2048 inb_S1024x6208_S1024x256_0_2048 inb_S5x4096_S1x256_0_2048 inb_S5x4096_S1x256_1_2048 inb_S5x4096_S1x256_2_2048 inb_S5x4096_S1x256_3_2048 inb_S5x4096_S1x256_4_2048 inb_S1x4096_S1x256_0_2048 0 rfl (by decide) inb_S256x2048_S256x256_0_0 x), ?_⟩
  exact fun q hq => absurd hq (List.not_mem_nil)

/-- What a point leaves in window 13. -/
theorem out13_eq : out0_13 (F := Ideal) i x0 x1 x2 x3 x4 x5 x6 x7 x8 x9 x10 = (vs (rows x0 x1 x2 x3 (pos i)) x4 x5 x6) := by
  rw [← rows_eq i x0 x1 x2 x3 x4 x5 x6 x7 x8 x9 x10]
  funext y
  exact View.canon_apply_of_pieces (vs (k0_pay179 i x0 x1 x2 x3 x4 x5 x6 x7 x8 x9 x10) x4 x5 x6) (wv i x0 x1 x2 x3 x4 x5 x6 x7 x8 x9 x10) (wv_eq i x0 x1 x2 x3 x4 x5 x6 x7 x8 x9 x10) y (cover0_13 _ _ _ _ _ _ _ _ y)

/-- The slices a point writes to window 14. -/
abbrev wz : List (View.Piece (Elt Ideal) S256x2048 .bf16) := [⟨r0_130, k0_pay163 (k0_pay180 i x0 x1 x2 x3 x4 x5 x6 x7 x8 x9 x10) (View.ld x4 r0_138)⟩, ⟨r0_122, k0_pay162 (k0_pay180 i x0 x1 x2 x3 x4 x5 x6 x7 x8 x9 x10) (View.ld x4 r0_137)⟩, ⟨r0_114, k0_pay161 (k0_pay180 i x0 x1 x2 x3 x4 x5 x6 x7 x8 x9 x10) (View.ld x4 r0_136)⟩, ⟨r0_106, k0_pay160 (k0_pay180 i x0 x1 x2 x3 x4 x5 x6 x7 x8 x9 x10) (View.ld x4 r0_135)⟩, ⟨r0_98, k0_pay159 (k0_pay180 i x0 x1 x2 x3 x4 x5 x6 x7 x8 x9 x10) (View.ld x4 r0_134)⟩, ⟨r0_90, k0_pay158 (k0_pay180 i x0 x1 x2 x3 x4 x5 x6 x7 x8 x9 x10) (View.ld x4 r0_133)⟩, ⟨r0_82, k0_pay157 (k0_pay180 i x0 x1 x2 x3 x4 x5 x6 x7 x8 x9 x10) (View.ld x4 r0_132)⟩, ⟨r0_74, k0_pay156 (k0_pay180 i x0 x1 x2 x3 x4 x5 x6 x7 x8 x9 x10) (View.ld x4 r0_131)⟩]

theorem wz_eq : ∀ q ∈ wz i x0 x1 x2 x3 x4 x5 x6 x7 x8 x9 x10, ∀ x : q.1.shape.Idx, q.2 x = (zs (k0_pay179 i x0 x1 x2 x3 x4 x5 x6 x7 x8 x9 x10) x4) (q.1.emb x) := by
  unfold wz
  refine List.forall_mem_cons.2 ⟨fun x => (zpiece (k0_pay179 i x0 x1 x2 x3 x4 x5 x6 x7 x8 x9 x10) x4 5888 inb_S1024x6208_S1024x256_0_5888 1792 rfl (by decide) inb_S256x2048_S256x256_0_1792 x), ?_⟩
  refine List.forall_mem_cons.2 ⟨fun x => (zpiece (k0_pay179 i x0 x1 x2 x3 x4 x5 x6 x7 x8 x9 x10) x4 5632 inb_S1024x6208_S1024x256_0_5632 1536 rfl (by decide) inb_S256x2048_S256x256_0_1536 x), ?_⟩
  refine List.forall_mem_cons.2 ⟨fun x => (zpiece (k0_pay179 i x0 x1 x2 x3 x4 x5 x6 x7 x8 x9 x10) x4 5376 inb_S1024x6208_S1024x256_0_5376 1280 rfl (by decide) inb_S256x2048_S256x256_0_1280 x), ?_⟩
  refine List.forall_mem_cons.2 ⟨fun x => (zpiece (k0_pay179 i x0 x1 x2 x3 x4 x5 x6 x7 x8 x9 x10) x4 5120 inb_S1024x6208_S1024x256_0_5120 1024 rfl (by decide) inb_S256x2048_S256x256_0_1024 x), ?_⟩
  refine List.forall_mem_cons.2 ⟨fun x => (zpiece (k0_pay179 i x0 x1 x2 x3 x4 x5 x6 x7 x8 x9 x10) x4 4864 inb_S1024x6208_S1024x256_0_4864 768 rfl (by decide) inb_S256x2048_S256x256_0_768 x), ?_⟩
  refine List.forall_mem_cons.2 ⟨fun x => (zpiece (k0_pay179 i x0 x1 x2 x3 x4 x5 x6 x7 x8 x9 x10) x4 4608 inb_S1024x6208_S1024x256_0_4608 512 rfl (by decide) inb_S256x2048_S256x256_0_512 x), ?_⟩
  refine List.forall_mem_cons.2 ⟨fun x => (zpiece (k0_pay179 i x0 x1 x2 x3 x4 x5 x6 x7 x8 x9 x10) x4 4352 inb_S1024x6208_S1024x256_0_4352 256 rfl (by decide) inb_S256x2048_S256x256_0_256 x), ?_⟩
  refine List.forall_mem_cons.2 ⟨fun x => (zpiece (k0_pay179 i x0 x1 x2 x3 x4 x5 x6 x7 x8 x9 x10) x4 4096 inb_S1024x6208_S1024x256_0_4096 0 rfl (by decide) inb_S256x2048_S256x256_0_0 x), ?_⟩
  exact fun q hq => absurd hq (List.not_mem_nil)

/-- What a point leaves in window 14. -/
theorem out14_eq : out0_14 (F := Ideal) i x0 x1 x2 x3 x4 x5 x6 x7 x8 x9 x10 = (zs (rows x0 x1 x2 x3 (pos i)) x4) := by
  rw [← rows_eq i x0 x1 x2 x3 x4 x5 x6 x7 x8 x9 x10]
  funext y
  exact View.canon_apply_of_pieces (zs (k0_pay179 i x0 x1 x2 x3 x4 x5 x6 x7 x8 x9 x10) x4) (wz i x0 x1 x2 x3 x4 x5 x6 x7 x8 x9 x10) (wz_eq i x0 x1 x2 x3 x4 x5 x6 x7 x8 x9 x10) y (cover0_14 _ _ _ _ _ _ _ _ y)

end outs

end Cert.Kernel3Ideal.Hand

end
-- ==== Proof.DeltaArray.lean ====
/-
  The input projection's result arrays. Each grid point reads 256 rows of its array, the two rows before them and the two rows
  after them, and writes the 256 rows of each result; the rows tile the arrays.
-/
module

public import proofs.«01_k».proof.Proof.Columns
public import Idealize.ShloMosaic.Lib.StableHlo.Run

@[expose] public section

set_option maxRecDepth 16384

noncomputable section

namespace Cert.Kernel3Ideal.Hand

open Cert.Kernel3Ideal Cert.Kernel3Ideal.Gen Cert.Delta
open Idealize.ShloMosaic Idealize.ShloMosaic.TcCoe Idealize.ShloMosaic.Tactic Idealize.ShloMosaic.StableHlo Idealize.SL.Sem
open Idealize.ShloMosaic.Pipeline (Dat)

section point
variable (H : Fin 16384 → Fin 1024 → EReal) (g : Fin 1024 → EReal) (W : Fin 1024 → Fin 6208 → EReal) (C : Fin 5 → Fin 4096 → EReal)
  (B : Fin 4096 → EReal)
variable (t : ℕ) (ht : t < 64) (pos : BitVec 32) (hp0 : pos = 0#32 ↔ t % 32 = 0) (hp31 : pos = 31#32 ↔ t % 32 = 31)
variable (x0 : Vec Ideal S256x1024 .f32) (x1 : Vec Ideal S8x1024 .f32) (x2 : Vec Ideal S8x1024 .f32) (x3 : Vec Ideal S1x1024 .f32)
  (x4 : Vec Ideal S1024x6208 .bf16) (x5 : Vec Ideal S5x4096 .f32) (x6 : Vec Ideal S1x4096 .f32)
variable (h0 : ∀ (r : Fin 256) (R : Fin 16384), R.val = t * 256 + r.val → ∀ d, x0 (ix2 r d) = H R d)
  (h1 : ∀ (k : Fin 8) (R : Fin 16384), R.val + 8 = t * 256 + k.val → ∀ d, x1 (ix2 k d) = H R d)
  (h2 : ∀ (k : Fin 8) (R : Fin 16384), R.val = t * 256 + 256 + k.val → ∀ d, x2 (ix2 k d) = H R d)
  (h3 : ∀ d, x3 (ix2 0 d) = g d) (h4 : ∀ d f, x4 (ix2 d f) = W d f) (h5 : ∀ j f, x5 (ix2 j f) = C j f) (h6 : ∀ f, x6 (ix2 0 f) = B f)

include h0 h3 in
theorem rows_mid (q : Fin 272) (hq : q.val < 256) (R : Fin 16384) (hR : R.val = t * 256 + q.val) (d : Fin 1024) :
    rows (F := Ideal) x0 x1 x2 x3 pos (ix2 q d) = Cert.Feed.nrm (H R) g d := by
  unfold rows
  rw [joined_apply, dif_pos hq, normT_apply, h3]
  simp only [h0 ⟨q.val, hq⟩ R hR]
  rfl

include h2 h3 hp31 in
theorem rows_after (q : Fin 272) (hq : 256 ≤ q.val) (hq' : q.val < 264) (ht' : ¬ t % 32 = 31) (R : Fin 16384) (hR : R.val = t * 256 + q.val) (d : Fin 1024) :
    rows (F := Ideal) x0 x1 x2 x3 pos (ix2 q d) = Cert.Feed.nrm (H R) g d := by
  unfold rows
  rw [joined_apply, dif_neg (by omega), dif_pos (by omega), edge_apply, if_neg (fun h => ht' (hp31.1 h)), normE_apply, h3]
  simp only [h2 ⟨q.val - 256, by omega⟩ R (by show R.val = t * 256 + 256 + (q.val - 256); omega)]
  rfl

include hp31 in
theorem rows_end (q : Fin 272) (hq : 256 ≤ q.val) (hq' : q.val < 264) (ht' : t % 32 = 31) (d : Fin 1024) :
    rows (F := Ideal) x0 x1 x2 x3 pos (ix2 q d) = 0 := by
  unfold rows
  rw [joined_apply, dif_neg (by omega), dif_pos (by omega), edge_apply, if_pos (hp31.2 ht')]

include h1 h3 hp0 in
theorem rows_before (q : Fin 272) (hq : 264 ≤ q.val) (ht' : ¬ t % 32 = 0) (R : Fin 16384) (hR : R.val + 272 = t * 256 + q.val) (d : Fin 1024) :
    rows (F := Ideal) x0 x1 x2 x3 pos (ix2 q d) = Cert.Feed.nrm (H R) g d := by
  unfold rows
  rw [joined_apply, dif_neg (by omega), dif_neg (by omega), edge_apply, if_neg (fun h => ht' (hp0.1 h)), normE_apply, h3]
  simp only [h1 ⟨q.val - 256 - 8, by omega⟩ R (by show R.val + 8 = t * 256 + (q.val - 256 - 8); omega)]
  rfl

include hp0 in
theorem rows_start (q : Fin 272) (hq : 264 ≤ q.val) (ht' : t % 32 = 0) (d : Fin 1024) :
    rows (F := Ideal) x0 x1 x2 x3 pos (ix2 q d) = 0 := by
  unfold rows
  rw [joined_apply, dif_neg (by omega), dif_neg (by omega), edge_apply, if_pos (hp0.2 ht')]

include h4 in
theorem up_of (y : FVec Ideal S272x1024 .bf16) (q : Fin 272) (f : Fin 6208) (R : Fin 16384) (hy : ∀ d, y (ix2 q d) = Cert.Feed.nrm (H R) g d) :
    up y x4 q f = pr H g W R f := by
  unfold up pr
  exact Finset.sum_congr rfl fun d _ => by rw [hy, h4]

theorem up_zero (y : FVec Ideal S272x1024 .bf16) (q : Fin 272) (f : Fin 6208) (hy : ∀ d, y (ix2 q d) = 0) : up y x4 q f = 0 := by
  unfold up
  exact Finset.sum_eq_zero fun d _ => by rw [hy, zero_mul]

include ht hp0 h0 h1 h3 h4 in
theorem back_eq (k : ℕ) (hk : 1 ≤ k) (hk' : k ≤ 2) (r : Fin 256) (R : Fin 16384) (hR : R.val = t * 256 + r.val) (q : Fin 272)
    (hq : q.val = (r.val + (272 - k)) % 272) (f : Fin 6208) (c : EReal) :
    up (rows x0 x1 x2 x3 pos) x4 q f * c = back H g W k R f c := by
  have hr := r.isLt
  unfold back
  by_cases hz : r.val < k
  · by_cases htz : t % 32 = 0
    · rw [dif_pos (by omega), up_zero x4 _ q f fun d => rows_start t pos hp0 x0 x1 x2 x3 q (by omega) htz d, zero_mul]
    · rw [dif_neg (by omega), up_of H g W x4 h4 _ q f ⟨R.val - k, by omega⟩ fun d =>
        rows_before H g t pos hp0 x0 x1 x2 x3 h1 h3 q (by omega) htz _ (by show R.val - k + 272 = t * 256 + q.val; omega) d]
  · rw [dif_neg (by omega), up_of H g W x4 h4 _ q f ⟨R.val - k, by omega⟩ fun d =>
        rows_mid H g t pos x0 x1 x2 x3 h0 h3 q (by omega) _ (by show R.val - k = t * 256 + q.val; omega) d]

include ht hp31 h0 h2 h3 h4 in
theorem forth_eq (k : ℕ) (hk : 1 ≤ k) (hk' : k ≤ 2) (r : Fin 256) (R : Fin 16384) (hR : R.val = t * 256 + r.val) (q : Fin 272)
    (hq : q.val = (r.val + k) % 272) (f : Fin 6208) (c : EReal) :
    up (rows x0 x1 x2 x3 pos) x4 q f * c = forth H g W k R f c := by
  have hr := r.isLt
  unfold forth
  by_cases hz : 256 ≤ r.val + k
  · by_cases htz : t % 32 = 31
    · rw [dif_pos (by omega), up_zero x4 _ q f fun d => rows_end t pos hp31 x0 x1 x2 x3 q (by omega) (by omega) htz d, zero_mul]
    · rw [dif_neg (by omega), up_of H g W x4 h4 _ q f ⟨R.val + k, by omega⟩ fun d =>
        rows_after H g t pos hp31 x0 x1 x2 x3 h2 h3 q (by omega) (by omega) htz _ (by show R.val + k = t * 256 + q.val; omega) d]
  · rw [dif_neg (by omega), up_of H g W x4 h4 _ q f ⟨R.val + k, by omega⟩ fun d =>
        rows_mid H g t pos x0 x1 x2 x3 h0 h3 q (by omega) _ (by show R.val + k = t * 256 + q.val; omega) d]

include ht hp0 hp31 h0 h1 h2 h3 h4 h5 h6 in
theorem act_eq (r : Fin 256) (R : Fin 16384) (hR : R.val = t * 256 + r.val) (f : Fin 4096) :
    act (rows x0 x1 x2 x3 pos) x4 x5 x6 r f = actr H g W C B R f := by
  have hr := r.isLt
  unfold act actr mixed mixr
  rw [up_of H g W x4 h4 (rows x0 x1 x2 x3 pos) ⟨r.val, by omega⟩ _ R fun d => rows_mid H g t pos x0 x1 x2 x3 h0 h3 _ hr R hR d,
    back_eq H g W t ht pos hp0 x0 x1 x2 x3 x4 h0 h1 h3 h4 2 (by decide) (by decide) r R hR _ rfl,
    back_eq H g W t ht pos hp0 x0 x1 x2 x3 x4 h0 h1 h3 h4 1 (by decide) (by decide) r R hR _ rfl,
    forth_eq H g W t ht pos hp31 x0 x1 x2 x3 x4 h0 h2 h3 h4 1 (by decide) (by decide) r R hR _ rfl,
    forth_eq H g W t ht pos hp31 x0 x1 x2 x3 x4 h0 h2 h3 h4 2 (by decide) (by decide) r R hR _ rfl, h5, h5, h5, h5, h5, h6]

include ht hp0 hp31 h0 h1 h2 h3 h4 h5 h6 in
theorem qs_eq (r : Fin 256) (R : Fin 16384) (hR : R.val = t * 256 + r.val) (j : Fin 1024) :
    qs (rows x0 x1 x2 x3 pos) x4 x5 x6 (ix2 r j) = qr H g W C B R j :=
  unitary_congr _ _ _ _ _ (fun d => act_eq H g W C B t ht pos hp0 hp31 x0 x1 x2 x3 x4 x5 x6 h0 h1 h2 h3 h4 h5 h6 r R hR _)
    (act_eq H g W C B t ht pos hp0 hp31 x0 x1 x2 x3 x4 x5 x6 h0 h1 h2 h3 h4 h5 h6 r R hR _)

include ht hp0 hp31 h0 h1 h2 h3 h4 h5 h6 in
theorem ks_eq (r : Fin 256) (R : Fin 16384) (hR : R.val = t * 256 + r.val) (j : Fin 1024) :
    ks (rows x0 x1 x2 x3 pos) x4 x5 x6 (ix2 r j) = kr H g W C B R j :=
  unitary_congr _ _ _ _ _ (fun d => act_eq H g W C B t ht pos hp0 hp31 x0 x1 x2 x3 x4 x5 x6 h0 h1 h2 h3 h4 h5 h6 r R hR _)
    (act_eq H g W C B t ht pos hp0 hp31 x0 x1 x2 x3 x4 x5 x6 h0 h1 h2 h3 h4 h5 h6 r R hR _)

include ht hp0 hp31 h0 h1 h2 h3 h4 h5 h6 in
theorem vs_eq (r : Fin 256) (R : Fin 16384) (hR : R.val = t * 256 + r.val) (j : Fin 2048) :
    vs (rows x0 x1 x2 x3 pos) x4 x5 x6 (ix2 r j) = vr H g W C B R j :=
  act_eq H g W C B t ht pos hp0 hp31 x0 x1 x2 x3 x4 x5 x6 h0 h1 h2 h3 h4 h5 h6 r R hR _

include h0 h3 h4 in
theorem zs_eq (r : Fin 256) (R : Fin 16384) (hR : R.val = t * 256 + r.val) (j : Fin 2048) :
    zs (rows x0 x1 x2 x3 pos) x4 (ix2 r j) = zr H g W R j :=
  up_of H g W x4 h4 _ _ _ R fun d => rows_mid H g t pos x0 x1 x2 x3 h0 h3 _ r.isLt R hR d

end point

section args
variable (m : (ℓ : Loc nD τ sig) → Buf (Elt Ideal) ℓ) (c : Dev nD)

/-- The arguments, by their numbers. -/
abbrev aH (R : Fin 16384) (d : Fin 1024) : EReal := (m ((c : Thread nD τ).loc main_arg0) : S16384x1024.Idx → EReal) (ix2 R d)
abbrev ag (d : Fin 1024) : EReal := (m ((c : Thread nD τ).loc main_arg1) : S2x1024.Idx → EReal) (ix2 1 d)
abbrev aW (d : Fin 1024) (f : Fin 6208) : EReal := (m ((c : Thread nD τ).loc main_arg2) : S1x1024x6208.Idx → EReal) (ix3 0 d f)
abbrev aC (j : Fin 5) (f : Fin 4096) : EReal := (m ((c : Thread nD τ).loc main_arg3) : S1x5x4096.Idx → EReal) (ix3 0 j f)
abbrev aB (f : Fin 4096) : EReal := (m ((c : Thread nD τ).loc main_arg4) : S1x4096.Idx → EReal) (ix2 0 f)

def qOf : Buf (Elt Ideal) ((c : Thread nD τ).loc main_v55_0) :=
  fun (i : S16384x1024.Idx) => qr (aH m c) (ag m c) (aW m c) (aC m c) (aB m c) (i 0) (i 1)

def kOf : Buf (Elt Ideal) ((c : Thread nD τ).loc main_v55_1) :=
  fun (i : S16384x1024.Idx) => kr (aH m c) (ag m c) (aW m c) (aC m c) (aB m c) (i 0) (i 1)

def vOf : Buf (Elt Ideal) ((c : Thread nD τ).loc main_v55_2) :=
  fun (i : S16384x2048.Idx) => vr (aH m c) (ag m c) (aW m c) (aC m c) (aB m c) (i 0) (i 1)

def zOf : Buf (Elt Ideal) ((c : Thread nD τ).loc main_v55_3) :=
  fun (i : S16384x2048.Idx) => zr (aH m c) (ag m c) (aW m c) (i 0) (i 1)

theorem V_g : (V m c main_v2 : S1x1024.Idx → EReal) = shapeCast S1x1024 (shapeCast S1024 (extractStridedSlice S1x1024 ![1, 0]
    (m ((c : Thread nD τ).loc main_arg1) : Vec Ideal S2x1024 .f32) slices_S2x1024_S1x1024_1_0) shapeCasts_S1x1024_S1024) shapeCasts_S1024_S1x1024 := by
  show after (List.flatten [hostOps0, hostOps0_1, hostOps0_2, hostOps0_3, hostOps0_4, hostOps0_5, hostOps0_6, hostOps0_7, hostOps0_8]) _ (Proc.devRef .tc main_v2) = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_W : (V m c main_v4 : S1024x6208.Idx → EReal) = shapeCast S1024x6208 (m ((c : Thread nD τ).loc main_arg2) : Vec Ideal S1x1024x6208 .f32)
    shapeCasts_S1x1024x6208_S1024x6208 := by
  show after (List.flatten [hostOps0, hostOps0_1, hostOps0_2, hostOps0_3, hostOps0_4, hostOps0_5, hostOps0_6, hostOps0_7, hostOps0_8]) _ (Proc.devRef .tc main_v4) = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_C : (V m c main_v5 : S5x4096.Idx → EReal) = shapeCast S5x4096 (m ((c : Thread nD τ).loc main_arg3) : Vec Ideal S1x5x4096 .f32)
    shapeCasts_S1x5x4096_S5x4096 := by
  show after (List.flatten [hostOps0, hostOps0_1, hostOps0_2, hostOps0_3, hostOps0_4, hostOps0_5, hostOps0_6, hostOps0_7, hostOps0_8]) _ (Proc.devRef .tc main_v5) = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_B : (V m c main_v7 : S1x4096.Idx → EReal) = shapeCast S1x4096 (shapeCast S4096 (m ((c : Thread nD τ).loc main_arg4) : Vec Ideal S1x4096 .f32)
    shapeCasts_S1x4096_S4096) shapeCasts_S4096_S1x4096 := by
  show after (List.flatten [hostOps0, hostOps0_1, hostOps0_2, hostOps0_3, hostOps0_4, hostOps0_5, hostOps0_6, hostOps0_7, hostOps0_8]) _ (Proc.devRef .tc main_v7) = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem row_apply (x : Vec Ideal S2x1024 .f32) (d : Fin 1024) :
    shapeCast S1x1024 (shapeCast S1024 (extractStridedSlice S1x1024 ![1, 0] x slices_S2x1024_S1x1024_1_0) shapeCasts_S1x1024_S1024) shapeCasts_S1024_S1x1024 (ix2 0 d)
      = x (ix2 1 d) := by
  pointwise []

theorem weights_apply (x : Vec Ideal S1x1024x6208 .f32) (d : Fin 1024) (f : Fin 6208) :
    shapeCast S1024x6208 x shapeCasts_S1x1024x6208_S1024x6208 (ix2 d f) = x (ix3 0 d f) := by
  pointwise []

theorem taps_apply (x : Vec Ideal S1x5x4096 .f32) (j : Fin 5) (f : Fin 4096) :
    shapeCast S5x4096 x shapeCasts_S1x5x4096_S5x4096 (ix2 j f) = x (ix3 0 j f) := by
  pointwise []

theorem offset_apply (x : Vec Ideal S1x4096 .f32) (f : Fin 4096) :
    shapeCast S1x4096 (shapeCast S4096 x shapeCasts_S1x4096_S4096) shapeCasts_S4096_S1x4096 (ix2 0 f) = x (ix2 0 f) := by
  pointwise []

theorem tlt (t : Fin cfg0.N) : t.val < 64 := lt_of_lt_of_eq t.isLt (by decide +kernel)

section idx
theorem i0_0 : ∀ t : Fin grid0.N, cc0_transform_0 (grid0.coords t) 0 = t.val := by decide +kernel
theorem i1_0 : ∀ t : Fin grid0.N, cc0_transform_1 (grid0.coords t) 0 = 32 * t.val - 1 := by decide +kernel
theorem i2_0 : ∀ t : Fin grid0.N, cc0_transform_2 (grid0.coords t) 0 = min (32 * t.val + 32) 2047 := by decide +kernel
theorem i11_0 : ∀ t : Fin grid0.N, cc0_transform_11 (grid0.coords t) 0 = t.val := by decide +kernel
theorem i11_1 : ∀ t : Fin grid0.N, cc0_transform_11 (grid0.coords t) 1 = 0 := by decide +kernel
theorem i12_0 : ∀ t : Fin grid0.N, cc0_transform_12 (grid0.coords t) 0 = t.val := by decide +kernel
theorem i12_1 : ∀ t : Fin grid0.N, cc0_transform_12 (grid0.coords t) 1 = 0 := by decide +kernel
theorem i13_0 : ∀ t : Fin grid0.N, cc0_transform_13 (grid0.coords t) 0 = t.val := by decide +kernel
theorem i13_1 : ∀ t : Fin grid0.N, cc0_transform_13 (grid0.coords t) 1 = 0 := by decide +kernel
theorem i14_0 : ∀ t : Fin grid0.N, cc0_transform_14 (grid0.coords t) 0 = t.val := by decide +kernel
theorem i14_1 : ∀ t : Fin grid0.N, cc0_transform_14 (grid0.coords t) 1 = 0 := by decide +kernel
theorem pos_0 : ∀ t : Fin grid0.N, pos (grid0.coords t) = 0#32 ↔ t.val % 32 = 0 := by decide +kernel
theorem pos_31 : ∀ t : Fin grid0.N, pos (grid0.coords t) = 31#32 ↔ t.val % 32 = 31 := by decide +kernel
end idx

variable (t : Fin cfg0.N)

theorem b0 (r : Fin 256) (R : Fin 16384) (hR : R.val = t.val * 256 + r.val) (d : Fin 1024) : (iblk m c 0 t : S256x1024.Idx → EReal) (ix2 r d) = aH m c R d := by
  unfold aH
  rw [← V_main_arg0 m c]
  show (V m c main_arg0 : S16384x1024.Idx → EReal) _ = _
  congr 1
  funext a
  refine Fin.ext ?_
  match a with
  | ⟨0, _⟩ => show cc0_transform_0 (grid0.coords t) 0 * 256 + 1 * r.val = R.val; rw [i0_0]; omega
  | ⟨1, _⟩ => show 0 * 1024 + 1 * d.val = d.val; omega

theorem b1 (k : Fin 8) (R : Fin 16384) (hR : R.val + 8 = t.val * 256 + k.val) (d : Fin 1024) : (iblk m c 1 t : S8x1024.Idx → EReal) (ix2 k d) = aH m c R d := by
  unfold aH
  rw [← V_main_arg0 m c]
  show (V m c main_arg0 : S16384x1024.Idx → EReal) _ = _
  congr 1
  funext a
  refine Fin.ext ?_
  match a with
  | ⟨0, _⟩ => show cc0_transform_1 (grid0.coords t) 0 * 8 + 1 * k.val = R.val; rw [i1_0]; omega
  | ⟨1, _⟩ => show 0 * 1024 + 1 * d.val = d.val; omega

theorem b2 (k : Fin 8) (R : Fin 16384) (hR : R.val = t.val * 256 + 256 + k.val) (d : Fin 1024) : (iblk m c 2 t : S8x1024.Idx → EReal) (ix2 k d) = aH m c R d := by
  have := R.isLt
  unfold aH
  rw [← V_main_arg0 m c]
  show (V m c main_arg0 : S16384x1024.Idx → EReal) _ = _
  congr 1
  funext a
  refine Fin.ext ?_
  match a with
  | ⟨0, _⟩ => show cc0_transform_2 (grid0.coords t) 0 * 8 + 1 * k.val = R.val; rw [i2_0]; omega
  | ⟨1, _⟩ => show 0 * 1024 + 1 * d.val = d.val; omega

theorem b3 (d : Fin 1024) : (iblk m c 3 t : S1x1024.Idx → EReal) (ix2 0 d) = ag m c d := by
  unfold ag
  rw [← row_apply (m ((c : Thread nD τ).loc main_arg1)) d, ← V_g m c]
  show (V m c main_v2 : S1x1024.Idx → EReal) _ = _
  congr 1
  funext a
  refine Fin.ext ?_
  match a with
  | ⟨0, _⟩ => rfl
  | ⟨1, _⟩ => show 0 * 1024 + 1 * d.val = d.val; omega

theorem b4 (d : Fin 1024) (f : Fin 6208) : (iblk m c 4 t : S1024x6208.Idx → EReal) (ix2 d f) = aW m c d f := by
  unfold aW
  rw [← weights_apply (m ((c : Thread nD τ).loc main_arg2)) d f, ← V_W m c]
  show (V m c main_v4 : S1024x6208.Idx → EReal) _ = _
  congr 1
  funext a
  refine Fin.ext ?_
  match a with
  | ⟨0, _⟩ => show 0 * 1024 + 1 * d.val = d.val; omega
  | ⟨1, _⟩ => show 0 * 6208 + 1 * f.val = f.val; omega

theorem b5 (j : Fin 5) (f : Fin 4096) : (iblk m c 5 t : S5x4096.Idx → EReal) (ix2 j f) = aC m c j f := by
  unfold aC
  rw [← taps_apply (m ((c : Thread nD τ).loc main_arg3)) j f, ← V_C m c]
  show (V m c main_v5 : S5x4096.Idx → EReal) _ = _
  congr 1
  funext a
  refine Fin.ext ?_
  match a with
  | ⟨0, _⟩ => show 0 * 5 + 1 * j.val = j.val; omega
  | ⟨1, _⟩ => show 0 * 4096 + 1 * f.val = f.val; omega

theorem b6 (f : Fin 4096) : (iblk m c 6 t : S1x4096.Idx → EReal) (ix2 0 f) = aB m c f := by
  unfold aB
  rw [← offset_apply (m ((c : Thread nD τ).loc main_arg4)) f, ← V_B m c]
  show (V m c main_v7 : S1x4096.Idx → EReal) _ = _
  congr 1
  funext a
  refine Fin.ext ?_
  match a with
  | ⟨0, _⟩ => rfl
  | ⟨1, _⟩ => show 0 * 4096 + 1 * f.val = f.val; omega

theorem ix_narrow (x : S256x1024.Idx) : ∃ (r : Fin 256) (e : Fin 1024), x = ix2 r e := by
  idx_vars x
  exact ⟨_, _, rfl⟩

theorem ix_wide (x : S256x2048.Idx) : ∃ (r : Fin 256) (e : Fin 2048), x = ix2 r e := by
  idx_vars x
  exact ⟨_, _, rfl⟩

theorem outs11 (r : Fin 256) (R : Fin 16384) (hR : R.val = t.val * 256 + r.val) (e : Fin 1024) :
    (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) (ix2 r e) = qr (aH m c) (ag m c) (aW m c) (aC m c) (aB m c) R e := by
  rw [out11_eq]
  exact qs_eq (aH m c) (ag m c) (aW m c) (aC m c) (aB m c) t.val (tlt t) _ (pos_0 t) (pos_31 t) _ _ _ _ _ _ _
    (fun r R hR d => b0 m c t r R hR d) (fun k R hR d => b1 m c t k R hR d) (fun k R hR d => b2 m c t k R hR d) (fun d => b3 m c t d)
    (fun d f => b4 m c t d f) (fun j f => b5 m c t j f) (fun f => b6 m c t f) r R hR e

theorem flushed11_eq : (dats m 0 c).flushed 11 t = (win0_11.blk t).view.read (Elt Ideal) (qOf m c) := by
  have ht := tlt t
  show (cfg0.win 11).cut (grid0.coords t) ((dats m 0 c).after 11 t) = _
  rw [after0_11]
  funext y
  obtain ⟨r, e, rfl⟩ : ∃ (r : Fin 256) (e : Fin 1024), y = ix2 r e := ix_narrow y
  refine Eq.trans (b := (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) (ix2 r e)) ?_
    ((outs11 m c t r ⟨t.val * 256 + r.val, by omega⟩ rfl e).trans ?_)
  · show (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) _ = _
    congr 1
  · show _ = qOf m c _
    unfold qOf
    refine congrArg₂ (qr (aH m c) (ag m c) (aW m c) (aC m c) (aB m c)) (Fin.ext ?_) (Fin.ext ?_)
    · show t.val * 256 + r.val = cc0_transform_11 (grid0.coords t) 0 * 256 + 1 * r.val; rw [i11_0]; omega
    · show e.val = 0 * 1024 + 1 * e.val; omega

theorem mem_blk11 (i : S16384x1024.Idx) :
    i ∈ ((cfg0.win 11).blk t).view.set ↔ t.val * 256 ≤ (i 0 : Nat) ∧ (i 0 : Nat) < t.val * 256 + 256 := by
  have h1 : (i 1 : Nat) < 1024 := (i 1).isLt
  show i ∈ ((View.whole main_v55_0).slice (win0_11.rect t)).set ↔ _
  rw [View.set_slice_whole, Rect.mem_set_unit]
  have e0 : win0_11.index t 0 * win0_11.size 0 = t.val * 256 := congrArg (· * 256) (i11_0 t)
  have e1 : win0_11.index t 1 * win0_11.size 1 = 0 * 1024 := congrArg (· * 1024) (i11_1 t)
  have x0 : win0_11.xsize (grid0.coords t) 0 = 256 := rfl
  have x1 : win0_11.xsize (grid0.coords t) 1 = 1024 := rfl
  refine ⟨fun h => ?_, fun h a => ?_⟩
  · have : win0_11.index t 0 * win0_11.size 0 ≤ (i 0 : Nat) ∧ (i 0 : Nat) < win0_11.index t 0 * win0_11.size 0 + win0_11.xsize (grid0.coords t) 0 := h 0
    rw [e0, x0] at this; exact this
  · match a with
    | ⟨0, _⟩ => show win0_11.index t 0 * win0_11.size 0 ≤ (i 0 : Nat) ∧ (i 0 : Nat) < win0_11.index t 0 * win0_11.size 0 + win0_11.xsize (grid0.coords t) 0
                rw [e0, x0]; exact h
    | ⟨1, _⟩ => show win0_11.index t 1 * win0_11.size 1 ≤ (i 1 : Nat) ∧ (i 1 : Nat) < win0_11.index t 1 * win0_11.size 1 + win0_11.xsize (grid0.coords t) 1
                rw [e1, x1]; exact ⟨by omega, by omega⟩

theorem cover11 (i : S16384x1024.Idx) : ∃ t : Fin cfg0.N, (cfg0.win 11).flush t = true ∧ i ∈ ((cfg0.win 11).blk t).view.set := by
  have h0 : (i 0 : Nat) < 16384 := (i 0).isLt
  have hN : cfg0.N = 64 := by decide +kernel
  refine ⟨⟨(i 0 : Nat) / 256, by omega⟩, flush0_11 _, ?_⟩
  rw [mem_blk11]
  dsimp only
  omega

theorem final11 : (dats m 0 c).arrAt 11 cfg0.N = qOf m c :=
  (dats m 0 c).arrAt_eq_of_cover 11 (qOf m c) (fun t _ => flushed11_eq m c t) cover11

theorem outs12 (r : Fin 256) (R : Fin 16384) (hR : R.val = t.val * 256 + r.val) (e : Fin 1024) :
    (out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) (ix2 r e) = kr (aH m c) (ag m c) (aW m c) (aC m c) (aB m c) R e := by
  rw [out12_eq]
  exact ks_eq (aH m c) (ag m c) (aW m c) (aC m c) (aB m c) t.val (tlt t) _ (pos_0 t) (pos_31 t) _ _ _ _ _ _ _
    (fun r R hR d => b0 m c t r R hR d) (fun k R hR d => b1 m c t k R hR d) (fun k R hR d => b2 m c t k R hR d) (fun d => b3 m c t d)
    (fun d f => b4 m c t d f) (fun j f => b5 m c t j f) (fun f => b6 m c t f) r R hR e

theorem flushed12_eq : (dats m 0 c).flushed 12 t = (win0_12.blk t).view.read (Elt Ideal) (kOf m c) := by
  have ht := tlt t
  show (cfg0.win 12).cut (grid0.coords t) ((dats m 0 c).after 12 t) = _
  rw [after0_12]
  funext y
  obtain ⟨r, e, rfl⟩ : ∃ (r : Fin 256) (e : Fin 1024), y = ix2 r e := ix_narrow y
  refine Eq.trans (b := (out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) (ix2 r e)) ?_
    ((outs12 m c t r ⟨t.val * 256 + r.val, by omega⟩ rfl e).trans ?_)
  · show (out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x1024.Idx → EReal) _ = _
    congr 1
  · show _ = kOf m c _
    unfold kOf
    refine congrArg₂ (kr (aH m c) (ag m c) (aW m c) (aC m c) (aB m c)) (Fin.ext ?_) (Fin.ext ?_)
    · show t.val * 256 + r.val = cc0_transform_12 (grid0.coords t) 0 * 256 + 1 * r.val; rw [i12_0]; omega
    · show e.val = 0 * 1024 + 1 * e.val; omega

theorem mem_blk12 (i : S16384x1024.Idx) :
    i ∈ ((cfg0.win 12).blk t).view.set ↔ t.val * 256 ≤ (i 0 : Nat) ∧ (i 0 : Nat) < t.val * 256 + 256 := by
  have h1 : (i 1 : Nat) < 1024 := (i 1).isLt
  show i ∈ ((View.whole main_v55_1).slice (win0_12.rect t)).set ↔ _
  rw [View.set_slice_whole, Rect.mem_set_unit]
  have e0 : win0_12.index t 0 * win0_12.size 0 = t.val * 256 := congrArg (· * 256) (i12_0 t)
  have e1 : win0_12.index t 1 * win0_12.size 1 = 0 * 1024 := congrArg (· * 1024) (i12_1 t)
  have x0 : win0_12.xsize (grid0.coords t) 0 = 256 := rfl
  have x1 : win0_12.xsize (grid0.coords t) 1 = 1024 := rfl
  refine ⟨fun h => ?_, fun h a => ?_⟩
  · have : win0_12.index t 0 * win0_12.size 0 ≤ (i 0 : Nat) ∧ (i 0 : Nat) < win0_12.index t 0 * win0_12.size 0 + win0_12.xsize (grid0.coords t) 0 := h 0
    rw [e0, x0] at this; exact this
  · match a with
    | ⟨0, _⟩ => show win0_12.index t 0 * win0_12.size 0 ≤ (i 0 : Nat) ∧ (i 0 : Nat) < win0_12.index t 0 * win0_12.size 0 + win0_12.xsize (grid0.coords t) 0
                rw [e0, x0]; exact h
    | ⟨1, _⟩ => show win0_12.index t 1 * win0_12.size 1 ≤ (i 1 : Nat) ∧ (i 1 : Nat) < win0_12.index t 1 * win0_12.size 1 + win0_12.xsize (grid0.coords t) 1
                rw [e1, x1]; exact ⟨by omega, by omega⟩

theorem cover12 (i : S16384x1024.Idx) : ∃ t : Fin cfg0.N, (cfg0.win 12).flush t = true ∧ i ∈ ((cfg0.win 12).blk t).view.set := by
  have h0 : (i 0 : Nat) < 16384 := (i 0).isLt
  have hN : cfg0.N = 64 := by decide +kernel
  refine ⟨⟨(i 0 : Nat) / 256, by omega⟩, flush0_12 _, ?_⟩
  rw [mem_blk12]
  dsimp only
  omega

theorem final12 : (dats m 0 c).arrAt 12 cfg0.N = kOf m c :=
  (dats m 0 c).arrAt_eq_of_cover 12 (kOf m c) (fun t _ => flushed12_eq m c t) cover12

theorem outs13 (r : Fin 256) (R : Fin 16384) (hR : R.val = t.val * 256 + r.val) (e : Fin 2048) :
    (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) (ix2 r e) = vr (aH m c) (ag m c) (aW m c) (aC m c) (aB m c) R e := by
  rw [out13_eq]
  exact vs_eq (aH m c) (ag m c) (aW m c) (aC m c) (aB m c) t.val (tlt t) _ (pos_0 t) (pos_31 t) _ _ _ _ _ _ _
    (fun r R hR d => b0 m c t r R hR d) (fun k R hR d => b1 m c t k R hR d) (fun k R hR d => b2 m c t k R hR d) (fun d => b3 m c t d)
    (fun d f => b4 m c t d f) (fun j f => b5 m c t j f) (fun f => b6 m c t f) r R hR e

theorem flushed13_eq : (dats m 0 c).flushed 13 t = (win0_13.blk t).view.read (Elt Ideal) (vOf m c) := by
  have ht := tlt t
  show (cfg0.win 13).cut (grid0.coords t) ((dats m 0 c).after 13 t) = _
  rw [after0_13]
  funext y
  obtain ⟨r, e, rfl⟩ : ∃ (r : Fin 256) (e : Fin 2048), y = ix2 r e := ix_wide y
  refine Eq.trans (b := (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) (ix2 r e)) ?_
    ((outs13 m c t r ⟨t.val * 256 + r.val, by omega⟩ rfl e).trans ?_)
  · show (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) _ = _
    congr 1
  · show _ = vOf m c _
    unfold vOf
    refine congrArg₂ (vr (aH m c) (ag m c) (aW m c) (aC m c) (aB m c)) (Fin.ext ?_) (Fin.ext ?_)
    · show t.val * 256 + r.val = cc0_transform_13 (grid0.coords t) 0 * 256 + 1 * r.val; rw [i13_0]; omega
    · show e.val = 0 * 2048 + 1 * e.val; omega

theorem mem_blk13 (i : S16384x2048.Idx) :
    i ∈ ((cfg0.win 13).blk t).view.set ↔ t.val * 256 ≤ (i 0 : Nat) ∧ (i 0 : Nat) < t.val * 256 + 256 := by
  have h1 : (i 1 : Nat) < 2048 := (i 1).isLt
  show i ∈ ((View.whole main_v55_2).slice (win0_13.rect t)).set ↔ _
  rw [View.set_slice_whole, Rect.mem_set_unit]
  have e0 : win0_13.index t 0 * win0_13.size 0 = t.val * 256 := congrArg (· * 256) (i13_0 t)
  have e1 : win0_13.index t 1 * win0_13.size 1 = 0 * 2048 := congrArg (· * 2048) (i13_1 t)
  have x0 : win0_13.xsize (grid0.coords t) 0 = 256 := rfl
  have x1 : win0_13.xsize (grid0.coords t) 1 = 2048 := rfl
  refine ⟨fun h => ?_, fun h a => ?_⟩
  · have : win0_13.index t 0 * win0_13.size 0 ≤ (i 0 : Nat) ∧ (i 0 : Nat) < win0_13.index t 0 * win0_13.size 0 + win0_13.xsize (grid0.coords t) 0 := h 0
    rw [e0, x0] at this; exact this
  · match a with
    | ⟨0, _⟩ => show win0_13.index t 0 * win0_13.size 0 ≤ (i 0 : Nat) ∧ (i 0 : Nat) < win0_13.index t 0 * win0_13.size 0 + win0_13.xsize (grid0.coords t) 0
                rw [e0, x0]; exact h
    | ⟨1, _⟩ => show win0_13.index t 1 * win0_13.size 1 ≤ (i 1 : Nat) ∧ (i 1 : Nat) < win0_13.index t 1 * win0_13.size 1 + win0_13.xsize (grid0.coords t) 1
                rw [e1, x1]; exact ⟨by omega, by omega⟩

theorem cover13 (i : S16384x2048.Idx) : ∃ t : Fin cfg0.N, (cfg0.win 13).flush t = true ∧ i ∈ ((cfg0.win 13).blk t).view.set := by
  have h0 : (i 0 : Nat) < 16384 := (i 0).isLt
  have hN : cfg0.N = 64 := by decide +kernel
  refine ⟨⟨(i 0 : Nat) / 256, by omega⟩, flush0_13 _, ?_⟩
  rw [mem_blk13]
  dsimp only
  omega

theorem final13 : (dats m 0 c).arrAt 13 cfg0.N = vOf m c :=
  (dats m 0 c).arrAt_eq_of_cover 13 (vOf m c) (fun t _ => flushed13_eq m c t) cover13

theorem outs14 (r : Fin 256) (R : Fin 16384) (hR : R.val = t.val * 256 + r.val) (e : Fin 2048) :
    (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) (ix2 r e) = zr (aH m c) (ag m c) (aW m c) R e := by
  rw [out14_eq]
  exact zs_eq (aH m c) (ag m c) (aW m c) t.val _ _ _ _ _ _
    (fun r R hR d => b0 m c t r R hR d) (fun d => b3 m c t d) (fun d f => b4 m c t d f) r R hR e

theorem flushed14_eq : (dats m 0 c).flushed 14 t = (win0_14.blk t).view.read (Elt Ideal) (zOf m c) := by
  have ht := tlt t
  show (cfg0.win 14).cut (grid0.coords t) ((dats m 0 c).after 14 t) = _
  rw [after0_14]
  funext y
  obtain ⟨r, e, rfl⟩ : ∃ (r : Fin 256) (e : Fin 2048), y = ix2 r e := ix_wide y
  refine Eq.trans (b := (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) (ix2 r e)) ?_
    ((outs14 m c t r ⟨t.val * 256 + r.val, by omega⟩ rfl e).trans ?_)
  · show (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) : S256x2048.Idx → EReal) _ = _
    congr 1
  · show _ = zOf m c _
    unfold zOf
    refine congrArg₂ (zr (aH m c) (ag m c) (aW m c)) (Fin.ext ?_) (Fin.ext ?_)
    · show t.val * 256 + r.val = cc0_transform_14 (grid0.coords t) 0 * 256 + 1 * r.val; rw [i14_0]; omega
    · show e.val = 0 * 2048 + 1 * e.val; omega

theorem mem_blk14 (i : S16384x2048.Idx) :
    i ∈ ((cfg0.win 14).blk t).view.set ↔ t.val * 256 ≤ (i 0 : Nat) ∧ (i 0 : Nat) < t.val * 256 + 256 := by
  have h1 : (i 1 : Nat) < 2048 := (i 1).isLt
  show i ∈ ((View.whole main_v55_3).slice (win0_14.rect t)).set ↔ _
  rw [View.set_slice_whole, Rect.mem_set_unit]
  have e0 : win0_14.index t 0 * win0_14.size 0 = t.val * 256 := congrArg (· * 256) (i14_0 t)
  have e1 : win0_14.index t 1 * win0_14.size 1 = 0 * 2048 := congrArg (· * 2048) (i14_1 t)
  have x0 : win0_14.xsize (grid0.coords t) 0 = 256 := rfl
  have x1 : win0_14.xsize (grid0.coords t) 1 = 2048 := rfl
  refine ⟨fun h => ?_, fun h a => ?_⟩
  · have : win0_14.index t 0 * win0_14.size 0 ≤ (i 0 : Nat) ∧ (i 0 : Nat) < win0_14.index t 0 * win0_14.size 0 + win0_14.xsize (grid0.coords t) 0 := h 0
    rw [e0, x0] at this; exact this
  · match a with
    | ⟨0, _⟩ => show win0_14.index t 0 * win0_14.size 0 ≤ (i 0 : Nat) ∧ (i 0 : Nat) < win0_14.index t 0 * win0_14.size 0 + win0_14.xsize (grid0.coords t) 0
                rw [e0, x0]; exact h
    | ⟨1, _⟩ => show win0_14.index t 1 * win0_14.size 1 ≤ (i 1 : Nat) ∧ (i 1 : Nat) < win0_14.index t 1 * win0_14.size 1 + win0_14.xsize (grid0.coords t) 1
                rw [e1, x1]; exact ⟨by omega, by omega⟩

theorem cover14 (i : S16384x2048.Idx) : ∃ t : Fin cfg0.N, (cfg0.win 14).flush t = true ∧ i ∈ ((cfg0.win 14).blk t).view.set := by
  have h0 : (i 0 : Nat) < 16384 := (i 0).isLt
  have hN : cfg0.N = 64 := by decide +kernel
  refine ⟨⟨(i 0 : Nat) / 256, by omega⟩, flush0_14 _, ?_⟩
  rw [mem_blk14]
  dsimp only
  omega

theorem final14 : (dats m 0 c).arrAt 14 cfg0.N = zOf m c :=
  (dats m 0 c).arrAt_eq_of_cover 14 (zOf m c) (fun t _ => flushed14_eq m c t) cover14

end args

/-- The run, read: the result arrays at the projection of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55_0) = qOf m c
      ∧ r.2.mem ((c.tc : Thread nD τ).loc main_v55_1) = kOf m c
      ∧ r.2.mem ((c.tc : Thread nD τ).loc main_v55_2) = vOf m c
      ∧ r.2.mem ((c.tc : Thread nD τ).loc main_v55_3) = zOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 11).trans (final11 m c), ((h.1 c).1 12).trans (final12 m c), ((h.1 c).1 13).trans (final13 m c),
      ((h.1 c).1 14).trans (final14 m c), h.2 c⟩)
    (θ_run_and (run_main m ρ) (unchanged m ρ))

end Cert.Kernel3Ideal.Hand

end
-- ==== Proof.DeltaRef.lean ====
/-
  The reference's input projection, read at an index: the same rows.
-/
module

public import proofs.«01_k».proof.Proof.Delta
public import proofs.«01_k».proof.Proof.Gen.Reference3Ideal.Run
public import Idealize.ShloMosaic.Lib.Pointwise
public import Idealize.ShloMosaic.Lib.IdealHost
public import Idealize.ShloMosaic.Lib.Tactic.CleanTypes

@[expose] public section

set_option maxRecDepth 16384

noncomputable section

namespace Cert.Reference3Ideal.Hand

open Cert.Reference3Ideal Cert.Reference3Ideal.Gen Cert.Delta
open Cert.Feed (nrm)
open Idealize.ShloMosaic Idealize.ShloMosaic.TcCoe Idealize.ShloMosaic.Tactic Idealize.SL.Sem

/-- The rows' sums of squares. -/
def sq (x : FVec Ideal S2x8192x1024 .f32) : FVec Ideal S2x8192 .f32 :=
  Host.reduceAdd (mulf x x) (constant S_ .f32 0x00000000#32) reducesTo_S2x8192x1024_S2x8192_d2 h_S_

/-- A row of weights, for every row. -/
def lane (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- One over the root of the mean, from the sums. -/
def inv (s : FVec Ideal S2x8192 .f32) : FVec Ideal S2x8192x1024 .f32 :=
  broadcastInDim S2x8192x1024 ![0, 1, 2] bcast_S2x8192x1_S2x8192x1024_0_1_2 (Host.rsqrt (addf (Host.divf
    (broadcastInDim S2x8192x1 ![0, 1] bcast_S2x8192_S2x8192x1_0_1 s) (broadcastInDim S2x8192x1 ![] bcast_S_S2x8192x1 (constant S_ .f32 0x44800000#32)))
    (broadcastInDim S2x8192x1 ![] bcast_S_S2x8192x1 (constant S_ .f32 0x358637BD#32))))

/-- The rows normalised. -/
def normed (x : FVec Ideal S2x8192x1024 .f32) (g : FVec Ideal S1024 .f32) : FVec Ideal S2x8192x1024 .f32 :=
  mulf (mulf x (inv (sq x))) (lane g)

/-- The rows projected. -/
def projected (y : FVec Ideal S2x8192x1024 .f32) (w : FVec Ideal S1024x6208 .f32) : FVec Ideal S2x8192x6208 .f32 :=
  Host.dotGeneral dot_S2x8192x1024_S1024x6208_S2x8192x6208_2_0_01_1_n_n none y w

/-- The columns that are mixed. -/
def mixedPart (u : FVec Ideal S2x8192x6208 .f32) : FVec Ideal S2x8192x4096 .f32 :=
  extractStridedSlice S2x8192x4096 ![0, 0, 0] u slices_S2x8192x6208_S2x8192x4096_0_0_0

/-- Two rows of zeros before each sequence and two after. -/
def padded (u : FVec Ideal S2x8192x4096 .f32) : FVec Ideal S2x8196x4096 .f32 :=
  pad S2x8196x4096 ![0, 2, 0] ![0, 2, 0] ![0, 0, 0] u (sitofp (F := Ideal) .f32 (constantI S_ 32 0#32)) pads_S2x8192x4096_S2x8196x4096_000_220_000 h_S_

/-- A row of columns' weights, for every row. -/
def wide (c : FVec Ideal S4096 .f32) : FVec Ideal S2x8192x4096 .f32 :=
  broadcastInDim S2x8192x4096 ![0, 1, 2] bcast_S1x1x4096_S2x8192x4096_0_1_2 (broadcastInDim S1x1x4096 ![2] bcast_S4096_S1x1x4096_2 c)

/-- The five taps and the offset. -/
def taps (p : FVec Ideal S2x8196x4096 .f32) (c : FVec Ideal S5x4096 .f32) (b : FVec Ideal S4096 .f32) : FVec Ideal S2x8192x4096 .f32 :=
  addf (addf (addf (addf (addf
      (mulf (extractStridedSlice S2x8192x4096 ![0, 0, 0] p slices_S2x8196x4096_S2x8192x4096_0_0_0)
        (wide (shapeCast S4096 (extractStridedSlice S1x4096 ![0, 0] c slices_S5x4096_S1x4096_0_0) shapeCasts_S1x4096_S4096)))
      (mulf (extractStridedSlice S2x8192x4096 ![0, 1, 0] p slices_S2x8196x4096_S2x8192x4096_0_1_0)
        (wide (shapeCast S4096 (extractStridedSlice S1x4096 ![1, 0] c slices_S5x4096_S1x4096_1_0) shapeCasts_S1x4096_S4096))))
      (mulf (extractStridedSlice S2x8192x4096 ![0, 2, 0] p slices_S2x8196x4096_S2x8192x4096_0_2_0)
        (wide (shapeCast S4096 (extractStridedSlice S1x4096 ![2, 0] c slices_S5x4096_S1x4096_2_0) shapeCasts_S1x4096_S4096))))
      (mulf (extractStridedSlice S2x8192x4096 ![0, 3, 0] p slices_S2x8196x4096_S2x8192x4096_0_3_0)
        (wide (shapeCast S4096 (extractStridedSlice S1x4096 ![3, 0] c slices_S5x4096_S1x4096_3_0) shapeCasts_S1x4096_S4096))))
      (mulf (extractStridedSlice S2x8192x4096 ![0, 4, 0] p slices_S2x8196x4096_S2x8192x4096_0_4_0)
        (wide (shapeCast S4096 (extractStridedSlice S1x4096 ![4, 0] c slices_S5x4096_S1x4096_4_0) shapeCasts_S1x4096_S4096))))
    (wide b)

/-- Times its sigmoid. -/
def silu (a : FVec Ideal S2x8192x4096 .f32) : FVec Ideal S2x8192x4096 .f32 :=
  mulf a (Host.divf (broadcastInDim S2x8192x4096 ![] bcast_S_S2x8192x4096 (constant S_ .f32 0x3F800000#32))
    (addf (broadcastInDim S2x8192x4096 ![] bcast_S_S2x8192x4096 (constant S_ .f32 0x3F800000#32)) (Host.exp (Host.negf a))))

/-- The heads' sums of squares. -/
def hsq (x : FVec Ideal S2x8192x8x128 .f32) : FVec Ideal S2x8192x8 .f32 :=
  Host.reduceAdd (mulf x x) (constant S_ .f32 0x00000000#32) reducesTo_S2x8192x8x128_S2x8192x8_d3 h_S_

/-- One over the root, from the sums. -/
def hinv (s : FVec Ideal S2x8192x8 .f32) : FVec Ideal S2x8192x8x128 .f32 :=
  broadcastInDim S2x8192x8x128 ![0, 1, 2, 3] bcast_S2x8192x8x1_S2x8192x8x128_0_1_2_3 (Host.rsqrt (addf
    (broadcastInDim S2x8192x8x1 ![0, 1, 2] bcast_S2x8192x8_S2x8192x8x1_0_1_2 s) (broadcastInDim S2x8192x8x1 ![] bcast_S_S2x8192x8x1 (constant S_ .f32 0x358637BD#32))))

/-- The heads over their root sum square. -/
def heads (x : FVec Ideal S2x8192x8x128 .f32) : FVec Ideal S2x8192x8x128 .f32 := mulf x (hinv (hsq x))

/-- The same, scaled. -/
def scaled (x : FVec Ideal S2x8192x8x128 .f32) : FVec Ideal S2x8192x8x128 .f32 :=
  mulf (heads x) (broadcastInDim S2x8192x8x128 ![] bcast_S_S2x8192x8x128 (constant S_ .f32 0x3DB504F3#32))

/-- Columns as heads. -/
def split (x : FVec Ideal S2x8192x1024 .f32) : FVec Ideal S2x8192x8x128 .f32 := shapeCast S2x8192x8x128 x shapeCasts_S2x8192x1024_S2x8192x8x128

/-- Heads as columns. -/
def flat (x : FVec Ideal S2x8192x8x128 .f32) : FVec Ideal S16384x1024 .bf16 := truncf .bf16 (shapeCast S16384x1024 x shapeCasts_S2x8192x8x128_S16384x1024) bitsLt_bf16_f32

def flatV (x : FVec Ideal S2x8192x2048 .f32) : FVec Ideal S16384x2048 .bf16 := truncf .bf16 (shapeCast S16384x2048 x shapeCasts_S2x8192x2048_S16384x2048) bitsLt_bf16_f32

theorem sq_apply (x : FVec Ideal S2x8192x1024 .f32) (b : Fin 2) (n : Fin 8192) :
    (sq x (ix2 b n) : EReal) = ∑ d : Fin 1024, (x (ix3 b n d) : EReal) * x (ix3 b n d) := by
  unfold sq
  rw [ValueIdx.hostReduceAdd_apply]
  unfold Ideal.hostReduceAdd
  rw [Shape.ReducesTo.sum_fiber_r3_a2]
  exact (congrArg (· + _) Ideal.ofBits_zero_f32).trans (zero_add _)

theorem lane_apply (g : FVec Ideal S1024 .f32) (b : Fin 2) (n : Fin 8192) (d : Fin 1024) : lane g (ix3 b n d) = g (ix1 d) := by
  pointwise [lane]

theorem inv_apply (s : FVec Ideal S2x8192 .f32) (b : Fin 2) (n : Fin 8192) (d : Fin 1024) :
    inv s (ix3 b n d) = Ideal.rsqrt (Ideal.div (s (ix2 b n)) (Ideal.ofBits .f32 0x44800000#32) + Ideal.ofBits .f32 0x358637BD#32) := by
  pointwise [inv]

theorem normed_apply (x : FVec Ideal S2x8192x1024 .f32) (g : FVec Ideal S1024 .f32) (b : Fin 2) (n : Fin 8192) (d : Fin 1024) :
    normed x g (ix3 b n d) = nrm (fun d => x (ix3 b n d)) (fun d => g (ix1 d)) d := by
  unfold nrm
  rw [← sq_apply, ← inv_apply (sq x) b n d]
  show x (ix3 b n d) * inv (sq x) (ix3 b n d) * lane g (ix3 b n d) = x (ix3 b n d) * inv (sq x) (ix3 b n d) * g (ix1 d)
  rw [lane_apply]

theorem projected_apply (y : FVec Ideal S2x8192x1024 .f32) (w : FVec Ideal S1024x6208 .f32) (b : Fin 2) (n : Fin 8192) (f : Fin 6208) :
    (projected y w (ix3 b n f) : EReal) = ∑ d : Fin 1024, (y (ix3 b n d) : EReal) * w (ix2 d f) := by
  let D := dot_S2x8192x1024_S1024x6208_S2x8192x6208_2_0_01_1_n_n
  have hr : D.contr.rank = 1 := rfl
  have hs : D.contr.size ⟨0, by omega⟩ = 1024 := rfl
  unfold projected
  simp only [Host.dotGeneral]
  rw [Ideal.dotGeneral_apply, ← Equiv.sum_comp (ValueIdx.contrEquiv1 D 1024 hr hs).symm]
  refine Finset.sum_congr rfl fun d _ => ?_
  have h0 := ValueIdx.contrEquiv1_symm_val D 1024 hr hs d
  refine congrArg₂ (· * ·) (congrArg y ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

theorem mixedPart_apply (u : FVec Ideal S2x8192x6208 .f32) (b : Fin 2) (n : Fin 8192) (f : Fin 4096) :
    mixedPart u (ix3 b n f) = u (ix3 b n ⟨f.val, by omega⟩) := by
  pointwise [mixedPart]

theorem padded_apply (u : FVec Ideal S2x8192x4096 .f32) (b : Fin 2) (n : Fin 8196) (f : Fin 4096) :
    (padded u (ix3 b n f) : EReal) = if h : 2 ≤ n.val ∧ n.val ≤ 8193 then u (ix3 b ⟨n.val - 2, by omega⟩ f) else 0 := by
  pointwise [padded]
  by_cases h : 2 ≤ n.val ∧ n.val ≤ 8193
  · rw [dif_pos h, dif_pos ⟨h.1, by omega⟩]
  · rw [dif_neg h, dif_neg (by omega)]
    show (((0#32 : BitVec 32).toInt : ℝ) : EReal) = 0
    norm_num

theorem wide_apply (c : FVec Ideal S4096 .f32) (b : Fin 2) (n : Fin 8192) (f : Fin 4096) : wide c (ix3 b n f) = c (ix1 f) := by
  pointwise [wide]

theorem taps_apply (p : FVec Ideal S2x8196x4096 .f32) (c : FVec Ideal S5x4096 .f32) (o : FVec Ideal S4096 .f32) (b : Fin 2) (n : Fin 8192) (f : Fin 4096) :
    (taps p c o (ix3 b n f) : EReal) = (p (ix3 b ⟨n.val, by omega⟩ f) : EReal) * c (ix2 0 f) + (p (ix3 b ⟨1 + n.val, by omega⟩ f) : EReal) * c (ix2 1 f)
      + (p (ix3 b ⟨2 + n.val, by omega⟩ f) : EReal) * c (ix2 2 f) + (p (ix3 b ⟨3 + n.val, by omega⟩ f) : EReal) * c (ix2 3 f)
      + (p (ix3 b ⟨4 + n.val, by omega⟩ f) : EReal) * c (ix2 4 f) + o (ix1 f) := by
  pointwise [taps, wide]

theorem silu_apply (a : FVec Ideal S2x8192x4096 .f32) (j : S2x8192x4096.Idx) : (silu a j : EReal) = sil (a j) := (sil_eq _).symm

theorem hsq_apply (x : FVec Ideal S2x8192x8x128 .f32) (b : Fin 2) (n : Fin 8192) (h : Fin 8) :
    (hsq x (ix3 b n h) : EReal) = ∑ d : Fin 128, (x (ix4 b n h d) : EReal) * x (ix4 b n h d) := by
  unfold hsq
  rw [ValueIdx.hostReduceAdd_apply]
  unfold Ideal.hostReduceAdd
  rw [Shape.ReducesTo.sum_fiber_r4_a3]
  exact (congrArg (· + _) Ideal.ofBits_zero_f32).trans (zero_add _)

theorem hinv_apply (s : FVec Ideal S2x8192x8 .f32) (b : Fin 2) (n : Fin 8192) (h : Fin 8) (d : Fin 128) :
    hinv s (ix4 b n h d) = Ideal.rsqrt (s (ix3 b n h) + Ideal.ofBits .f32 0x358637BD#32) := by
  pointwise [hinv]

theorem heads_apply (x : FVec Ideal S2x8192x8x128 .f32) (b : Fin 2) (n : Fin 8192) (h : Fin 8) (d : Fin 128) :
    (heads x (ix4 b n h d) : EReal) = Cert.Delta.unitary (Ideal.ofBits .f32 0x3F800000#32) (fun d => x (ix4 b n h d)) (x (ix4 b n h d)) := by
  unfold Cert.Delta.unitary
  rw [← hsq_apply, ← hinv_apply (hsq x) b n h d, Ideal.ofBits_one_f32, mul_one]
  rfl

theorem scaled_apply (x : FVec Ideal S2x8192x8x128 .f32) (b : Fin 2) (n : Fin 8192) (h : Fin 8) (d : Fin 128) :
    (scaled x (ix4 b n h d) : EReal) = Cert.Delta.unitary (Ideal.ofBits .f32 0x3DB504F3#32) (fun d => x (ix4 b n h d)) (x (ix4 b n h d)) := by
  unfold Cert.Delta.unitary
  rw [← hsq_apply, ← hinv_apply (hsq x) b n h d, ← mul_assoc]
  rfl

theorem split_apply (x : FVec Ideal S2x8192x1024 .f32) (b : Fin 2) (n : Fin 8192) (h : Fin 8) (d : Fin 128) :
    split x (ix4 b n h d) = x (ix3 b n ⟨h.val * 128 + d.val, by omega⟩) := by
  refine shapeCast_apply _ _ _ _ ?_
  rw [Shape.rowMajor_val_four, Shape.rowMajor_val_three]
  show (b.val * 8192 + n.val) * 1024 + (h.val * 128 + d.val) = ((b.val * 8192 + n.val) * 8 + h.val) * 128 + d.val
  omega

theorem flat_apply (x : FVec Ideal S2x8192x8x128 .f32) (b : Fin 2) (n : Fin 8192) (h : Fin 8) (d : Fin 128) :
    flat x (ix2 ⟨b.val * 8192 + n.val, by omega⟩ ⟨h.val * 128 + d.val, by omega⟩) = x (ix4 b n h d) := by
  refine shapeCast_apply _ _ _ _ ?_
  rw [Shape.rowMajor_val_four, Shape.rowMajor_val_two]
  show ((b.val * 8192 + n.val) * 8 + h.val) * 128 + d.val = (b.val * 8192 + n.val) * 1024 + (h.val * 128 + d.val)
  omega

theorem flatV_apply (x : FVec Ideal S2x8192x2048 .f32) (b : Fin 2) (n : Fin 8192) (j : Fin 2048) :
    flatV x (ix2 ⟨b.val * 8192 + n.val, by omega⟩ j) = x (ix3 b n j) := by
  refine shapeCast_apply _ _ _ _ ?_
  rw [Shape.rowMajor_val_two, Shape.rowMajor_val_three]
  rfl

section whole
variable (x : FVec Ideal S16384x1024 .f32) (gs : FVec Ideal S2x1024 .f32) (ws : FVec Ideal S1x1024x6208 .f32)
  (cs : FVec Ideal S1x5x4096 .f32) (bs : FVec Ideal S1x4096 .f32)

abbrev X : FVec Ideal S2x8192x1024 .f32 := shapeCast S2x8192x1024 x shapeCasts_S16384x1024_S2x8192x1024
abbrev G : FVec Ideal S1024 .f32 := shapeCast S1024 (extractStridedSlice S1x1024 ![1, 0] gs slices_S2x1024_S1x1024_1_0) shapeCasts_S1x1024_S1024
abbrev Wt : FVec Ideal S1024x6208 .f32 := shapeCast S1024x6208 ws shapeCasts_S1x1024x6208_S1024x6208
abbrev Ct : FVec Ideal S5x4096 .f32 := shapeCast S5x4096 cs shapeCasts_S1x5x4096_S5x4096
abbrev Bt : FVec Ideal S4096 .f32 := shapeCast S4096 bs shapeCasts_S1x4096_S4096

theorem X_apply (b : Fin 2) (n : Fin 8192) (d : Fin 1024) : X x (ix3 b n d) = x (ix2 ⟨b.val * 8192 + n.val, by omega⟩ d) := by
  refine shapeCast_apply _ _ _ _ ?_
  rw [Shape.rowMajor_val_two, Shape.rowMajor_val_three]
  rfl

theorem G_apply (d : Fin 1024) : G gs (ix1 d) = gs (ix2 1 d) := by
  pointwise [G]

theorem Wt_apply (d : Fin 1024) (f : Fin 6208) : Wt ws (ix2 d f) = ws (ix3 0 d f) := by
  pointwise [Wt]

theorem Ct_apply (j : Fin 5) (f : Fin 4096) : Ct cs (ix2 j f) = cs (ix3 0 j f) := by
  pointwise [Ct]

theorem Bt_apply (f : Fin 4096) : Bt bs (ix1 f) = bs (ix2 0 f) := by
  pointwise [Bt]

/-- The arguments, by their numbers. -/
abbrev eH (R : Fin 16384) (d : Fin 1024) : EReal := x (ix2 R d)
abbrev eg (d : Fin 1024) : EReal := gs (ix2 1 d)
abbrev eW (d : Fin 1024) (f : Fin 6208) : EReal := ws (ix3 0 d f)
abbrev eC (j : Fin 5) (f : Fin 4096) : EReal := cs (ix3 0 j f)
abbrev eB (f : Fin 4096) : EReal := bs (ix2 0 f)

/-- The rows projected, from the arguments. -/
abbrev U : FVec Ideal S2x8192x6208 .f32 := projected (normed (X x) (G gs)) (Wt ws)

/-- The mixed columns times their sigmoids. -/
abbrev A : FVec Ideal S2x8192x4096 .f32 := silu (taps (padded (mixedPart (U x gs ws))) (Ct cs) (Bt bs))

theorem up_eq (b : Fin 2) (n : Fin 8192) (R : Fin 16384) (hR : R.val = b.val * 8192 + n.val) (f : Fin 6208) :
    (U x gs ws (ix3 b n f) : EReal) = pr (eH x) (eg gs) (eW ws) R f := by
  have hX : ∀ d, X x (ix3 b n d) = x (ix2 R d) := fun d => (X_apply x b n d).trans (congrArg x (congrArg₂ ix2 (Fin.ext hR.symm) rfl))
  show (projected (normed (X x) (G gs)) (Wt ws) (ix3 b n f) : EReal) = _
  rw [projected_apply]
  unfold pr
  refine Finset.sum_congr rfl fun d _ => ?_
  rw [normed_apply, Wt_apply]
  simp only [hX, G_apply]

theorem sum_order (a b c d e o : EReal) : a + b + c + d + e + o = c + a + b + d + e + o := by
  rw [add_comm (a + b) c, ← add_assoc]

theorem mixed_eq (b : Fin 2) (n : Fin 8192) (R : Fin 16384) (hR : R.val = b.val * 8192 + n.val) (f : Fin 4096) :
    (taps (padded (mixedPart (U x gs ws))) (Ct cs) (Bt bs) (ix3 b n f) : EReal) = mixr (eH x) (eg gs) (eW ws) (eC cs) (eB bs) R f := by
  have hn := n.isLt
  have hb := b.isLt
  rw [taps_apply, padded_apply, padded_apply, padded_apply, padded_apply, padded_apply, Ct_apply, Ct_apply, Ct_apply, Ct_apply, Ct_apply, Bt_apply, sum_order]
  unfold mixr back forth
  refine congrArg₂ (· + ·) (congrArg₂ (· + ·) (congrArg₂ (· + ·) (congrArg₂ (· + ·) (congrArg₂ (· + ·) ?_ ?_) ?_) ?_) ?_) rfl
  · rw [dif_pos (by dsimp only; omega), mixedPart_apply, up_eq x gs ws b _ R (by dsimp only; omega)]
  · by_cases h : n.val < 2
    · rw [dif_neg (by dsimp only; omega), dif_pos (by omega), zero_mul]
    · rw [dif_pos (by dsimp only; omega), dif_neg (by omega), mixedPart_apply, up_eq x gs ws b _ ⟨R.val - 2, by omega⟩ (by dsimp only; omega)]
  · by_cases h : n.val < 1
    · rw [dif_neg (by dsimp only; omega), dif_pos (by omega), zero_mul]
    · rw [dif_pos (by dsimp only; omega), dif_neg (by omega), mixedPart_apply, up_eq x gs ws b _ ⟨R.val - 1, by omega⟩ (by dsimp only; omega)]
  · by_cases h : 8192 ≤ n.val + 1
    · rw [dif_neg (by dsimp only; omega), dif_pos (by omega), zero_mul]
    · rw [dif_pos (by dsimp only; omega), dif_neg (by omega), mixedPart_apply, up_eq x gs ws b _ ⟨R.val + 1, by omega⟩ (by dsimp only; omega)]
  · by_cases h : 8192 ≤ n.val + 2
    · rw [dif_neg (by dsimp only; omega), dif_pos (by omega), zero_mul]
    · rw [dif_pos (by dsimp only; omega), dif_neg (by omega), mixedPart_apply, up_eq x gs ws b _ ⟨R.val + 2, by omega⟩ (by dsimp only; omega)]

theorem act_eq (b : Fin 2) (n : Fin 8192) (R : Fin 16384) (hR : R.val = b.val * 8192 + n.val) (f : Fin 4096) :
    (A x gs ws cs bs (ix3 b n f) : EReal) = actr (eH x) (eg gs) (eW ws) (eC cs) (eB bs) R f := by
  unfold A actr
  rw [silu_apply, mixed_eq x gs ws cs bs b n R hR]

theorem row_of (R : Fin 16384) : ∃ (b : Fin 2) (n : Fin 8192), R = ⟨b.val * 8192 + n.val, by omega⟩ :=
  ⟨⟨R.val / 8192, by omega⟩, ⟨R.val % 8192, by omega⟩, Fin.ext (show R.val = R.val / 8192 * 8192 + R.val % 8192 by omega)⟩

theorem col_of (j : Fin 1024) : ∃ (h : Fin 8) (d : Fin 128), j = ⟨h.val * 128 + d.val, by omega⟩ :=
  ⟨⟨j.val / 128, by omega⟩, ⟨j.val % 128, by omega⟩, Fin.ext (show j.val = j.val / 128 * 128 + j.val % 128 by omega)⟩

theorem unitary_congr (s : EReal) (u v : Fin 128 → EReal) (a b : EReal) (h : ∀ d, u d = v d) (hab : a = b) : Cert.Delta.unitary s u a = Cert.Delta.unitary s v b := by
  rw [funext h, hab]

abbrev Aq : FVec Ideal S2x8192x1024 .f32 := extractStridedSlice S2x8192x1024 ![0, 0, 0] (A x gs ws cs bs) slices_S2x8192x4096_S2x8192x1024_0_0_0
abbrev Ak : FVec Ideal S2x8192x1024 .f32 := extractStridedSlice S2x8192x1024 ![0, 0, 1024] (A x gs ws cs bs) slices_S2x8192x4096_S2x8192x1024_0_0_1024
abbrev Av : FVec Ideal S2x8192x2048 .f32 := extractStridedSlice S2x8192x2048 ![0, 0, 2048] (A x gs ws cs bs) slices_S2x8192x4096_S2x8192x2048_0_0_2048
abbrev Az : FVec Ideal S2x8192x2048 .f32 := extractStridedSlice S2x8192x2048 ![0, 0, 4096] (U x gs ws) slices_S2x8192x6208_S2x8192x2048_0_0_4096

theorem q_at (a : FVec Ideal S2x8192x4096 .f32) (b : Fin 2) (n : Fin 8192) (j : Fin 1024) :
    extractStridedSlice S2x8192x1024 ![0, 0, 0] a slices_S2x8192x4096_S2x8192x1024_0_0_0 (ix3 b n j) = a (ix3 b n ⟨j.val, by omega⟩) := by
  pointwise []
theorem k_at (a : FVec Ideal S2x8192x4096 .f32) (b : Fin 2) (n : Fin 8192) (j : Fin 1024) :
    extractStridedSlice S2x8192x1024 ![0, 0, 1024] a slices_S2x8192x4096_S2x8192x1024_0_0_1024 (ix3 b n j) = a (ix3 b n ⟨1024 + j.val, by omega⟩) := by
  pointwise []
theorem v_at (a : FVec Ideal S2x8192x4096 .f32) (b : Fin 2) (n : Fin 8192) (j : Fin 2048) :
    extractStridedSlice S2x8192x2048 ![0, 0, 2048] a slices_S2x8192x4096_S2x8192x2048_0_0_2048 (ix3 b n j) = a (ix3 b n ⟨2048 + j.val, by omega⟩) := by
  pointwise []
theorem z_at (a : FVec Ideal S2x8192x6208 .f32) (b : Fin 2) (n : Fin 8192) (j : Fin 2048) :
    extractStridedSlice S2x8192x2048 ![0, 0, 4096] a slices_S2x8192x6208_S2x8192x2048_0_0_4096 (ix3 b n j) = a (ix3 b n ⟨4096 + j.val, by omega⟩) := by
  pointwise []

theorem q_apply (i : S16384x1024.Idx) :
    (flat (scaled (split (Aq x gs ws cs bs))) i : EReal) = qr (eH x) (eg gs) (eW ws) (eC cs) (eB bs) (i 0) (i 1) := by
  obtain ⟨R, j, rfl⟩ : ∃ (R : Fin 16384) (j : Fin 1024), i = ix2 R j := by
    idx_vars i
    exact ⟨_, _, rfl⟩
  obtain ⟨b, n, rfl⟩ := row_of R
  obtain ⟨h, d, rfl⟩ := col_of j
  rw [flat_apply, scaled_apply]
  unfold qr
  refine unitary_congr _ _ _ _ _ (fun e => ?_) ?_
  · refine (split_apply _ _ _ _ _).trans ((q_at _ b n _).trans ((act_eq x gs ws cs bs b n ⟨b.val * 8192 + n.val, by omega⟩ rfl _).trans ?_))
    refine congrArg (actr _ _ _ _ _ _) (Fin.ext ?_)
    show (h.val * 128 + e.val) = (h.val * 128 + d.val) / 128 * 128 + e.val
    omega
  · exact (split_apply _ _ _ _ _).trans ((q_at _ b n _).trans (act_eq x gs ws cs bs b n ⟨b.val * 8192 + n.val, by omega⟩ rfl _))

theorem k_apply (i : S16384x1024.Idx) :
    (flat (heads (split (Ak x gs ws cs bs))) i : EReal) = kr (eH x) (eg gs) (eW ws) (eC cs) (eB bs) (i 0) (i 1) := by
  obtain ⟨R, j, rfl⟩ : ∃ (R : Fin 16384) (j : Fin 1024), i = ix2 R j := by
    idx_vars i
    exact ⟨_, _, rfl⟩
  obtain ⟨b, n, rfl⟩ := row_of R
  obtain ⟨h, d, rfl⟩ := col_of j
  rw [flat_apply, heads_apply]
  unfold kr
  refine unitary_congr _ _ _ _ _ (fun e => ?_) ?_
  · refine (split_apply _ _ _ _ _).trans ((k_at _ b n _).trans ((act_eq x gs ws cs bs b n ⟨b.val * 8192 + n.val, by omega⟩ rfl _).trans ?_))
    refine congrArg (actr _ _ _ _ _ _) (Fin.ext ?_)
    show 1024 + (h.val * 128 + e.val) = 1024 + (h.val * 128 + d.val) / 128 * 128 + e.val
    omega
  · exact (split_apply _ _ _ _ _).trans ((k_at _ b n _).trans (act_eq x gs ws cs bs b n ⟨b.val * 8192 + n.val, by omega⟩ rfl _))

theorem v_apply (i : S16384x2048.Idx) :
    (flatV (Av x gs ws cs bs) i : EReal) = vr (eH x) (eg gs) (eW ws) (eC cs) (eB bs) (i 0) (i 1) := by
  obtain ⟨R, j, rfl⟩ : ∃ (R : Fin 16384) (j : Fin 2048), i = ix2 R j := by
    idx_vars i
    exact ⟨_, _, rfl⟩
  obtain ⟨b, n, rfl⟩ := row_of R
  exact (flatV_apply _ b n j).trans ((v_at _ b n j).trans (act_eq x gs ws cs bs b n ⟨b.val * 8192 + n.val, by omega⟩ rfl _))

theorem z_apply (i : S16384x2048.Idx) :
    (flatV (Az x gs ws) i : EReal) = zr (eH x) (eg gs) (eW ws) (i 0) (i 1) := by
  obtain ⟨R, j, rfl⟩ : ∃ (R : Fin 16384) (j : Fin 2048), i = ix2 R j := by
    idx_vars i
    exact ⟨_, _, rfl⟩
  obtain ⟨b, n, rfl⟩ := row_of R
  exact (flatV_apply _ b n j).trans ((z_at _ b n j).trans (up_eq x gs ws b n ⟨b.val * 8192 + n.val, by omega⟩ rfl _))

end whole

theorem q_res (m : (ℓ : Loc nD τ sig) → Buf (Elt Ideal) ℓ) (c : Dev nD) :
    (Value.res_main_v86 m c : S16384x1024.Idx → EReal) = flat (scaled (split (Aq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))) := by
  unfold Value.res_main_v86
  rfl

theorem k_res (m : (ℓ : Loc nD τ sig) → Buf (Elt Ideal) ℓ) (c : Dev nD) :
    (Value.res_main_v88 m c : S16384x1024.Idx → EReal) = flat (heads (split (Ak (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))) := by
  unfold Value.res_main_v88
  rfl

theorem v_res (m : (ℓ : Loc nD τ sig) → Buf (Elt Ideal) ℓ) (c : Dev nD) :
    (Value.res_main_v90 m c : S16384x2048.Idx → EReal) = flatV (Av (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Value.res_main_v90
  rfl

end Cert.Reference3Ideal.Hand

end
-- ==== Proof.DeltaClaims.lean ====
/-
  The claims of the input projection's program: the frames, the named constant, and the value claim on all arguments.
-/
module

public import proofs.«01_k».proof.Defs
public import proofs.«01_k».proof.Proof.DeltaArray
public import proofs.«01_k».proof.Proof.DeltaRef
public import proofs.«01_k».proof.Proof.Gen.Kernel3
public import proofs.«01_k».proof.Proof.Gen.Kernel3.Frame
public import proofs.«01_k».proof.Proof.Gen.Kernel3Ideal.Frame
public import Idealize.ShloMosaic.Lib.Quiescent

@[expose] public section

set_option maxRecDepth 16384

noncomputable section

namespace Cert.DeltaClaims

open Idealize.ShloMosaic Idealize.ShloMosaic.TcCoe Idealize.SL.Sem

/-- The program as printed. -/
theorem frame_p : Cert.quiescent_Kernel3 (hKernel3 := Cert.Kernel3.Gen.facts) :=
  fun m ρ _ => Cert.Kernel3.Gen.frame m ρ

/-- Its idealization. -/
theorem frame_pi : Cert.quiescent_Kernel3Ideal (hKernel3Ideal := Cert.Kernel3Ideal.Gen.facts) :=
  fun m ρ _ => Cert.Kernel3Ideal.Gen.frame m ρ

/-- The reference, which runs on the host alone. -/
theorem frame_ri : Cert.quiescent_Reference3Ideal (hReference3Ideal := Cert.Reference3Ideal.Gen.facts) :=
  fun m ρ _ => (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

/-- The one rewrite: the sigmoids' factor is read as minus one over the logarithm of two. -/
theorem preserves : Cert.preserves_Kernel3_Kernel3Ideal :=
  IdealRules.named_const.statement Cert.Kernel3Ideal.κ "neg_log2e" .f32 0xBFB8AA3B#32 ((-((Real.log 2)⁻¹) : ℝ) : EReal) rfl

/-- From memories that agree on the arguments both runs end with the same four arrays. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, _, _, Cert.Kernel3Ideal.Hand.run m ρ, ?_⟩
  refine (θ_run Cert.Reference3Ideal.defs _ _).mono (fun _ h c => ⟨(h c).1.trans ?_, (h c).2.1.trans ?_, (h c).2.2.1.trans ?_, (h c).2.2.2.1.trans ?_, (h c).2.2.2.2⟩)
    (Cert.Reference3Ideal.Value.run (F := Ideal) m' ρ')
  · refine (Cert.Reference3Ideal.Hand.q_res m' c).trans (funext fun i => ?_)
    refine (Cert.Reference3Ideal.Hand.q_apply _ _ _ _ _ i).trans ?_
    rw [(hagree c).1, (hagree c).2.1, (hagree c).2.2.1, (hagree c).2.2.2.1, (hagree c).2.2.2.2.1]
    rfl
  · refine (Cert.Reference3Ideal.Hand.k_res m' c).trans (funext fun i => ?_)
    refine (Cert.Reference3Ideal.Hand.k_apply _ _ _ _ _ i).trans ?_
    rw [(hagree c).1, (hagree c).2.1, (hagree c).2.2.1, (hagree c).2.2.2.1, (hagree c).2.2.2.2.1]
    rfl
  · refine (Cert.Reference3Ideal.Hand.v_res m' c).trans (funext fun i => ?_)
    refine (Cert.Reference3Ideal.Hand.v_apply _ _ _ _ _ i).trans ?_
    rw [(hagree c).1, (hagree c).2.1, (hagree c).2.2.1, (hagree c).2.2.2.1, (hagree c).2.2.2.2.1]
    rfl
  · refine funext fun i => ?_
    refine (Cert.Reference3Ideal.Hand.z_apply (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) i).trans ?_
    rw [(hagree c).1, (hagree c).2.1, (hagree c).2.2.1]
    rfl

end Cert.DeltaClaims

end
-- ==== Proof.Outproj.lean ====
/-
  The attention's output projection: its kernel's result array and the reference's, both the rows before it plus the
  attention's rows times the weights; and its claims.
-/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Quiescent
public import Idealize.ShloMosaic.Lib.WholeRead
public import Idealize.ShloMosaic.Lib.Pipeline.Value
public import Idealize.ShloMosaic.Lib.StableHlo.Run
public import Idealize.ShloMosaic.Lib.Pointwise
public import Idealize.ShloMosaic.Lib.IdealHost
public import Idealize.ShloMosaic.Lib.Tactic.CleanTypes

@[expose] public section

set_option maxRecDepth 16384

noncomputable section

namespace Cert.Outproj

/-- The rows before, plus the rows times the weights. -/
def row {K : ℕ} (H : Fin 16384 → Fin 1024 → EReal) (A : Fin 16384 → Fin K → EReal) (W : Fin K → Fin 1024 → EReal) (R : Fin 16384) (e : Fin 1024) : EReal :=
  H R e + ∑ k, A R k * W k e

end Cert.Outproj

namespace Cert.Kernel5Ideal.Hand

open Cert.Kernel5Ideal Cert.Kernel5Ideal.Gen Cert.Outproj
open Idealize.ShloMosaic Idealize.ShloMosaic.TcCoe Idealize.ShloMosaic.Tactic Idealize.ShloMosaic.StableHlo Idealize.SL.Sem
open Idealize.ShloMosaic.Pipeline (Dat)

theorem hz2 : (![0, 0] : Fin 2 → Nat) = fun _ => 0 := funext fun a => by fin_cases a <;> rfl

theorem pay_apply (x : Vec Ideal S512x1024 .f32) (a : Vec Ideal S512x1024 .bf16) (w : Vec Ideal S1024x1024 .bf16) (r : Fin 512) (e : Fin 1024) :
    (k0_pay1 x a w (ix2 r e) : EReal) = (x (ix2 r e) : EReal) + ∑ k : Fin 1024, (a (ix2 r k) : EReal) * w (ix2 k e) := by
  pointwise [k0_pay1]

theorem out_apply (a : Vec Ideal S512x1024 .bf16) (w : Vec Ideal S1024x1024 .bf16) (x : Vec Ideal S512x1024 .f32) (r : Fin 512) (e : Fin 1024) :
    (out0_3 a w x (ix2 r e) : EReal) = (x (ix2 r e) : EReal) + ∑ k : Fin 1024, (a (ix2 r k) : EReal) * w (ix2 k e) := by
  rw [← pay_apply]
  unfold out0_3 r0_0 r0_1
  rw [View.canon_unit_zero hz2, View.ld_unit_zero hz2, View.ld_unit_zero hz2, View.ld_unit_zero hz2]

section args
variable (m : (ℓ : Loc nD τ sig) → Buf (Elt Ideal) ℓ) (c : Dev nD)

/-- The arguments, by their numbers. -/
abbrev aA (R : Fin 16384) (d : Fin 1024) : EReal := (m ((c : Thread nD τ).loc main_arg0) : S16384x1024.Idx → EReal) (ix2 R d)
abbrev aW (d : Fin 1024) (f : Fin 1024) : EReal := (m ((c : Thread nD τ).loc main_arg1) : S1x1024x1024.Idx → EReal) (ix3 0 d f)
abbrev aH (R : Fin 16384) (d : Fin 1024) : EReal := (m ((c : Thread nD τ).loc main_arg2) : S16384x1024.Idx → EReal) (ix2 R d)

/-- The result of the arguments. -/
def resOf : Buf (Elt Ideal) ((c : Thread nD τ).loc main_v3) :=
  fun (i : S16384x1024.Idx) => row (aH m c) (aA m c) (aW m c) (i 0) (i 1)

theorem V_A : (V m c main_v0 : S16384x1024.Idx → EReal) = (m ((c : Thread nD τ).loc main_arg0) : S16384x1024.Idx → EReal) := by
  show after hostOps0 _ (Proc.devRef .tc main_v0) = _
  unfold hostOps0
  after_results
  rfl

theorem V_W : (V m c main_v2 : S1024x1024.Idx → EReal) = shapeCast S1024x1024 (m ((c : Thread nD τ).loc main_arg1) : Vec Ideal S1x1024x1024 .f32) shapeCasts_S1x1024x1024_S1024x1024 := by
  show after hostOps0 _ (Proc.devRef .tc main_v2) = _
  unfold hostOps0
  after_results
  rfl

theorem V_H : (V m c main_arg2 : S16384x1024.Idx → EReal) = (m ((c : Thread nD τ).loc main_arg2) : S16384x1024.Idx → EReal) := by
  show after hostOps0 _ (Proc.devRef .tc main_arg2) = _
  unfold hostOps0
  after_results

theorem flat_apply (x : Vec Ideal S1x1024x1024 .f32) (d f : Fin 1024) :
    shapeCast S1024x1024 x shapeCasts_S1x1024x1024_S1024x1024 (ix2 d f) = x (ix3 0 d f) := by
  pointwise []

theorem tlt (t : Fin cfg0.N) : t.val < 32 := lt_of_lt_of_eq t.isLt (by decide +kernel)

section idx
theorem i0_0 : ∀ t : Fin grid0.N, cc0_transform_0 (grid0.coords t) 0 = t.val := by decide +kernel
theorem i2_0 : ∀ t : Fin grid0.N, cc0_transform_2 (grid0.coords t) 0 = t.val := by decide +kernel
theorem i3_0 : ∀ t : Fin grid0.N, cc0_transform_3 (grid0.coords t) 0 = t.val := by decide +kernel
theorem i3_1 : ∀ t : Fin grid0.N, cc0_transform_3 (grid0.coords t) 1 = 0 := by decide +kernel
end idx

variable (t : Fin cfg0.N)

theorem b0 (r : Fin 512) (R : Fin 16384) (hR : R.val = t.val * 512 + r.val) (d : Fin 1024) : (iblk m c 0 t : S512x1024.Idx → EReal) (ix2 r d) = aA m c R d := by
  unfold aA
  rw [← V_A m c]
  show (V m c main_v0 : S16384x1024.Idx → EReal) _ = _
  congr 1
  funext a
  refine Fin.ext ?_
  match a with
  | ⟨0, _⟩ => show cc0_transform_0 (grid0.coords t) 0 * 512 + 1 * r.val = R.val; rw [i0_0]; omega
  | ⟨1, _⟩ => show 0 * 1024 + 1 * d.val = d.val; omega

theorem b1 (d f : Fin 1024) : (iblk m c 1 t : S1024x1024.Idx → EReal) (ix2 d f) = aW m c d f := by
  unfold aW
  rw [← flat_apply (m ((c : Thread nD τ).loc main_arg1)) d f, ← V_W m c]
  show (V m c main_v2 : S1024x1024.Idx → EReal) _ = _
  congr 1
  funext a
  refine Fin.ext ?_
  match a with
  | ⟨0, _⟩ => show 0 * 1024 + 1 * d.val = d.val; omega
  | ⟨1, _⟩ => show 0 * 1024 + 1 * f.val = f.val; omega

theorem b2 (r : Fin 512) (R : Fin 16384) (hR : R.val = t.val * 512 + r.val) (d : Fin 1024) : (iblk m c 2 t : S512x1024.Idx → EReal) (ix2 r d) = aH m c R d := by
  unfold aH
  rw [← V_H m c]
  show (V m c main_arg2 : S16384x1024.Idx → EReal) _ = _
  congr 1
  funext a
  refine Fin.ext ?_
  match a with
  | ⟨0, _⟩ => show cc0_transform_2 (grid0.coords t) 0 * 512 + 1 * r.val = R.val; rw [i2_0]; omega
  | ⟨1, _⟩ => show 0 * 1024 + 1 * d.val = d.val; omega

/-- What a point leaves, in the arguments. -/
theorem outs_eq (r : Fin 512) (R : Fin 16384) (hR : R.val = t.val * 512 + r.val) (e : Fin 1024) :
    (out0_3 (iblk m c 0 t) (iblk m c 1 t) (iblk m c 2 t) (ix2 r e) : EReal) = row (aH m c) (aA m c) (aW m c) R e := by
  refine (out_apply _ _ _ r e).trans ?_
  unfold row
  refine congrArg₂ (· + ·) (b2 m c t r R hR e) (Finset.sum_congr rfl fun k _ => congrArg₂ (· * ·) (b0 m c t r R hR k) (b1 m c t k e))

theorem ix_block (x : S512x1024.Idx) : ∃ (r : Fin 512) (e : Fin 1024), x = ix2 r e := by
  idx_vars x
  exact ⟨_, _, rfl⟩

theorem flushed_eq : (dats m 0 c).flushed 3 t = (win0_3.blk t).view.read (Elt Ideal) (resOf m c) := by
  have ht := tlt t
  rw [Value.flushed3]
  funext y
  obtain ⟨r, e, rfl⟩ : ∃ (r : Fin 512) (e : Fin 1024), y = ix2 r e := ix_block y
  refine Eq.trans (b := (out0_3 (iblk m c 0 t) (iblk m c 1 t) (iblk m c 2 t) : S512x1024.Idx → EReal) (ix2 r e)) ?_ ((outs_eq m c t r ⟨t.val * 512 + r.val, by omega⟩ rfl e).trans ?_)
  · show (out0_3 (iblk m c 0 t) (iblk m c 1 t) (iblk m c 2 t) : S512x1024.Idx → EReal) _ = _
    congr 1
  · show _ = resOf m c _
    unfold resOf
    refine congrArg₂ (row (aH m c) (aA m c) (aW m c)) (Fin.ext ?_) (Fin.ext ?_)
    · show t.val * 512 + r.val = cc0_transform_3 (grid0.coords t) 0 * 512 + 1 * r.val; rw [i3_0]; omega
    · show e.val = 0 * 1024 + 1 * e.val; omega

theorem mem_blk (i : S16384x1024.Idx) :
    i ∈ ((cfg0.win 3).blk t).view.set ↔ t.val * 512 ≤ (i 0 : Nat) ∧ (i 0 : Nat) < t.val * 512 + 512 := by
  have h1 : (i 1 : Nat) < 1024 := (i 1).isLt
  show i ∈ ((View.whole main_v3).slice (win0_3.rect t)).set ↔ _
  rw [View.set_slice_whole, Rect.mem_set_unit]
  have e0 : win0_3.index t 0 * win0_3.size 0 = t.val * 512 := congrArg (· * 512) (i3_0 t)
  have e1 : win0_3.index t 1 * win0_3.size 1 = 0 * 1024 := congrArg (· * 1024) (i3_1 t)
  have x0 : win0_3.xsize (grid0.coords t) 0 = 512 := rfl
  have x1 : win0_3.xsize (grid0.coords t) 1 = 1024 := rfl
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e0, x0] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, x0]; exact h
    | ⟨1, _⟩ => show win0_3.index t 1 * win0_3.size 1 ≤ (i 1 : Nat) ∧ (i 1 : Nat) < win0_3.index t 1 * win0_3.size 1 + win0_3.xsize (grid0.coords t) 1
                rw [e1, x1]; exact ⟨by omega, by omega⟩

theorem cover (i : S16384x1024.Idx) : ∃ t : Fin cfg0.N, (cfg0.win 3).flush t = true ∧ i ∈ ((cfg0.win 3).blk t).view.set := by
  have h0 : (i 0 : Nat) < 16384 := (i 0).isLt
  have hN : cfg0.N = 32 := by decide +kernel
  refine ⟨⟨(i 0 : Nat) / 512, by omega⟩, flush0_3 _, ?_⟩
  rw [mem_blk]
  dsimp only
  omega

theorem final : (dats m 0 c).arrAt 3 cfg0.N = resOf m c :=
  (dats m 0 c).arrAt_eq_of_cover 3 (resOf m c) (fun t _ => flushed_eq m c t) cover

end args

/-- The run, read: the result array at the projection of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.Kernel5Ideal.Hand

namespace Cert.Reference5Ideal.Hand

open Cert.Reference5Ideal Cert.Reference5Ideal.Gen Cert.Outproj
open Idealize.ShloMosaic Idealize.ShloMosaic.TcCoe Idealize.ShloMosaic.Tactic Idealize.SL.Sem

theorem X_apply (x : FVec Ideal S16384x1024 .f32) (b : Fin 2) (n : Fin 8192) (d : Fin 1024) :
    shapeCast S2x8192x1024 x shapeCasts_S16384x1024_S2x8192x1024 (ix3 b n d) = x (ix2 ⟨b.val * 8192 + n.val, by omega⟩ d) := by
  refine shapeCast_apply _ _ _ _ ?_
  rw [Shape.rowMajor_val_two, Shape.rowMajor_val_three]
  rfl

theorem flat_apply (x : FVec Ideal S2x8192x1024 .f32) (b : Fin 2) (n : Fin 8192) (d : Fin 1024) :
    shapeCast S16384x1024 x shapeCasts_S2x8192x1024_S16384x1024 (ix2 ⟨b.val * 8192 + n.val, by omega⟩ d) = x (ix3 b n d) := by
  refine shapeCast_apply _ _ _ _ ?_
  rw [Shape.rowMajor_val_two, Shape.rowMajor_val_three]
  rfl

theorem W_apply (x : FVec Ideal S1x1024x1024 .f32) (d : Fin 1024) (f : Fin 1024) :
    shapeCast S1024x1024 x shapeCasts_S1x1024x1024_S1024x1024 (ix2 d f) = x (ix3 0 d f) := by
  pointwise []

theorem row_of (R : Fin 16384) : ∃ (b : Fin 2) (n : Fin 8192), R = ⟨b.val * 8192 + n.val, by omega⟩ :=
  ⟨⟨R.val / 8192, by omega⟩, ⟨R.val % 8192, by omega⟩, Fin.ext (show R.val = R.val / 8192 * 8192 + R.val % 8192 by omega)⟩

/-- The rows times the weights. -/
def product (y : FVec Ideal S2x8192x1024 .f32) (w : FVec Ideal S1024x1024 .f32) : FVec Ideal S2x8192x1024 .f32 :=
  Host.dotGeneral dot_S2x8192x1024_S1024x1024_S2x8192x1024_2_0_01_1_n_n none y w

theorem product_apply (y : FVec Ideal S2x8192x1024 .f32) (w : FVec Ideal S1024x1024 .f32) (b : Fin 2) (n : Fin 8192) (f : Fin 1024) :
    (product y w (ix3 b n f) : EReal) = ∑ d : Fin 1024, (y (ix3 b n d) : EReal) * w (ix2 d f) := by
  let D := dot_S2x8192x1024_S1024x1024_S2x8192x1024_2_0_01_1_n_n
  have hr : D.contr.rank = 1 := rfl
  have hs : D.contr.size ⟨0, by omega⟩ = 1024 := rfl
  unfold product
  simp only [Host.dotGeneral]
  rw [Ideal.dotGeneral_apply, ← Equiv.sum_comp (ValueIdx.contrEquiv1 D 1024 hr hs).symm]
  refine Finset.sum_congr rfl fun d _ => ?_
  have h0 := ValueIdx.contrEquiv1_symm_val D 1024 hr hs d
  refine congrArg₂ (· * ·) (congrArg y ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

theorem res_apply (a : FVec Ideal S16384x1024 .f32) (w : FVec Ideal S1x1024x1024 .f32) (h : FVec Ideal S16384x1024 .f32) (i : S16384x1024.Idx) :
    (shapeCast S16384x1024 (addf (shapeCast S2x8192x1024 h shapeCasts_S16384x1024_S2x8192x1024) (product (shapeCast S2x8192x1024 a shapeCasts_S16384x1024_S2x8192x1024)
      (shapeCast S1024x1024 w shapeCasts_S1x1024x1024_S1024x1024))) shapeCasts_S2x8192x1024_S16384x1024 i : EReal)
      = row (fun R d => h (ix2 R d)) (fun R d => a (ix2 R d)) (fun d f => w (ix3 0 d f)) (i 0) (i 1) := by
  obtain ⟨R, e, rfl⟩ : ∃ (R : Fin 16384) (e : Fin 1024), i = ix2 R e := by
    idx_vars i
    exact ⟨_, _, rfl⟩
  obtain ⟨b, n, rfl⟩ := row_of R
  refine (flat_apply _ b n e).trans ?_
  unfold row
  refine congrArg₂ (· + ·) (X_apply h b n e) ((product_apply _ _ b n e).trans (Finset.sum_congr rfl fun k _ => congrArg₂ (· * ·) (X_apply a b n k) (W_apply w k e)))

end Cert.Reference5Ideal.Hand

namespace Cert.OutClaims

open Idealize.ShloMosaic Idealize.ShloMosaic.TcCoe Idealize.SL.Sem

/-- The program as printed. -/
theorem frame_p : Cert.quiescent_Kernel5 (hKernel5 := Cert.Kernel5.Gen.facts) :=
  fun m ρ _ => Cert.Kernel5.Gen.frame m ρ

/-- Its idealization. -/
theorem frame_pi : Cert.quiescent_Kernel5Ideal (hKernel5Ideal := Cert.Kernel5Ideal.Gen.facts) :=
  fun m ρ _ => Cert.Kernel5Ideal.Gen.frame m ρ

/-- The reference, which runs on the host alone. -/
theorem frame_ri : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Nothing is rewritten. -/
theorem preserves : Cert.preserves_Kernel5_Kernel5Ideal := trivial

/-- From memories that agree on the arguments both runs end with the same array. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Hand.run m ρ, ?_⟩
  refine (θ_run Cert.Reference5Ideal.defs _ _).mono (fun _ h c => ⟨(h c).1.trans ?_, (h c).2⟩)
    (Cert.Reference5Ideal.Value.run (F := Ideal) m' ρ')
  refine funext fun i => ?_
  refine (Cert.Reference5Ideal.Hand.res_apply (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) i).trans ?_
  rw [(hagree c).1, (hagree c).2.1, (hagree c).2.2]
  rfl

end Cert.OutClaims

end
-- ==== Proof.Heads.lean ====
/-
  The delta net's output projection: a grid point writes the sixteen heads' normalised and gated columns to its working
  array, and leaves the rows before plus those columns times the weights. The rows' tiles make the result array.
-/
module

public import proofs.«01_k».proof.Proof.Delta
public import proofs.«01_k».proof.Proof.Outproj
public import proofs.«01_k».proof.Proof.Gen.Kernel4Ideal.Value
public import Idealize.ShloMosaic.Lib.WholeRead
public import Idealize.ShloMosaic.Lib.Pipeline.Value
public import Idealize.ShloMosaic.Lib.StableHlo.Run
public import Idealize.ShloMosaic.Lib.Pointwise

@[expose] public section

set_option maxRecDepth 16384

noncomputable section

namespace Cert.Heads

open Idealize.ShloMosaic Idealize.ShloMosaic.TcCoe
open Cert.Delta (sil)

/-- One of a head's 128 numbers over their root mean square, times the gain. -/
def hnrm (u g : Fin 128 → EReal) (e : Fin 128) : EReal :=
  u e * Ideal.rsqrt (Ideal.div (∑ d : Fin 128, u d * u d) (Ideal.ofBits .f32 0x43000000#32) + Ideal.ofBits .f32 0x358637BD#32) * g e

/-- The two directions' sum, normalised by heads, times the gate. -/
def gated (A B Z : Fin 2048 → EReal) (g : Fin 128 → EReal) (k : Fin 2048) : EReal :=
  hnrm (fun d => A ⟨k.val / 128 * 128 + d.val, by omega⟩ + B ⟨k.val / 128 * 128 + d.val, by omega⟩) g ⟨k.val % 128, by omega⟩ * sil (Z k)

end Cert.Heads

namespace Cert.Kernel4Ideal.Hand

open Cert.Kernel4Ideal Cert.Kernel4Ideal.Gen Cert.Outproj Cert.Heads
open Cert.Delta (sil)
open Idealize.ShloMosaic Idealize.ShloMosaic.TcCoe Idealize.ShloMosaic.Tactic Idealize.ShloMosaic.StableHlo Idealize.SL.Sem
open Idealize.ShloMosaic.Pipeline (Dat)

theorem hz2 : (![0, 0] : Fin 2 → Nat) = fun _ => 0 := funext fun a => by fin_cases a <;> rfl

theorem negLog2e_eq : Named.named (F := Ideal) (φ := .f32) κ "neg_log2e" 0xBFB8AA3B#32 = ((-((Real.log 2)⁻¹) : ℝ) : EReal) :=
  IdealRules.named_const.ideal_named_scalar _ _ _ _ rfl

theorem head_apply (a b : Vec Ideal S512x128 .bf16) (g : Vec Ideal S1x128 .f32) (z : Vec Ideal S512x128 .bf16) (r : Fin 512) (e : Fin 128) :
    (k0_pay3 a b g z (ix2 r e) : EReal) = hnrm (fun d => (a (ix2 r d) : EReal) + b (ix2 r d)) (fun d => g (ix2 0 d)) e * sil (z (ix2 r e)) := by
  unfold hnrm sil
  rw [← negLog2e_eq]
  pointwise [k0_pay3]
  rfl

theorem last_apply (x : Vec Ideal S512x1024 .f32) (a : Vec Ideal S512x2048 .bf16) (w : Vec Ideal S2048x1024 .bf16) (r : Fin 512) (e : Fin 1024) :
    (k0_pay2 x a w (ix2 r e) : EReal) = (x (ix2 r e) : EReal) + ∑ k : Fin 2048, (a (ix2 r k) : EReal) * w (ix2 k e) := by
  pointwise [k0_pay2]

/-- The gated columns, as an array. -/
def acts (x0 x1 x2 : Vec Ideal S512x2048 .bf16) (x3 : Vec Ideal S1x128 .f32) : FVec Ideal S512x2048 .bf16 :=
  fun i => gated (fun k => x0 (ix2 (i 0) k)) (fun k => x1 (ix2 (i 0) k)) (fun k => x2 (ix2 (i 0) k)) (fun d => x3 (ix2 0 d)) (i 1)

section loads
variable (arg1 : Memref sig .tc .vmem S512x2048 .bf16) (harg1 : arg1.IsWhole) (arg2 : Memref sig .tc .vmem S512x2048 .bf16) (harg2 : arg2.IsWhole)
  (arg3 : Memref sig .tc .vmem S512x2048 .bf16) (harg3 : arg3.IsWhole) (arg4 : Memref sig .tc .vmem S1x128 .f32) (harg4 : arg4.IsWhole)
  (x0 x1 x2 : Vec Ideal S512x2048 .bf16) (x3 : Vec Ideal S1x128 .f32)

theorem load (x : Vec Ideal S512x2048 .bf16) (o : ℕ) (h) (r : Fin 512) (e : Fin 128) (k : Fin 2048) (hk : k.val = o + e.val) :
    View.readAt (Elt Ideal) arg1.view (Rect.unit (s := S512x2048) ![0, o] S512x128.size h).toLoadRect (harg1.unread x) (ix2 r e) = x (ix2 r k) := by
  rw [harg1.readAt_unread]
  congr 1
  funext a
  refine Fin.ext ?_
  match a with
  | ⟨0, _⟩ => show 0 + 1 * r.val = r.val; omega
  | ⟨1, _⟩ => show o + 1 * e.val = k.val; omega

/-- A head's columns, from the arrays' slices. -/
abbrev slice (o : ℕ) (h : ∀ a, (![0, o] : Fin 2 → ℕ) a + S512x128.size a ≤ S512x2048.size a) : FVec Ideal S512x128 .bf16 :=
  k0_pay3 (View.readAt (Elt Ideal) arg1.view (Rect.unit (s := S512x2048) ![0, o] S512x128.size h).toLoadRect (harg1.unread x0))
    (View.readAt (Elt Ideal) arg2.view (Rect.unit (s := S512x2048) ![0, o] S512x128.size h).toLoadRect (harg2.unread x1))
    (View.readAt (Elt Ideal) arg4.view (Rect.unit (s := S1x128) ![0, 0] S1x128.size inb_S1x128_S1x128_0_0).toLoadRect (harg4.unread x3))
    (View.readAt (Elt Ideal) arg3.view (Rect.unit (s := S512x2048) ![0, o] S512x128.size h).toLoadRect (harg3.unread x2))

theorem ix_slice (x : S512x128.Idx) : ∃ (r : Fin 512) (e : Fin 128), x = ix2 r e := by
  idx_vars x
  exact ⟨_, _, rfl⟩

theorem slice_piece (o : ℕ) (h : ∀ a, (![0, o] : Fin 2 → ℕ) a + S512x128.size a ≤ S512x2048.size a) (ho : o % 128 = 0) (hb : o + 128 ≤ 2048) (x : S512x128.Idx) :
    slice arg1 harg1 arg2 harg2 arg3 harg3 arg4 harg4 x0 x1 x2 x3 o h x = acts x0 x1 x2 x3 ((Rect.unit (s := S512x2048) ![0, o] S512x128.size h).emb x) := by
  obtain ⟨r, e, rfl⟩ := ix_slice x
  have hx : (Rect.unit (s := S512x2048) ![0, o] S512x128.size h).emb (ix2 r e) = ix2 r (⟨o + e.val, by omega⟩ : Fin 2048) := by
    funext a
    refine Fin.ext ?_
    match a with
    | ⟨0, _⟩ => show 0 + 1 * r.val = r.val; omega
    | ⟨1, _⟩ => show o + 1 * e.val = o + e.val; omega
  rw [hx]
  refine (head_apply _ _ _ _ r e).trans ?_
  show _ = gated (fun k => x0 (ix2 r k)) (fun k => x1 (ix2 r k)) (fun k => x2 (ix2 r k)) (fun d => x3 (ix2 0 d)) ⟨o + e.val, by omega⟩
  unfold gated
  have he : (⟨(o + e.val) % 128, by omega⟩ : Fin 128) = e := Fin.ext (by show (o + e.val) % 128 = e.val; omega)
  have h4 : View.readAt (Elt Ideal) arg4.view (Rect.unit (s := S1x128) ![0, 0] S1x128.size inb_S1x128_S1x128_0_0).toLoadRect (harg4.unread x3) = x3 := by
    rw [View.readAt_eq_ld, harg4.read_unread, View.ld_unit_zero hz2]
  rw [h4, load arg3 harg3 x2 o h r e ⟨o + e.val, by omega⟩ rfl]
  have h1 : ∀ d : Fin 128, View.readAt (Elt Ideal) arg1.view (Rect.unit (s := S512x2048) ![0, o] S512x128.size h).toLoadRect (harg1.unread x0) (ix2 r d)
      = x0 (ix2 r ⟨(o + e.val) / 128 * 128 + d.val, by omega⟩) := fun d => load arg1 harg1 x0 o h r d _ (by show (o + e.val) / 128 * 128 + d.val = o + d.val; omega)
  have h2 : ∀ d : Fin 128, View.readAt (Elt Ideal) arg2.view (Rect.unit (s := S512x2048) ![0, o] S512x128.size h).toLoadRect (harg2.unread x1) (ix2 r d)
      = x1 (ix2 r ⟨(o + e.val) / 128 * 128 + d.val, by omega⟩) := fun d => load arg2 harg2 x1 o h r d _ (by show (o + e.val) / 128 * 128 + d.val = o + d.val; omega)
  refine congrArg₂ (· * ·) ?_ rfl
  simp only [h1, h2]
  exact congrArg _ he.symm

end loads

section run
variable (c : Dev nD) (i : grid0.Coords)
  (arg1 : Memref sig .tc .vmem S512x2048 .bf16) (harg1 : arg1.IsWhole) (arg2 : Memref sig .tc .vmem S512x2048 .bf16) (harg2 : arg2.IsWhole)
  (arg3 : Memref sig .tc .vmem S512x2048 .bf16) (harg3 : arg3.IsWhole) (arg4 : Memref sig .tc .vmem S1x128 .f32) (harg4 : arg4.IsWhole)
  (arg5 : Memref sig .tc .vmem S2048x1024 .bf16) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S512x2048 .bf16) (harg8 : arg8.IsWhole)
  (x0 x1 x2 : Vec Ideal S512x2048 .bf16) (x3 : Vec Ideal S1x128 .f32) (x4 : Vec Ideal S2048x1024 .bf16) (x5 : Vec Ideal S512x1024 .f32)

/-- The columns a point has written. -/
abbrev wrote : List (View.Piece (Elt Ideal) S512x2048 .bf16) :=
  kernelRun0_A.sl.HS0_16 (F := Ideal) c arg1 harg1 arg2 harg2 arg3 harg3 arg4 harg4 x0 x1 x2 x3

theorem wrote_eq : ∀ q ∈ wrote c arg1 harg1 arg2 harg2 arg3 harg3 arg4 harg4 x0 x1 x2 x3, ∀ x : q.1.shape.Idx, q.2 x = acts x0 x1 x2 x3 (q.1.emb x) := by
  unfold wrote kernelRun0_A.sl.HS0_16
  refine List.forall_mem_cons.2 ⟨fun x => (slice_piece arg1 harg1 arg2 harg2 arg3 harg3 arg4 harg4 x0 x1 x2 x3 1920 inb_S512x2048_S512x128_0_1920 rfl (by decide) x), ?_⟩
  refine List.forall_mem_cons.2 ⟨fun x => (slice_piece arg1 harg1 arg2 harg2 arg3 harg3 arg4 harg4 x0 x1 x2 x3 1792 inb_S512x2048_S512x128_0_1792 rfl (by decide) x), ?_⟩
  refine List.forall_mem_cons.2 ⟨fun x => (slice_piece arg1 harg1 arg2 harg2 arg3 harg3 arg4 harg4 x0 x1 x2 x3 1664 inb_S512x2048_S512x128_0_1664 rfl (by decide) x), ?_⟩
  refine List.forall_mem_cons.2 ⟨fun x => (slice_piece arg1 harg1 arg2 harg2 arg3 harg3 arg4 harg4 x0 x1 x2 x3 1536 inb_S512x2048_S512x128_0_1536 rfl (by decide) x), ?_⟩
  refine List.forall_mem_cons.2 ⟨fun x => (slice_piece arg1 harg1 arg2 harg2 arg3 harg3 arg4 harg4 x0 x1 x2 x3 1408 inb_S512x2048_S512x128_0_1408 rfl (by decide) x), ?_⟩
  refine List.forall_mem_cons.2 ⟨fun x => (slice_piece arg1 harg1 arg2 harg2 arg3 harg3 arg4 harg4 x0 x1 x2 x3 1280 inb_S512x2048_S512x128_0_1280 rfl (by decide) x), ?_⟩
  refine List.forall_mem_cons.2 ⟨fun x => (slice_piece arg1 harg1 arg2 harg2 arg3 harg3 arg4 harg4 x0 x1 x2 x3 1152 inb_S512x2048_S512x128_0_1152 rfl (by decide) x), ?_⟩
  refine List.forall_mem_cons.2 ⟨fun x => (slice_piece arg1 harg1 arg2 harg2 arg3 harg3 arg4 harg4 x0 x1 x2 x3 1024 inb_S512x2048_S512x128_0_1024 rfl (by decide) x), ?_⟩
  refine List.forall_mem_cons.2 ⟨fun x => (slice_piece arg1 harg1 arg2 harg2 arg3 harg3 arg4 harg4 x0 x1 x2 x3 896 inb_S512x2048_S512x128_0_896 rfl (by decide) x), ?_⟩
  refine List.forall_mem_cons.2 ⟨fun x => (slice_piece arg1 harg1 arg2 harg2 arg3 harg3 arg4 harg4 x0 x1 x2 x3 768 inb_S512x2048_S512x128_0_768 rfl (by decide) x), ?_⟩
  refine List.forall_mem_cons.2 ⟨fun x => (slice_piece arg1 harg1 arg2 harg2 arg3 harg3 arg4 harg4 x0 x1 x2 x3 640 inb_S512x2048_S512x128_0_640 rfl (by decide) x), ?_⟩
  refine List.forall_mem_cons.2 ⟨fun x => (slice_piece arg1 harg1 arg2 harg2 arg3 harg3 arg4 harg4 x0 x1 x2 x3 512 inb_S512x2048_S512x128_0_512 rfl (by decide) x), ?_⟩
  refine List.forall_mem_cons.2 ⟨fun x => (slice_piece arg1 harg1 arg2 harg2 arg3 harg3 arg4 harg4 x0 x1 x2 x3 384 inb_S512x2048_S512x128_0_384 rfl (by decide) x), ?_⟩
  refine List.forall_mem_cons.2 ⟨fun x => (slice_piece arg1 harg1 arg2 harg2 arg3 harg3 arg4 harg4 x0 x1 x2 x3 256 inb_S512x2048_S512x128_0_256 rfl (by decide) x), ?_⟩
  refine List.forall_mem_cons.2 ⟨fun x => (slice_piece arg1 harg1 arg2 harg2 arg3 harg3 arg4 harg4 x0 x1 x2 x3 128 inb_S512x2048_S512x128_0_128 rfl (by decide) x), ?_⟩
  refine List.forall_mem_cons.2 ⟨fun x => (slice_piece arg1 harg1 arg2 harg2 arg3 harg3 arg4 harg4 x0 x1 x2 x3 0 inb_S512x2048_S512x128_0_0 rfl (by decide) x), ?_⟩
  exact fun q hq => absurd hq (List.not_mem_nil)

theorem wrote_cover (y : S512x2048.Idx) : ∃ q ∈ wrote c arg1 harg1 arg2 harg2 arg3 harg3 arg4 harg4 x0 x1 x2 x3, y ∈ q.1.set := by
  have h0 : (y 0 : Nat) < 512 := (y 0).isLt
  have h1 : (y 1 : Nat) < 2048 := (y 1).isLt
  have key : ∀ (o : ℕ) (h), o ≤ (y 1 : Nat) → (y 1 : Nat) < o + 128 → y ∈ (Rect.unit (s := S512x2048) ![0, o] S512x128.size h).set := fun o h ha hb => by
    rw [Rect.mem_set_unit]
    intro a
    match a with
    | ⟨0, _⟩ => exact ⟨Nat.zero_le _, by show (y 0 : Nat) < 0 + 512; omega⟩
    | ⟨1, _⟩ => exact ⟨ha, hb⟩
  unfold wrote kernelRun0_A.sl.HS0_16
  by_cases h15 : 1920 ≤ (y 1 : Nat)
  · exact ⟨_, (List.Mem.head _), key 1920 inb_S512x2048_S512x128_0_1920 (by omega) (by omega)⟩
  by_cases h14 : 1792 ≤ (y 1 : Nat)
  · exact ⟨_, (List.Mem.tail _ (List.Mem.head _)), key 1792 inb_S512x2048_S512x128_0_1792 (by omega) (by omega)⟩
  by_cases h13 : 1664 ≤ (y 1 : Nat)
  · exact ⟨_, (List.Mem.tail _ (List.Mem.tail _ (List.Mem.head _))), key 1664 inb_S512x2048_S512x128_0_1664 (by omega) (by omega)⟩
  by_cases h12 : 1536 ≤ (y 1 : Nat)
  · exact ⟨_, (List.Mem.tail _ (List.Mem.tail _ (List.Mem.tail _ (List.Mem.head _)))), key 1536 inb_S512x2048_S512x128_0_1536 (by omega) (by omega)⟩
  by_cases h11 : 1408 ≤ (y 1 : Nat)
  · exact ⟨_, (List.Mem.tail _ (List.Mem.tail _ (List.Mem.tail _ (List.Mem.tail _ (List.Mem.head _))))), key 1408 inb_S512x2048_S512x128_0_1408 (by omega) (by omega)⟩
  by_cases h10 : 1280 ≤ (y 1 : Nat)
  · exact ⟨_, (List.Mem.tail _ (List.Mem.tail _ (List.Mem.tail _ (List.Mem.tail _ (List.Mem.tail _ (List.Mem.head _)))))), key 1280 inb_S512x2048_S512x128_0_1280 (by omega) (by omega)⟩
  by_cases h9 : 1152 ≤ (y 1 : Nat)
  · exact ⟨_, (List.Mem.tail _ (List.Mem.tail _ (List.Mem.tail _ (List.Mem.tail _ (List.Mem.tail _ (List.Mem.tail _ (List.Mem.head _))))))), key 1152 inb_S512x2048_S512x128_0_1152 (by omega) (by omega)⟩
  by_cases h8 : 1024 ≤ (y 1 : Nat)
  · exact ⟨_, (List.Mem.tail _ (List.Mem.tail _ (List.Mem.tail _ (List.Mem.tail _ (List.Mem.tail _ (List.Mem.tail _ (List.Mem.tail _ (List.Mem.head _)))))))), key 1024 inb_S512x2048_S512x128_0_1024 (by omega) (by omega)⟩
  by_cases h7 : 896 ≤ (y 1 : Nat)
  · exact ⟨_, (List.Mem.tail _ (List.Mem.tail _ (List.Mem.tail _ (List.Mem.tail _ (List.Mem.tail _ (List.Mem.tail _ (List.Mem.tail _ (List.Mem.tail _ (List.Mem.head _))))))))), key 896 inb_S512x2048_S512x128_0_896 (by omega) (by omega)⟩
  by_cases h6 : 768 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.head _)))))))))), key 768 inb_S512x2048_S512x128_0_768 (by omega) (by omega)⟩
  by_cases h5 : 640 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), key 640 inb_S512x2048_S512x128_0_640 (by omega) (by omega)⟩
  by_cases h4 : 512 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), key 512 inb_S512x2048_S512x128_0_512 (by omega) (by omega)⟩
  by_cases h3 : 384 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), key 384 inb_S512x2048_S512x128_0_384 (by omega) (by omega)⟩
  by_cases h2 : 256 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), key 256 inb_S512x2048_S512x128_0_256 (by omega) (by omega)⟩
  by_cases h1 : 128 ≤ (y 1 : Nat)
  · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), key 128 inb_S512x2048_S512x128_0_128 (by omega) (by omega)⟩
  exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), key 0 inb_S512x2048_S512x128_0_0 (by omega) (by omega)⟩

theorem acts_eq : kernelRun0_A.sl.v593 (F := Ideal) c arg1 harg1 arg2 harg2 arg3 harg3 arg4 harg4 arg8 x0 x1 x2 x3 = acts x0 x1 x2 x3 := by
  unfold kernelRun0_A.sl.v593 View.readCov
  rw [View.readAt_eq_ld, View.read_writes_junk_eq_canon, View.ld_unit_zero hz2]
  funext y
  exact View.canon_apply_of_pieces (acts x0 x1 x2 x3) (wrote c arg1 harg1 arg2 harg2 arg3 harg3 arg4 harg4 x0 x1 x2 x3) (wrote_eq c arg1 harg1 arg2 harg2 arg3 harg3 arg4 harg4 x0 x1 x2 x3) y (wrote_cover c arg1 harg1 arg2 harg2 arg3 harg3 arg4 harg4 x0 x1 x2 x3 y)

/-- What a point leaves. -/
theorem out_eq : out0_A_6 (F := Ideal) c i arg1 harg1 arg2 harg2 arg3 harg3 arg4 harg4 arg5 harg5 arg6 harg6 arg7 harg7 arg8 harg8 x0 x1 x2 x3 x4 x5
    = k0_pay2 x5 (acts x0 x1 x2 x3) x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_unit_zero hz2]
  have h6 : View.readAt (Elt Ideal) arg6.view (Rect.unit ![0, 0] S512x1024.size inb_S512x1024_S512x1024_0_0).toLoadRect (harg6.unread x5) = x5 := by
    rw [View.readAt_eq_ld, harg6.read_unread, View.ld_unit_zero hz2]
  have h5 : View.readAt (Elt Ideal) arg5.view (Rect.unit ![0, 0] S2048x1024.size inb_S2048x1024_S2048x1024_0_0).toLoadRect (harg5.unread x4) = x4 := by
    rw [View.readAt_eq_ld, harg5.read_unread, View.ld_unit_zero hz2]
  rw [← acts_eq c arg1 harg1 arg2 harg2 arg3 harg3 arg4 harg4 arg8 x0 x1 x2 x3, h5, h6]

end run

section args
variable (m : (ℓ : Loc nD τ sig) → Buf (Elt Ideal) ℓ) (c : Dev nD)

/-- The arguments, by their numbers. -/
abbrev aA (R : Fin 16384) (k : Fin 2048) : EReal := (m ((c : Thread nD τ).loc main_arg0) : S16384x2048.Idx → EReal) (ix2 R k)
abbrev aB (R : Fin 16384) (k : Fin 2048) : EReal := (m ((c : Thread nD τ).loc main_arg1) : S16384x2048.Idx → EReal) (ix2 R k)
abbrev aZ (R : Fin 16384) (k : Fin 2048) : EReal := (m ((c : Thread nD τ).loc main_arg2) : S16384x2048.Idx → EReal) (ix2 R k)
abbrev ag (d : Fin 128) : EReal := (m ((c : Thread nD τ).loc main_arg3) : S1x128.Idx → EReal) (ix2 0 d)
abbrev aW (k : Fin 2048) (e : Fin 1024) : EReal := (m ((c : Thread nD τ).loc main_arg4) : S1x2048x1024.Idx → EReal) (ix3 0 k e)
abbrev aH (R : Fin 16384) (d : Fin 1024) : EReal := (m ((c : Thread nD τ).loc main_arg5) : S16384x1024.Idx → EReal) (ix2 R d)

/-- The result of the arguments. -/
def resOf : Buf (Elt Ideal) ((c : Thread nD τ).loc main_v7) :=
  fun (i : S16384x1024.Idx) => row (aH m c) (fun R k => gated (aA m c R) (aB m c R) (aZ m c R) (ag m c) k) (aW m c) (i 0) (i 1)

theorem V_A : (V m c main_v0 : S16384x2048.Idx → EReal) = (m ((c : Thread nD τ).loc main_arg0) : S16384x2048.Idx → EReal) := by
  show after hostOps0 _ (Proc.devRef .tc main_v0) = _
  unfold hostOps0
  after_results
  rfl

theorem V_B : (V m c main_v1 : S16384x2048.Idx → EReal) = (m ((c : Thread nD τ).loc main_arg1) : S16384x2048.Idx → EReal) := by
  show after hostOps0 _ (Proc.devRef .tc main_v1) = _
  unfold hostOps0
  after_results
  rfl

theorem V_Z : (V m c main_v2 : S16384x2048.Idx → EReal) = (m ((c : Thread nD τ).loc main_arg2) : S16384x2048.Idx → EReal) := by
  show after hostOps0 _ (Proc.devRef .tc main_v2) = _
  unfold hostOps0
  after_results
  rfl

theorem V_g : (V m c main_v4 : S1x128.Idx → EReal) = shapeCast S1x128 (shapeCast S128 (m ((c : Thread nD τ).loc main_arg3) : Vec Ideal S1x128 .f32) shapeCasts_S1x128_S128) shapeCasts_S128_S1x128 := by
  show after hostOps0 _ (Proc.devRef .tc main_v4) = _
  unfold hostOps0
  after_results
  rfl

theorem V_W : (V m c main_v6 : S2048x1024.Idx → EReal) = shapeCast S2048x1024 (m ((c : Thread nD τ).loc main_arg4) : Vec Ideal S1x2048x1024 .f32) shapeCasts_S1x2048x1024_S2048x1024 := by
  show after hostOps0 _ (Proc.devRef .tc main_v6) = _
  unfold hostOps0
  after_results
  rfl

theorem V_H : (V m c main_arg5 : S16384x1024.Idx → EReal) = (m ((c : Thread nD τ).loc main_arg5) : S16384x1024.Idx → EReal) := by
  show after hostOps0 _ (Proc.devRef .tc main_arg5) = _
  unfold hostOps0
  after_results

theorem row_apply (x : Vec Ideal S1x128 .f32) (d : Fin 128) : shapeCast S1x128 (shapeCast S128 x shapeCasts_S1x128_S128) shapeCasts_S128_S1x128 (ix2 0 d) = x (ix2 0 d) := by
  pointwise []

theorem flat_apply (x : Vec Ideal S1x2048x1024 .f32) (k : Fin 2048) (e : Fin 1024) :
    shapeCast S2048x1024 x shapeCasts_S1x2048x1024_S2048x1024 (ix2 k e) = x (ix3 0 k e) := by
  pointwise []

theorem tlt (t : Fin cfg0.N) : t.val < 32 := lt_of_lt_of_eq t.isLt (by decide +kernel)

section idx
theorem i0_0 : ∀ t : Fin grid0.N, cc0_transform_0 (grid0.coords t) 0 = t.val := by decide +kernel
theorem i1_0 : ∀ t : Fin grid0.N, cc0_transform_1 (grid0.coords t) 0 = t.val := by decide +kernel
theorem i2_0 : ∀ t : Fin grid0.N, cc0_transform_2 (grid0.coords t) 0 = t.val := by decide +kernel
theorem i5_0 : ∀ t : Fin grid0.N, cc0_transform_5 (grid0.coords t) 0 = t.val := by decide +kernel
theorem i6_0 : ∀ t : Fin grid0.N, cc0_transform_6 (grid0.coords t) 0 = t.val := by decide +kernel
theorem i6_1 : ∀ t : Fin grid0.N, cc0_transform_6 (grid0.coords t) 1 = 0 := by decide +kernel
end idx

variable (t : Fin cfg0.N)

theorem b0 (r : Fin 512) (R : Fin 16384) (hR : R.val = t.val * 512 + r.val) (d : Fin 2048) : (iblk m c 0 t : S512x2048.Idx → EReal) (ix2 r d) = aA m c R d := by
  unfold aA
  rw [← V_A m c]
  show (V m c main_v0 : S16384x2048.Idx → EReal) _ = _
  congr 1
  funext a
  refine Fin.ext ?_
  match a with
  | ⟨0, _⟩ => show cc0_transform_0 (grid0.coords t) 0 * 512 + 1 * r.val = R.val; rw [i0_0]; omega
  | ⟨1, _⟩ => show 0 * 2048 + 1 * d.val = d.val; omega

theorem b1 (r : Fin 512) (R : Fin 16384) (hR : R.val = t.val * 512 + r.val) (d : Fin 2048) : (iblk m c 1 t : S512x2048.Idx → EReal) (ix2 r d) = aB m c R d := by
  unfold aB
  rw [← V_B m c]
  show (V m c main_v1 : S16384x2048.Idx → EReal) _ = _
  congr 1
  funext a
  refine Fin.ext ?_
  match a with
  | ⟨0, _⟩ => show cc0_transform_1 (grid0.coords t) 0 * 512 + 1 * r.val = R.val; rw [i1_0]; omega
  | ⟨1, _⟩ => show 0 * 2048 + 1 * d.val = d.val; omega

theorem b2 (r : Fin 512) (R : Fin 16384) (hR : R.val = t.val * 512 + r.val) (d : Fin 2048) : (iblk m c 2 t : S512x2048.Idx → EReal) (ix2 r d) = aZ m c R d := by
  unfold aZ
  rw [← V_Z m c]
  show (V m c main_v2 : S16384x2048.Idx → EReal) _ = _
  congr 1
  funext a
  refine Fin.ext ?_
  match a with
  | ⟨0, _⟩ => show cc0_transform_2 (grid0.coords t) 0 * 512 + 1 * r.val = R.val; rw [i2_0]; omega
  | ⟨1, _⟩ => show 0 * 2048 + 1 * d.val = d.val; omega

theorem b5 (r : Fin 512) (R : Fin 16384) (hR : R.val = t.val * 512 + r.val) (d : Fin 1024) : (iblk m c 5 t : S512x1024.Idx → EReal) (ix2 r d) = aH m c R d := by
  unfold aH
  rw [← V_H m c]
  show (V m c main_arg5 : S16384x1024.Idx → EReal) _ = _
  congr 1
  funext a
  refine Fin.ext ?_
  match a with
  | ⟨0, _⟩ => show cc0_transform_5 (grid0.coords t) 0 * 512 + 1 * r.val = R.val; rw [i5_0]; omega
  | ⟨1, _⟩ => show 0 * 1024 + 1 * d.val = d.val; omega

theorem b3 (d : Fin 128) : (iblk m c 3 t : S1x128.Idx → EReal) (ix2 0 d) = ag m c d := by
  unfold ag
  rw [← row_apply (m ((c : Thread nD τ).loc main_arg3)) d, ← V_g m c]
  show (V m c main_v4 : S1x128.Idx → EReal) _ = _
  congr 1
  funext a
  refine Fin.ext ?_
  match a with
  | ⟨0, _⟩ => rfl
  | ⟨1, _⟩ => show 0 * 128 + 1 * d.val = d.val; omega

theorem b4 (k : Fin 2048) (e : Fin 1024) : (iblk m c 4 t : S2048x1024.Idx → EReal) (ix2 k e) = aW m c k e := by
  unfold aW
  rw [← flat_apply (m ((c : Thread nD τ).loc main_arg4)) k e, ← V_W m c]
  show (V m c main_v6 : S2048x1024.Idx → EReal) _ = _
  congr 1
  funext a
  refine Fin.ext ?_
  match a with
  | ⟨0, _⟩ => show 0 * 2048 + 1 * k.val = k.val; omega
  | ⟨1, _⟩ => show 0 * 1024 + 1 * e.val = e.val; omega

/-- What a point leaves, in the arguments. -/
theorem outs_eq (r : Fin 512) (R : Fin 16384) (hR : R.val = t.val * 512 + r.val) (e : Fin 1024) :
    (outsAt0 m c t : S512x1024.Idx → EReal) (ix2 r e) = row (aH m c) (fun R k => gated (aA m c R) (aB m c R) (aZ m c R) (ag m c) k) (aW m c) R e := by
  unfold outsAt0
  rw [out_eq]
  refine (last_apply _ _ _ r e).trans ?_
  unfold row
  refine congrArg₂ (· + ·) (b5 m c t r R hR e) (Finset.sum_congr rfl fun k _ => congrArg₂ (· * ·) ?_ (b4 m c t k e))
  have eA : (fun k => (iblk m c 0 t : S512x2048.Idx → EReal) (ix2 r k)) = aA m c R := funext fun k => b0 m c t r R hR k
  have eB : (fun k => (iblk m c 1 t : S512x2048.Idx → EReal) (ix2 r k)) = aB m c R := funext fun k => b1 m c t r R hR k
  have eZ : (fun k => (iblk m c 2 t : S512x2048.Idx → EReal) (ix2 r k)) = aZ m c R := funext fun k => b2 m c t r R hR k
  have eg : (fun d => (iblk m c 3 t : S1x128.Idx → EReal) (ix2 0 d)) = ag m c := funext fun d => b3 m c t d
  show _ = gated (aA m c R) (aB m c R) (aZ m c R) (ag m c) k
  rw [← eA, ← eB, ← eZ, ← eg]
  rfl

theorem ix_block (x : S512x1024.Idx) : ∃ (r : Fin 512) (e : Fin 1024), x = ix2 r e := by
  idx_vars x
  exact ⟨_, _, rfl⟩

theorem flushed_eq : (dats m 0 c).flushed 6 t = (win0_6.blk t).view.read (Elt Ideal) (resOf m c) := by
  have ht := tlt t
  rw [Value.flushed6]
  funext y
  obtain ⟨r, e, rfl⟩ : ∃ (r : Fin 512) (e : Fin 1024), y = ix2 r e := ix_block y
  refine Eq.trans (b := (outsAt0 m c t : S512x1024.Idx → EReal) (ix2 r e)) ?_ ((outs_eq m c t r ⟨t.val * 512 + r.val, by omega⟩ rfl e).trans ?_)
  · show (outsAt0 m c t : S512x1024.Idx → EReal) _ = _
    congr 1
  · show _ = resOf m c _
    unfold resOf
    refine congrArg₂ (row (aH m c) (fun R k => gated (aA m c R) (aB m c R) (aZ m c R) (ag m c) k) (aW m c)) (Fin.ext ?_) (Fin.ext ?_)
    · show t.val * 512 + r.val = cc0_transform_6 (grid0.coords t) 0 * 512 + 1 * r.val; rw [i6_0]; omega
    · show e.val = 0 * 1024 + 1 * e.val; omega

theorem mem_blk (i : S16384x1024.Idx) :
    i ∈ ((cfg0.win 6).blk t).view.set ↔ t.val * 512 ≤ (i 0 : Nat) ∧ (i 0 : Nat) < t.val * 512 + 512 := by
  have h1 : (i 1 : Nat) < 1024 := (i 1).isLt
  show i ∈ ((View.whole main_v7).slice (win0_6.rect t)).set ↔ _
  rw [View.set_slice_whole, Rect.mem_set_unit]
  have e0 : win0_6.index t 0 * win0_6.size 0 = t.val * 512 := congrArg (· * 512) (i6_0 t)
  have e1 : win0_6.index t 1 * win0_6.size 1 = 0 * 1024 := congrArg (· * 1024) (i6_1 t)
  have x0 : win0_6.xsize (grid0.coords t) 0 = 512 := rfl
  have x1 : win0_6.xsize (grid0.coords t) 1 = 1024 := rfl
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e0, x0] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, x0]; exact h
    | ⟨1, _⟩ => show win0_6.index t 1 * win0_6.size 1 ≤ (i 1 : Nat) ∧ (i 1 : Nat) < win0_6.index t 1 * win0_6.size 1 + win0_6.xsize (grid0.coords t) 1
                rw [e1, x1]; exact ⟨by omega, by omega⟩

theorem cover (i : S16384x1024.Idx) : ∃ t : Fin cfg0.N, (cfg0.win 6).flush t = true ∧ i ∈ ((cfg0.win 6).blk t).view.set := by
  have h0 : (i 0 : Nat) < 16384 := (i 0).isLt
  have hN : cfg0.N = 32 := by decide +kernel
  refine ⟨⟨(i 0 : Nat) / 512, by omega⟩, flush0_6 _, ?_⟩
  rw [mem_blk]
  dsimp only
  omega

theorem final : (dats m 0 c).arrAt 6 cfg0.N = resOf m c :=
  (dats m 0 c).arrAt_eq_of_cover 6 (resOf m c) (fun t _ => flushed_eq m c t) cover

end args

/-- The run, read: the result array at the projection of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final m c), (h c).2⟩) (Value.run_blocks m ρ)

end Cert.Kernel4Ideal.Hand

end
-- ==== Proof.HeadsClaims.lean ====
/-
  The reference's output projection of the delta net, read at an index, and the claims of the program.
-/
module

public import proofs.«01_k».proof.Defs
public import proofs.«01_k».proof.Proof.Heads
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent
public import Idealize.ShloMosaic.Lib.Pointwise
public import Idealize.ShloMosaic.Lib.IdealHost
public import Idealize.ShloMosaic.Lib.Tactic.CleanTypes

@[expose] public section

set_option maxRecDepth 16384

noncomputable section

namespace Cert.Reference4Ideal.Hand

open Cert.Reference4Ideal Cert.Reference4Ideal.Gen Cert.Outproj Cert.Heads
open Cert.Delta (sil sil_eq)
open Idealize.ShloMosaic Idealize.ShloMosaic.TcCoe Idealize.ShloMosaic.Tactic Idealize.SL.Sem

theorem X_apply (x : FVec Ideal S16384x1024 .f32) (b : Fin 2) (n : Fin 8192) (d : Fin 1024) :
    shapeCast S2x8192x1024 x shapeCasts_S16384x1024_S2x8192x1024 (ix3 b n d) = x (ix2 ⟨b.val * 8192 + n.val, by omega⟩ d) := by
  refine shapeCast_apply _ _ _ _ ?_
  rw [Shape.rowMajor_val_two, Shape.rowMajor_val_three]
  rfl

theorem flat_apply (x : FVec Ideal S2x8192x1024 .f32) (b : Fin 2) (n : Fin 8192) (d : Fin 1024) :
    shapeCast S16384x1024 x shapeCasts_S2x8192x1024_S16384x1024 (ix2 ⟨b.val * 8192 + n.val, by omega⟩ d) = x (ix3 b n d) := by
  refine shapeCast_apply _ _ _ _ ?_
  rw [Shape.rowMajor_val_two, Shape.rowMajor_val_three]
  rfl

theorem W_apply (x : FVec Ideal S1x2048x1024 .f32) (d : Fin 2048) (f : Fin 1024) :
    shapeCast S2048x1024 x shapeCasts_S1x2048x1024_S2048x1024 (ix2 d f) = x (ix3 0 d f) := by
  pointwise []

theorem row_of (R : Fin 16384) : ∃ (b : Fin 2) (n : Fin 8192), R = ⟨b.val * 8192 + n.val, by omega⟩ :=
  ⟨⟨R.val / 8192, by omega⟩, ⟨R.val % 8192, by omega⟩, Fin.ext (show R.val = R.val / 8192 * 8192 + R.val % 8192 by omega)⟩

/-- The rows times the weights. -/
def product (y : FVec Ideal S2x8192x2048 .f32) (w : FVec Ideal S2048x1024 .f32) : FVec Ideal S2x8192x1024 .f32 :=
  Host.dotGeneral dot_S2x8192x2048_S2048x1024_S2x8192x1024_2_0_01_1_n_n none y w

theorem product_apply (y : FVec Ideal S2x8192x2048 .f32) (w : FVec Ideal S2048x1024 .f32) (b : Fin 2) (n : Fin 8192) (f : Fin 1024) :
    (product y w (ix3 b n f) : EReal) = ∑ d : Fin 2048, (y (ix3 b n d) : EReal) * w (ix2 d f) := by
  let D := dot_S2x8192x2048_S2048x1024_S2x8192x1024_2_0_01_1_n_n
  have hr : D.contr.rank = 1 := rfl
  have hs : D.contr.size ⟨0, by omega⟩ = 2048 := rfl
  unfold product
  simp only [Host.dotGeneral]
  rw [Ideal.dotGeneral_apply, ← Equiv.sum_comp (ValueIdx.contrEquiv1 D 2048 hr hs).symm]
  refine Finset.sum_congr rfl fun d _ => ?_
  have h0 := ValueIdx.contrEquiv1_symm_val D 2048 hr hs d
  refine congrArg₂ (· * ·) (congrArg y ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

/-- The heads' sums of squares. -/
def hsq (x : FVec Ideal S2x8192x16x128 .f32) : FVec Ideal S2x8192x16 .f32 :=
  Host.reduceAdd (mulf x x) (constant S_ .f32 0x00000000#32) reducesTo_S2x8192x16x128_S2x8192x16_d3 h_S_

/-- One over the root of the mean, from the sums. -/
def hinv (s : FVec Ideal S2x8192x16 .f32) : FVec Ideal S2x8192x16x128 .f32 :=
  broadcastInDim S2x8192x16x128 ![0, 1, 2, 3] bcast_S2x8192x16x1_S2x8192x16x128_0_1_2_3 (Host.rsqrt (addf
    (Host.divf (broadcastInDim S2x8192x16x1 ![0, 1, 2] bcast_S2x8192x16_S2x8192x16x1_0_1_2 s) (broadcastInDim S2x8192x16x1 ![] bcast_S_S2x8192x16x1 (constant S_ .f32 0x43000000#32)))
    (broadcastInDim S2x8192x16x1 ![] bcast_S_S2x8192x16x1 (constant S_ .f32 0x358637BD#32))))

/-- The gain, for every head. -/
def lane (g : FVec Ideal S128 .f32) : FVec Ideal S2x8192x16x128 .f32 :=
  broadcastInDim S2x8192x16x128 ![0, 1, 2, 3] bcast_S1x1x1x128_S2x8192x16x128_0_1_2_3 (broadcastInDim S1x1x1x128 ![3] bcast_S128_S1x1x1x128_3 g)

/-- Times its sigmoid. -/
def silu (a : FVec Ideal S2x8192x16x128 .f32) : FVec Ideal S2x8192x16x128 .f32 :=
  mulf a (Host.divf (broadcastInDim S2x8192x16x128 ![] bcast_S_S2x8192x16x128 (constant S_ .f32 0x3F800000#32))
    (addf (broadcastInDim S2x8192x16x128 ![] bcast_S_S2x8192x16x128 (constant S_ .f32 0x3F800000#32)) (Host.exp (Host.negf a))))

/-- The heads normalised. -/
def normed (x : FVec Ideal S2x8192x16x128 .f32) (g : FVec Ideal S128 .f32) : FVec Ideal S2x8192x16x128 .f32 := mulf (mulf x (hinv (hsq x))) (lane g)

def split (x : FVec Ideal S16384x2048 .f32) : FVec Ideal S2x8192x16x128 .f32 := shapeCast S2x8192x16x128 x shapeCasts_S16384x2048_S2x8192x16x128

def join (x : FVec Ideal S2x8192x16x128 .f32) : FVec Ideal S2x8192x2048 .f32 := shapeCast S2x8192x2048 x shapeCasts_S2x8192x16x128_S2x8192x2048

theorem hsq_apply (x : FVec Ideal S2x8192x16x128 .f32) (b : Fin 2) (n : Fin 8192) (h : Fin 16) :
    (hsq x (ix3 b n h) : EReal) = ∑ d : Fin 128, (x (ix4 b n h d) : EReal) * x (ix4 b n h d) := by
  unfold hsq
  rw [ValueIdx.hostReduceAdd_apply]
  unfold Ideal.hostReduceAdd
  rw [Shape.ReducesTo.sum_fiber_r4_a3]
  exact (congrArg (· + _) Ideal.ofBits_zero_f32).trans (zero_add _)

theorem hinv_apply (s : FVec Ideal S2x8192x16 .f32) (b : Fin 2) (n : Fin 8192) (h : Fin 16) (d : Fin 128) :
    hinv s (ix4 b n h d) = Ideal.rsqrt (Ideal.div (s (ix3 b n h)) (Ideal.ofBits .f32 0x43000000#32) + Ideal.ofBits .f32 0x358637BD#32) := by
  pointwise [hinv]

theorem lane_apply (g : FVec Ideal S128 .f32) (b : Fin 2) (n : Fin 8192) (h : Fin 16) (d : Fin 128) : lane g (ix4 b n h d) = g (ix1 d) := by
  pointwise [lane]

theorem silu_apply (a : FVec Ideal S2x8192x16x128 .f32) (j : S2x8192x16x128.Idx) : (silu a j : EReal) = sil (a j) := (sil_eq _).symm

theorem normed_apply (x : FVec Ideal S2x8192x16x128 .f32) (g : FVec Ideal S128 .f32) (b : Fin 2) (n : Fin 8192) (h : Fin 16) (e : Fin 128) :
    (normed x g (ix4 b n h e) : EReal) = hnrm (fun d => x (ix4 b n h d)) (fun d => g (ix1 d)) e := by
  unfold hnrm
  dsimp only
  rw [← hsq_apply, ← hinv_apply (hsq x) b n h e, ← lane_apply g b n h e]
  rfl

theorem split_apply (x : FVec Ideal S16384x2048 .f32) (b : Fin 2) (n : Fin 8192) (h : Fin 16) (d : Fin 128) :
    split x (ix4 b n h d) = x (ix2 ⟨b.val * 8192 + n.val, by omega⟩ ⟨h.val * 128 + d.val, by omega⟩) := by
  refine shapeCast_apply _ _ _ _ ?_
  rw [Shape.rowMajor_val_four, Shape.rowMajor_val_two]
  show (b.val * 8192 + n.val) * 2048 + (h.val * 128 + d.val) = ((b.val * 8192 + n.val) * 16 + h.val) * 128 + d.val
  omega

theorem join_apply (x : FVec Ideal S2x8192x16x128 .f32) (b : Fin 2) (n : Fin 8192) (k : Fin 2048) :
    join x (ix3 b n k) = x (ix4 b n ⟨k.val / 128, by omega⟩ ⟨k.val % 128, by omega⟩) := by
  refine shapeCast_apply _ _ _ _ ?_
  rw [Shape.rowMajor_val_four, Shape.rowMajor_val_three]
  show ((b.val * 8192 + n.val) * 16 + k.val / 128) * 128 + k.val % 128 = (b.val * 8192 + n.val) * 2048 + k.val
  omega

theorem gain_apply (x : FVec Ideal S1x128 .f32) (d : Fin 128) : shapeCast S128 x shapeCasts_S1x128_S128 (ix1 d) = x (ix2 0 d) := by
  pointwise []

/-- The gated columns, from the arguments. -/
abbrev A (a b z : FVec Ideal S16384x2048 .f32) (g : FVec Ideal S1x128 .f32) : FVec Ideal S2x8192x2048 .f32 :=
  join (mulf (normed (addf (split a) (split b)) (shapeCast S128 g shapeCasts_S1x128_S128)) (silu (split z)))

theorem A_apply (a b z : FVec Ideal S16384x2048 .f32) (g : FVec Ideal S1x128 .f32) (p : Fin 2) (n : Fin 8192) (k : Fin 2048) :
    (A a b z g (ix3 p n k) : EReal) = gated (fun k => a (ix2 ⟨p.val * 8192 + n.val, by omega⟩ k)) (fun k => b (ix2 ⟨p.val * 8192 + n.val, by omega⟩ k))
      (fun k => z (ix2 ⟨p.val * 8192 + n.val, by omega⟩ k)) (fun d => g (ix2 0 d)) k := by
  refine (join_apply _ p n k).trans ?_
  have hk : (⟨k.val / 128 * 128 + k.val % 128, by omega⟩ : Fin 2048) = k := Fin.ext (by show k.val / 128 * 128 + k.val % 128 = k.val; omega)
  unfold gated
  refine congrArg₂ (· * ·) ((normed_apply _ _ p n _ _).trans ?_) ((silu_apply _ _).trans ?_)
  · refine congrArg₂ (hnrm · · _) (funext fun d => ?_) (funext fun d => gain_apply g d)
    exact congrArg₂ (· + ·) (split_apply a p n _ d) (split_apply b p n _ d)
  · refine congrArg sil ((split_apply z p n _ _).trans ?_)
    exact congrArg (fun k => z (ix2 _ k)) hk

theorem res_apply (a b z : FVec Ideal S16384x2048 .f32) (g : FVec Ideal S1x128 .f32) (w : FVec Ideal S1x2048x1024 .f32) (h : FVec Ideal S16384x1024 .f32) (i : S16384x1024.Idx) :
    (shapeCast S16384x1024 (addf (shapeCast S2x8192x1024 h shapeCasts_S16384x1024_S2x8192x1024) (product (A a b z g)
      (shapeCast S2048x1024 w shapeCasts_S1x2048x1024_S2048x1024))) shapeCasts_S2x8192x1024_S16384x1024 i : EReal)
      = row (fun R d => h (ix2 R d)) (fun R k => gated (fun k => a (ix2 R k)) (fun k => b (ix2 R k)) (fun k => z (ix2 R k)) (fun d => g (ix2 0 d)) k)
          (fun k e => w (ix3 0 k e)) (i 0) (i 1) := by
  obtain ⟨R, e, rfl⟩ : ∃ (R : Fin 16384) (e : Fin 1024), i = ix2 R e := by
    idx_vars i
    exact ⟨_, _, rfl⟩
  obtain ⟨p, n, rfl⟩ := row_of R
  refine (flat_apply _ p n e).trans ?_
  unfold row
  refine congrArg₂ (· + ·) (X_apply h p n e) ((product_apply _ _ p n e).trans (Finset.sum_congr rfl fun k _ => congrArg₂ (· * ·) (A_apply a b z g p n k) (W_apply w k e)))

end Cert.Reference4Ideal.Hand

namespace Cert.HeadsClaims

open Idealize.ShloMosaic Idealize.ShloMosaic.TcCoe Idealize.SL.Sem

/-- The program as printed. -/
theorem frame_p : Cert.quiescent_Kernel4 (hKernel4 := Cert.Kernel4.Gen.facts) :=
  fun m ρ _ => Cert.Kernel4.Gen.frame m ρ

/-- Its idealization. -/
theorem frame_pi : Cert.quiescent_Kernel4Ideal (hKernel4Ideal := Cert.Kernel4Ideal.Gen.facts) :=
  fun m ρ _ => Cert.Kernel4Ideal.Gen.frame m ρ

/-- The reference, which runs on the host alone. -/
theorem frame_ri : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The one rewrite: the sigmoids' factor is read as minus one over the logarithm of two. -/
theorem preserves : Cert.preserves_Kernel4_Kernel4Ideal :=
  IdealRules.named_const.statement Cert.Kernel4Ideal.κ "neg_log2e" .f32 0xBFB8AA3B#32 ((-((Real.log 2)⁻¹) : ℝ) : EReal) rfl

/-- From memories that agree on the arguments both runs end with the same array. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Hand.run m ρ, ?_⟩
  refine (θ_run Cert.Reference4Ideal.defs _ _).mono (fun _ h c => ⟨(h c).1.trans ?_, (h c).2⟩)
    (Cert.Reference4Ideal.Value.run (F := Ideal) m' ρ')
  refine funext fun i => ?_
  refine (Cert.Reference4Ideal.Hand.res_apply (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
    (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) i).trans ?_
  rw [(hagree c).1, (hagree c).2.1, (hagree c).2.2.1, (hagree c).2.2.2.1, (hagree c).2.2.2.2.1, (hagree c).2.2.2.2.2]
  rfl

end Cert.HeadsClaims

end
-- ==== Proof.lean ====
module

public import proofs.«01_k».proof.Defs
public import proofs.«01_k».proof.Proof.Frames
public import proofs.«01_k».proof.Proof.Algebraic
public import proofs.«01_k».proof.Proof.FeedClaims
public import proofs.«01_k».proof.Proof.DeltaClaims
public import proofs.«01_k».proof.Proof.HeadsClaims
public import proofs.«01_k».proof.Proof.Outproj
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_qk
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_qk.Gen.facts,
    FrameClaims.frame_p, FrameClaims.frame_pi, FrameClaims.frame_pi_pre, FrameClaims.frame_ri, FrameClaims.frame_ri_pre,
    FeedClaims.frame_p, FeedClaims.frame_pi, FeedClaims.frame_ri, DeltaClaims.frame_p, DeltaClaims.frame_pi, DeltaClaims.frame_ri,
    HeadsClaims.frame_p, HeadsClaims.frame_pi, HeadsClaims.frame_ri, OutClaims.frame_p, OutClaims.frame_pi, OutClaims.frame_ri,
    FrameClaims.preserves, AttentionClaim.algebraic, FeedClaims.preserves, FeedClaims.algebraic,
    DeltaClaims.preserves, DeltaClaims.algebraic,
    HeadsClaims.preserves, HeadsClaims.algebraic, OutClaims.preserves, OutClaims.algebraic⟩

end Cert.Proof

end
